-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2)
      ∧ r.2.mem ((c.tc : Thread Cert.Kernel41.nD Cert.Kernel41.τ).loc Cert.Kernel41.main_arg3) = m ((c.tc : Thread Cert.Kernel41.nD Cert.Kernel41.τ).loc Cert.Kernel41.main_arg3))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
      ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2)
      ∧ r.2.mem ((c.tc : Thread Cert.Reference41Ideal.nD Cert.Reference41Ideal.τ).loc Cert.Reference41Ideal.main_arg3) = m ((c.tc : Thread Cert.Reference41Ideal.nD Cert.Reference41Ideal.τ).loc Cert.Reference41Ideal.main_arg3))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2)
      ∧ r.2.mem ((c.tc : Thread Cert.Kernel42.nD Cert.Kernel42.τ).loc Cert.Kernel42.main_arg3) = m ((c.tc : Thread Cert.Kernel42.nD Cert.Kernel42.τ).loc Cert.Kernel42.main_arg3))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
      ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2)
      ∧ r.2.mem ((c.tc : Thread Cert.Reference42Ideal.nD Cert.Reference42Ideal.τ).loc Cert.Reference42Ideal.main_arg3) = m ((c.tc : Thread Cert.Reference42Ideal.nD Cert.Reference42Ideal.τ).loc Cert.Reference42Ideal.main_arg3))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1)
      ∧ r.2.mem ((c.tc : Thread Cert.Kernel43.nD Cert.Kernel43.τ).loc Cert.Kernel43.main_arg2) = m ((c.tc : Thread Cert.Kernel43.nD Cert.Kernel43.τ).loc Cert.Kernel43.main_arg2)
      ∧ r.2.mem ((c.tc : Thread Cert.Kernel43.nD Cert.Kernel43.τ).loc Cert.Kernel43.main_arg3) = m ((c.tc : Thread Cert.Kernel43.nD Cert.Kernel43.τ).loc Cert.Kernel43.main_arg3))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
      ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
      ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1)
      ∧ r.2.mem ((c.tc : Thread Cert.Reference43Ideal.nD Cert.Reference43Ideal.τ).loc Cert.Reference43Ideal.main_arg2) = m ((c.tc : Thread Cert.Reference43Ideal.nD Cert.Reference43Ideal.τ).loc Cert.Reference43Ideal.main_arg2)
      ∧ r.2.mem ((c.tc : Thread Cert.Reference43Ideal.nD Cert.Reference43Ideal.τ).loc Cert.Reference43Ideal.main_arg3) = m ((c.tc : Thread Cert.Reference43Ideal.nD Cert.Reference43Ideal.τ).loc Cert.Reference43Ideal.main_arg3))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1)
      ∧ r.2.mem ((c.tc : Thread Cert.Kernel44.nD Cert.Kernel44.τ).loc Cert.Kernel44.main_arg2) = m ((c.tc : Thread Cert.Kernel44.nD Cert.Kernel44.τ).loc Cert.Kernel44.main_arg2)
      ∧ r.2.mem ((c.tc : Thread Cert.Kernel44.nD Cert.Kernel44.τ).loc Cert.Kernel44.main_arg3) = m ((c.tc : Thread Cert.Kernel44.nD Cert.Kernel44.τ).loc Cert.Kernel44.main_arg3))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
      ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2)
      ∧ r.2.mem ((c.tc : Thread Cert.Kernel44Ideal.nD Cert.Kernel44Ideal.τ).loc Cert.Kernel44Ideal.main_arg3) = m ((c.tc : Thread Cert.Kernel44Ideal.nD Cert.Kernel44Ideal.τ).loc Cert.Kernel44Ideal.main_arg3))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1)
      ∧ r.2.mem ((c.tc : Thread Cert.Reference44Ideal.nD Cert.Reference44Ideal.τ).loc Cert.Reference44Ideal.main_arg2) = m ((c.tc : Thread Cert.Reference44Ideal.nD Cert.Reference44Ideal.τ).loc Cert.Reference44Ideal.main_arg2)
      ∧ r.2.mem ((c.tc : Thread Cert.Reference44Ideal.nD Cert.Reference44Ideal.τ).loc Cert.Reference44Ideal.main_arg3) = m ((c.tc : Thread Cert.Reference44Ideal.nD Cert.Reference44Ideal.τ).loc Cert.Reference44Ideal.main_arg3))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v1_2)) (v3 : (c : Dev Cert.Kernel2Ideal.nD) → Buf (Elt Ideal) ((c.tc : Thread Cert.Kernel2Ideal.nD Cert.Kernel2Ideal.τ).loc Cert.Kernel2Ideal.main_v1_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v1_2) = v2 c
          ∧ r.2.mem ((c.tc : Thread Cert.Kernel2Ideal.nD Cert.Kernel2Ideal.τ).loc Cert.Kernel2Ideal.main_v1_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_v29) = v1 c
          ∧ r.2.mem ((c.tc : Thread Cert.Reference2Ideal.nD Cert.Reference2Ideal.τ).loc Cert.Reference2Ideal.main_v30) = v2 c
          ∧ r.2.mem ((c.tc : Thread Cert.Reference2Ideal.nD Cert.Reference2Ideal.τ).loc Cert.Reference2Ideal.main_v31) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v10_1)) (v2 : (c : Dev Cert.Kernel5Ideal.nD) → Buf (Elt Ideal) ((c.tc : Thread Cert.Kernel5Ideal.nD Cert.Kernel5Ideal.τ).loc Cert.Kernel5Ideal.main_v10_2)) (v3 : (c : Dev Cert.Kernel5Ideal.nD) → Buf (Elt Ideal) ((c.tc : Thread Cert.Kernel5Ideal.nD Cert.Kernel5Ideal.τ).loc Cert.Kernel5Ideal.main_v10_3)) (v4 : (c : Dev Cert.Kernel5Ideal.nD) → Buf (Elt Ideal) ((c.tc : Thread Cert.Kernel5Ideal.nD Cert.Kernel5Ideal.τ).loc Cert.Kernel5Ideal.main_v10_4)) (v5 : (c : Dev Cert.Kernel5Ideal.nD) → Buf (Elt Ideal) ((c.tc : Thread Cert.Kernel5Ideal.nD Cert.Kernel5Ideal.τ).loc Cert.Kernel5Ideal.main_v10_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v10_1) = v1 c
          ∧ r.2.mem ((c.tc : Thread Cert.Kernel5Ideal.nD Cert.Kernel5Ideal.τ).loc Cert.Kernel5Ideal.main_v10_2) = v2 c
          ∧ r.2.mem ((c.tc : Thread Cert.Kernel5Ideal.nD Cert.Kernel5Ideal.τ).loc Cert.Kernel5Ideal.main_v10_3) = v3 c
          ∧ r.2.mem ((c.tc : Thread Cert.Kernel5Ideal.nD Cert.Kernel5Ideal.τ).loc Cert.Kernel5Ideal.main_v10_4) = v4 c
          ∧ r.2.mem ((c.tc : Thread Cert.Kernel5Ideal.nD Cert.Kernel5Ideal.τ).loc Cert.Kernel5Ideal.main_v10_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v66) = v0 c
          ∧ r.2.mem ((c.tc : Thread Cert.Reference5Ideal.nD Cert.Reference5Ideal.τ).loc Cert.Reference5Ideal.main_v68) = v1 c
          ∧ r.2.mem ((c.tc : Thread Cert.Reference5Ideal.nD Cert.Reference5Ideal.τ).loc Cert.Reference5Ideal.main_v39) = v2 c
          ∧ r.2.mem ((c.tc : Thread Cert.Reference5Ideal.nD Cert.Reference5Ideal.τ).loc Cert.Reference5Ideal.main_v36) = v3 c
          ∧ r.2.mem ((c.tc : Thread Cert.Reference5Ideal.nD Cert.Reference5Ideal.τ).loc Cert.Reference5Ideal.main_v65) = v4 c
          ∧ r.2.mem ((c.tc : Thread Cert.Reference5Ideal.nD Cert.Reference5Ideal.τ).loc Cert.Reference5Ideal.main_v69) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)) (v2 : (c : Dev Cert.Kernel7Ideal.nD) → Buf (Elt Ideal) ((c.tc : Thread Cert.Kernel7Ideal.nD Cert.Kernel7Ideal.τ).loc Cert.Kernel7Ideal.main_v1_2)) (v3 : (c : Dev Cert.Kernel7Ideal.nD) → Buf (Elt Ideal) ((c.tc : Thread Cert.Kernel7Ideal.nD Cert.Kernel7Ideal.τ).loc Cert.Kernel7Ideal.main_v1_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_v1_2) = v2 c
          ∧ r.2.mem ((c.tc : Thread Cert.Kernel7Ideal.nD Cert.Kernel7Ideal.τ).loc Cert.Kernel7Ideal.main_v1_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v38) = v0 c
          ∧ r.2.mem ((c.tc : Thread Cert.Reference7Ideal.nD Cert.Reference7Ideal.τ).loc Cert.Reference7Ideal.main_v40) = v1 c
          ∧ r.2.mem ((c.tc : Thread Cert.Reference7Ideal.nD Cert.Reference7Ideal.τ).loc Cert.Reference7Ideal.main_v29) = v2 c
          ∧ r.2.mem ((c.tc : Thread Cert.Reference7Ideal.nD Cert.Reference7Ideal.τ).loc Cert.Reference7Ideal.main_v41) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)) (v2 : (c : Dev Cert.Kernel8Ideal.nD) → Buf (Elt Ideal) ((c.tc : Thread Cert.Kernel8Ideal.nD Cert.Kernel8Ideal.τ).loc Cert.Kernel8Ideal.main_v2_2)) (v3 : (c : Dev Cert.Kernel8Ideal.nD) → Buf (Elt Ideal) ((c.tc : Thread Cert.Kernel8Ideal.nD Cert.Kernel8Ideal.τ).loc Cert.Kernel8Ideal.main_v2_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_v2_2) = v2 c
          ∧ r.2.mem ((c.tc : Thread Cert.Kernel8Ideal.nD Cert.Kernel8Ideal.τ).loc Cert.Kernel8Ideal.main_v2_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v50) = v0 c
          ∧ r.2.mem ((c.tc : Thread Cert.Reference8Ideal.nD Cert.Reference8Ideal.τ).loc Cert.Reference8Ideal.main_v51) = v1 c
          ∧ r.2.mem ((c.tc : Thread Cert.Reference8Ideal.nD Cert.Reference8Ideal.τ).loc Cert.Reference8Ideal.main_v52) = v2 c
          ∧ r.2.mem ((c.tc : Thread Cert.Reference8Ideal.nD Cert.Reference8Ideal.τ).loc Cert.Reference8Ideal.main_v54) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v10_0)) (v1 : (c : Dev Cert.Kernel9Ideal.nD) → Buf (Elt Ideal) ((c.tc : Thread Cert.Kernel9Ideal.nD Cert.Kernel9Ideal.τ).loc Cert.Kernel9Ideal.main_v10_1)) (v2 : (c : Dev Cert.Kernel9Ideal.nD) → Buf (Elt Ideal) ((c.tc : Thread Cert.Kernel9Ideal.nD Cert.Kernel9Ideal.τ).loc Cert.Kernel9Ideal.main_v10_2)) (v3 : (c : Dev Cert.Kernel9Ideal.nD) → Buf (Elt Ideal) ((c.tc : Thread Cert.Kernel9Ideal.nD Cert.Kernel9Ideal.τ).loc Cert.Kernel9Ideal.main_v10_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v10_0) = v0 c
          ∧ r.2.mem ((c.tc : Thread Cert.Kernel9Ideal.nD Cert.Kernel9Ideal.τ).loc Cert.Kernel9Ideal.main_v10_1) = v1 c
          ∧ r.2.mem ((c.tc : Thread Cert.Kernel9Ideal.nD Cert.Kernel9Ideal.τ).loc Cert.Kernel9Ideal.main_v10_2) = v2 c
          ∧ r.2.mem ((c.tc : Thread Cert.Kernel9Ideal.nD Cert.Kernel9Ideal.τ).loc Cert.Kernel9Ideal.main_v10_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v27) = v0 c
          ∧ r.2.mem ((c.tc : Thread Cert.Reference9Ideal.nD Cert.Reference9Ideal.τ).loc Cert.Reference9Ideal.main_v29) = v1 c
          ∧ r.2.mem ((c.tc : Thread Cert.Reference9Ideal.nD Cert.Reference9Ideal.τ).loc Cert.Reference9Ideal.main_v31) = v2 c
          ∧ r.2.mem ((c.tc : Thread Cert.Reference9Ideal.nD Cert.Reference9Ideal.τ).loc Cert.Reference9Ideal.main_v25) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v7) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v7) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v7) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v7) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v4) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v8) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_v24) = v1 c
          ∧ r.2.mem ((c.tc : Thread Cert.Reference25Ideal.nD Cert.Reference25Ideal.τ).loc Cert.Reference25Ideal.main_v5) = v2 c
          ∧ r.2.mem ((c.tc : Thread Cert.Reference25Ideal.nD Cert.Reference25Ideal.τ).loc Cert.Reference25Ideal.main_v11) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v0) = v0 c
          ∧ r.2.mem ((c.tc : Thread Cert.Reference26Ideal.nD Cert.Reference26Ideal.τ).loc Cert.Reference26Ideal.main_v24) = v1 c
          ∧ r.2.mem ((c.tc : Thread Cert.Reference26Ideal.nD Cert.Reference26Ideal.τ).loc Cert.Reference26Ideal.main_v5) = v2 c
          ∧ r.2.mem ((c.tc : Thread Cert.Reference26Ideal.nD Cert.Reference26Ideal.τ).loc Cert.Reference26Ideal.main_v11) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v0) = v0 c
          ∧ r.2.mem ((c.tc : Thread Cert.Reference27Ideal.nD Cert.Reference27Ideal.τ).loc Cert.Reference27Ideal.main_v24) = v1 c
          ∧ r.2.mem ((c.tc : Thread Cert.Reference27Ideal.nD Cert.Reference27Ideal.τ).loc Cert.Reference27Ideal.main_v5) = v2 c
          ∧ r.2.mem ((c.tc : Thread Cert.Reference27Ideal.nD Cert.Reference27Ideal.τ).loc Cert.Reference27Ideal.main_v11) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v0) = v0 c
          ∧ r.2.mem ((c.tc : Thread Cert.Reference28Ideal.nD Cert.Reference28Ideal.τ).loc Cert.Reference28Ideal.main_v24) = v1 c
          ∧ r.2.mem ((c.tc : Thread Cert.Reference28Ideal.nD Cert.Reference28Ideal.τ).loc Cert.Reference28Ideal.main_v5) = v2 c
          ∧ r.2.mem ((c.tc : Thread Cert.Reference28Ideal.nD Cert.Reference28Ideal.τ).loc Cert.Reference28Ideal.main_v11) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v0) = v0 c
          ∧ r.2.mem ((c.tc : Thread Cert.Reference29Ideal.nD Cert.Reference29Ideal.τ).loc Cert.Reference29Ideal.main_v24) = v1 c
          ∧ r.2.mem ((c.tc : Thread Cert.Reference29Ideal.nD Cert.Reference29Ideal.τ).loc Cert.Reference29Ideal.main_v5) = v2 c
          ∧ r.2.mem ((c.tc : Thread Cert.Reference29Ideal.nD Cert.Reference29Ideal.τ).loc Cert.Reference29Ideal.main_v11) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v1) = v0 c
          ∧ r.2.mem ((c.tc : Thread Cert.Reference30Ideal.nD Cert.Reference30Ideal.τ).loc Cert.Reference30Ideal.main_v25) = v1 c
          ∧ r.2.mem ((c.tc : Thread Cert.Reference30Ideal.nD Cert.Reference30Ideal.τ).loc Cert.Reference30Ideal.main_v6) = v2 c
          ∧ r.2.mem ((c.tc : Thread Cert.Reference30Ideal.nD Cert.Reference30Ideal.τ).loc Cert.Reference30Ideal.main_v12) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)) (v3 : (c : Dev Cert.Kernel31Ideal.nD) → Buf (Elt Ideal) ((c.tc : Thread Cert.Kernel31Ideal.nD Cert.Kernel31Ideal.τ).loc Cert.Kernel31Ideal.main_v0_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_v0_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v0) = v0 c
          ∧ r.2.mem ((c.tc : Thread Cert.Reference31Ideal.nD Cert.Reference31Ideal.τ).loc Cert.Reference31Ideal.main_v24) = v1 c
          ∧ r.2.mem ((c.tc : Thread Cert.Reference31Ideal.nD Cert.Reference31Ideal.τ).loc Cert.Reference31Ideal.main_v5) = v2 c
          ∧ r.2.mem ((c.tc : Thread Cert.Reference31Ideal.nD Cert.Reference31Ideal.τ).loc Cert.Reference31Ideal.main_v11) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v1) = v0 c
          ∧ r.2.mem ((c.tc : Thread Cert.Reference32Ideal.nD Cert.Reference32Ideal.τ).loc Cert.Reference32Ideal.main_v25) = v1 c
          ∧ r.2.mem ((c.tc : Thread Cert.Reference32Ideal.nD Cert.Reference32Ideal.τ).loc Cert.Reference32Ideal.main_v6) = v2 c
          ∧ r.2.mem ((c.tc : Thread Cert.Reference32Ideal.nD Cert.Reference32Ideal.τ).loc Cert.Reference32Ideal.main_v12) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)) (v3 : (c : Dev Cert.Kernel33Ideal.nD) → Buf (Elt Ideal) ((c.tc : Thread Cert.Kernel33Ideal.nD Cert.Kernel33Ideal.τ).loc Cert.Kernel33Ideal.main_v0_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_v0_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v0) = v0 c
          ∧ r.2.mem ((c.tc : Thread Cert.Reference33Ideal.nD Cert.Reference33Ideal.τ).loc Cert.Reference33Ideal.main_v24) = v1 c
          ∧ r.2.mem ((c.tc : Thread Cert.Reference33Ideal.nD Cert.Reference33Ideal.τ).loc Cert.Reference33Ideal.main_v5) = v2 c
          ∧ r.2.mem ((c.tc : Thread Cert.Reference33Ideal.nD Cert.Reference33Ideal.τ).loc Cert.Reference33Ideal.main_v11) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)) (v3 : (c : Dev Cert.Kernel34Ideal.nD) → Buf (Elt Ideal) ((c.tc : Thread Cert.Kernel34Ideal.nD Cert.Kernel34Ideal.τ).loc Cert.Kernel34Ideal.main_v0_3)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_v0_3) = v3 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v0) = v0 c
          ∧ r.2.mem ((c.tc : Thread Cert.Reference34Ideal.nD Cert.Reference34Ideal.τ).loc Cert.Reference34Ideal.main_v24) = v1 c
          ∧ r.2.mem ((c.tc : Thread Cert.Reference34Ideal.nD Cert.Reference34Ideal.τ).loc Cert.Reference34Ideal.main_v5) = v2 c
          ∧ r.2.mem ((c.tc : Thread Cert.Reference34Ideal.nD Cert.Reference34Ideal.τ).loc Cert.Reference34Ideal.main_v11) = v3 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)) (v3 : (c : Dev Cert.Kernel35Ideal.nD) → Buf (Elt Ideal) ((c.tc : Thread Cert.Kernel35Ideal.nD Cert.Kernel35Ideal.τ).loc Cert.Kernel35Ideal.main_v0_3)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_v0_3) = v3 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v2) = v0 c
          ∧ r.2.mem ((c.tc : Thread Cert.Reference35Ideal.nD Cert.Reference35Ideal.τ).loc Cert.Reference35Ideal.main_v26) = v1 c
          ∧ r.2.mem ((c.tc : Thread Cert.Reference35Ideal.nD Cert.Reference35Ideal.τ).loc Cert.Reference35Ideal.main_v7) = v2 c
          ∧ r.2.mem ((c.tc : Thread Cert.Reference35Ideal.nD Cert.Reference35Ideal.τ).loc Cert.Reference35Ideal.main_v13) = v3 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)) (v3 : (c : Dev Cert.Kernel36Ideal.nD) → Buf (Elt Ideal) ((c.tc : Thread Cert.Kernel36Ideal.nD Cert.Kernel36Ideal.τ).loc Cert.Kernel36Ideal.main_v0_3)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_v0_3) = v3 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v0) = v0 c
          ∧ r.2.mem ((c.tc : Thread Cert.Reference36Ideal.nD Cert.Reference36Ideal.τ).loc Cert.Reference36Ideal.main_v24) = v1 c
          ∧ r.2.mem ((c.tc : Thread Cert.Reference36Ideal.nD Cert.Reference36Ideal.τ).loc Cert.Reference36Ideal.main_v5) = v2 c
          ∧ r.2.mem ((c.tc : Thread Cert.Reference36Ideal.nD Cert.Reference36Ideal.τ).loc Cert.Reference36Ideal.main_v11) = v3 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)) (v2 : (c : Dev Cert.Kernel37Ideal.nD) → Buf (Elt Ideal) ((c.tc : Thread Cert.Kernel37Ideal.nD Cert.Kernel37Ideal.τ).loc Cert.Kernel37Ideal.main_v0_2)) (v3 : (c : Dev Cert.Kernel37Ideal.nD) → Buf (Elt Ideal) ((c.tc : Thread Cert.Kernel37Ideal.nD Cert.Kernel37Ideal.τ).loc Cert.Kernel37Ideal.main_v0_3)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_v0_2) = v2 c
          ∧ r.2.mem ((c.tc : Thread Cert.Kernel37Ideal.nD Cert.Kernel37Ideal.τ).loc Cert.Kernel37Ideal.main_v0_3) = v3 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v0) = v0 c
          ∧ r.2.mem ((c.tc : Thread Cert.Reference37Ideal.nD Cert.Reference37Ideal.τ).loc Cert.Reference37Ideal.main_v24) = v1 c
          ∧ r.2.mem ((c.tc : Thread Cert.Reference37Ideal.nD Cert.Reference37Ideal.τ).loc Cert.Reference37Ideal.main_v5) = v2 c
          ∧ r.2.mem ((c.tc : Thread Cert.Reference37Ideal.nD Cert.Reference37Ideal.τ).loc Cert.Reference37Ideal.main_v11) = v3 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)) →
    ∃ (v0 : (c : Dev Cert.Kernel38Ideal.nD) → Buf (Elt Ideal) ((c.tc : Thread Cert.Kernel38Ideal.nD Cert.Kernel38Ideal.τ).loc Cert.Kernel38Ideal.main_v0_0)) (v1 : (c : Dev Cert.Kernel38Ideal.nD) → Buf (Elt Ideal) ((c.tc : Thread Cert.Kernel38Ideal.nD Cert.Kernel38Ideal.τ).loc Cert.Kernel38Ideal.main_v0_1)) (v2 : (c : Dev Cert.Kernel38Ideal.nD) → Buf (Elt Ideal) ((c.tc : Thread Cert.Kernel38Ideal.nD Cert.Kernel38Ideal.τ).loc Cert.Kernel38Ideal.main_v0_2)) (v3 : (c : Dev Cert.Kernel38Ideal.nD) → Buf (Elt Ideal) ((c.tc : Thread Cert.Kernel38Ideal.nD Cert.Kernel38Ideal.τ).loc Cert.Kernel38Ideal.main_v0_3)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0_0) = v0 c
          ∧ r.2.mem ((c.tc : Thread Cert.Kernel38Ideal.nD Cert.Kernel38Ideal.τ).loc Cert.Kernel38Ideal.main_v0_1) = v1 c
          ∧ r.2.mem ((c.tc : Thread Cert.Kernel38Ideal.nD Cert.Kernel38Ideal.τ).loc Cert.Kernel38Ideal.main_v0_2) = v2 c
          ∧ r.2.mem ((c.tc : Thread Cert.Kernel38Ideal.nD Cert.Kernel38Ideal.τ).loc Cert.Kernel38Ideal.main_v0_3) = v3 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v0) = v0 c
          ∧ r.2.mem ((c.tc : Thread Cert.Reference38Ideal.nD Cert.Reference38Ideal.τ).loc Cert.Reference38Ideal.main_v24) = v1 c
          ∧ r.2.mem ((c.tc : Thread Cert.Reference38Ideal.nD Cert.Reference38Ideal.τ).loc Cert.Reference38Ideal.main_v5) = v2 c
          ∧ r.2.mem ((c.tc : Thread Cert.Reference38Ideal.nD Cert.Reference38Ideal.τ).loc Cert.Reference38Ideal.main_v11) = v3 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)) →
    ∃ (v0 : (c : Dev Cert.Kernel39Ideal.nD) → Buf (Elt Ideal) ((c.tc : Thread Cert.Kernel39Ideal.nD Cert.Kernel39Ideal.τ).loc Cert.Kernel39Ideal.main_v0_0)) (v1 : (c : Dev Cert.Kernel39Ideal.nD) → Buf (Elt Ideal) ((c.tc : Thread Cert.Kernel39Ideal.nD Cert.Kernel39Ideal.τ).loc Cert.Kernel39Ideal.main_v0_1)) (v2 : (c : Dev Cert.Kernel39Ideal.nD) → Buf (Elt Ideal) ((c.tc : Thread Cert.Kernel39Ideal.nD Cert.Kernel39Ideal.τ).loc Cert.Kernel39Ideal.main_v0_2)) (v3 : (c : Dev Cert.Kernel39Ideal.nD) → Buf (Elt Ideal) ((c.tc : Thread Cert.Kernel39Ideal.nD Cert.Kernel39Ideal.τ).loc Cert.Kernel39Ideal.main_v0_3)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0_0) = v0 c
          ∧ r.2.mem ((c.tc : Thread Cert.Kernel39Ideal.nD Cert.Kernel39Ideal.τ).loc Cert.Kernel39Ideal.main_v0_1) = v1 c
          ∧ r.2.mem ((c.tc : Thread Cert.Kernel39Ideal.nD Cert.Kernel39Ideal.τ).loc Cert.Kernel39Ideal.main_v0_2) = v2 c
          ∧ r.2.mem ((c.tc : Thread Cert.Kernel39Ideal.nD Cert.Kernel39Ideal.τ).loc Cert.Kernel39Ideal.main_v0_3) = v3 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v0) = v0 c
          ∧ r.2.mem ((c.tc : Thread Cert.Reference39Ideal.nD Cert.Reference39Ideal.τ).loc Cert.Reference39Ideal.main_v24) = v1 c
          ∧ r.2.mem ((c.tc : Thread Cert.Reference39Ideal.nD Cert.Reference39Ideal.τ).loc Cert.Reference39Ideal.main_v5) = v2 c
          ∧ r.2.mem ((c.tc : Thread Cert.Reference39Ideal.nD Cert.Reference39Ideal.τ).loc Cert.Reference39Ideal.main_v11) = v3 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)) →
    ∃ (v0 : (c : Dev Cert.Kernel40Ideal.nD) → Buf (Elt Ideal) ((c.tc : Thread Cert.Kernel40Ideal.nD Cert.Kernel40Ideal.τ).loc Cert.Kernel40Ideal.main_v0_0)) (v1 : (c : Dev Cert.Kernel40Ideal.nD) → Buf (Elt Ideal) ((c.tc : Thread Cert.Kernel40Ideal.nD Cert.Kernel40Ideal.τ).loc Cert.Kernel40Ideal.main_v0_1)) (v2 : (c : Dev Cert.Kernel40Ideal.nD) → Buf (Elt Ideal) ((c.tc : Thread Cert.Kernel40Ideal.nD Cert.Kernel40Ideal.τ).loc Cert.Kernel40Ideal.main_v0_2)) (v3 : (c : Dev Cert.Kernel40Ideal.nD) → Buf (Elt Ideal) ((c.tc : Thread Cert.Kernel40Ideal.nD Cert.Kernel40Ideal.τ).loc Cert.Kernel40Ideal.main_v0_3)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0_0) = v0 c
          ∧ r.2.mem ((c.tc : Thread Cert.Kernel40Ideal.nD Cert.Kernel40Ideal.τ).loc Cert.Kernel40Ideal.main_v0_1) = v1 c
          ∧ r.2.mem ((c.tc : Thread Cert.Kernel40Ideal.nD Cert.Kernel40Ideal.τ).loc Cert.Kernel40Ideal.main_v0_2) = v2 c
          ∧ r.2.mem ((c.tc : Thread Cert.Kernel40Ideal.nD Cert.Kernel40Ideal.τ).loc Cert.Kernel40Ideal.main_v0_3) = v3 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v2) = v0 c
          ∧ r.2.mem ((c.tc : Thread Cert.Reference40Ideal.nD Cert.Reference40Ideal.τ).loc Cert.Reference40Ideal.main_v26) = v1 c
          ∧ r.2.mem ((c.tc : Thread Cert.Reference40Ideal.nD Cert.Reference40Ideal.τ).loc Cert.Reference40Ideal.main_v7) = v2 c
          ∧ r.2.mem ((c.tc : Thread Cert.Reference40Ideal.nD Cert.Reference40Ideal.τ).loc Cert.Reference40Ideal.main_v13) = v3 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)
      ∧ m' ((c.tc : Thread Cert.Reference41Ideal.nD Cert.Reference41Ideal.τ).loc Cert.Reference41Ideal.main_arg3) = m ((c.tc : Thread Cert.Kernel41Ideal.nD Cert.Kernel41Ideal.τ).loc Cert.Kernel41Ideal.main_arg3)) →
    ∃ (v0 : (c : Dev Cert.Kernel41Ideal.nD) → Buf (Elt Ideal) ((c.tc : Thread Cert.Kernel41Ideal.nD Cert.Kernel41Ideal.τ).loc Cert.Kernel41Ideal.main_v0_0)) (v1 : (c : Dev Cert.Kernel41Ideal.nD) → Buf (Elt Ideal) ((c.tc : Thread Cert.Kernel41Ideal.nD Cert.Kernel41Ideal.τ).loc Cert.Kernel41Ideal.main_v0_1)) (v2 : (c : Dev Cert.Kernel41Ideal.nD) → Buf (Elt Ideal) ((c.tc : Thread Cert.Kernel41Ideal.nD Cert.Kernel41Ideal.τ).loc Cert.Kernel41Ideal.main_v0_2)) (v3 : (c : Dev Cert.Kernel41Ideal.nD) → Buf (Elt Ideal) ((c.tc : Thread Cert.Kernel41Ideal.nD Cert.Kernel41Ideal.τ).loc Cert.Kernel41Ideal.main_v0_3)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0_0) = v0 c
          ∧ r.2.mem ((c.tc : Thread Cert.Kernel41Ideal.nD Cert.Kernel41Ideal.τ).loc Cert.Kernel41Ideal.main_v0_1) = v1 c
          ∧ r.2.mem ((c.tc : Thread Cert.Kernel41Ideal.nD Cert.Kernel41Ideal.τ).loc Cert.Kernel41Ideal.main_v0_2) = v2 c
          ∧ r.2.mem ((c.tc : Thread Cert.Kernel41Ideal.nD Cert.Kernel41Ideal.τ).loc Cert.Kernel41Ideal.main_v0_3) = v3 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
          ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v1) = v0 c
          ∧ r.2.mem ((c.tc : Thread Cert.Reference41Ideal.nD Cert.Reference41Ideal.τ).loc Cert.Reference41Ideal.main_v25) = v1 c
          ∧ r.2.mem ((c.tc : Thread Cert.Reference41Ideal.nD Cert.Reference41Ideal.τ).loc Cert.Reference41Ideal.main_v6) = v2 c
          ∧ r.2.mem ((c.tc : Thread Cert.Reference41Ideal.nD Cert.Reference41Ideal.τ).loc Cert.Reference41Ideal.main_v12) = v3 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2)
          ∧ r.2.mem ((c.tc : Thread Cert.Reference41Ideal.nD Cert.Reference41Ideal.τ).loc Cert.Reference41Ideal.main_arg3) = m' ((c.tc : Thread Cert.Reference41Ideal.nD Cert.Reference41Ideal.τ).loc Cert.Reference41Ideal.main_arg3))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)
      ∧ m' ((c.tc : Thread Cert.Reference42Ideal.nD Cert.Reference42Ideal.τ).loc Cert.Reference42Ideal.main_arg3) = m ((c.tc : Thread Cert.Kernel42Ideal.nD Cert.Kernel42Ideal.τ).loc Cert.Kernel42Ideal.main_arg3)) →
    ∃ (v0 : (c : Dev Cert.Kernel42Ideal.nD) → Buf (Elt Ideal) ((c.tc : Thread Cert.Kernel42Ideal.nD Cert.Kernel42Ideal.τ).loc Cert.Kernel42Ideal.main_v0_0)) (v1 : (c : Dev Cert.Kernel42Ideal.nD) → Buf (Elt Ideal) ((c.tc : Thread Cert.Kernel42Ideal.nD Cert.Kernel42Ideal.τ).loc Cert.Kernel42Ideal.main_v0_1)) (v2 : (c : Dev Cert.Kernel42Ideal.nD) → Buf (Elt Ideal) ((c.tc : Thread Cert.Kernel42Ideal.nD Cert.Kernel42Ideal.τ).loc Cert.Kernel42Ideal.main_v0_2)) (v3 : (c : Dev Cert.Kernel42Ideal.nD) → Buf (Elt Ideal) ((c.tc : Thread Cert.Kernel42Ideal.nD Cert.Kernel42Ideal.τ).loc Cert.Kernel42Ideal.main_v0_3)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0_0) = v0 c
          ∧ r.2.mem ((c.tc : Thread Cert.Kernel42Ideal.nD Cert.Kernel42Ideal.τ).loc Cert.Kernel42Ideal.main_v0_1) = v1 c
          ∧ r.2.mem ((c.tc : Thread Cert.Kernel42Ideal.nD Cert.Kernel42Ideal.τ).loc Cert.Kernel42Ideal.main_v0_2) = v2 c
          ∧ r.2.mem ((c.tc : Thread Cert.Kernel42Ideal.nD Cert.Kernel42Ideal.τ).loc Cert.Kernel42Ideal.main_v0_3) = v3 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
          ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v0) = v0 c
          ∧ r.2.mem ((c.tc : Thread Cert.Reference42Ideal.nD Cert.Reference42Ideal.τ).loc Cert.Reference42Ideal.main_v24) = v1 c
          ∧ r.2.mem ((c.tc : Thread Cert.Reference42Ideal.nD Cert.Reference42Ideal.τ).loc Cert.Reference42Ideal.main_v5) = v2 c
          ∧ r.2.mem ((c.tc : Thread Cert.Reference42Ideal.nD Cert.Reference42Ideal.τ).loc Cert.Reference42Ideal.main_v11) = v3 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2)
          ∧ r.2.mem ((c.tc : Thread Cert.Reference42Ideal.nD Cert.Reference42Ideal.τ).loc Cert.Reference42Ideal.main_arg3) = m' ((c.tc : Thread Cert.Reference42Ideal.nD Cert.Reference42Ideal.τ).loc Cert.Reference42Ideal.main_arg3))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)
      ∧ m' ((c.tc : Thread Cert.Reference43Ideal.nD Cert.Reference43Ideal.τ).loc Cert.Reference43Ideal.main_arg2) = m ((c.tc : Thread Cert.Kernel43Ideal.nD Cert.Kernel43Ideal.τ).loc Cert.Kernel43Ideal.main_arg2)
      ∧ m' ((c.tc : Thread Cert.Reference43Ideal.nD Cert.Reference43Ideal.τ).loc Cert.Reference43Ideal.main_arg3) = m ((c.tc : Thread Cert.Kernel43Ideal.nD Cert.Kernel43Ideal.τ).loc Cert.Kernel43Ideal.main_arg3)) →
    ∃ (v0 : (c : Dev Cert.Kernel43Ideal.nD) → Buf (Elt Ideal) ((c.tc : Thread Cert.Kernel43Ideal.nD Cert.Kernel43Ideal.τ).loc Cert.Kernel43Ideal.main_v0_0)) (v1 : (c : Dev Cert.Kernel43Ideal.nD) → Buf (Elt Ideal) ((c.tc : Thread Cert.Kernel43Ideal.nD Cert.Kernel43Ideal.τ).loc Cert.Kernel43Ideal.main_v0_1)) (v2 : (c : Dev Cert.Kernel43Ideal.nD) → Buf (Elt Ideal) ((c.tc : Thread Cert.Kernel43Ideal.nD Cert.Kernel43Ideal.τ).loc Cert.Kernel43Ideal.main_v0_2)) (v3 : (c : Dev Cert.Kernel43Ideal.nD) → Buf (Elt Ideal) ((c.tc : Thread Cert.Kernel43Ideal.nD Cert.Kernel43Ideal.τ).loc Cert.Kernel43Ideal.main_v0_3)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0_0) = v0 c
          ∧ r.2.mem ((c.tc : Thread Cert.Kernel43Ideal.nD Cert.Kernel43Ideal.τ).loc Cert.Kernel43Ideal.main_v0_1) = v1 c
          ∧ r.2.mem ((c.tc : Thread Cert.Kernel43Ideal.nD Cert.Kernel43Ideal.τ).loc Cert.Kernel43Ideal.main_v0_2) = v2 c
          ∧ r.2.mem ((c.tc : Thread Cert.Kernel43Ideal.nD Cert.Kernel43Ideal.τ).loc Cert.Kernel43Ideal.main_v0_3) = v3 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
          ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
          ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v2) = v0 c
          ∧ r.2.mem ((c.tc : Thread Cert.Reference43Ideal.nD Cert.Reference43Ideal.τ).loc Cert.Reference43Ideal.main_v26) = v1 c
          ∧ r.2.mem ((c.tc : Thread Cert.Reference43Ideal.nD Cert.Reference43Ideal.τ).loc Cert.Reference43Ideal.main_v7) = v2 c
          ∧ r.2.mem ((c.tc : Thread Cert.Reference43Ideal.nD Cert.Reference43Ideal.τ).loc Cert.Reference43Ideal.main_v13) = v3 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1)
          ∧ r.2.mem ((c.tc : Thread Cert.Reference43Ideal.nD Cert.Reference43Ideal.τ).loc Cert.Reference43Ideal.main_arg2) = m' ((c.tc : Thread Cert.Reference43Ideal.nD Cert.Reference43Ideal.τ).loc Cert.Reference43Ideal.main_arg2)
          ∧ r.2.mem ((c.tc : Thread Cert.Reference43Ideal.nD Cert.Reference43Ideal.τ).loc Cert.Reference43Ideal.main_arg3) = m' ((c.tc : Thread Cert.Reference43Ideal.nD Cert.Reference43Ideal.τ).loc Cert.Reference43Ideal.main_arg3))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)
      ∧ m' ((c.tc : Thread Cert.Reference44Ideal.nD Cert.Reference44Ideal.τ).loc Cert.Reference44Ideal.main_arg2) = m ((c.tc : Thread Cert.Kernel44Ideal.nD Cert.Kernel44Ideal.τ).loc Cert.Kernel44Ideal.main_arg2)
      ∧ m' ((c.tc : Thread Cert.Reference44Ideal.nD Cert.Reference44Ideal.τ).loc Cert.Reference44Ideal.main_arg3) = m ((c.tc : Thread Cert.Kernel44Ideal.nD Cert.Kernel44Ideal.τ).loc Cert.Kernel44Ideal.main_arg3)) →
    ∃ (v0 : (c : Dev Cert.Kernel44Ideal.nD) → Buf (Elt Ideal) ((c.tc : Thread Cert.Kernel44Ideal.nD Cert.Kernel44Ideal.τ).loc Cert.Kernel44Ideal.main_v0_0)) (v1 : (c : Dev Cert.Kernel44Ideal.nD) → Buf (Elt Ideal) ((c.tc : Thread Cert.Kernel44Ideal.nD Cert.Kernel44Ideal.τ).loc Cert.Kernel44Ideal.main_v0_1)) (v2 : (c : Dev Cert.Kernel44Ideal.nD) → Buf (Elt Ideal) ((c.tc : Thread Cert.Kernel44Ideal.nD Cert.Kernel44Ideal.τ).loc Cert.Kernel44Ideal.main_v0_2)) (v3 : (c : Dev Cert.Kernel44Ideal.nD) → Buf (Elt Ideal) ((c.tc : Thread Cert.Kernel44Ideal.nD Cert.Kernel44Ideal.τ).loc Cert.Kernel44Ideal.main_v0_3)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v0_0) = v0 c
          ∧ r.2.mem ((c.tc : Thread Cert.Kernel44Ideal.nD Cert.Kernel44Ideal.τ).loc Cert.Kernel44Ideal.main_v0_1) = v1 c
          ∧ r.2.mem ((c.tc : Thread Cert.Kernel44Ideal.nD Cert.Kernel44Ideal.τ).loc Cert.Kernel44Ideal.main_v0_2) = v2 c
          ∧ r.2.mem ((c.tc : Thread Cert.Kernel44Ideal.nD Cert.Kernel44Ideal.τ).loc Cert.Kernel44Ideal.main_v0_3) = v3 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
          ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2)
          ∧ r.2.mem ((c.tc : Thread Cert.Kernel44Ideal.nD Cert.Kernel44Ideal.τ).loc Cert.Kernel44Ideal.main_arg3) = m ((c.tc : Thread Cert.Kernel44Ideal.nD Cert.Kernel44Ideal.τ).loc Cert.Kernel44Ideal.main_arg3))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v1) = v0 c
          ∧ r.2.mem ((c.tc : Thread Cert.Reference44Ideal.nD Cert.Reference44Ideal.τ).loc Cert.Reference44Ideal.main_v25) = v1 c
          ∧ r.2.mem ((c.tc : Thread Cert.Reference44Ideal.nD Cert.Reference44Ideal.τ).loc Cert.Reference44Ideal.main_v6) = v2 c
          ∧ r.2.mem ((c.tc : Thread Cert.Reference44Ideal.nD Cert.Reference44Ideal.τ).loc Cert.Reference44Ideal.main_v12) = v3 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1)
          ∧ r.2.mem ((c.tc : Thread Cert.Reference44Ideal.nD Cert.Reference44Ideal.τ).loc Cert.Reference44Ideal.main_arg2) = m' ((c.tc : Thread Cert.Reference44Ideal.nD Cert.Reference44Ideal.τ).loc Cert.Reference44Ideal.main_arg2)
          ∧ r.2.mem ((c.tc : Thread Cert.Reference44Ideal.nD Cert.Reference44Ideal.τ).loc Cert.Reference44Ideal.main_arg3) = m' ((c.tc : Thread Cert.Reference44Ideal.nD Cert.Reference44Ideal.τ).loc Cert.Reference44Ideal.main_arg3))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
-- ==== Kernel.lean ====
abbrev S4x2048x1024 : Shape := ⟨3, ![4, 2048, 1024]⟩
abbrev S4x2048x512 : Shape := ⟨3, ![4, 2048, 512]⟩
abbrev S32x512 : Shape := ⟨2, ![32, 512]⟩
abbrev S1x512 : Shape := ⟨2, ![1, 512]⟩
abbrev S1x2048x1024 : Shape := ⟨3, ![1, 2048, 1024]⟩
abbrev S1x2048x512 : Shape := ⟨3, ![1, 2048, 512]⟩
abbrev S2088x512 : Shape := ⟨2, ![2088, 512]⟩
abbrev S8x288x512 : Shape := ⟨3, ![8, 288, 512]⟩
abbrev S8x512 : Shape := ⟨2, ![8, 512]⟩
abbrev S1x256x1024 : Shape := ⟨3, ![1, 256, 1024]⟩
abbrev S256x1024 : Shape := ⟨2, ![256, 1024]⟩
abbrev S256x512 : Shape := ⟨2, ![256, 512]⟩
abbrev S40x512 : Shape := ⟨2, ![40, 512]⟩
abbrev S1x256x512 : Shape := ⟨3, ![1, 256, 512]⟩
abbrev S256 : Shape := ⟨1, ![256]⟩
abbrev S256x1 : Shape := ⟨2, ![256, 1]⟩
abbrev S512 : Shape := ⟨1, ![512]⟩
abbrev S288x512 : Shape := ⟨2, ![288, 512]⟩
abbrev S1x288x512 : Shape := ⟨3, ![1, 288, 512]⟩

abbrev nBuf : Space → Nat
  | .hbm => 11
  | .vmem => 19
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x512, .f32⟩
  | .hbm, ⟨2, _⟩ => ⟨S4x2048x512, .bf16⟩
  | .hbm, ⟨3, _⟩ => ⟨S32x512, .f32⟩
  | .hbm, ⟨4, _⟩ => ⟨S1x512, .f32⟩
  | .hbm, ⟨5, _⟩ => ⟨S1x512, .f32⟩
  | .hbm, ⟨6, _⟩ => ⟨S4x2048x1024, .bf16⟩
  | .hbm, ⟨7, _⟩ => ⟨S32x512, .f32⟩
  | .hbm, ⟨8, _⟩ => ⟨S1x512, .f32⟩
  | .hbm, ⟨9, _⟩ => ⟨S1x512, .f32⟩
  | .hbm, ⟨10, _⟩ => ⟨S1x512, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .bf16⟩
  | .local _ .vmem, ⟨5, _⟩ => ⟨S1x2048x512, .bf16⟩
  | .local _ .vmem, ⟨6, _⟩ => ⟨S32x512, .f32⟩
  | .local _ .vmem, ⟨7, _⟩ => ⟨S1x512, .f32⟩
  | .local _ .vmem, ⟨8, _⟩ => ⟨S1x512, .f32⟩
  | .local _ .vmem, ⟨9, _⟩ => ⟨S1x2048x1024, .bf16⟩
  | .local _ .vmem, ⟨10, _⟩ => ⟨S1x2048x1024, .bf16⟩
  | .local _ .vmem, ⟨11, _⟩ => ⟨S32x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S2088x512, .f32⟩
  | .local _ .vmem, ⟨16, _⟩ => ⟨S2088x512, .f32⟩
  | .local _ .vmem, ⟨17, _⟩ => ⟨S8x288x512, .f32⟩
  | .local _ .vmem, ⟨18, _⟩ => ⟨S8x288x512, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Kernel2.lean ====
abbrev S8192x2048 : Shape := ⟨2, ![8192, 2048]⟩
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 10
  | .vmem => 20
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S1024x1024, .f32⟩
  | .hbm, ⟨4, _⟩ => ⟨S8192x1024, .bf16⟩
  | .hbm, ⟨5, _⟩ => ⟨S1024x1024, .bf16⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_8 : BitVec 32 := 0#32
  let v12 : BitVec 1 := Scalar.cmpi .eq arg1 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S8192x2048 : Shape := ⟨2, ![8192, 2048]⟩
abbrev S8192x1024 : Shape := ⟨2, ![8192, 1024]⟩
abbrev S1024x1024 : Shape := ⟨2, ![1024, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S1024x1024, .f32⟩
  | .hbm, ⟨4, _⟩ => ⟨S8192x1024, .bf16⟩
  | .hbm, ⟨5, _⟩ => ⟨S8192x2048, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x2048, .f32⟩
  | .hbm, ⟨33, _⟩ => ⟨S8192x2048, .f32⟩
  | .hbm, ⟨34, _⟩ => ⟨S8192x1024, .f32⟩
  | .hbm, ⟨35, _⟩ => ⟨S8192x1024, .f32⟩
  | .hbm, ⟨36, _⟩ => ⟨S8192x1024, .bf16⟩
  | .hbm, ⟨37, _⟩ => ⟨S8192x1024, .bf16⟩
  | .hbm, ⟨38, _⟩ => ⟨S8192x1024, .bf16⟩
  | .hbm, ⟨39, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Kernel3.lean ====
abbrev S8192x4096 : Shape := ⟨2, ![8192, 4096]⟩
abbrev S4096x1024 : Shape := ⟨2, ![4096, 1024]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .f32⟩
  | .hbm, ⟨2, _⟩ => ⟨S8192x1024, .bf16⟩
  | .hbm, ⟨3, _⟩ => ⟨S4096x1024, .bf16⟩
  | .hbm, ⟨4, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .f32⟩
  | .hbm, ⟨2, _⟩ => ⟨S8192x1024, .bf16⟩
  | .hbm, ⟨3, _⟩ => ⟨S8192x4096, .f32⟩
  | .hbm, ⟨4, _⟩ => ⟨S8192x1024, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .i1⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel4.lean ====
abbrev S8192x4096 : Shape := ⟨2, ![8192, 4096]⟩
abbrev S8192x1024 : Shape := ⟨2, ![8192, 1024]⟩
abbrev S4096x1024 : Shape := ⟨2, ![4096, 1024]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v16 : BitVec 1 := Scalar.cmpi .eq arg2 c7_i32
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x4096, .f32⟩
  | .hbm, ⟨3, _⟩ => ⟨S8192x1024, .f32⟩
  | .hbm, ⟨4, _⟩ => ⟨S_, .f32⟩
  | .hbm, ⟨5, _⟩ => ⟨S4096x1024, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x1024, .f32⟩
  | .hbm, ⟨11, _⟩ => ⟨S1024x4096, .f32⟩
  | .hbm, ⟨12, _⟩ => ⟨S4096x1024, .f32⟩
  | .hbm, ⟨13, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel5.lean ====
abbrev S8192x1024 : Shape := ⟨2, ![8192, 1024]⟩
abbrev S4x1x1024 : Shape := ⟨3, ![4, 1, 1024]⟩
abbrev S1024 : Shape := ⟨1, ![1024]⟩
abbrev S1024x4096 : Shape := ⟨2, ![1024, 4096]⟩
abbrev S8192x4096 : Shape := ⟨2, ![8192, 4096]⟩
abbrev S4x2048x1024 : Shape := ⟨3, ![4, 2048, 1024]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 25
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S4x1x1024, .f32⟩
  | .hbm, ⟨3, _⟩ => ⟨S1024, .f32⟩
  | .hbm, ⟨4, _⟩ => ⟨S4x1x1024, .f32⟩
  | .hbm, ⟨5, _⟩ => ⟨S4x1x1024, .f32⟩
  | .hbm, ⟨6, _⟩ => ⟨S1024x4096, .f32⟩
  | .hbm, ⟨7, _⟩ => ⟨S8192x1024, .f32⟩
  | .hbm, ⟨8, _⟩ => ⟨S8192x4096, .bf16⟩
  | .hbm, ⟨9, _⟩ => ⟨S4x2048x1024, .f32⟩
  | .hbm, ⟨10, _⟩ => ⟨S8192x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S4x2048x1024, .f32⟩
  | .hbm, ⟨15, _⟩ => ⟨S8192x1024, .f32⟩
  | .hbm, ⟨16, _⟩ => ⟨S4096x1024, .f32⟩
  | .hbm, ⟨17, _⟩ => ⟨S4096x1024, .bf16⟩
  | .hbm, ⟨18, _⟩ => ⟨S1x1024, .f32⟩
  | .hbm, ⟨19, _⟩ => ⟨S8192x1024, .f32⟩
  | .hbm, ⟨20, _⟩ => ⟨S8192x1024, .bf16⟩
  | .hbm, ⟨21, _⟩ => ⟨S4x1x1024, .f32⟩
  | .hbm, ⟨22, _⟩ => ⟨S4x1x1024, .f32⟩
  | .hbm, ⟨23, _⟩ => ⟨S4x1x1024, .f32⟩
  | .hbm, ⟨24, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1024, .f32⟩
  | .local _ .vmem, ⟨25, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev main_v10_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_8 : BitVec 32 := 0#32
  let v12 : BitVec 1 := Scalar.cmpi .eq arg1 c0_i32_8
  let v13 : BitVec 32 := Scalar.extui v12
  let c0_i32_9 : BitVec 32 := 0#32
  let v14 : BitVec 1 := Scalar.cmpi .ne v13 c0_i32_9
  v14

def k0_cond3 (i : grid0.Coords) : BitVec 1 :=
  let arg0 : BitVec 32 := BitVec.ofNat 32 (i 0).val
  let c4_i32 : BitVec 32 := 4#32
  let c0_i32_40 : BitVec 32 := 0#32
  let v72 : BitVec 1 := Scalar.cmpi .eq c4_i32 c0_i32_40
  let c1_i32 : BitVec 32 := 1#32
  let v73 : BitVec 32 := Scalar.select v72 c1_i32 c4_i32
  let v74 : BitVec 32 := Scalar.remsi arg0 v73
  let c0_i32_42 : BitVec 32 := 0#32
  let v76 : BitVec 1 := Scalar.cmpi .slt v74 c0_i32_42
  let c0_i32_43 : BitVec 32 := 0#32
  let v77 : BitVec 1 := Scalar.cmpi .slt v73 c0_i32_43
  let v78 : BitVec 1 := Scalar.xori v76 v77
  let c0_i32_41 : BitVec 32 := 0#32
  let v75 : BitVec 1 := Scalar.cmpi .ne v74 c0_i32_41
  let v79 : BitVec 1 := Scalar.andi v78 v75
  let v80 : BitVec 32 := Scalar.addi v74 v73
  let v81 : BitVec 32 := Scalar.select v79 v80 v74
  let c0_i32_44 : BitVec 32 := 0#32
  let v82 : BitVec 1 := Scalar.cmpi .eq v81 c0_i32_44
  let v83 : BitVec 32 := Scalar.extui v82
  let c0_i32_45 : BitVec 32 := 0#32
  let v84 : BitVec 1 := Scalar.cmpi .ne v83 c0_i32_45
  v84

def k0_cond4 (i : grid0.Coords) : BitVec 1 :=
  let arg0 : BitVec 32 := BitVec.ofNat 32 (i 0).val
  let c0_i32_64 : BitVec 32 := 0#32
  let v103 : BitVec 1 := Scalar.cmpi .eq arg0 c0_i32_64
  let v104 : BitVec 32 := Scalar.extui v103
  let c0_i32_65 : BitVec 32 := 0#32
  let v105 : BitVec 1 := Scalar.cmpi .ne v104 c0_i32_65
  v105

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== Reference5Ideal.lean ====
abbrev S8192x1024 : Shape := ⟨2, ![8192, 1024]⟩
abbrev S4x1x1024 : Shape := ⟨3, ![4, 1, 1024]⟩
abbrev S1024 : Shape := ⟨1, ![1024]⟩
abbrev S1024x4096 : Shape := ⟨2, ![1024, 4096]⟩
abbrev S8192x4096 : Shape := ⟨2, ![8192, 4096]⟩
abbrev S4x2048x1024 : Shape := ⟨3, ![4, 2048, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x4096 : Shape := ⟨3, ![4, 2048, 4096]⟩
abbrev S4x1024 : Shape := ⟨2, ![4, 1024]⟩
abbrev S1x1024 : Shape := ⟨2, ![1, 1024]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S4x1x1024, .f32⟩
  | .hbm, ⟨3, _⟩ => ⟨S1024, .f32⟩
  | .hbm, ⟨4, _⟩ => ⟨S4x1x1024, .f32⟩
  | .hbm, ⟨5, _⟩ => ⟨S4x1x1024, .f32⟩
  | .hbm, ⟨6, _⟩ => ⟨S1024x4096, .f32⟩
  | .hbm, ⟨7, _⟩ => ⟨S8192x1024, .f32⟩
  | .hbm, ⟨8, _⟩ => ⟨S8192x4096, .bf16⟩
  | .hbm, ⟨9, _⟩ => ⟨S4x2048x1024, .f32⟩
  | .hbm, ⟨10, _⟩ => ⟨S8192x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S_, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S4x2048, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S_, .f32⟩
  | .hbm, ⟨26, _⟩ => ⟨S4x2048x1, .f32⟩
  | .hbm, ⟨27, _⟩ => ⟨S4x2048x1, .f32⟩
  | .hbm, ⟨28, _⟩ => ⟨S4x2048x1, .f32⟩
  | .hbm, ⟨29, _⟩ => ⟨S4x2048x1, .f32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S4x2048x1024, .f32⟩
  | .hbm, ⟨34, _⟩ => ⟨S4x2048x1024, .f32⟩
  | .hbm, ⟨35, _⟩ => ⟨S1x1x1024, .f32⟩
  | .hbm, ⟨36, _⟩ => ⟨S4x2048x1024, .f32⟩
  | .hbm, ⟨37, _⟩ => ⟨S4x2048x1024, .f32⟩
  | .hbm, ⟨38, _⟩ => ⟨S_, .f32⟩
  | .hbm, ⟨39, _⟩ => ⟨S4x1x1024, .f32⟩
  | .hbm, ⟨40, _⟩ => ⟨S4x1x1024, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S4x2048x1024, .f32⟩
  | .hbm, ⟨45, _⟩ => ⟨S4x2048x4096, .f32⟩
  | .hbm, ⟨46, _⟩ => ⟨S4x2048x1024, .f32⟩
  | .hbm, ⟨47, _⟩ => ⟨S8192x4096, .f32⟩
  | .hbm, ⟨48, _⟩ => ⟨S4x2048x4096, .f32⟩
  | .hbm, ⟨49, _⟩ => ⟨S4x2048x1024, .f32⟩
  | .hbm, ⟨50, _⟩ => ⟨S_, .f32⟩
  | .hbm, ⟨51, _⟩ => ⟨S4x1024, .f32⟩
  | .hbm, ⟨52, _⟩ => ⟨S4x1x1024, .f32⟩
  | .hbm, ⟨53, _⟩ => ⟨S4x2048x1024, .f32⟩
  | .hbm, ⟨54, _⟩ => ⟨S_, .f32⟩
  | .hbm, ⟨55, _⟩ => ⟨S4x1024, .f32⟩
  | .hbm, ⟨56, _⟩ => ⟨S4x1x1024, .f32⟩
  | .hbm, ⟨57, _⟩ => ⟨S4x2048x1024, .f32⟩
  | .hbm, ⟨58, _⟩ => ⟨S4x2048x1024, .f32⟩
  | .hbm, ⟨59, _⟩ => ⟨S4x2048x1024, .f32⟩
  | .hbm, ⟨60, _⟩ => ⟨S_, .f32⟩
  | .hbm, ⟨61, _⟩ => ⟨S1024, .f32⟩
  | .hbm, ⟨62, _⟩ => ⟨S1x1x1024, .f32⟩
  | .hbm, ⟨63, _⟩ => ⟨S4x2048x1024, .f32⟩
  | .hbm, ⟨64, _⟩ => ⟨S4x2048x1024, .f32⟩
  | .hbm, ⟨65, _⟩ => ⟨S_, .f32⟩
  | .hbm, ⟨66, _⟩ => ⟨S1024, .f32⟩
  | .hbm, ⟨67, _⟩ => ⟨S4x2048x1024, .f32⟩
  | .hbm, ⟨68, _⟩ => ⟨S_, .f32⟩
  | .hbm, ⟨69, _⟩ => ⟨S4x2048, .f32⟩
  | .hbm, ⟨70, _⟩ => ⟨S4x2048x1, .f32⟩
  | .hbm, ⟨71, _⟩ => ⟨S4x2048x1024, .f32⟩
  | .hbm, ⟨72, _⟩ => ⟨S4x2048x1024, .f32⟩
  | .hbm, ⟨73, _⟩ => ⟨S4x2048x1024, .f32⟩
  | .hbm, ⟨74, _⟩ => ⟨S4x2048x1, .f32⟩
  | .hbm, ⟨75, _⟩ => ⟨S_, .f32⟩
  | .hbm, ⟨76, _⟩ => ⟨S4x2048x1, .f32⟩
  | .hbm, ⟨77, _⟩ => ⟨S4x2048x1, .f32⟩
  | .hbm, ⟨78, _⟩ => ⟨S_, .f32⟩
  | .hbm, ⟨79, _⟩ => ⟨S4x2048, .f32⟩
  | .hbm, ⟨80, _⟩ => ⟨S4x2048x1024, .f32⟩
  | .hbm, ⟨81, _⟩ => ⟨S4x2048x1024, .f32⟩
  | .hbm, ⟨82, _⟩ => ⟨S4x2048x1024, .f32⟩
  | .hbm, ⟨83, _⟩ => ⟨S4x2048x1024, .f32⟩
  | .hbm, ⟨84, _⟩ => ⟨S4x2048x1024, .f32⟩
  | .hbm, ⟨85, _⟩ => ⟨S4x2048x1024, .f32⟩
  | .hbm, ⟨86, _⟩ => ⟨S_, .f32⟩
  | .hbm, ⟨87, _⟩ => ⟨S4x1024, .f32⟩
  | .hbm, ⟨88, _⟩ => ⟨S4x1x1024, .f32⟩
  | .hbm, ⟨89, _⟩ => ⟨S8192x1024, .f32⟩
  | .hbm, ⟨90, _⟩ => ⟨S8192x1024, .f32⟩
  | .hbm, ⟨91, _⟩ => ⟨S8192x1024, .bf16⟩
  | .hbm, ⟨92, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_12 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩

abbrev nD : Nat := 1
abbrev τ : Topo := Topo.v7x

variable {F : FTy → Type} [FloatOps F]
-- ==== Kernel6.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .f32⟩
  | .hbm, ⟨2, _⟩ => ⟨S4096x1024, .f32⟩
  | .hbm, ⟨3, _⟩ => ⟨S4096x1024, .bf16⟩
  | .hbm, ⟨4, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S1024x4096 : Shape := ⟨2, ![1024, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .f32⟩
  | .hbm, ⟨2, _⟩ => ⟨S8192x1024, .f32⟩
  | .hbm, ⟨3, _⟩ => ⟨S8192x4096, .f32⟩
  | .hbm, ⟨4, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S8192x4096 : Shape := ⟨2, ![8192, 4096]⟩
abbrev S8192x1024 : Shape := ⟨2, ![8192, 1024]⟩
abbrev S4x1x1024 : Shape := ⟨3, ![4, 1, 1024]⟩
abbrev S4096x1024 : Shape := ⟨2, ![4096, 1024]⟩
abbrev S1x128 : Shape := ⟨2, ![1, 128]⟩
abbrev S512x4096 : Shape := ⟨2, ![512, 4096]⟩
abbrev S512x1024 : Shape := ⟨2, ![512, 1024]⟩
abbrev S1x1x1024 : Shape := ⟨3, ![1, 1, 1024]⟩
abbrev S1x1024 : Shape := ⟨2, ![1, 1024]⟩
abbrev S1x512x1024 : Shape := ⟨3, ![1, 512, 1024]⟩
abbrev S1 : Shape := ⟨1, ![1]⟩
abbrev S1x1x1 : Shape := ⟨3, ![1, 1, 1]⟩
abbrev S1x1 : Shape := ⟨2, ![1, 1]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S8192x1024, .f32⟩
  | .hbm, ⟨3, _⟩ => ⟨S4x1x1024, .f32⟩
  | .hbm, ⟨4, _⟩ => ⟨S4096x1024, .f32⟩
  | .hbm, ⟨5, _⟩ => ⟨S4096x1024, .bf16⟩
  | .hbm, ⟨6, _⟩ => ⟨S8192x1024, .f32⟩
  | .hbm, ⟨7, _⟩ => ⟨S8192x1024, .bf16⟩
  | .hbm, ⟨8, _⟩ => ⟨S4x1x1024, .f32⟩
  | .hbm, ⟨9, _⟩ => ⟨S1x128, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1x1024, .f32⟩
  | .local _ .vmem, ⟨8, _⟩ => ⟨S1x1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1x1024, .f32⟩
  | .local _ .vmem, ⟨14, _⟩ => ⟨S1x1x1024, .f32⟩
  | .local _ .vmem, ⟨15, _⟩ => ⟨S1x128, .f32⟩
  | .local _ .vmem, ⟨16, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_9 : BitVec 32 := 0#32
  let v17 : BitVec 1 := Scalar.cmpi .eq arg1 c0_i32_9
  let v18 : BitVec 32 := Scalar.extui v17
  let c0_i32_10 : BitVec 32 := 0#32
  let v19 : BitVec 1 := Scalar.cmpi .ne v18 c0_i32_10
  v19

def k0_cond3 (i : grid0.Coords) : BitVec 1 :=
  let arg0 : BitVec 32 := BitVec.ofNat 32 (i 0).val
  let c4_i32 : BitVec 32 := 4#32
  let c0_i32_27 : BitVec 32 := 0#32
  let v47 : BitVec 1 := Scalar.cmpi .eq c4_i32 c0_i32_27
  let c1_i32 : BitVec 32 := 1#32
  let v48 : BitVec 32 := Scalar.select v47 c1_i32 c4_i32
  let v49 : BitVec 32 := Scalar.remsi arg0 v48
  let c0_i32_29 : BitVec 32 := 0#32
  let v51 : BitVec 1 := Scalar.cmpi .slt v49 c0_i32_29
  let c0_i32_30 : BitVec 32 := 0#32
  let v52 : BitVec 1 := Scalar.cmpi .slt v48 c0_i32_30
  let v53 : BitVec 1 := Scalar.xori v51 v52
  let c0_i32_28 : BitVec 32 := 0#32
  let v50 : BitVec 1 := Scalar.cmpi .ne v49 c0_i32_28
  let v54 : BitVec 1 := Scalar.andi v53 v50
  let v55 : BitVec 32 := Scalar.addi v49 v48
  let v56 : BitVec 32 := Scalar.select v54 v55 v49
  let c0_i32_31 : BitVec 32 := 0#32
  let v57 : BitVec 1 := Scalar.cmpi .eq v56 c0_i32_31
  let v58 : BitVec 32 := Scalar.extui v57
  let c0_i32_32 : BitVec 32 := 0#32
  let v59 : BitVec 1 := Scalar.cmpi .ne v58 c0_i32_32
  v59

def k0_cond4 (i : grid0.Coords) : BitVec 1 :=
  let arg0 : BitVec 32 := BitVec.ofNat 32 (i 0).val
  let c0_i32_39 : BitVec 32 := 0#32
  let v66 : BitVec 1 := Scalar.cmpi .eq arg0 c0_i32_39
  let v67 : BitVec 32 := Scalar.extui v66
  let c0_i32_40 : BitVec 32 := 0#32
  let v68 : BitVec 1 := Scalar.cmpi .ne v67 c0_i32_40
  v68

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference7Ideal.lean ====
abbrev S8192x4096 : Shape := ⟨2, ![8192, 4096]⟩
abbrev S8192x1024 : Shape := ⟨2, ![8192, 1024]⟩
abbrev S4x1x1024 : Shape := ⟨3, ![4, 1, 1024]⟩
abbrev S4096x1024 : Shape := ⟨2, ![4096, 1024]⟩
abbrev S_ : Shape := ⟨0, ![]⟩
abbrev S4x2048x1024 : Shape := ⟨3, ![4, 2048, 1024]⟩
abbrev S4x2048 : Shape := ⟨2, ![4, 2048]⟩
abbrev S4x1024 : Shape := ⟨2, ![4, 1024]⟩
abbrev S1x128 : Shape := ⟨2, ![1, 128]⟩

abbrev nBuf : Space → Nat
  | .hbm => 59
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S8192x1024, .f32⟩
  | .hbm, ⟨3, _⟩ => ⟨S4x1x1024, .f32⟩
  | .hbm, ⟨4, _⟩ => ⟨S4096x1024, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S4x2048x1024, .f32⟩
  | .hbm, ⟨21, _⟩ => ⟨S4x2048x1024, .f32⟩
  | .hbm, ⟨22, _⟩ => ⟨S_, .f32⟩
  | .hbm, ⟨23, _⟩ => ⟨S4x2048, .f32⟩
  | .hbm, ⟨24, _⟩ => ⟨S_, .f32⟩
  | .hbm, ⟨25, _⟩ => ⟨S4x2048, .f32⟩
  | .hbm, ⟨26, _⟩ => ⟨S4x2048, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S4x2048, .f32⟩
  | .hbm, ⟨35, _⟩ => ⟨S_, .f32⟩
  | .hbm, ⟨36, _⟩ => ⟨S4x2048, .f32⟩
  | .hbm, ⟨37, _⟩ => ⟨S4x2048, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S4x2048x1024, .f32⟩
  | .hbm, ⟨43, _⟩ => ⟨S_, .f32⟩
  | .hbm, ⟨44, _⟩ => ⟨S4x1024, .f32⟩
  | .hbm, ⟨45, _⟩ => ⟨S4x1x1024, .f32⟩
  | .hbm, ⟨46, _⟩ => ⟨S4x2048x1024, .f32⟩
  | .hbm, ⟨47, _⟩ => ⟨S4x2048x1024, .f32⟩
  | .hbm, ⟨48, _⟩ => ⟨S4x2048x1024, .f32⟩
  | .hbm, ⟨49, _⟩ => ⟨S4x2048x1024, .f32⟩
  | .hbm, ⟨50, _⟩ => ⟨S4x2048x1024, .f32⟩
  | .hbm, ⟨51, _⟩ => ⟨S4x2048x1024, .f32⟩
  | .hbm, ⟨52, _⟩ => ⟨S4x2048x1024, .f32⟩
  | .hbm, ⟨53, _⟩ => ⟨S_, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S8192x1024, .bf16⟩
  | .hbm, ⟨58, _⟩ => ⟨S1x128, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_cst_4 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Kernel8.lean ====
abbrev S8192x2048 : Shape := ⟨2, ![8192, 2048]⟩
abbrev S8192x1024 : Shape := ⟨2, ![8192, 1024]⟩
abbrev S4x1x1024 : Shape := ⟨3, ![4, 1, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 15
  | .vmem => 27
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S8192x1024, .f32⟩
  | .hbm, ⟨4, _⟩ => ⟨S4x1x1024, .f32⟩
  | .hbm, ⟨5, _⟩ => ⟨S1024, .f32⟩
  | .hbm, ⟨6, _⟩ => ⟨S4x1x1024, .f32⟩
  | .hbm, ⟨7, _⟩ => ⟨S4x1x1024, .f32⟩
  | .hbm, ⟨8, _⟩ => ⟨S1024x1024, .f32⟩
  | .hbm, ⟨9, _⟩ => ⟨S1024x1024, .bf16⟩
  | .hbm, ⟨10, _⟩ => ⟨S1x1024, .f32⟩
  | .hbm, ⟨11, _⟩ => ⟨S8192x1024, .bf16⟩
  | .hbm, ⟨12, _⟩ => ⟨S8192x1024, .bf16⟩
  | .hbm, ⟨13, _⟩ => ⟨S8192x1024, .f32⟩
  | .hbm, ⟨14, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | .local _ .vmem, ⟨26, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_22 : BitVec 32 := 0#32
  let v38 : BitVec 1 := Scalar.cmpi .eq arg1 c0_i32_22
  let v39 : BitVec 32 := Scalar.extui v38
  let c0_i32_23 : BitVec 32 := 0#32
  let v40 : BitVec 1 := Scalar.cmpi .ne v39 c0_i32_23
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference8Ideal.lean ====
abbrev S8192x2048 : Shape := ⟨2, ![8192, 2048]⟩
abbrev S8192x1024 : Shape := ⟨2, ![8192, 1024]⟩
abbrev S4x1x1024 : Shape := ⟨3, ![4, 1, 1024]⟩
abbrev S1024 : Shape := ⟨1, ![1024]⟩
abbrev S1024x1024 : Shape := ⟨2, ![1024, 1024]⟩
abbrev S_ : Shape := ⟨0, ![]⟩
abbrev S4x2048x1024 : Shape := ⟨3, ![4, 2048, 1024]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 72
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S8192x1024, .f32⟩
  | .hbm, ⟨4, _⟩ => ⟨S4x1x1024, .f32⟩
  | .hbm, ⟨5, _⟩ => ⟨S1024, .f32⟩
  | .hbm, ⟨6, _⟩ => ⟨S4x1x1024, .f32⟩
  | .hbm, ⟨7, _⟩ => ⟨S4x1x1024, .f32⟩
  | .hbm, ⟨8, _⟩ => ⟨S1024x1024, .f32⟩
  | .hbm, ⟨9, _⟩ => ⟨S8192x2048, .f32⟩
  | .hbm, ⟨10, _⟩ => ⟨S8192x1024, .f32⟩
  | .hbm, ⟨11, _⟩ => ⟨S8192x1024, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S4x2048x1024, .f32⟩
  | .hbm, ⟨45, _⟩ => ⟨S_, .f32⟩
  | .hbm, ⟨46, _⟩ => ⟨S4x2048, .f32⟩
  | .hbm, ⟨47, _⟩ => ⟨S4x2048x1, .f32⟩
  | .hbm, ⟨48, _⟩ => ⟨S_, .f32⟩
  | .hbm, ⟨49, _⟩ => ⟨S4x2048x1, .f32⟩
  | .hbm, ⟨50, _⟩ => ⟨S4x2048x1, .f32⟩
  | .hbm, ⟨51, _⟩ => ⟨S_, .f32⟩
  | .hbm, ⟨52, _⟩ => ⟨S4x2048x1, .f32⟩
  | .hbm, ⟨53, _⟩ => ⟨S4x2048x1, .f32⟩
  | .hbm, ⟨54, _⟩ => ⟨S4x2048x1, .f32⟩
  | .hbm, ⟨55, _⟩ => ⟨S4x2048x1024, .f32⟩
  | .hbm, ⟨56, _⟩ => ⟨S4x2048x1024, .f32⟩
  | .hbm, ⟨57, _⟩ => ⟨S1x1x1024, .f32⟩
  | .hbm, ⟨58, _⟩ => ⟨S4x2048x1024, .f32⟩
  | .hbm, ⟨59, _⟩ => ⟨S4x2048x1024, .f32⟩
  | .hbm, ⟨60, _⟩ => ⟨S_, .f32⟩
  | .hbm, ⟨61, _⟩ => ⟨S4x1x1024, .f32⟩
  | .hbm, ⟨62, _⟩ => ⟨S4x1x1024, .f32⟩
  | .hbm, ⟨63, _⟩ => ⟨S4x2048x1024, .f32⟩
  | .hbm, ⟨64, _⟩ => ⟨S4x2048x1024, .f32⟩
  | .hbm, ⟨65, _⟩ => ⟨S4x2048x1024, .f32⟩
  | .hbm, ⟨66, _⟩ => ⟨S4x2048x1024, .f32⟩
  | .hbm, ⟨67, _⟩ => ⟨S8192x1024, .bf16⟩
  | .hbm, ⟨68, _⟩ => ⟨S8192x1024, .bf16⟩
  | .hbm, ⟨69, _⟩ => ⟨S8192x1024, .f32⟩
  | .hbm, ⟨70, _⟩ => ⟨S8192x1024, .f32⟩
  | .hbm, ⟨71, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]
-- ==== Kernel9.lean ====
abbrev S8192x1024 : Shape := ⟨2, ![8192, 1024]⟩
abbrev S4x1x1024 : Shape := ⟨3, ![4, 1, 1024]⟩
abbrev S1024 : Shape := ⟨1, ![1024]⟩
abbrev S1024x3488 : Shape := ⟨2, ![1024, 3488]⟩
abbrev S3488x1024 : Shape := ⟨2, ![3488, 1024]⟩
abbrev S400x1024 : Shape := ⟨2, ![400, 1024]⟩
abbrev S_ : Shape := ⟨0, ![]⟩
abbrev S48x1024 : Shape := ⟨2, ![48, 1024]⟩
abbrev S16x1024 : Shape := ⟨2, ![16, 1024]⟩
abbrev S512x1024 : Shape := ⟨2, ![512, 1024]⟩
abbrev S1024x1024 : Shape := ⟨2, ![1024, 1024]⟩
abbrev S2048x1024 : Shape := ⟨2, ![2048, 1024]⟩
abbrev S1x1024 : Shape := ⟨2, ![1, 1024]⟩
abbrev S8192x2048 : Shape := ⟨2, ![8192, 2048]⟩
abbrev S8192x512 : Shape := ⟨2, ![8192, 512]⟩
abbrev S1x1x1024 : Shape := ⟨3, ![1, 1, 1024]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩

abbrev nBuf : Space → Nat
  | .hbm => 21
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x3488, .f32⟩
  | .hbm, ⟨5, _⟩ => ⟨S3488x1024, .f32⟩
  | .hbm, ⟨6, _⟩ => ⟨S3488x1024, .bf16⟩
  | .hbm, ⟨7, _⟩ => ⟨S400x1024, .bf16⟩
  | .hbm, ⟨8, _⟩ => ⟨S_, .bf16⟩
  | .hbm, ⟨9, _⟩ => ⟨S48x1024, .bf16⟩
  | .hbm, ⟨10, _⟩ => ⟨S16x1024, .bf16⟩
  | .hbm, ⟨11, _⟩ => ⟨S_, .bf16⟩
  | .hbm, ⟨12, _⟩ => ⟨S48x1024, .bf16⟩
  | .hbm, ⟨13, _⟩ => ⟨S512x1024, .bf16⟩
  | .hbm, ⟨14, _⟩ => ⟨S1024x1024, .bf16⟩
  | .hbm, ⟨15, _⟩ => ⟨S2048x1024, .bf16⟩
  | .hbm, ⟨16, _⟩ => ⟨S1x1024, .f32⟩
  | .hbm, ⟨17, _⟩ => ⟨S8192x1024, .bf16⟩
  | .hbm, ⟨18, _⟩ => ⟨S8192x2048, .bf16⟩
  | .hbm, ⟨19, _⟩ => ⟨S8192x1024, .bf16⟩
  | .hbm, ⟨20, _⟩ => ⟨S8192x512, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S2048x1024, .bf16⟩
  | .local _ .vmem, ⟨8, _⟩ => ⟨S1024x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x2048, .bf16⟩
  | .local _ .vmem, ⟨13, _⟩ => ⟨S512x2048, .bf16⟩
  | .local _ .vmem, ⟨14, _⟩ => ⟨S512x1024, .bf16⟩
  | .local _ .vmem, ⟨15, _⟩ => ⟨S512x1024, .bf16⟩
  | .local _ .vmem, ⟨16, _⟩ => ⟨S512x512, .f32⟩
  | .local _ .vmem, ⟨17, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference9Ideal.lean ====
abbrev S8192x1024 : Shape := ⟨2, ![8192, 1024]⟩
abbrev S4x1x1024 : Shape := ⟨3, ![4, 1, 1024]⟩
abbrev S1024 : Shape := ⟨1, ![1024]⟩
abbrev S1024x3488 : Shape := ⟨2, ![1024, 3488]⟩
abbrev S4x2048x1024 : Shape := ⟨3, ![4, 2048, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x3488 : Shape := ⟨3, ![4, 2048, 3488]⟩
abbrev S8192x3488 : Shape := ⟨2, ![8192, 3488]⟩
abbrev S8192x48 : Shape := ⟨2, ![8192, 48]⟩
abbrev S8192x400 : Shape := ⟨2, ![8192, 400]⟩
abbrev S8192x16 : Shape := ⟨2, ![8192, 16]⟩
abbrev S8192x512 : Shape := ⟨2, ![8192, 512]⟩
abbrev S8192x2048 : Shape := ⟨2, ![8192, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x3488, .f32⟩
  | .hbm, ⟨5, _⟩ => ⟨S4x2048x1024, .f32⟩
  | .hbm, ⟨6, _⟩ => ⟨S4x2048x1024, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x1024, .f32⟩
  | .hbm, ⟨18, _⟩ => ⟨S4x2048x1024, .f32⟩
  | .hbm, ⟨19, _⟩ => ⟨S1x1x1024, .f32⟩
  | .hbm, ⟨20, _⟩ => ⟨S4x2048x1024, .f32⟩
  | .hbm, ⟨21, _⟩ => ⟨S4x2048x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S4x2048x1024, .f32⟩
  | .hbm, ⟨29, _⟩ => ⟨S4x2048x3488, .f32⟩
  | .hbm, ⟨30, _⟩ => ⟨S8192x3488, .f32⟩
  | .hbm, ⟨31, _⟩ => ⟨S_, .f32⟩
  | .hbm, ⟨32, _⟩ => ⟨S8192x48, .f32⟩
  | .hbm, ⟨33, _⟩ => ⟨S8192x400, .f32⟩
  | .hbm, ⟨34, _⟩ => ⟨S8192x16, .f32⟩
  | .hbm, ⟨35, _⟩ => ⟨S8192x512, .f32⟩
  | .hbm, ⟨36, _⟩ => ⟨S8192x1024, .f32⟩
  | .hbm, ⟨37, _⟩ => ⟨S8192x1024, .bf16⟩
  | .hbm, ⟨38, _⟩ => ⟨S8192x2048, .f32⟩
  | .hbm, ⟨39, _⟩ => ⟨S8192x2048, .bf16⟩
  | .hbm, ⟨40, _⟩ => ⟨S8192x1024, .f32⟩
  | .hbm, ⟨41, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Kernel10.lean ====
abbrev S8192x512 : Shape := ⟨2, ![8192, 512]⟩
abbrev S512x1024 : Shape := ⟨2, ![512, 1024]⟩
abbrev S1024x512 : Shape := ⟨2, ![1024, 512]⟩
abbrev S8192x1024 : Shape := ⟨2, ![8192, 1024]⟩
abbrev S2048x512 : Shape := ⟨2, ![2048, 512]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S512x1024, .f32⟩
  | .hbm, ⟨2, _⟩ => ⟨S1024x512, .f32⟩
  | .hbm, ⟨3, _⟩ => ⟨S1024x512, .bf16⟩
  | .hbm, ⟨4, _⟩ => ⟨S8192x1024, .bf16⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .f32⟩
  | .hbm, ⟨2, _⟩ => ⟨S8192x512, .f32⟩
  | .hbm, ⟨3, _⟩ => ⟨S8192x1024, .f32⟩
  | .hbm, ⟨4, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S8192x1024 : Shape := ⟨2, ![8192, 1024]⟩
abbrev S512x1024 : Shape := ⟨2, ![512, 1024]⟩
abbrev S1024x512 : Shape := ⟨2, ![1024, 512]⟩
abbrev S8192x512 : Shape := ⟨2, ![8192, 512]⟩
abbrev S2048x1024 : Shape := ⟨2, ![2048, 1024]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S512x1024, .f32⟩
  | .hbm, ⟨2, _⟩ => ⟨S1024x512, .f32⟩
  | .hbm, ⟨3, _⟩ => ⟨S1024x512, .bf16⟩
  | .hbm, ⟨4, _⟩ => ⟨S8192x512, .bf16⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .f32⟩
  | .hbm, ⟨2, _⟩ => ⟨S_, .f32⟩
  | .hbm, ⟨3, _⟩ => ⟨S8192x512, .f32⟩
  | .hbm, ⟨4, _⟩ => ⟨S8192x1024, .f32⟩
  | .hbm, ⟨5, _⟩ => ⟨S8192x1024, .f32⟩
  | .hbm, ⟨6, _⟩ => ⟨S8192x512, .f32⟩
  | .hbm, ⟨7, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S8192x512 : Shape := ⟨2, ![8192, 512]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .f32⟩
  | .hbm, ⟨3, _⟩ => ⟨S8192x1024, .f32⟩
  | .hbm, ⟨4, _⟩ => ⟨S_, .f32⟩
  | .hbm, ⟨5, _⟩ => ⟨S512x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S1024x512, .f32⟩
  | .hbm, ⟨10, _⟩ => ⟨S1024x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel13.lean ====
abbrev S8192x512 : Shape := ⟨2, ![8192, 512]⟩
abbrev S512x1024 : Shape := ⟨2, ![512, 1024]⟩
abbrev S1024x512 : Shape := ⟨2, ![1024, 512]⟩
abbrev S8192x1024 : Shape := ⟨2, ![8192, 1024]⟩
abbrev S2048x512 : Shape := ⟨2, ![2048, 512]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S512x1024, .f32⟩
  | .hbm, ⟨2, _⟩ => ⟨S1024x512, .f32⟩
  | .hbm, ⟨3, _⟩ => ⟨S1024x512, .bf16⟩
  | .hbm, ⟨4, _⟩ => ⟨S8192x1024, .bf16⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .f32⟩
  | .hbm, ⟨2, _⟩ => ⟨S8192x512, .f32⟩
  | .hbm, ⟨3, _⟩ => ⟨S8192x1024, .f32⟩
  | .hbm, ⟨4, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S8192x1024 : Shape := ⟨2, ![8192, 1024]⟩
abbrev S512x1024 : Shape := ⟨2, ![512, 1024]⟩
abbrev S1024x512 : Shape := ⟨2, ![1024, 512]⟩
abbrev S8192x512 : Shape := ⟨2, ![8192, 512]⟩
abbrev S2048x1024 : Shape := ⟨2, ![2048, 1024]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S512x1024, .f32⟩
  | .hbm, ⟨2, _⟩ => ⟨S1024x512, .f32⟩
  | .hbm, ⟨3, _⟩ => ⟨S1024x512, .bf16⟩
  | .hbm, ⟨4, _⟩ => ⟨S8192x512, .bf16⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .f32⟩
  | .hbm, ⟨2, _⟩ => ⟨S_, .f32⟩
  | .hbm, ⟨3, _⟩ => ⟨S8192x512, .f32⟩
  | .hbm, ⟨4, _⟩ => ⟨S8192x1024, .f32⟩
  | .hbm, ⟨5, _⟩ => ⟨S8192x1024, .f32⟩
  | .hbm, ⟨6, _⟩ => ⟨S8192x512, .f32⟩
  | .hbm, ⟨7, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S8192x512 : Shape := ⟨2, ![8192, 512]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .f32⟩
  | .hbm, ⟨3, _⟩ => ⟨S8192x1024, .f32⟩
  | .hbm, ⟨4, _⟩ => ⟨S_, .f32⟩
  | .hbm, ⟨5, _⟩ => ⟨S512x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S1024x512, .f32⟩
  | .hbm, ⟨10, _⟩ => ⟨S1024x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel16.lean ====
abbrev S8192x1024 : Shape := ⟨2, ![8192, 1024]⟩
abbrev S8192x4096 : Shape := ⟨2, ![8192, 4096]⟩
abbrev S4096x1024 : Shape := ⟨2, ![4096, 1024]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8192x1024, .f32⟩
  | .hbm, ⟨3, _⟩ => ⟨S8192x4096, .f32⟩
  | .hbm, ⟨4, _⟩ => ⟨S_, .f32⟩
  | .hbm, ⟨5, _⟩ => ⟨S1024x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel17.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel18.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel19.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel20.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference20Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel21.lean ====
abbrev S8192x1024 : Shape := ⟨2, ![8192, 1024]⟩
abbrev S8192x512 : Shape := ⟨2, ![8192, 512]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference21Ideal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x1024, .f32⟩
  | .hbm, ⟨3, _⟩ => ⟨S8192x512, .f32⟩
  | .hbm, ⟨4, _⟩ => ⟨S_, .f32⟩
  | .hbm, ⟨5, _⟩ => ⟨S1024x512, .f32⟩
  | .hbm, ⟨6, _⟩ => ⟨S8192x512, .f32⟩
  | .hbm, ⟨7, _⟩ => ⟨S512x1024, .f32⟩
  | .hbm, ⟨8, _⟩ => ⟨S1024x512, .f32⟩
  | .hbm, ⟨9, _⟩ => ⟨S512x1024, .f32⟩
  | .hbm, ⟨10, _⟩ => ⟨S512x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel22.lean ====
abbrev S32x1024 : Shape := ⟨2, ![32, 1024]⟩
abbrev S1024x768 : Shape := ⟨2, ![1024, 768]⟩
abbrev S768 : Shape := ⟨1, ![768]⟩
abbrev S32x768 : Shape := ⟨2, ![32, 768]⟩

abbrev nBuf : Space → Nat
  | .hbm => 5
  | .vmem => 5
  | .smem => 0
  | _ => 0

abbrev bufTy : (tb : Table) → Fin (tcTables nBuf tb) → BufTy
  | .hbm, ⟨0, _⟩ => ⟨S32x1024, .f32⟩
  | .hbm, ⟨1, _⟩ => ⟨S1024x768, .f32⟩
  | .hbm, ⟨2, _⟩ => ⟨S768, .f32⟩
  | .hbm, ⟨3, _⟩ => ⟨S32x768, .f32⟩
  | .hbm, ⟨4, _⟩ => ⟨S32x768, .f32⟩
  | .local _ .vmem, ⟨0, _⟩ => ⟨S32x1024, .f32⟩
  | .local _ .vmem, ⟨1, _⟩ => ⟨S1024x768, .f32⟩
  | .local _ .vmem, ⟨2, _⟩ => ⟨S32x768, .f32⟩
  | .local _ .vmem, ⟨3, _⟩ => ⟨S32x768, .f32⟩
  | .local _ .vmem, ⟨4, _⟩ => ⟨S32x768, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_11 : BitVec 32 := 0#32
  let v21 : BitVec 1 := Scalar.cmpi .eq arg2 c0_i32_11
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S32x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S32x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== Reference22Ideal.lean ====
abbrev S32x1024 : Shape := ⟨2, ![32, 1024]⟩
abbrev S1024x768 : Shape := ⟨2, ![1024, 768]⟩
abbrev S768 : Shape := ⟨1, ![768]⟩
abbrev S_ : Shape := ⟨0, ![]⟩
abbrev S32x768 : Shape := ⟨2, ![32, 768]⟩
abbrev S1x768 : Shape := ⟨2, ![1, 768]⟩

abbrev nBuf : Space → Nat
  | .hbm => 16
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024x768, .f32⟩
  | .hbm, ⟨2, _⟩ => ⟨S768, .f32⟩
  | .hbm, ⟨3, _⟩ => ⟨S32x1024, .f32⟩
  | .hbm, ⟨4, _⟩ => ⟨S32x1024, .f32⟩
  | .hbm, ⟨5, _⟩ => ⟨S_, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S32x768, .f32⟩
  | .hbm, ⟨13, _⟩ => ⟨S1x768, .f32⟩
  | .hbm, ⟨14, _⟩ => ⟨S32x768, .f32⟩
  | .hbm, ⟨15, _⟩ => ⟨S32x768, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel23.lean ====
abbrev S32x1024 : Shape := ⟨2, ![32, 1024]⟩
abbrev S32x768 : Shape := ⟨2, ![32, 768]⟩
abbrev S1024x768 : Shape := ⟨2, ![1024, 768]⟩

abbrev nBuf : Space → Nat
  | .hbm => 3
  | .vmem => 4
  | .smem => 0
  | _ => 0

abbrev bufTy : (tb : Table) → Fin (tcTables nBuf tb) → BufTy
  | .hbm, ⟨0, _⟩ => ⟨S32x1024, .f32⟩
  | .hbm, ⟨1, _⟩ => ⟨S32x768, .f32⟩
  | .hbm, ⟨2, _⟩ => ⟨S1024x768, .f32⟩
  | .local _ .vmem, ⟨0, _⟩ => ⟨S32x1024, .f32⟩
  | .local _ .vmem, ⟨1, _⟩ => ⟨S32x768, .f32⟩
  | .local _ .vmem, ⟨2, _⟩ => ⟨S1024x768, .f32⟩
  | .local _ .vmem, ⟨3, _⟩ => ⟨S1024x768, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_11 : BitVec 32 := 0#32
  let v21 : BitVec 1 := Scalar.cmpi .eq arg2 c0_i32_11
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S32x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference23Ideal.lean ====
abbrev S32x1024 : Shape := ⟨2, ![32, 1024]⟩
abbrev S32x768 : Shape := ⟨2, ![32, 768]⟩
abbrev S_ : Shape := ⟨0, ![]⟩
abbrev S1024x768 : Shape := ⟨2, ![1024, 768]⟩
abbrev S768x1024 : Shape := ⟨2, ![768, 1024]⟩

abbrev nBuf : Space → Nat
  | .hbm => 16
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x768, .f32⟩
  | .hbm, ⟨2, _⟩ => ⟨S_, .f32⟩
  | .hbm, ⟨3, _⟩ => ⟨S1024x768, .f32⟩
  | .hbm, ⟨4, _⟩ => ⟨S32x1024, .f32⟩
  | .hbm, ⟨5, _⟩ => ⟨S32x1024, .f32⟩
  | .hbm, ⟨6, _⟩ => ⟨S_, .f32⟩
  | .hbm, ⟨7, _⟩ => ⟨S32x1024, .f32⟩
  | .hbm, ⟨8, _⟩ => ⟨S32x1024, .f32⟩
  | .hbm, ⟨9, _⟩ => ⟨S_, .f32⟩
  | .hbm, ⟨10, _⟩ => ⟨S32x1024, .f32⟩
  | .hbm, ⟨11, _⟩ => ⟨S32x1024, .f32⟩
  | .hbm, ⟨12, _⟩ => ⟨S32x1024, .f32⟩
  | .hbm, ⟨13, _⟩ => ⟨S32x768, .f32⟩
  | .hbm, ⟨14, _⟩ => ⟨S768x1024, .f32⟩
  | .hbm, ⟨15, _⟩ => ⟨S1024x768, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel24.lean ====
abbrev S32x768 : Shape := ⟨2, ![32, 768]⟩
abbrev S1x768 : Shape := ⟨2, ![1, 768]⟩
abbrev S768 : Shape := ⟨1, ![768]⟩

abbrev nBuf : Space → Nat
  | .hbm => 2
  | .vmem => 2
  | .smem => 0
  | _ => 0

abbrev bufTy : (tb : Table) → Fin (tcTables nBuf tb) → BufTy
  | .hbm, ⟨0, _⟩ => ⟨S32x768, .f32⟩
  | .hbm, ⟨1, _⟩ => ⟨S1x768, .f32⟩
  | .local _ .vmem, ⟨0, _⟩ => ⟨S32x768, .f32⟩
  | .local _ .vmem, ⟨1, _⟩ => ⟨S1x768, .f32⟩
  | _, _ => ⟨S32x768, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== Reference24Ideal.lean ====
abbrev S32x768 : Shape := ⟨2, ![32, 768]⟩
abbrev S_ : Shape := ⟨0, ![]⟩
abbrev S768 : Shape := ⟨1, ![768]⟩
abbrev S1x768 : Shape := ⟨2, ![1, 768]⟩

abbrev nBuf : Space → Nat
  | .hbm => 14
  | .vmem => 0
  | .smem => 0
  | _ => 0

abbrev bufTy : (tb : Table) → Fin (tcTables nBuf tb) → BufTy
  | .hbm, ⟨0, _⟩ => ⟨S32x768, .f32⟩
  | .hbm, ⟨1, _⟩ => ⟨S_, .f32⟩
  | .hbm, ⟨2, _⟩ => ⟨S768, .f32⟩
  | .hbm, ⟨3, _⟩ => ⟨S_, .f32⟩
  | .hbm, ⟨4, _⟩ => ⟨S32x768, .f32⟩
  | .hbm, ⟨5, _⟩ => ⟨S1x768, .f32⟩
  | .hbm, ⟨6, _⟩ => ⟨S32x768, .f32⟩
  | .hbm, ⟨7, _⟩ => ⟨S32x768, .f32⟩
  | .hbm, ⟨8, _⟩ => ⟨S_, .f32⟩
  | .hbm, ⟨9, _⟩ => ⟨S768, .f32⟩
  | .hbm, ⟨10, _⟩ => ⟨S1x768, .f32⟩
  | .hbm, ⟨11, _⟩ => ⟨S_, .f32⟩
  | .hbm, ⟨12, _⟩ => ⟨S768, .f32⟩
  | .hbm, ⟨13, _⟩ => ⟨S1x768, .f32⟩
  | _, _ => ⟨S32x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel25.lean ====
abbrev S1024x768 : Shape := ⟨2, ![1024, 768]⟩
abbrev S1x1024x768 : Shape := ⟨3, ![1, 1024, 768]⟩
abbrev S256x768 : Shape := ⟨2, ![256, 768]⟩
abbrev S1x256x768 : Shape := ⟨3, ![1, 256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1024x768, .f32⟩
  | .hbm, ⟨1, _⟩ => ⟨S1x1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S1x256x768, .f32⟩
  | .local _ .vmem, ⟨3, _⟩ => ⟨S1x256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel25Ideal.lean ====
abbrev S1024x768 : Shape := ⟨2, ![1024, 768]⟩
abbrev S1x1024x768 : Shape := ⟨3, ![1, 1024, 768]⟩
abbrev S256x768 : Shape := ⟨2, ![256, 768]⟩
abbrev S1x256x768 : Shape := ⟨3, ![1, 256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1024x768, .f32⟩
  | .hbm, ⟨1, _⟩ => ⟨S1x1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S1x256x768, .f32⟩
  | .local _ .vmem, ⟨3, _⟩ => ⟨S1x256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference25Ideal.lean ====
abbrev S1024x768 : Shape := ⟨2, ![1024, 768]⟩
abbrev S1x1024x768 : Shape := ⟨3, ![1, 1024, 768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1x1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S_, .f32⟩
  | .hbm, ⟨7, _⟩ => ⟨S1024x768, .f32⟩
  | .hbm, ⟨8, _⟩ => ⟨S1024x768, .f32⟩
  | .hbm, ⟨9, _⟩ => ⟨S_, .f32⟩
  | .hbm, ⟨10, _⟩ => ⟨S1024x768, .f32⟩
  | .hbm, ⟨11, _⟩ => ⟨S1024x768, .f32⟩
  | .hbm, ⟨12, _⟩ => ⟨S1024x768, .f32⟩
  | .hbm, ⟨13, _⟩ => ⟨S_, .f32⟩
  | .hbm, ⟨14, _⟩ => ⟨S1024x768, .f32⟩
  | .hbm, ⟨15, _⟩ => ⟨S1024x768, .f32⟩
  | .hbm, ⟨16, _⟩ => ⟨S1024x768, .f32⟩
  | .hbm, ⟨17, _⟩ => ⟨S_, .f32⟩
  | .hbm, ⟨18, _⟩ => ⟨S1024x768, .f32⟩
  | .hbm, ⟨19, _⟩ => ⟨S1024x768, .f32⟩
  | .hbm, ⟨20, _⟩ => ⟨S1024x768, .f32⟩
  | .hbm, ⟨21, _⟩ => ⟨S_, .f32⟩
  | .hbm, ⟨22, _⟩ => ⟨S1024x768, .f32⟩
  | .hbm, ⟨23, _⟩ => ⟨S1024x768, .f32⟩
  | .hbm, ⟨24, _⟩ => ⟨S_, .f32⟩
  | .hbm, ⟨25, _⟩ => ⟨S1024x768, .f32⟩
  | .hbm, ⟨26, _⟩ => ⟨S1024x768, .f32⟩
  | .hbm, ⟨27, _⟩ => ⟨S1024x768, .f32⟩
  | .hbm, ⟨28, _⟩ => ⟨S_, .f32⟩
  | .hbm, ⟨29, _⟩ => ⟨S1024x768, .f32⟩
  | .hbm, ⟨30, _⟩ => ⟨S1024x768, .f32⟩
  | .hbm, ⟨31, _⟩ => ⟨S1024x768, .f32⟩
  | .hbm, ⟨32, _⟩ => ⟨S_, .f32⟩
  | .hbm, ⟨33, _⟩ => ⟨S1024x768, .f32⟩
  | .hbm, ⟨34, _⟩ => ⟨S1024x768, .f32⟩
  | .hbm, ⟨35, _⟩ => ⟨S1024x768, .f32⟩
  | .hbm, ⟨36, _⟩ => ⟨S_, .f32⟩
  | .hbm, ⟨37, _⟩ => ⟨S1024x768, .f32⟩
  | .hbm, ⟨38, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel26.lean ====
abbrev S1x6144 : Shape := ⟨2, ![1, 6144]⟩
abbrev S1x1x6144 : Shape := ⟨3, ![1, 1, 6144]⟩

abbrev nBuf : Space → Nat
  | .hbm => 8
  | .vmem => 8
  | .smem => 0
  | _ => 0

abbrev bufTy : (tb : Table) → Fin (tcTables nBuf tb) → BufTy
  | .hbm, ⟨0, _⟩ => ⟨S1x6144, .f32⟩
  | .hbm, ⟨1, _⟩ => ⟨S1x1x6144, .f32⟩
  | .hbm, ⟨2, _⟩ => ⟨S1x6144, .f32⟩
  | .hbm, ⟨3, _⟩ => ⟨S1x6144, .f32⟩
  | .hbm, ⟨4, _⟩ => ⟨S1x6144, .f32⟩
  | .hbm, ⟨5, _⟩ => ⟨S1x6144, .f32⟩
  | .hbm, ⟨6, _⟩ => ⟨S1x6144, .f32⟩
  | .hbm, ⟨7, _⟩ => ⟨S1x6144, .f32⟩
  | .local _ .vmem, ⟨0, _⟩ => ⟨S1x6144, .f32⟩
  | .local _ .vmem, ⟨1, _⟩ => ⟨S1x1x6144, .f32⟩
  | .local _ .vmem, ⟨2, _⟩ => ⟨S1x6144, .f32⟩
  | .local _ .vmem, ⟨3, _⟩ => ⟨S1x6144, .f32⟩
  | .local _ .vmem, ⟨4, _⟩ => ⟨S1x6144, .f32⟩
  | .local _ .vmem, ⟨5, _⟩ => ⟨S1x6144, .f32⟩
  | .local _ .vmem, ⟨6, _⟩ => ⟨S1x6144, .f32⟩
  | .local _ .vmem, ⟨7, _⟩ => ⟨S1x6144, .f32⟩
  | _, _ => ⟨S1x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel26Ideal.lean ====
abbrev S1x6144 : Shape := ⟨2, ![1, 6144]⟩
abbrev S1x1x6144 : Shape := ⟨3, ![1, 1, 6144]⟩

abbrev nBuf : Space → Nat
  | .hbm => 8
  | .vmem => 8
  | .smem => 0
  | _ => 0

abbrev bufTy : (tb : Table) → Fin (tcTables nBuf tb) → BufTy
  | .hbm, ⟨0, _⟩ => ⟨S1x6144, .f32⟩
  | .hbm, ⟨1, _⟩ => ⟨S1x1x6144, .f32⟩
  | .hbm, ⟨2, _⟩ => ⟨S1x6144, .f32⟩
  | .hbm, ⟨3, _⟩ => ⟨S1x6144, .f32⟩
  | .hbm, ⟨4, _⟩ => ⟨S1x6144, .f32⟩
  | .hbm, ⟨5, _⟩ => ⟨S1x6144, .f32⟩
  | .hbm, ⟨6, _⟩ => ⟨S1x6144, .f32⟩
  | .hbm, ⟨7, _⟩ => ⟨S1x6144, .f32⟩
  | .local _ .vmem, ⟨0, _⟩ => ⟨S1x6144, .f32⟩
  | .local _ .vmem, ⟨1, _⟩ => ⟨S1x1x6144, .f32⟩
  | .local _ .vmem, ⟨2, _⟩ => ⟨S1x6144, .f32⟩
  | .local _ .vmem, ⟨3, _⟩ => ⟨S1x6144, .f32⟩
  | .local _ .vmem, ⟨4, _⟩ => ⟨S1x6144, .f32⟩
  | .local _ .vmem, ⟨5, _⟩ => ⟨S1x6144, .f32⟩
  | .local _ .vmem, ⟨6, _⟩ => ⟨S1x6144, .f32⟩
  | .local _ .vmem, ⟨7, _⟩ => ⟨S1x6144, .f32⟩
  | _, _ => ⟨S1x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference26Ideal.lean ====
abbrev S1x6144 : Shape := ⟨2, ![1, 6144]⟩
abbrev S1x1x6144 : Shape := ⟨3, ![1, 1, 6144]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x6144, .f32⟩
  | .hbm, ⟨1, _⟩ => ⟨S1x1x6144, .f32⟩
  | .hbm, ⟨2, _⟩ => ⟨S1x6144, .f32⟩
  | .hbm, ⟨3, _⟩ => ⟨S1x6144, .f32⟩
  | .hbm, ⟨4, _⟩ => ⟨S_, .f32⟩
  | .hbm, ⟨5, _⟩ => ⟨S1x6144, .f32⟩
  | .hbm, ⟨6, _⟩ => ⟨S_, .f32⟩
  | .hbm, ⟨7, _⟩ => ⟨S1x6144, .f32⟩
  | .hbm, ⟨8, _⟩ => ⟨S1x6144, .f32⟩
  | .hbm, ⟨9, _⟩ => ⟨S_, .f32⟩
  | .hbm, ⟨10, _⟩ => ⟨S1x6144, .f32⟩
  | .hbm, ⟨11, _⟩ => ⟨S1x6144, .f32⟩
  | .hbm, ⟨12, _⟩ => ⟨S1x6144, .f32⟩
  | .hbm, ⟨13, _⟩ => ⟨S_, .f32⟩
  | .hbm, ⟨14, _⟩ => ⟨S1x6144, .f32⟩
  | .hbm, ⟨15, _⟩ => ⟨S1x6144, .f32⟩
  | .hbm, ⟨16, _⟩ => ⟨S1x6144, .f32⟩
  | .hbm, ⟨17, _⟩ => ⟨S_, .f32⟩
  | .hbm, ⟨18, _⟩ => ⟨S1x6144, .f32⟩
  | .hbm, ⟨19, _⟩ => ⟨S1x6144, .f32⟩
  | .hbm, ⟨20, _⟩ => ⟨S1x6144, .f32⟩
  | .hbm, ⟨21, _⟩ => ⟨S_, .f32⟩
  | .hbm, ⟨22, _⟩ => ⟨S1x6144, .f32⟩
  | .hbm, ⟨23, _⟩ => ⟨S1x6144, .f32⟩
  | .hbm, ⟨24, _⟩ => ⟨S_, .f32⟩
  | .hbm, ⟨25, _⟩ => ⟨S1x6144, .f32⟩
  | .hbm, ⟨26, _⟩ => ⟨S1x6144, .f32⟩
  | .hbm, ⟨27, _⟩ => ⟨S1x6144, .f32⟩
  | .hbm, ⟨28, _⟩ => ⟨S_, .f32⟩
  | .hbm, ⟨29, _⟩ => ⟨S1x6144, .f32⟩
  | .hbm, ⟨30, _⟩ => ⟨S1x6144, .f32⟩
  | .hbm, ⟨31, _⟩ => ⟨S1x6144, .f32⟩
  | .hbm, ⟨32, _⟩ => ⟨S_, .f32⟩
  | .hbm, ⟨33, _⟩ => ⟨S1x6144, .f32⟩
  | .hbm, ⟨34, _⟩ => ⟨S1x6144, .f32⟩
  | .hbm, ⟨35, _⟩ => ⟨S1x6144, .f32⟩
  | .hbm, ⟨36, _⟩ => ⟨S_, .f32⟩
  | .hbm, ⟨37, _⟩ => ⟨S1x6144, .f32⟩
  | .hbm, ⟨38, _⟩ => ⟨S1x6144, .f32⟩
  | _, _ => ⟨S1x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel27.lean ====
abbrev S1x1024 : Shape := ⟨2, ![1, 1024]⟩
abbrev S8x1x1024 : Shape := ⟨3, ![8, 1, 1024]⟩
abbrev S1x1x1024 : Shape := ⟨3, ![1, 1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x1024, .f32⟩
  | .hbm, ⟨1, _⟩ => ⟨S8x1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S1x1024, .f32⟩
  | .local _ .vmem, ⟨1, _⟩ => ⟨S8x1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel27Ideal.lean ====
abbrev S1x1024 : Shape := ⟨2, ![1, 1024]⟩
abbrev S8x1x1024 : Shape := ⟨3, ![8, 1, 1024]⟩
abbrev S1x1x1024 : Shape := ⟨3, ![1, 1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x1024, .f32⟩
  | .hbm, ⟨1, _⟩ => ⟨S8x1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S1x1024, .f32⟩
  | .local _ .vmem, ⟨1, _⟩ => ⟨S8x1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference27Ideal.lean ====
abbrev S1x1024 : Shape := ⟨2, ![1, 1024]⟩
abbrev S8x1x1024 : Shape := ⟨3, ![8, 1, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S8x1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel28.lean ====
abbrev S1024x436 : Shape := ⟨2, ![1024, 436]⟩
abbrev S1x1024x436 : Shape := ⟨3, ![1, 1024, 436]⟩
abbrev S256x436 : Shape := ⟨2, ![256, 436]⟩
abbrev S1x256x436 : Shape := ⟨3, ![1, 256, 436]⟩

abbrev nBuf : Space → Nat
  | .hbm => 8
  | .vmem => 16
  | .smem => 0
  | _ => 0

abbrev bufTy : (tb : Table) → Fin (tcTables nBuf tb) → BufTy
  | .hbm, ⟨0, _⟩ => ⟨S1024x436, .f32⟩
  | .hbm, ⟨1, _⟩ => ⟨S1x1024x436, .f32⟩
  | .hbm, ⟨2, _⟩ => ⟨S1024x436, .f32⟩
  | .hbm, ⟨3, _⟩ => ⟨S1024x436, .f32⟩
  | .hbm, ⟨4, _⟩ => ⟨S1024x436, .f32⟩
  | .hbm, ⟨5, _⟩ => ⟨S1024x436, .f32⟩
  | .hbm, ⟨6, _⟩ => ⟨S1024x436, .f32⟩
  | .hbm, ⟨7, _⟩ => ⟨S1024x436, .f32⟩
  | .local _ .vmem, ⟨0, _⟩ => ⟨S256x436, .f32⟩
  | .local _ .vmem, ⟨1, _⟩ => ⟨S256x436, .f32⟩
  | .local _ .vmem, ⟨2, _⟩ => ⟨S1x256x436, .f32⟩
  | .local _ .vmem, ⟨3, _⟩ => ⟨S1x256x436, .f32⟩
  | .local _ .vmem, ⟨4, _⟩ => ⟨S256x436, .f32⟩
  | .local _ .vmem, ⟨5, _⟩ => ⟨S256x436, .f32⟩
  | .local _ .vmem, ⟨6, _⟩ => ⟨S256x436, .f32⟩
  | .local _ .vmem, ⟨7, _⟩ => ⟨S256x436, .f32⟩
  | .local _ .vmem, ⟨8, _⟩ => ⟨S256x436, .f32⟩
  | .local _ .vmem, ⟨9, _⟩ => ⟨S256x436, .f32⟩
  | .local _ .vmem, ⟨10, _⟩ => ⟨S256x436, .f32⟩
  | .local _ .vmem, ⟨11, _⟩ => ⟨S256x436, .f32⟩
  | .local _ .vmem, ⟨12, _⟩ => ⟨S256x436, .f32⟩
  | .local _ .vmem, ⟨13, _⟩ => ⟨S256x436, .f32⟩
  | .local _ .vmem, ⟨14, _⟩ => ⟨S256x436, .f32⟩
  | .local _ .vmem, ⟨15, _⟩ => ⟨S256x436, .f32⟩
  | _, _ => ⟨S1024x436, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x436 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x436 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x436 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x436 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x436 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x436 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x436 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x436 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel28Ideal.lean ====
abbrev S1024x436 : Shape := ⟨2, ![1024, 436]⟩
abbrev S1x1024x436 : Shape := ⟨3, ![1, 1024, 436]⟩
abbrev S256x436 : Shape := ⟨2, ![256, 436]⟩
abbrev S1x256x436 : Shape := ⟨3, ![1, 256, 436]⟩

abbrev nBuf : Space → Nat
  | .hbm => 8
  | .vmem => 16
  | .smem => 0
  | _ => 0

abbrev bufTy : (tb : Table) → Fin (tcTables nBuf tb) → BufTy
  | .hbm, ⟨0, _⟩ => ⟨S1024x436, .f32⟩
  | .hbm, ⟨1, _⟩ => ⟨S1x1024x436, .f32⟩
  | .hbm, ⟨2, _⟩ => ⟨S1024x436, .f32⟩
  | .hbm, ⟨3, _⟩ => ⟨S1024x436, .f32⟩
  | .hbm, ⟨4, _⟩ => ⟨S1024x436, .f32⟩
  | .hbm, ⟨5, _⟩ => ⟨S1024x436, .f32⟩
  | .hbm, ⟨6, _⟩ => ⟨S1024x436, .f32⟩
  | .hbm, ⟨7, _⟩ => ⟨S1024x436, .f32⟩
  | .local _ .vmem, ⟨0, _⟩ => ⟨S256x436, .f32⟩
  | .local _ .vmem, ⟨1, _⟩ => ⟨S256x436, .f32⟩
  | .local _ .vmem, ⟨2, _⟩ => ⟨S1x256x436, .f32⟩
  | .local _ .vmem, ⟨3, _⟩ => ⟨S1x256x436, .f32⟩
  | .local _ .vmem, ⟨4, _⟩ => ⟨S256x436, .f32⟩
  | .local _ .vmem, ⟨5, _⟩ => ⟨S256x436, .f32⟩
  | .local _ .vmem, ⟨6, _⟩ => ⟨S256x436, .f32⟩
  | .local _ .vmem, ⟨7, _⟩ => ⟨S256x436, .f32⟩
  | .local _ .vmem, ⟨8, _⟩ => ⟨S256x436, .f32⟩
  | .local _ .vmem, ⟨9, _⟩ => ⟨S256x436, .f32⟩
  | .local _ .vmem, ⟨10, _⟩ => ⟨S256x436, .f32⟩
  | .local _ .vmem, ⟨11, _⟩ => ⟨S256x436, .f32⟩
  | .local _ .vmem, ⟨12, _⟩ => ⟨S256x436, .f32⟩
  | .local _ .vmem, ⟨13, _⟩ => ⟨S256x436, .f32⟩
  | .local _ .vmem, ⟨14, _⟩ => ⟨S256x436, .f32⟩
  | .local _ .vmem, ⟨15, _⟩ => ⟨S256x436, .f32⟩
  | _, _ => ⟨S1024x436, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x436 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x436 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x436 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x436 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x436 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x436 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x436 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x436 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference28Ideal.lean ====
abbrev S1024x436 : Shape := ⟨2, ![1024, 436]⟩
abbrev S1x1024x436 : Shape := ⟨3, ![1, 1024, 436]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x436, .f32⟩
  | .hbm, ⟨1, _⟩ => ⟨S1x1024x436, .f32⟩
  | .hbm, ⟨2, _⟩ => ⟨S1024x436, .f32⟩
  | .hbm, ⟨3, _⟩ => ⟨S1024x436, .f32⟩
  | .hbm, ⟨4, _⟩ => ⟨S_, .f32⟩
  | .hbm, ⟨5, _⟩ => ⟨S1024x436, .f32⟩
  | .hbm, ⟨6, _⟩ => ⟨S_, .f32⟩
  | .hbm, ⟨7, _⟩ => ⟨S1024x436, .f32⟩
  | .hbm, ⟨8, _⟩ => ⟨S1024x436, .f32⟩
  | .hbm, ⟨9, _⟩ => ⟨S_, .f32⟩
  | .hbm, ⟨10, _⟩ => ⟨S1024x436, .f32⟩
  | .hbm, ⟨11, _⟩ => ⟨S1024x436, .f32⟩
  | .hbm, ⟨12, _⟩ => ⟨S1024x436, .f32⟩
  | .hbm, ⟨13, _⟩ => ⟨S_, .f32⟩
  | .hbm, ⟨14, _⟩ => ⟨S1024x436, .f32⟩
  | .hbm, ⟨15, _⟩ => ⟨S1024x436, .f32⟩
  | .hbm, ⟨16, _⟩ => ⟨S1024x436, .f32⟩
  | .hbm, ⟨17, _⟩ => ⟨S_, .f32⟩
  | .hbm, ⟨18, _⟩ => ⟨S1024x436, .f32⟩
  | .hbm, ⟨19, _⟩ => ⟨S1024x436, .f32⟩
  | .hbm, ⟨20, _⟩ => ⟨S1024x436, .f32⟩
  | .hbm, ⟨21, _⟩ => ⟨S_, .f32⟩
  | .hbm, ⟨22, _⟩ => ⟨S1024x436, .f32⟩
  | .hbm, ⟨23, _⟩ => ⟨S1024x436, .f32⟩
  | .hbm, ⟨24, _⟩ => ⟨S_, .f32⟩
  | .hbm, ⟨25, _⟩ => ⟨S1024x436, .f32⟩
  | .hbm, ⟨26, _⟩ => ⟨S1024x436, .f32⟩
  | .hbm, ⟨27, _⟩ => ⟨S1024x436, .f32⟩
  | .hbm, ⟨28, _⟩ => ⟨S_, .f32⟩
  | .hbm, ⟨29, _⟩ => ⟨S1024x436, .f32⟩
  | .hbm, ⟨30, _⟩ => ⟨S1024x436, .f32⟩
  | .hbm, ⟨31, _⟩ => ⟨S1024x436, .f32⟩
  | .hbm, ⟨32, _⟩ => ⟨S_, .f32⟩
  | .hbm, ⟨33, _⟩ => ⟨S1024x436, .f32⟩
  | .hbm, ⟨34, _⟩ => ⟨S1024x436, .f32⟩
  | .hbm, ⟨35, _⟩ => ⟨S1024x436, .f32⟩
  | .hbm, ⟨36, _⟩ => ⟨S_, .f32⟩
  | .hbm, ⟨37, _⟩ => ⟨S1024x436, .f32⟩
  | .hbm, ⟨38, _⟩ => ⟨S1024x436, .f32⟩
  | _, _ => ⟨S1024x436, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel29.lean ====
abbrev S1x256 : Shape := ⟨2, ![1, 256]⟩
abbrev S8x1x256 : Shape := ⟨3, ![8, 1, 256]⟩
abbrev S1x1x256 : Shape := ⟨3, ![1, 1, 256]⟩

abbrev nBuf : Space → Nat
  | .hbm => 8
  | .vmem => 8
  | .smem => 0
  | _ => 0

abbrev bufTy : (tb : Table) → Fin (tcTables nBuf tb) → BufTy
  | .hbm, ⟨0, _⟩ => ⟨S1x256, .f32⟩
  | .hbm, ⟨1, _⟩ => ⟨S8x1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .hbm, ⟨7, _⟩ => ⟨S1x256, .f32⟩
  | .local _ .vmem, ⟨0, _⟩ => ⟨S1x256, .f32⟩
  | .local _ .vmem, ⟨1, _⟩ => ⟨S8x1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel29Ideal.lean ====
abbrev S1x256 : Shape := ⟨2, ![1, 256]⟩
abbrev S8x1x256 : Shape := ⟨3, ![8, 1, 256]⟩
abbrev S1x1x256 : Shape := ⟨3, ![1, 1, 256]⟩

abbrev nBuf : Space → Nat
  | .hbm => 8
  | .vmem => 8
  | .smem => 0
  | _ => 0

abbrev bufTy : (tb : Table) → Fin (tcTables nBuf tb) → BufTy
  | .hbm, ⟨0, _⟩ => ⟨S1x256, .f32⟩
  | .hbm, ⟨1, _⟩ => ⟨S8x1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .hbm, ⟨7, _⟩ => ⟨S1x256, .f32⟩
  | .local _ .vmem, ⟨0, _⟩ => ⟨S1x256, .f32⟩
  | .local _ .vmem, ⟨1, _⟩ => ⟨S8x1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference29Ideal.lean ====
abbrev S1x256 : Shape := ⟨2, ![1, 256]⟩
abbrev S8x1x256 : Shape := ⟨3, ![8, 1, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x256, .f32⟩
  | .hbm, ⟨1, _⟩ => ⟨S8x1x256, .f32⟩
  | .hbm, ⟨2, _⟩ => ⟨S1x256, .f32⟩
  | .hbm, ⟨3, _⟩ => ⟨S1x256, .f32⟩
  | .hbm, ⟨4, _⟩ => ⟨S_, .f32⟩
  | .hbm, ⟨5, _⟩ => ⟨S1x256, .f32⟩
  | .hbm, ⟨6, _⟩ => ⟨S_, .f32⟩
  | .hbm, ⟨7, _⟩ => ⟨S1x256, .f32⟩
  | .hbm, ⟨8, _⟩ => ⟨S1x256, .f32⟩
  | .hbm, ⟨9, _⟩ => ⟨S_, .f32⟩
  | .hbm, ⟨10, _⟩ => ⟨S1x256, .f32⟩
  | .hbm, ⟨11, _⟩ => ⟨S1x256, .f32⟩
  | .hbm, ⟨12, _⟩ => ⟨S1x256, .f32⟩
  | .hbm, ⟨13, _⟩ => ⟨S_, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S_, .f32⟩
  | .hbm, ⟨18, _⟩ => ⟨S1x256, .f32⟩
  | .hbm, ⟨19, _⟩ => ⟨S1x256, .f32⟩
  | .hbm, ⟨20, _⟩ => ⟨S1x256, .f32⟩
  | .hbm, ⟨21, _⟩ => ⟨S_, .f32⟩
  | .hbm, ⟨22, _⟩ => ⟨S1x256, .f32⟩
  | .hbm, ⟨23, _⟩ => ⟨S1x256, .f32⟩
  | .hbm, ⟨24, _⟩ => ⟨S_, .f32⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S_, .f32⟩
  | .hbm, ⟨29, _⟩ => ⟨S1x256, .f32⟩
  | .hbm, ⟨30, _⟩ => ⟨S1x256, .f32⟩
  | .hbm, ⟨31, _⟩ => ⟨S1x256, .f32⟩
  | .hbm, ⟨32, _⟩ => ⟨S_, .f32⟩
  | .hbm, ⟨33, _⟩ => ⟨S1x256, .f32⟩
  | .hbm, ⟨34, _⟩ => ⟨S1x256, .f32⟩
  | .hbm, ⟨35, _⟩ => ⟨S1x256, .f32⟩
  | .hbm, ⟨36, _⟩ => ⟨S_, .f32⟩
  | .hbm, ⟨37, _⟩ => ⟨S1x256, .f32⟩
  | .hbm, ⟨38, _⟩ => ⟨S1x256, .f32⟩
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel30.lean ====
abbrev S256x96 : Shape := ⟨2, ![256, 96]⟩
abbrev S8x256x96 : Shape := ⟨3, ![8, 256, 96]⟩
abbrev S1x256x96 : Shape := ⟨3, ![1, 256, 96]⟩

abbrev nBuf : Space → Nat
  | .hbm => 8
  | .vmem => 8
  | .smem => 0
  | _ => 0

abbrev bufTy : (tb : Table) → Fin (tcTables nBuf tb) → BufTy
  | .hbm, ⟨0, _⟩ => ⟨S256x96, .f32⟩
  | .hbm, ⟨1, _⟩ => ⟨S8x256x96, .bf16⟩
  | .hbm, ⟨2, _⟩ => ⟨S256x96, .f32⟩
  | .hbm, ⟨3, _⟩ => ⟨S256x96, .f32⟩
  | .hbm, ⟨4, _⟩ => ⟨S256x96, .f32⟩
  | .hbm, ⟨5, _⟩ => ⟨S256x96, .f32⟩
  | .hbm, ⟨6, _⟩ => ⟨S256x96, .f32⟩
  | .hbm, ⟨7, _⟩ => ⟨S256x96, .f32⟩
  | .local _ .vmem, ⟨0, _⟩ => ⟨S256x96, .f32⟩
  | .local _ .vmem, ⟨1, _⟩ => ⟨S8x256x96, .bf16⟩
  | .local _ .vmem, ⟨2, _⟩ => ⟨S256x96, .f32⟩
  | .local _ .vmem, ⟨3, _⟩ => ⟨S256x96, .f32⟩
  | .local _ .vmem, ⟨4, _⟩ => ⟨S256x96, .f32⟩
  | .local _ .vmem, ⟨5, _⟩ => ⟨S256x96, .f32⟩
  | .local _ .vmem, ⟨6, _⟩ => ⟨S256x96, .f32⟩
  | .local _ .vmem, ⟨7, _⟩ => ⟨S256x96, .f32⟩
  | _, _ => ⟨S256x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x256x96 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel30Ideal.lean ====
abbrev S256x96 : Shape := ⟨2, ![256, 96]⟩
abbrev S8x256x96 : Shape := ⟨3, ![8, 256, 96]⟩
abbrev S1x256x96 : Shape := ⟨3, ![1, 256, 96]⟩

abbrev nBuf : Space → Nat
  | .hbm => 8
  | .vmem => 8
  | .smem => 0
  | _ => 0

abbrev bufTy : (tb : Table) → Fin (tcTables nBuf tb) → BufTy
  | .hbm, ⟨0, _⟩ => ⟨S256x96, .f32⟩
  | .hbm, ⟨1, _⟩ => ⟨S8x256x96, .bf16⟩
  | .hbm, ⟨2, _⟩ => ⟨S256x96, .f32⟩
  | .hbm, ⟨3, _⟩ => ⟨S256x96, .f32⟩
  | .hbm, ⟨4, _⟩ => ⟨S256x96, .f32⟩
  | .hbm, ⟨5, _⟩ => ⟨S256x96, .f32⟩
  | .hbm, ⟨6, _⟩ => ⟨S256x96, .f32⟩
  | .hbm, ⟨7, _⟩ => ⟨S256x96, .f32⟩
  | .local _ .vmem, ⟨0, _⟩ => ⟨S256x96, .f32⟩
  | .local _ .vmem, ⟨1, _⟩ => ⟨S8x256x96, .bf16⟩
  | .local _ .vmem, ⟨2, _⟩ => ⟨S256x96, .f32⟩
  | .local _ .vmem, ⟨3, _⟩ => ⟨S256x96, .f32⟩
  | .local _ .vmem, ⟨4, _⟩ => ⟨S256x96, .f32⟩
  | .local _ .vmem, ⟨5, _⟩ => ⟨S256x96, .f32⟩
  | .local _ .vmem, ⟨6, _⟩ => ⟨S256x96, .f32⟩
  | .local _ .vmem, ⟨7, _⟩ => ⟨S256x96, .f32⟩
  | _, _ => ⟨S256x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x256x96 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference30Ideal.lean ====
abbrev S256x96 : Shape := ⟨2, ![256, 96]⟩
abbrev S8x256x96 : Shape := ⟨3, ![8, 256, 96]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x96, .f32⟩
  | .hbm, ⟨1, _⟩ => ⟨S8x256x96, .bf16⟩
  | .hbm, ⟨2, _⟩ => ⟨S256x96, .f32⟩
  | .hbm, ⟨3, _⟩ => ⟨S256x96, .f32⟩
  | .hbm, ⟨4, _⟩ => ⟨S8x256x96, .f32⟩
  | .hbm, ⟨5, _⟩ => ⟨S_, .f32⟩
  | .hbm, ⟨6, _⟩ => ⟨S256x96, .f32⟩
  | .hbm, ⟨7, _⟩ => ⟨S_, .f32⟩
  | .hbm, ⟨8, _⟩ => ⟨S256x96, .f32⟩
  | .hbm, ⟨9, _⟩ => ⟨S256x96, .f32⟩
  | .hbm, ⟨10, _⟩ => ⟨S_, .f32⟩
  | .hbm, ⟨11, _⟩ => ⟨S256x96, .f32⟩
  | .hbm, ⟨12, _⟩ => ⟨S256x96, .f32⟩
  | .hbm, ⟨13, _⟩ => ⟨S256x96, .f32⟩
  | .hbm, ⟨14, _⟩ => ⟨S_, .f32⟩
  | .hbm, ⟨15, _⟩ => ⟨S256x96, .f32⟩
  | .hbm, ⟨16, _⟩ => ⟨S256x96, .f32⟩
  | .hbm, ⟨17, _⟩ => ⟨S256x96, .f32⟩
  | .hbm, ⟨18, _⟩ => ⟨S_, .f32⟩
  | .hbm, ⟨19, _⟩ => ⟨S256x96, .f32⟩
  | .hbm, ⟨20, _⟩ => ⟨S256x96, .f32⟩
  | .hbm, ⟨21, _⟩ => ⟨S256x96, .f32⟩
  | .hbm, ⟨22, _⟩ => ⟨S_, .f32⟩
  | .hbm, ⟨23, _⟩ => ⟨S256x96, .f32⟩
  | .hbm, ⟨24, _⟩ => ⟨S256x96, .f32⟩
  | .hbm, ⟨25, _⟩ => ⟨S_, .f32⟩
  | .hbm, ⟨26, _⟩ => ⟨S256x96, .f32⟩
  | .hbm, ⟨27, _⟩ => ⟨S256x96, .f32⟩
  | .hbm, ⟨28, _⟩ => ⟨S256x96, .f32⟩
  | .hbm, ⟨29, _⟩ => ⟨S_, .f32⟩
  | .hbm, ⟨30, _⟩ => ⟨S256x96, .f32⟩
  | .hbm, ⟨31, _⟩ => ⟨S256x96, .f32⟩
  | .hbm, ⟨32, _⟩ => ⟨S256x96, .f32⟩
  | .hbm, ⟨33, _⟩ => ⟨S_, .f32⟩
  | .hbm, ⟨34, _⟩ => ⟨S256x96, .f32⟩
  | .hbm, ⟨35, _⟩ => ⟨S256x96, .f32⟩
  | .hbm, ⟨36, _⟩ => ⟨S256x96, .f32⟩
  | .hbm, ⟨37, _⟩ => ⟨S_, .f32⟩
  | .hbm, ⟨38, _⟩ => ⟨S256x96, .f32⟩
  | .hbm, ⟨39, _⟩ => ⟨S256x96, .f32⟩
  | _, _ => ⟨S256x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel31.lean ====
abbrev S1x128 : Shape := ⟨2, ![1, 128]⟩
abbrev S8x1x128 : Shape := ⟨3, ![8, 1, 128]⟩
abbrev S1x1x128 : Shape := ⟨3, ![1, 1, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x128, .f32⟩
  | .hbm, ⟨1, _⟩ => ⟨S8x1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x128, .f32⟩
  | .local _ .vmem, ⟨0, _⟩ => ⟨S1x128, .f32⟩
  | .local _ .vmem, ⟨1, _⟩ => ⟨S8x1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel31Ideal.lean ====
abbrev S1x128 : Shape := ⟨2, ![1, 128]⟩
abbrev S8x1x128 : Shape := ⟨3, ![8, 1, 128]⟩
abbrev S1x1x128 : Shape := ⟨3, ![1, 1, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x128, .f32⟩
  | .hbm, ⟨1, _⟩ => ⟨S8x1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x128, .f32⟩
  | .local _ .vmem, ⟨0, _⟩ => ⟨S1x128, .f32⟩
  | .local _ .vmem, ⟨1, _⟩ => ⟨S8x1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference31Ideal.lean ====
abbrev S1x128 : Shape := ⟨2, ![1, 128]⟩
abbrev S8x1x128 : Shape := ⟨3, ![8, 1, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S8x1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S_, .f32⟩
  | .hbm, ⟨7, _⟩ => ⟨S1x128, .f32⟩
  | .hbm, ⟨8, _⟩ => ⟨S1x128, .f32⟩
  | .hbm, ⟨9, _⟩ => ⟨S_, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S_, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S_, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S_, .f32⟩
  | .hbm, ⟨22, _⟩ => ⟨S1x128, .f32⟩
  | .hbm, ⟨23, _⟩ => ⟨S1x128, .f32⟩
  | .hbm, ⟨24, _⟩ => ⟨S_, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S_, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S_, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S_, .f32⟩
  | .hbm, ⟨37, _⟩ => ⟨S1x128, .f32⟩
  | .hbm, ⟨38, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel32.lean ====
abbrev S128x128 : Shape := ⟨2, ![128, 128]⟩
abbrev S8x128x128 : Shape := ⟨3, ![8, 128, 128]⟩
abbrev S1x128x128 : Shape := ⟨3, ![1, 128, 128]⟩

abbrev nBuf : Space → Nat
  | .hbm => 8
  | .vmem => 8
  | .smem => 0
  | _ => 0

abbrev bufTy : (tb : Table) → Fin (tcTables nBuf tb) → BufTy
  | .hbm, ⟨0, _⟩ => ⟨S128x128, .f32⟩
  | .hbm, ⟨1, _⟩ => ⟨S8x128x128, .bf16⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .local _ .vmem, ⟨0, _⟩ => ⟨S128x128, .f32⟩
  | .local _ .vmem, ⟨1, _⟩ => ⟨S8x128x128, .bf16⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel32Ideal.lean ====
abbrev S128x128 : Shape := ⟨2, ![128, 128]⟩
abbrev S8x128x128 : Shape := ⟨3, ![8, 128, 128]⟩
abbrev S1x128x128 : Shape := ⟨3, ![1, 128, 128]⟩

abbrev nBuf : Space → Nat
  | .hbm => 8
  | .vmem => 8
  | .smem => 0
  | _ => 0

abbrev bufTy : (tb : Table) → Fin (tcTables nBuf tb) → BufTy
  | .hbm, ⟨0, _⟩ => ⟨S128x128, .f32⟩
  | .hbm, ⟨1, _⟩ => ⟨S8x128x128, .bf16⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .local _ .vmem, ⟨0, _⟩ => ⟨S128x128, .f32⟩
  | .local _ .vmem, ⟨1, _⟩ => ⟨S8x128x128, .bf16⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference32Ideal.lean ====
abbrev S128x128 : Shape := ⟨2, ![128, 128]⟩
abbrev S8x128x128 : Shape := ⟨3, ![8, 128, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S128x128, .f32⟩
  | .hbm, ⟨1, _⟩ => ⟨S8x128x128, .bf16⟩
  | .hbm, ⟨2, _⟩ => ⟨S128x128, .f32⟩
  | .hbm, ⟨3, _⟩ => ⟨S128x128, .f32⟩
  | .hbm, ⟨4, _⟩ => ⟨S8x128x128, .f32⟩
  | .hbm, ⟨5, _⟩ => ⟨S_, .f32⟩
  | .hbm, ⟨6, _⟩ => ⟨S128x128, .f32⟩
  | .hbm, ⟨7, _⟩ => ⟨S_, .f32⟩
  | .hbm, ⟨8, _⟩ => ⟨S128x128, .f32⟩
  | .hbm, ⟨9, _⟩ => ⟨S128x128, .f32⟩
  | .hbm, ⟨10, _⟩ => ⟨S_, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S_, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S_, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S_, .f32⟩
  | .hbm, ⟨23, _⟩ => ⟨S128x128, .f32⟩
  | .hbm, ⟨24, _⟩ => ⟨S128x128, .f32⟩
  | .hbm, ⟨25, _⟩ => ⟨S_, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S_, .f32⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S_, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S_, .f32⟩
  | .hbm, ⟨38, _⟩ => ⟨S128x128, .f32⟩
  | .hbm, ⟨39, _⟩ => ⟨S128x128, .f32⟩
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel33.lean ====
abbrev S1x96 : Shape := ⟨2, ![1, 96]⟩
abbrev S8x1x96 : Shape := ⟨3, ![8, 1, 96]⟩
abbrev S1x1x96 : Shape := ⟨3, ![1, 1, 96]⟩

abbrev nBuf : Space → Nat
  | .hbm => 8
  | .vmem => 8
  | .smem => 0
  | _ => 0

abbrev bufTy : (tb : Table) → Fin (tcTables nBuf tb) → BufTy
  | .hbm, ⟨0, _⟩ => ⟨S1x96, .f32⟩
  | .hbm, ⟨1, _⟩ => ⟨S8x1x96, .f32⟩
  | .hbm, ⟨2, _⟩ => ⟨S1x96, .f32⟩
  | .hbm, ⟨3, _⟩ => ⟨S1x96, .f32⟩
  | .hbm, ⟨4, _⟩ => ⟨S1x96, .f32⟩
  | .hbm, ⟨5, _⟩ => ⟨S1x96, .f32⟩
  | .hbm, ⟨6, _⟩ => ⟨S1x96, .f32⟩
  | .hbm, ⟨7, _⟩ => ⟨S1x96, .f32⟩
  | .local _ .vmem, ⟨0, _⟩ => ⟨S1x96, .f32⟩
  | .local _ .vmem, ⟨1, _⟩ => ⟨S8x1x96, .f32⟩
  | .local _ .vmem, ⟨2, _⟩ => ⟨S1x96, .f32⟩
  | .local _ .vmem, ⟨3, _⟩ => ⟨S1x96, .f32⟩
  | .local _ .vmem, ⟨4, _⟩ => ⟨S1x96, .f32⟩
  | .local _ .vmem, ⟨5, _⟩ => ⟨S1x96, .f32⟩
  | .local _ .vmem, ⟨6, _⟩ => ⟨S1x96, .f32⟩
  | .local _ .vmem, ⟨7, _⟩ => ⟨S1x96, .f32⟩
  | _, _ => ⟨S1x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel33Ideal.lean ====
abbrev S1x96 : Shape := ⟨2, ![1, 96]⟩
abbrev S8x1x96 : Shape := ⟨3, ![8, 1, 96]⟩
abbrev S1x1x96 : Shape := ⟨3, ![1, 1, 96]⟩

abbrev nBuf : Space → Nat
  | .hbm => 8
  | .vmem => 8
  | .smem => 0
  | _ => 0

abbrev bufTy : (tb : Table) → Fin (tcTables nBuf tb) → BufTy
  | .hbm, ⟨0, _⟩ => ⟨S1x96, .f32⟩
  | .hbm, ⟨1, _⟩ => ⟨S8x1x96, .f32⟩
  | .hbm, ⟨2, _⟩ => ⟨S1x96, .f32⟩
  | .hbm, ⟨3, _⟩ => ⟨S1x96, .f32⟩
  | .hbm, ⟨4, _⟩ => ⟨S1x96, .f32⟩
  | .hbm, ⟨5, _⟩ => ⟨S1x96, .f32⟩
  | .hbm, ⟨6, _⟩ => ⟨S1x96, .f32⟩
  | .hbm, ⟨7, _⟩ => ⟨S1x96, .f32⟩
  | .local _ .vmem, ⟨0, _⟩ => ⟨S1x96, .f32⟩
  | .local _ .vmem, ⟨1, _⟩ => ⟨S8x1x96, .f32⟩
  | .local _ .vmem, ⟨2, _⟩ => ⟨S1x96, .f32⟩
  | .local _ .vmem, ⟨3, _⟩ => ⟨S1x96, .f32⟩
  | .local _ .vmem, ⟨4, _⟩ => ⟨S1x96, .f32⟩
  | .local _ .vmem, ⟨5, _⟩ => ⟨S1x96, .f32⟩
  | .local _ .vmem, ⟨6, _⟩ => ⟨S1x96, .f32⟩
  | .local _ .vmem, ⟨7, _⟩ => ⟨S1x96, .f32⟩
  | _, _ => ⟨S1x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference33Ideal.lean ====
abbrev S1x96 : Shape := ⟨2, ![1, 96]⟩
abbrev S8x1x96 : Shape := ⟨3, ![8, 1, 96]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x96, .f32⟩
  | .hbm, ⟨1, _⟩ => ⟨S8x1x96, .f32⟩
  | .hbm, ⟨2, _⟩ => ⟨S1x96, .f32⟩
  | .hbm, ⟨3, _⟩ => ⟨S1x96, .f32⟩
  | .hbm, ⟨4, _⟩ => ⟨S_, .f32⟩
  | .hbm, ⟨5, _⟩ => ⟨S1x96, .f32⟩
  | .hbm, ⟨6, _⟩ => ⟨S_, .f32⟩
  | .hbm, ⟨7, _⟩ => ⟨S1x96, .f32⟩
  | .hbm, ⟨8, _⟩ => ⟨S1x96, .f32⟩
  | .hbm, ⟨9, _⟩ => ⟨S_, .f32⟩
  | .hbm, ⟨10, _⟩ => ⟨S1x96, .f32⟩
  | .hbm, ⟨11, _⟩ => ⟨S1x96, .f32⟩
  | .hbm, ⟨12, _⟩ => ⟨S1x96, .f32⟩
  | .hbm, ⟨13, _⟩ => ⟨S_, .f32⟩
  | .hbm, ⟨14, _⟩ => ⟨S1x96, .f32⟩
  | .hbm, ⟨15, _⟩ => ⟨S1x96, .f32⟩
  | .hbm, ⟨16, _⟩ => ⟨S1x96, .f32⟩
  | .hbm, ⟨17, _⟩ => ⟨S_, .f32⟩
  | .hbm, ⟨18, _⟩ => ⟨S1x96, .f32⟩
  | .hbm, ⟨19, _⟩ => ⟨S1x96, .f32⟩
  | .hbm, ⟨20, _⟩ => ⟨S1x96, .f32⟩
  | .hbm, ⟨21, _⟩ => ⟨S_, .f32⟩
  | .hbm, ⟨22, _⟩ => ⟨S1x96, .f32⟩
  | .hbm, ⟨23, _⟩ => ⟨S1x96, .f32⟩
  | .hbm, ⟨24, _⟩ => ⟨S_, .f32⟩
  | .hbm, ⟨25, _⟩ => ⟨S1x96, .f32⟩
  | .hbm, ⟨26, _⟩ => ⟨S1x96, .f32⟩
  | .hbm, ⟨27, _⟩ => ⟨S1x96, .f32⟩
  | .hbm, ⟨28, _⟩ => ⟨S_, .f32⟩
  | .hbm, ⟨29, _⟩ => ⟨S1x96, .f32⟩
  | .hbm, ⟨30, _⟩ => ⟨S1x96, .f32⟩
  | .hbm, ⟨31, _⟩ => ⟨S1x96, .f32⟩
  | .hbm, ⟨32, _⟩ => ⟨S_, .f32⟩
  | .hbm, ⟨33, _⟩ => ⟨S1x96, .f32⟩
  | .hbm, ⟨34, _⟩ => ⟨S1x96, .f32⟩
  | .hbm, ⟨35, _⟩ => ⟨S1x96, .f32⟩
  | .hbm, ⟨36, _⟩ => ⟨S_, .f32⟩
  | .hbm, ⟨37, _⟩ => ⟨S1x96, .f32⟩
  | .hbm, ⟨38, _⟩ => ⟨S1x96, .f32⟩
  | _, _ => ⟨S1x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel34.lean ====
abbrev S1x96 : Shape := ⟨2, ![1, 96]⟩
abbrev S8x1x96 : Shape := ⟨3, ![8, 1, 96]⟩
abbrev S1x1x96 : Shape := ⟨3, ![1, 1, 96]⟩

abbrev nBuf : Space → Nat
  | .hbm => 8
  | .vmem => 8
  | .smem => 0
  | _ => 0

abbrev bufTy : (tb : Table) → Fin (tcTables nBuf tb) → BufTy
  | .hbm, ⟨0, _⟩ => ⟨S1x96, .f32⟩
  | .hbm, ⟨1, _⟩ => ⟨S8x1x96, .f32⟩
  | .hbm, ⟨2, _⟩ => ⟨S1x96, .f32⟩
  | .hbm, ⟨3, _⟩ => ⟨S1x96, .f32⟩
  | .hbm, ⟨4, _⟩ => ⟨S1x96, .f32⟩
  | .hbm, ⟨5, _⟩ => ⟨S1x96, .f32⟩
  | .hbm, ⟨6, _⟩ => ⟨S1x96, .f32⟩
  | .hbm, ⟨7, _⟩ => ⟨S1x96, .f32⟩
  | .local _ .vmem, ⟨0, _⟩ => ⟨S1x96, .f32⟩
  | .local _ .vmem, ⟨1, _⟩ => ⟨S8x1x96, .f32⟩
  | .local _ .vmem, ⟨2, _⟩ => ⟨S1x96, .f32⟩
  | .local _ .vmem, ⟨3, _⟩ => ⟨S1x96, .f32⟩
  | .local _ .vmem, ⟨4, _⟩ => ⟨S1x96, .f32⟩
  | .local _ .vmem, ⟨5, _⟩ => ⟨S1x96, .f32⟩
  | .local _ .vmem, ⟨6, _⟩ => ⟨S1x96, .f32⟩
  | .local _ .vmem, ⟨7, _⟩ => ⟨S1x96, .f32⟩
  | _, _ => ⟨S1x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel34Ideal.lean ====
abbrev S1x96 : Shape := ⟨2, ![1, 96]⟩
abbrev S8x1x96 : Shape := ⟨3, ![8, 1, 96]⟩
abbrev S1x1x96 : Shape := ⟨3, ![1, 1, 96]⟩

abbrev nBuf : Space → Nat
  | .hbm => 8
  | .vmem => 8
  | .smem => 0
  | _ => 0

abbrev bufTy : (tb : Table) → Fin (tcTables nBuf tb) → BufTy
  | .hbm, ⟨0, _⟩ => ⟨S1x96, .f32⟩
  | .hbm, ⟨1, _⟩ => ⟨S8x1x96, .f32⟩
  | .hbm, ⟨2, _⟩ => ⟨S1x96, .f32⟩
  | .hbm, ⟨3, _⟩ => ⟨S1x96, .f32⟩
  | .hbm, ⟨4, _⟩ => ⟨S1x96, .f32⟩
  | .hbm, ⟨5, _⟩ => ⟨S1x96, .f32⟩
  | .hbm, ⟨6, _⟩ => ⟨S1x96, .f32⟩
  | .hbm, ⟨7, _⟩ => ⟨S1x96, .f32⟩
  | .local _ .vmem, ⟨0, _⟩ => ⟨S1x96, .f32⟩
  | .local _ .vmem, ⟨1, _⟩ => ⟨S8x1x96, .f32⟩
  | .local _ .vmem, ⟨2, _⟩ => ⟨S1x96, .f32⟩
  | .local _ .vmem, ⟨3, _⟩ => ⟨S1x96, .f32⟩
  | .local _ .vmem, ⟨4, _⟩ => ⟨S1x96, .f32⟩
  | .local _ .vmem, ⟨5, _⟩ => ⟨S1x96, .f32⟩
  | .local _ .vmem, ⟨6, _⟩ => ⟨S1x96, .f32⟩
  | .local _ .vmem, ⟨7, _⟩ => ⟨S1x96, .f32⟩
  | _, _ => ⟨S1x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference34Ideal.lean ====
abbrev S1x96 : Shape := ⟨2, ![1, 96]⟩
abbrev S8x1x96 : Shape := ⟨3, ![8, 1, 96]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x96, .f32⟩
  | .hbm, ⟨1, _⟩ => ⟨S8x1x96, .f32⟩
  | .hbm, ⟨2, _⟩ => ⟨S1x96, .f32⟩
  | .hbm, ⟨3, _⟩ => ⟨S1x96, .f32⟩
  | .hbm, ⟨4, _⟩ => ⟨S_, .f32⟩
  | .hbm, ⟨5, _⟩ => ⟨S1x96, .f32⟩
  | .hbm, ⟨6, _⟩ => ⟨S_, .f32⟩
  | .hbm, ⟨7, _⟩ => ⟨S1x96, .f32⟩
  | .hbm, ⟨8, _⟩ => ⟨S1x96, .f32⟩
  | .hbm, ⟨9, _⟩ => ⟨S_, .f32⟩
  | .hbm, ⟨10, _⟩ => ⟨S1x96, .f32⟩
  | .hbm, ⟨11, _⟩ => ⟨S1x96, .f32⟩
  | .hbm, ⟨12, _⟩ => ⟨S1x96, .f32⟩
  | .hbm, ⟨13, _⟩ => ⟨S_, .f32⟩
  | .hbm, ⟨14, _⟩ => ⟨S1x96, .f32⟩
  | .hbm, ⟨15, _⟩ => ⟨S1x96, .f32⟩
  | .hbm, ⟨16, _⟩ => ⟨S1x96, .f32⟩
  | .hbm, ⟨17, _⟩ => ⟨S_, .f32⟩
  | .hbm, ⟨18, _⟩ => ⟨S1x96, .f32⟩
  | .hbm, ⟨19, _⟩ => ⟨S1x96, .f32⟩
  | .hbm, ⟨20, _⟩ => ⟨S1x96, .f32⟩
  | .hbm, ⟨21, _⟩ => ⟨S_, .f32⟩
  | .hbm, ⟨22, _⟩ => ⟨S1x96, .f32⟩
  | .hbm, ⟨23, _⟩ => ⟨S1x96, .f32⟩
  | .hbm, ⟨24, _⟩ => ⟨S_, .f32⟩
  | .hbm, ⟨25, _⟩ => ⟨S1x96, .f32⟩
  | .hbm, ⟨26, _⟩ => ⟨S1x96, .f32⟩
  | .hbm, ⟨27, _⟩ => ⟨S1x96, .f32⟩
  | .hbm, ⟨28, _⟩ => ⟨S_, .f32⟩
  | .hbm, ⟨29, _⟩ => ⟨S1x96, .f32⟩
  | .hbm, ⟨30, _⟩ => ⟨S1x96, .f32⟩
  | .hbm, ⟨31, _⟩ => ⟨S1x96, .f32⟩
  | .hbm, ⟨32, _⟩ => ⟨S_, .f32⟩
  | .hbm, ⟨33, _⟩ => ⟨S1x96, .f32⟩
  | .hbm, ⟨34, _⟩ => ⟨S1x96, .f32⟩
  | .hbm, ⟨35, _⟩ => ⟨S1x96, .f32⟩
  | .hbm, ⟨36, _⟩ => ⟨S_, .f32⟩
  | .hbm, ⟨37, _⟩ => ⟨S1x96, .f32⟩
  | .hbm, ⟨38, _⟩ => ⟨S1x96, .f32⟩
  | _, _ => ⟨S1x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel35.lean ====
abbrev S512x128 : Shape := ⟨2, ![512, 128]⟩
abbrev S8x128x512 : Shape := ⟨3, ![8, 128, 512]⟩
abbrev S256x128 : Shape := ⟨2, ![256, 128]⟩
abbrev S8x128x256 : Shape := ⟨3, ![8, 128, 256]⟩
abbrev S1x128x256 : Shape := ⟨3, ![1, 128, 256]⟩
abbrev S128x256 : Shape := ⟨2, ![128, 256]⟩

abbrev nBuf : Space → Nat
  | .hbm => 8
  | .vmem => 16
  | .smem => 0
  | _ => 0

abbrev bufTy : (tb : Table) → Fin (tcTables nBuf tb) → BufTy
  | .hbm, ⟨0, _⟩ => ⟨S512x128, .f32⟩
  | .hbm, ⟨1, _⟩ => ⟨S8x128x512, .bf16⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S256x128, .f32⟩
  | .local _ .vmem, ⟨1, _⟩ => ⟨S256x128, .f32⟩
  | .local _ .vmem, ⟨2, _⟩ => ⟨S8x128x256, .bf16⟩
  | .local _ .vmem, ⟨3, _⟩ => ⟨S8x128x256, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel35Ideal.lean ====
abbrev S512x128 : Shape := ⟨2, ![512, 128]⟩
abbrev S8x128x512 : Shape := ⟨3, ![8, 128, 512]⟩
abbrev S256x128 : Shape := ⟨2, ![256, 128]⟩
abbrev S8x128x256 : Shape := ⟨3, ![8, 128, 256]⟩
abbrev S1x128x256 : Shape := ⟨3, ![1, 128, 256]⟩
abbrev S128x256 : Shape := ⟨2, ![128, 256]⟩

abbrev nBuf : Space → Nat
  | .hbm => 8
  | .vmem => 16
  | .smem => 0
  | _ => 0

abbrev bufTy : (tb : Table) → Fin (tcTables nBuf tb) → BufTy
  | .hbm, ⟨0, _⟩ => ⟨S512x128, .f32⟩
  | .hbm, ⟨1, _⟩ => ⟨S8x128x512, .bf16⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S256x128, .f32⟩
  | .local _ .vmem, ⟨1, _⟩ => ⟨S256x128, .f32⟩
  | .local _ .vmem, ⟨2, _⟩ => ⟨S8x128x256, .bf16⟩
  | .local _ .vmem, ⟨3, _⟩ => ⟨S8x128x256, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference35Ideal.lean ====
abbrev S512x128 : Shape := ⟨2, ![512, 128]⟩
abbrev S8x128x512 : Shape := ⟨3, ![8, 128, 512]⟩
abbrev S_ : Shape := ⟨0, ![]⟩
abbrev S128x512 : Shape := ⟨2, ![128, 512]⟩

abbrev nBuf : Space → Nat
  | .hbm => 41
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S8x128x512, .bf16⟩
  | .hbm, ⟨2, _⟩ => ⟨S512x128, .f32⟩
  | .hbm, ⟨3, _⟩ => ⟨S512x128, .f32⟩
  | .hbm, ⟨4, _⟩ => ⟨S8x128x512, .f32⟩
  | .hbm, ⟨5, _⟩ => ⟨S_, .f32⟩
  | .hbm, ⟨6, _⟩ => ⟨S128x512, .f32⟩
  | .hbm, ⟨7, _⟩ => ⟨S512x128, .f32⟩
  | .hbm, ⟨8, _⟩ => ⟨S_, .f32⟩
  | .hbm, ⟨9, _⟩ => ⟨S512x128, .f32⟩
  | .hbm, ⟨10, _⟩ => ⟨S512x128, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S512x128, .f32⟩
  | .hbm, ⟨23, _⟩ => ⟨S_, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | .hbm, ⟨37, _⟩ => ⟨S512x128, .f32⟩
  | .hbm, ⟨38, _⟩ => ⟨S_, .f32⟩
  | .hbm, ⟨39, _⟩ => ⟨S512x128, .f32⟩
  | .hbm, ⟨40, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel36.lean ====
abbrev S31x64 : Shape := ⟨2, ![31, 64]⟩
abbrev S8x31x64 : Shape := ⟨3, ![8, 31, 64]⟩
abbrev S1x31x64 : Shape := ⟨3, ![1, 31, 64]⟩

abbrev nBuf : Space → Nat
  | .hbm => 8
  | .vmem => 8
  | .smem => 0
  | _ => 0

abbrev bufTy : (tb : Table) → Fin (tcTables nBuf tb) → BufTy
  | .hbm, ⟨0, _⟩ => ⟨S31x64, .f32⟩
  | .hbm, ⟨1, _⟩ => ⟨S8x31x64, .f32⟩
  | .hbm, ⟨2, _⟩ => ⟨S31x64, .f32⟩
  | .hbm, ⟨3, _⟩ => ⟨S31x64, .f32⟩
  | .hbm, ⟨4, _⟩ => ⟨S31x64, .f32⟩
  | .hbm, ⟨5, _⟩ => ⟨S31x64, .f32⟩
  | .hbm, ⟨6, _⟩ => ⟨S31x64, .f32⟩
  | .hbm, ⟨7, _⟩ => ⟨S31x64, .f32⟩
  | .local _ .vmem, ⟨0, _⟩ => ⟨S31x64, .f32⟩
  | .local _ .vmem, ⟨1, _⟩ => ⟨S8x31x64, .f32⟩
  | .local _ .vmem, ⟨2, _⟩ => ⟨S31x64, .f32⟩
  | .local _ .vmem, ⟨3, _⟩ => ⟨S31x64, .f32⟩
  | .local _ .vmem, ⟨4, _⟩ => ⟨S31x64, .f32⟩
  | .local _ .vmem, ⟨5, _⟩ => ⟨S31x64, .f32⟩
  | .local _ .vmem, ⟨6, _⟩ => ⟨S31x64, .f32⟩
  | .local _ .vmem, ⟨7, _⟩ => ⟨S31x64, .f32⟩
  | _, _ => ⟨S31x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S31x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x31x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S31x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel36Ideal.lean ====
abbrev S31x64 : Shape := ⟨2, ![31, 64]⟩
abbrev S8x31x64 : Shape := ⟨3, ![8, 31, 64]⟩
abbrev S1x31x64 : Shape := ⟨3, ![1, 31, 64]⟩

abbrev nBuf : Space → Nat
  | .hbm => 8
  | .vmem => 8
  | .smem => 0
  | _ => 0

abbrev bufTy : (tb : Table) → Fin (tcTables nBuf tb) → BufTy
  | .hbm, ⟨0, _⟩ => ⟨S31x64, .f32⟩
  | .hbm, ⟨1, _⟩ => ⟨S8x31x64, .f32⟩
  | .hbm, ⟨2, _⟩ => ⟨S31x64, .f32⟩
  | .hbm, ⟨3, _⟩ => ⟨S31x64, .f32⟩
  | .hbm, ⟨4, _⟩ => ⟨S31x64, .f32⟩
  | .hbm, ⟨5, _⟩ => ⟨S31x64, .f32⟩
  | .hbm, ⟨6, _⟩ => ⟨S31x64, .f32⟩
  | .hbm, ⟨7, _⟩ => ⟨S31x64, .f32⟩
  | .local _ .vmem, ⟨0, _⟩ => ⟨S31x64, .f32⟩
  | .local _ .vmem, ⟨1, _⟩ => ⟨S8x31x64, .f32⟩
  | .local _ .vmem, ⟨2, _⟩ => ⟨S31x64, .f32⟩
  | .local _ .vmem, ⟨3, _⟩ => ⟨S31x64, .f32⟩
  | .local _ .vmem, ⟨4, _⟩ => ⟨S31x64, .f32⟩
  | .local _ .vmem, ⟨5, _⟩ => ⟨S31x64, .f32⟩
  | .local _ .vmem, ⟨6, _⟩ => ⟨S31x64, .f32⟩
  | .local _ .vmem, ⟨7, _⟩ => ⟨S31x64, .f32⟩
  | _, _ => ⟨S31x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S31x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x31x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S31x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference36Ideal.lean ====
abbrev S31x64 : Shape := ⟨2, ![31, 64]⟩
abbrev S8x31x64 : Shape := ⟨3, ![8, 31, 64]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S31x64, .f32⟩
  | .hbm, ⟨1, _⟩ => ⟨S8x31x64, .f32⟩
  | .hbm, ⟨2, _⟩ => ⟨S31x64, .f32⟩
  | .hbm, ⟨3, _⟩ => ⟨S31x64, .f32⟩
  | .hbm, ⟨4, _⟩ => ⟨S_, .f32⟩
  | .hbm, ⟨5, _⟩ => ⟨S31x64, .f32⟩
  | .hbm, ⟨6, _⟩ => ⟨S_, .f32⟩
  | .hbm, ⟨7, _⟩ => ⟨S31x64, .f32⟩
  | .hbm, ⟨8, _⟩ => ⟨S31x64, .f32⟩
  | .hbm, ⟨9, _⟩ => ⟨S_, .f32⟩
  | .hbm, ⟨10, _⟩ => ⟨S31x64, .f32⟩
  | .hbm, ⟨11, _⟩ => ⟨S31x64, .f32⟩
  | .hbm, ⟨12, _⟩ => ⟨S31x64, .f32⟩
  | .hbm, ⟨13, _⟩ => ⟨S_, .f32⟩
  | .hbm, ⟨14, _⟩ => ⟨S31x64, .f32⟩
  | .hbm, ⟨15, _⟩ => ⟨S31x64, .f32⟩
  | .hbm, ⟨16, _⟩ => ⟨S31x64, .f32⟩
  | .hbm, ⟨17, _⟩ => ⟨S_, .f32⟩
  | .hbm, ⟨18, _⟩ => ⟨S31x64, .f32⟩
  | .hbm, ⟨19, _⟩ => ⟨S31x64, .f32⟩
  | .hbm, ⟨20, _⟩ => ⟨S31x64, .f32⟩
  | .hbm, ⟨21, _⟩ => ⟨S_, .f32⟩
  | .hbm, ⟨22, _⟩ => ⟨S31x64, .f32⟩
  | .hbm, ⟨23, _⟩ => ⟨S31x64, .f32⟩
  | .hbm, ⟨24, _⟩ => ⟨S_, .f32⟩
  | .hbm, ⟨25, _⟩ => ⟨S31x64, .f32⟩
  | .hbm, ⟨26, _⟩ => ⟨S31x64, .f32⟩
  | .hbm, ⟨27, _⟩ => ⟨S31x64, .f32⟩
  | .hbm, ⟨28, _⟩ => ⟨S_, .f32⟩
  | .hbm, ⟨29, _⟩ => ⟨S31x64, .f32⟩
  | .hbm, ⟨30, _⟩ => ⟨S31x64, .f32⟩
  | .hbm, ⟨31, _⟩ => ⟨S31x64, .f32⟩
  | .hbm, ⟨32, _⟩ => ⟨S_, .f32⟩
  | .hbm, ⟨33, _⟩ => ⟨S31x64, .f32⟩
  | .hbm, ⟨34, _⟩ => ⟨S31x64, .f32⟩
  | .hbm, ⟨35, _⟩ => ⟨S31x64, .f32⟩
  | .hbm, ⟨36, _⟩ => ⟨S_, .f32⟩
  | .hbm, ⟨37, _⟩ => ⟨S31x64, .f32⟩
  | .hbm, ⟨38, _⟩ => ⟨S31x64, .f32⟩
  | _, _ => ⟨S31x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel37.lean ====
abbrev S1x512 : Shape := ⟨2, ![1, 512]⟩
abbrev S8x1x512 : Shape := ⟨3, ![8, 1, 512]⟩
abbrev S1x1x512 : Shape := ⟨3, ![1, 1, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x512, .f32⟩
  | .hbm, ⟨1, _⟩ => ⟨S8x1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .local _ .vmem, ⟨0, _⟩ => ⟨S1x512, .f32⟩
  | .local _ .vmem, ⟨1, _⟩ => ⟨S8x1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel37Ideal.lean ====
abbrev S1x512 : Shape := ⟨2, ![1, 512]⟩
abbrev S8x1x512 : Shape := ⟨3, ![8, 1, 512]⟩
abbrev S1x1x512 : Shape := ⟨3, ![1, 1, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x512, .f32⟩
  | .hbm, ⟨1, _⟩ => ⟨S8x1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .local _ .vmem, ⟨0, _⟩ => ⟨S1x512, .f32⟩
  | .local _ .vmem, ⟨1, _⟩ => ⟨S8x1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference37Ideal.lean ====
abbrev S1x512 : Shape := ⟨2, ![1, 512]⟩
abbrev S8x1x512 : Shape := ⟨3, ![8, 1, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S8x1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S_, .f32⟩
  | .hbm, ⟨7, _⟩ => ⟨S1x512, .f32⟩
  | .hbm, ⟨8, _⟩ => ⟨S1x512, .f32⟩
  | .hbm, ⟨9, _⟩ => ⟨S_, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S_, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S_, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S_, .f32⟩
  | .hbm, ⟨22, _⟩ => ⟨S1x512, .f32⟩
  | .hbm, ⟨23, _⟩ => ⟨S1x512, .f32⟩
  | .hbm, ⟨24, _⟩ => ⟨S_, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S_, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S_, .f32⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S_, .f32⟩
  | .hbm, ⟨37, _⟩ => ⟨S1x512, .f32⟩
  | .hbm, ⟨38, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel38.lean ====
abbrev S1x512 : Shape := ⟨2, ![1, 512]⟩
abbrev S8x1x512 : Shape := ⟨3, ![8, 1, 512]⟩
abbrev S1x1x512 : Shape := ⟨3, ![1, 1, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x512, .f32⟩
  | .hbm, ⟨1, _⟩ => ⟨S8x1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .local _ .vmem, ⟨0, _⟩ => ⟨S1x512, .f32⟩
  | .local _ .vmem, ⟨1, _⟩ => ⟨S8x1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel38Ideal.lean ====
abbrev S1x512 : Shape := ⟨2, ![1, 512]⟩
abbrev S8x1x512 : Shape := ⟨3, ![8, 1, 512]⟩
abbrev S1x1x512 : Shape := ⟨3, ![1, 1, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x512, .f32⟩
  | .hbm, ⟨1, _⟩ => ⟨S8x1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .local _ .vmem, ⟨0, _⟩ => ⟨S1x512, .f32⟩
  | .local _ .vmem, ⟨1, _⟩ => ⟨S8x1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference38Ideal.lean ====
abbrev S1x512 : Shape := ⟨2, ![1, 512]⟩
abbrev S8x1x512 : Shape := ⟨3, ![8, 1, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S8x1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S_, .f32⟩
  | .hbm, ⟨7, _⟩ => ⟨S1x512, .f32⟩
  | .hbm, ⟨8, _⟩ => ⟨S1x512, .f32⟩
  | .hbm, ⟨9, _⟩ => ⟨S_, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S_, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S_, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S_, .f32⟩
  | .hbm, ⟨22, _⟩ => ⟨S1x512, .f32⟩
  | .hbm, ⟨23, _⟩ => ⟨S1x512, .f32⟩
  | .hbm, ⟨24, _⟩ => ⟨S_, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S_, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S_, .f32⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S_, .f32⟩
  | .hbm, ⟨37, _⟩ => ⟨S1x512, .f32⟩
  | .hbm, ⟨38, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel39.lean ====
abbrev S1x512 : Shape := ⟨2, ![1, 512]⟩
abbrev S8x1x512 : Shape := ⟨3, ![8, 1, 512]⟩
abbrev S1x1x512 : Shape := ⟨3, ![1, 1, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x512, .f32⟩
  | .hbm, ⟨1, _⟩ => ⟨S8x1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .local _ .vmem, ⟨0, _⟩ => ⟨S1x512, .f32⟩
  | .local _ .vmem, ⟨1, _⟩ => ⟨S8x1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel39Ideal.lean ====
abbrev S1x512 : Shape := ⟨2, ![1, 512]⟩
abbrev S8x1x512 : Shape := ⟨3, ![8, 1, 512]⟩
abbrev S1x1x512 : Shape := ⟨3, ![1, 1, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x512, .f32⟩
  | .hbm, ⟨1, _⟩ => ⟨S8x1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .local _ .vmem, ⟨0, _⟩ => ⟨S1x512, .f32⟩
  | .local _ .vmem, ⟨1, _⟩ => ⟨S8x1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference39Ideal.lean ====
abbrev S1x512 : Shape := ⟨2, ![1, 512]⟩
abbrev S8x1x512 : Shape := ⟨3, ![8, 1, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S8x1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S_, .f32⟩
  | .hbm, ⟨7, _⟩ => ⟨S1x512, .f32⟩
  | .hbm, ⟨8, _⟩ => ⟨S1x512, .f32⟩
  | .hbm, ⟨9, _⟩ => ⟨S_, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S_, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S_, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S_, .f32⟩
  | .hbm, ⟨22, _⟩ => ⟨S1x512, .f32⟩
  | .hbm, ⟨23, _⟩ => ⟨S1x512, .f32⟩
  | .hbm, ⟨24, _⟩ => ⟨S_, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S_, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S_, .f32⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S_, .f32⟩
  | .hbm, ⟨37, _⟩ => ⟨S1x512, .f32⟩
  | .hbm, ⟨38, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel40.lean ====
abbrev S512x128 : Shape := ⟨2, ![512, 128]⟩
abbrev S8x128x512 : Shape := ⟨3, ![8, 128, 512]⟩
abbrev S256x128 : Shape := ⟨2, ![256, 128]⟩
abbrev S8x128x256 : Shape := ⟨3, ![8, 128, 256]⟩
abbrev S1x128x256 : Shape := ⟨3, ![1, 128, 256]⟩
abbrev S128x256 : Shape := ⟨2, ![128, 256]⟩

abbrev nBuf : Space → Nat
  | .hbm => 8
  | .vmem => 16
  | .smem => 0
  | _ => 0

abbrev bufTy : (tb : Table) → Fin (tcTables nBuf tb) → BufTy
  | .hbm, ⟨0, _⟩ => ⟨S512x128, .f32⟩
  | .hbm, ⟨1, _⟩ => ⟨S8x128x512, .bf16⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S256x128, .f32⟩
  | .local _ .vmem, ⟨1, _⟩ => ⟨S256x128, .f32⟩
  | .local _ .vmem, ⟨2, _⟩ => ⟨S8x128x256, .bf16⟩
  | .local _ .vmem, ⟨3, _⟩ => ⟨S8x128x256, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel40Ideal.lean ====
abbrev S512x128 : Shape := ⟨2, ![512, 128]⟩
abbrev S8x128x512 : Shape := ⟨3, ![8, 128, 512]⟩
abbrev S256x128 : Shape := ⟨2, ![256, 128]⟩
abbrev S8x128x256 : Shape := ⟨3, ![8, 128, 256]⟩
abbrev S1x128x256 : Shape := ⟨3, ![1, 128, 256]⟩
abbrev S128x256 : Shape := ⟨2, ![128, 256]⟩

abbrev nBuf : Space → Nat
  | .hbm => 8
  | .vmem => 16
  | .smem => 0
  | _ => 0

abbrev bufTy : (tb : Table) → Fin (tcTables nBuf tb) → BufTy
  | .hbm, ⟨0, _⟩ => ⟨S512x128, .f32⟩
  | .hbm, ⟨1, _⟩ => ⟨S8x128x512, .bf16⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S256x128, .f32⟩
  | .local _ .vmem, ⟨1, _⟩ => ⟨S256x128, .f32⟩
  | .local _ .vmem, ⟨2, _⟩ => ⟨S8x128x256, .bf16⟩
  | .local _ .vmem, ⟨3, _⟩ => ⟨S8x128x256, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference40Ideal.lean ====
abbrev S512x128 : Shape := ⟨2, ![512, 128]⟩
abbrev S8x128x512 : Shape := ⟨3, ![8, 128, 512]⟩
abbrev S_ : Shape := ⟨0, ![]⟩
abbrev S128x512 : Shape := ⟨2, ![128, 512]⟩

abbrev nBuf : Space → Nat
  | .hbm => 41
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S8x128x512, .bf16⟩
  | .hbm, ⟨2, _⟩ => ⟨S512x128, .f32⟩
  | .hbm, ⟨3, _⟩ => ⟨S512x128, .f32⟩
  | .hbm, ⟨4, _⟩ => ⟨S8x128x512, .f32⟩
  | .hbm, ⟨5, _⟩ => ⟨S_, .f32⟩
  | .hbm, ⟨6, _⟩ => ⟨S128x512, .f32⟩
  | .hbm, ⟨7, _⟩ => ⟨S512x128, .f32⟩
  | .hbm, ⟨8, _⟩ => ⟨S_, .f32⟩
  | .hbm, ⟨9, _⟩ => ⟨S512x128, .f32⟩
  | .hbm, ⟨10, _⟩ => ⟨S512x128, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S512x128, .f32⟩
  | .hbm, ⟨23, _⟩ => ⟨S_, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | .hbm, ⟨37, _⟩ => ⟨S512x128, .f32⟩
  | .hbm, ⟨38, _⟩ => ⟨S_, .f32⟩
  | .hbm, ⟨39, _⟩ => ⟨S512x128, .f32⟩
  | .hbm, ⟨40, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel41.lean ====
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S128x1024, .f32⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel41Ideal.lean ====
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S128x1024, .f32⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference41Ideal.lean ====
abbrev S128x1024 : Shape := ⟨2, ![128, 1024]⟩
abbrev S8x128x1024 : Shape := ⟨3, ![8, 128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel42.lean ====
abbrev S1x1024 : Shape := ⟨2, ![1, 1024]⟩
abbrev S8x1x1024 : Shape := ⟨3, ![8, 1, 1024]⟩
abbrev S1x1x1024 : Shape := ⟨3, ![1, 1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x1024, .f32⟩
  | .hbm, ⟨1, _⟩ => ⟨S8x1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S1x1024, .f32⟩
  | .local _ .vmem, ⟨1, _⟩ => ⟨S8x1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel42Ideal.lean ====
abbrev S1x1024 : Shape := ⟨2, ![1, 1024]⟩
abbrev S8x1x1024 : Shape := ⟨3, ![8, 1, 1024]⟩
abbrev S1x1x1024 : Shape := ⟨3, ![1, 1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x1024, .f32⟩
  | .hbm, ⟨1, _⟩ => ⟨S8x1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S1x1024, .f32⟩
  | .local _ .vmem, ⟨1, _⟩ => ⟨S8x1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference42Ideal.lean ====
abbrev S1x1024 : Shape := ⟨2, ![1, 1024]⟩
abbrev S8x1x1024 : Shape := ⟨3, ![8, 1, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S8x1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel43.lean ====
abbrev S1024x512 : Shape := ⟨2, ![1024, 512]⟩
abbrev S8x512x1024 : Shape := ⟨3, ![8, 512, 1024]⟩
abbrev S256x512 : Shape := ⟨2, ![256, 512]⟩
abbrev S8x512x256 : Shape := ⟨3, ![8, 512, 256]⟩
abbrev S1x512x256 : Shape := ⟨3, ![1, 512, 256]⟩
abbrev S512x256 : Shape := ⟨2, ![512, 256]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S8x512x1024, .bf16⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S8x512x256, .bf16⟩
  | .local _ .vmem, ⟨3, _⟩ => ⟨S8x512x256, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel43Ideal.lean ====
abbrev S1024x512 : Shape := ⟨2, ![1024, 512]⟩
abbrev S8x512x1024 : Shape := ⟨3, ![8, 512, 1024]⟩
abbrev S256x512 : Shape := ⟨2, ![256, 512]⟩
abbrev S8x512x256 : Shape := ⟨3, ![8, 512, 256]⟩
abbrev S1x512x256 : Shape := ⟨3, ![1, 512, 256]⟩
abbrev S512x256 : Shape := ⟨2, ![512, 256]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S8x512x1024, .bf16⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S8x512x256, .bf16⟩
  | .local _ .vmem, ⟨3, _⟩ => ⟨S8x512x256, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference43Ideal.lean ====
abbrev S1024x512 : Shape := ⟨2, ![1024, 512]⟩
abbrev S8x512x1024 : Shape := ⟨3, ![8, 512, 1024]⟩
abbrev S_ : Shape := ⟨0, ![]⟩
abbrev S512x1024 : Shape := ⟨2, ![512, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S8x512x1024, .bf16⟩
  | .hbm, ⟨2, _⟩ => ⟨S1024x512, .f32⟩
  | .hbm, ⟨3, _⟩ => ⟨S1024x512, .f32⟩
  | .hbm, ⟨4, _⟩ => ⟨S8x512x1024, .f32⟩
  | .hbm, ⟨5, _⟩ => ⟨S_, .f32⟩
  | .hbm, ⟨6, _⟩ => ⟨S512x1024, .f32⟩
  | .hbm, ⟨7, _⟩ => ⟨S1024x512, .f32⟩
  | .hbm, ⟨8, _⟩ => ⟨S_, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S1024x512, .f32⟩
  | .hbm, ⟨23, _⟩ => ⟨S_, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | .hbm, ⟨37, _⟩ => ⟨S1024x512, .f32⟩
  | .hbm, ⟨38, _⟩ => ⟨S_, .f32⟩
  | .hbm, ⟨39, _⟩ => ⟨S1024x512, .f32⟩
  | .hbm, ⟨40, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel44.lean ====
abbrev S512x1024 : Shape := ⟨2, ![512, 1024]⟩
abbrev S8x512x1024 : Shape := ⟨3, ![8, 512, 1024]⟩
abbrev S256x1024 : Shape := ⟨2, ![256, 1024]⟩
abbrev S8x256x1024 : Shape := ⟨3, ![8, 256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S8x512x1024, .bf16⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S8x256x1024, .bf16⟩
  | .local _ .vmem, ⟨3, _⟩ => ⟨S8x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference44Ideal.lean ====
abbrev S512x1024 : Shape := ⟨2, ![512, 1024]⟩
abbrev S8x512x1024 : Shape := ⟨3, ![8, 512, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S8x512x1024, .bf16⟩
  | .hbm, ⟨2, _⟩ => ⟨S512x1024, .f32⟩
  | .hbm, ⟨3, _⟩ => ⟨S512x1024, .f32⟩
  | .hbm, ⟨4, _⟩ => ⟨S8x512x1024, .f32⟩
  | .hbm, ⟨5, _⟩ => ⟨S_, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.GateGrad.lean ====
/- The value of the gated merge's gradient (the call `out_proj_bwd`): with `z` the gates before the sigmoid (the first
   1024 columns weigh the attention branch, the last 1024 the convolution branch), `d` the gradient of the merged
   rows' projection and `w` the projection, both programs leave `dz` and `dy` of each branch in closed form. -/
module

public import proofs.«01_k».proof.Proof.Gen.Kernel2Ideal.Value
public import proofs.«01_k».proof.Proof.Gen.Reference2Ideal.Run
public import Idealize.ShloMosaic.Lib.Pipeline.ValueKit
public import Idealize.ShloMosaic.Lib.Pointwise

@[expose] public section

set_option maxRecDepth 16384

noncomputable section

namespace Cert.GateGrad

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The gradient of the merged rows at one entry: the row of `d` against the row of `w`. -/
def prod (w : S1024x1024.Idx → EReal) (d : S8192x1024.Idx → EReal) (i : S8192x1024.Idx) : EReal :=
  ∑ k : Fin 1024, d (ix2 (i 0) k) * w (ix2 (i 1) k)

/-- The gate that weighs entry `i`: the sigmoid of the column `o` further on. -/
def gate (o : Nat) (ho : o ≤ 1024) (z : S8192x2048.Idx → EReal) (i : S8192x1024.Idx) : EReal :=
  Ideal.div 1 (1 + Ideal.exp (-z (ix2 (i 0) ⟨o + (i 1).val, Nat.add_lt_add_of_le_of_lt ho (i 1).isLt⟩)))

/-- The gradient of a gate before its sigmoid. -/
def dz (o : Nat) (ho : o ≤ 1024) (z : S8192x2048.Idx → EReal) (b : S8192x1024.Idx → EReal) (w : S1024x1024.Idx → EReal)
    (d : S8192x1024.Idx → EReal) (i : S8192x1024.Idx) : EReal :=
  prod w d i * b i * gate o ho z i * (1 - gate o ho z i)

/-- The gradient of a branch's output. -/
def dy (o : Nat) (ho : o ≤ 1024) (z : S8192x2048.Idx → EReal) (w : S1024x1024.Idx → EReal)
    (d : S8192x1024.Idx → EReal) (i : S8192x1024.Idx) : EReal :=
  prod w d i * gate o ho z i

/-- Which block each window shows at a grid point: rows by the first coordinate, columns by the second; the gates of
    the convolution branch start one block of columns later. -/
theorem idx : ∀ t : Fin grid0.N, win0_0.index t = ![(grid0.coords t 0).val, 0] ∧
    win0_1.index t = ![(grid0.coords t 1).val, 0] ∧
    win0_2.index t = ![(grid0.coords t 0).val, (grid0.coords t 1).val] ∧
    win0_3.index t = ![(grid0.coords t 0).val, (grid0.coords t 1).val + 1] ∧
    win0_4.index t = ![(grid0.coords t 0).val, (grid0.coords t 1).val] ∧
    win0_5.index t = ![(grid0.coords t 0).val, (grid0.coords t 1).val] ∧
    win0_6.index t = ![(grid0.coords t 0).val, (grid0.coords t 1).val] ∧
    win0_7.index t = ![(grid0.coords t 0).val, (grid0.coords t 1).val] ∧
    win0_8.index t = ![(grid0.coords t 0).val, (grid0.coords t 1).val] ∧
    win0_9.index t = ![(grid0.coords t 0).val, (grid0.coords t 1).val] ∧ (grid0.coords t 1).val = 0 := by
  decide +kernel

/-- The attention branch's gates. -/
theorem arr6 (c : Dev nD) : (dats m 0 c).arrAt 6 cfg0.N = dz 0 (by omega) (m (c.tc.loc main_arg0)) (m (c.tc.loc main_arg1)) (m (c.tc.loc main_arg3)) (m (c.tc.loc main_arg4)) := by
  refine (dats m 0 c).arrAt_eq_of_covers 6 _ (by decide +kernel) fun t hf y => ?_
  blk_simp
  rw [after0_6]
  unfold outsAt0
  frame_out
  unfold_payloads
  pointwise
  simp only [zero_sub]
  unfold dz prod gate
  have e := (idx t).2.2.2.2.2.2.2.2.2.2
  blk_point [iblk, V, idx t]

/-- The convolution branch's gates. -/
theorem arr7 (c : Dev nD) : (dats m 0 c).arrAt 7 cfg0.N = dz 1024 (by omega) (m (c.tc.loc main_arg0)) (m (c.tc.loc main_arg2)) (m (c.tc.loc main_arg3)) (m (c.tc.loc main_arg4)) := by
  refine (dats m 0 c).arrAt_eq_of_covers 7 _ (by decide +kernel) fun t hf y => ?_
  blk_simp
  rw [after0_7]
  unfold outsAt0
  frame_out
  unfold_payloads
  pointwise
  simp only [zero_sub]
  unfold dz prod gate
  have e := (idx t).2.2.2.2.2.2.2.2.2.2
  blk_point [iblk, V, idx t]

/-- The attention branch's output. -/
theorem arr8 (c : Dev nD) : (dats m 0 c).arrAt 8 cfg0.N = dy 0 (by omega) (m (c.tc.loc main_arg0)) (m (c.tc.loc main_arg3)) (m (c.tc.loc main_arg4)) := by
  refine (dats m 0 c).arrAt_eq_of_covers 8 _ (by decide +kernel) fun t hf y => ?_
  blk_simp
  rw [after0_8]
  unfold outsAt0
  frame_out
  unfold_payloads
  pointwise
  simp only [zero_sub]
  unfold dy prod gate
  have e := (idx t).2.2.2.2.2.2.2.2.2.2
  blk_point [iblk, V, idx t]

/-- The convolution branch's output. -/
theorem arr9 (c : Dev nD) : (dats m 0 c).arrAt 9 cfg0.N = dy 1024 (by omega) (m (c.tc.loc main_arg0)) (m (c.tc.loc main_arg3)) (m (c.tc.loc main_arg4)) := by
  refine (dats m 0 c).arrAt_eq_of_covers 9 _ (by decide +kernel) fun t hf y => ?_
  blk_simp
  rw [after0_9]
  unfold outsAt0
  frame_out
  unfold_payloads
  pointwise
  simp only [zero_sub]
  unfold dy prod gate
  have e := (idx t).2.2.2.2.2.2.2.2.2.2
  blk_point [iblk, V, idx t]

/-- The kernel's run, with the results named. -/
theorem runK (ρ : Dev nD → PrngReg) :
    θ_run defs (onTc (τ := τ) (main (F := Ideal))) ⟨m, fun _ => 0, ρ⟩ fun r => ∀ c : Dev nD,
      r.2.mem (c.tc.loc main_v1_0) = dz 0 (by omega) (m (c.tc.loc main_arg0)) (m (c.tc.loc main_arg1)) (m (c.tc.loc main_arg3)) (m (c.tc.loc main_arg4)) ∧
      r.2.mem (c.tc.loc main_v1_1) = dz 1024 (by omega) (m (c.tc.loc main_arg0)) (m (c.tc.loc main_arg2)) (m (c.tc.loc main_arg3)) (m (c.tc.loc main_arg4)) ∧
      r.2.mem (c.tc.loc main_v1_2) = dy 0 (by omega) (m (c.tc.loc main_arg0)) (m (c.tc.loc main_arg3)) (m (c.tc.loc main_arg4)) ∧
      r.2.mem (c.tc.loc main_v1_3) = dy 1024 (by omega) (m (c.tc.loc main_arg0)) (m (c.tc.loc main_arg3)) (m (c.tc.loc main_arg4)) ∧
      r.2.mem (c.tc.loc main_arg0) = m (c.tc.loc main_arg0) ∧
      r.2.mem (c.tc.loc main_arg1) = m (c.tc.loc main_arg1) ∧
      r.2.mem (c.tc.loc main_arg2) = m (c.tc.loc main_arg2) ∧
      r.2.mem (c.tc.loc main_arg3) = m (c.tc.loc main_arg3) ∧
      r.2.mem (c.tc.loc main_arg4) = m (c.tc.loc main_arg4) :=
  (θ_run defs _ _).mono (fun _ h c => ⟨(h c).1.trans (arr6 m c), (h c).2.1.trans (arr7 m c), (h c).2.2.1.trans (arr8 m c),
    (h c).2.2.2.1.trans (arr9 m c), (h c).2.2.2.2⟩) (Cert.Kernel2Ideal.Value.run_blocks m ρ)

/-- The reference's run, with the results named. -/
theorem runR (m : (ℓ : Loc Cert.Reference2Ideal.nD Cert.Reference2Ideal.τ Cert.Reference2Ideal.sig) → Buf (Elt Ideal) ℓ)
    (ρ : Dev Cert.Reference2Ideal.nD → PrngReg) :
    θ_run Cert.Reference2Ideal.defs (onTc (τ := Cert.Reference2Ideal.τ) (Cert.Reference2Ideal.main (F := Ideal))) ⟨m, fun _ => 0, ρ⟩ fun r => ∀ c : Dev Cert.Reference2Ideal.nD,
      r.2.mem (c.tc.loc Cert.Reference2Ideal.main_v28) = dz 0 (by omega) (m (c.tc.loc Cert.Reference2Ideal.main_arg0)) (m (c.tc.loc Cert.Reference2Ideal.main_arg1)) (m (c.tc.loc Cert.Reference2Ideal.main_arg3)) (m (c.tc.loc Cert.Reference2Ideal.main_arg4)) ∧
      r.2.mem (c.tc.loc Cert.Reference2Ideal.main_v29) = dz 1024 (by omega) (m (c.tc.loc Cert.Reference2Ideal.main_arg0)) (m (c.tc.loc Cert.Reference2Ideal.main_arg2)) (m (c.tc.loc Cert.Reference2Ideal.main_arg3)) (m (c.tc.loc Cert.Reference2Ideal.main_arg4)) ∧
      r.2.mem (c.tc.loc Cert.Reference2Ideal.main_v30) = dy 0 (by omega) (m (c.tc.loc Cert.Reference2Ideal.main_arg0)) (m (c.tc.loc Cert.Reference2Ideal.main_arg3)) (m (c.tc.loc Cert.Reference2Ideal.main_arg4)) ∧
      r.2.mem (c.tc.loc Cert.Reference2Ideal.main_v31) = dy 1024 (by omega) (m (c.tc.loc Cert.Reference2Ideal.main_arg0)) (m (c.tc.loc Cert.Reference2Ideal.main_arg3)) (m (c.tc.loc Cert.Reference2Ideal.main_arg4)) ∧
      r.2.mem (c.tc.loc Cert.Reference2Ideal.main_arg0) = m (c.tc.loc Cert.Reference2Ideal.main_arg0) ∧
      r.2.mem (c.tc.loc Cert.Reference2Ideal.main_arg1) = m (c.tc.loc Cert.Reference2Ideal.main_arg1) ∧
      r.2.mem (c.tc.loc Cert.Reference2Ideal.main_arg2) = m (c.tc.loc Cert.Reference2Ideal.main_arg2) ∧
      r.2.mem (c.tc.loc Cert.Reference2Ideal.main_arg3) = m (c.tc.loc Cert.Reference2Ideal.main_arg3) ∧
      r.2.mem (c.tc.loc Cert.Reference2Ideal.main_arg4) = m (c.tc.loc Cert.Reference2Ideal.main_arg4) :=
  (θ_run _ _ _).mono (fun _ h c => ⟨(h c).1.trans (by
      clear h
      funext i
      pointwise
      unfold dz prod gate
      rw [← mul_assoc]
      blk_point []), (h c).2.1.trans (by
      clear h
      funext i
      pointwise
      unfold dz prod gate
      rw [← mul_assoc]), (h c).2.2.1.trans (by
      clear h
      funext i
      pointwise
      unfold dy prod gate
      rw [mul_comm]
      blk_point []), (h c).2.2.2.1.trans (by
      clear h
      funext i
      pointwise
      unfold dy prod gate
      rw [mul_comm]), (h c).2.2.2.2⟩) (Cert.Reference2Ideal.Value.run m ρ)

end Cert.GateGrad

end
-- ==== Proof.Ff2Bwd.lean ====
/- The value of the second MLP product's data gradient (the call `ff2_bwd`) -/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

@[expose] public section

set_option maxRecDepth 16384

noncomputable section

namespace Cert.Ff2Bwd

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The gradient at one entry: the row of `df` against the row of `w`, times twice the positive part of `a`. -/
def G (a : S8192x4096.Idx → EReal) (w : S4096x1024.Idx → EReal) (df : S8192x1024.Idx → EReal)
    (i : S8192x4096.Idx) : EReal :=
  (∑ k : Fin 1024, df (ix2 (i 0) k) * w (ix2 (i 1) k)) * Ideal.ofBits FTy.f32 0x40000000#32 * max (a i) 0

theorem idx : ∀ t : Fin grid0.N, win0_0.index t = ![(grid0.coords t 0).val, 0] ∧
    win0_1.index t = ![(grid0.coords t 1).val, 0] ∧
    win0_2.index t = ![(grid0.coords t 0).val, (grid0.coords t 1).val] ∧
    win0_3.index t = ![(grid0.coords t 0).val, (grid0.coords t 1).val] := by
  decide +kernel

theorem arr (c : Dev nD) : (dats m 0 c).arrAt 3 cfg0.N = G (m (c.tc.loc main_arg0)) (m (c.tc.loc main_arg1)) (m (c.tc.loc main_arg2)) := by
  refine (dats m 0 c).arrAt_eq_of_covers 3 _ (by decide +kernel) fun t hf y => ?_
  blk_simp
  rw [after0_3]
  unfold outsAt0
  frame_out
  unfold_payloads
  pointwise
  unfold G
  blk_point [iblk, V, idx t]

/-- The kernel's run, with the result named. -/
theorem runK (ρ : Dev nD → PrngReg) : θ_run defs (onTc (τ := τ) (main (F := Ideal))) ⟨m, fun _ => 0, ρ⟩ fun r => ∀ c : Dev nD,
      r.2.mem (c.tc.loc main_v1) = G (m (c.tc.loc main_arg0)) (m (c.tc.loc main_arg1)) (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun _ h c => ⟨(h c).1.trans (arr m c), (h c).2⟩) (Cert.Kernel3Ideal.Value.run_blocks m ρ)

/-- Where `a` is not positive the gradient of the squared positive part is zero on both sides. -/
theorem relu2_grad (g a z : EReal) : (if 0 < a then g * (z * max a 0) else 0) = g * z * max a 0 := by
  split
  · rw [mul_assoc]
  · rename_i h
    rw [max_eq_right (not_lt.mp h), mul_zero]

/-- The reference's run, with the result named. -/
theorem runR (m : (ℓ : Loc Cert.Reference3Ideal.nD Cert.Reference3Ideal.τ Cert.Reference3Ideal.sig) → Buf (Elt Ideal) ℓ)
    (ρ : Dev Cert.Reference3Ideal.nD → PrngReg) :
    θ_run Cert.Reference3Ideal.defs (onTc (τ := Cert.Reference3Ideal.τ) (Cert.Reference3Ideal.main (F := Ideal))) ⟨m, fun _ => 0, ρ⟩ fun r => ∀ c : Dev Cert.Reference3Ideal.nD,
      r.2.mem (c.tc.loc Cert.Reference3Ideal.main_v14) = G (m (c.tc.loc Cert.Reference3Ideal.main_arg0)) (m (c.tc.loc Cert.Reference3Ideal.main_arg1)) (m (c.tc.loc Cert.Reference3Ideal.main_arg2))
      ∧ r.2.mem (c.tc.loc Cert.Reference3Ideal.main_arg0) = m (c.tc.loc Cert.Reference3Ideal.main_arg0)
      ∧ r.2.mem (c.tc.loc Cert.Reference3Ideal.main_arg1) = m (c.tc.loc Cert.Reference3Ideal.main_arg1)
      ∧ r.2.mem (c.tc.loc Cert.Reference3Ideal.main_arg2) = m (c.tc.loc Cert.Reference3Ideal.main_arg2) :=
  (θ_run _ _ _).mono (fun _ h c => ⟨(h c).1.trans (by
      funext i
      pointwise
      unfold G
      exact relu2_grad _ _ _), (h c).2⟩) (Cert.Reference3Ideal.Value.run m ρ)

end Cert.Ff2Bwd

end
-- ==== Proof.Ff2Dw.lean ====
/- The value of the second MLP product's weight gradient (the call `ff2_dw`). -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Ff2Dw

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The weight gradient at one entry: a column of the squared positive part of `a` against a column of `df`. -/
def G (a : S8192x4096.Idx → EReal) (df : S8192x1024.Idx → EReal) (i : S4096x1024.Idx) : EReal :=
  ∑ k : Fin 8192, max (a (ix2 k (i 0))) 0 * max (a (ix2 k (i 0))) 0 * df (ix2 k (i 1))

/-- Eight points in a row sweep the rows for one block of the result. -/
theorem idx : ∀ t : Fin grid0.N, win0_0.index t = ![t.val % 8, t.val / 8] ∧
    win0_1.index t = ![t.val % 8, 0] ∧
    win0_2.index t = ![t.val / 8, 0] := by
  decide +kernel

/-- What one point adds to the accumulator, from the blocks it sees. -/
def part (a : S1024x2048.Idx → EReal) (b : S1024x1024.Idx → EReal) (y : S2048x1024.Idx) : EReal :=
  ∑ x : Fin 1024, max (a (ix2 x (y 0))) 0 * max (a (ix2 x (y 0))) 0 * b (ix2 x (y 1))

/-- The body's sum is the accumulator plus `part`. -/
theorem pay2 (a : Vec Ideal S1024x2048 .bf16) (x : Vec Ideal S2048x1024 .f32) (b : Vec Ideal S1024x1024 .bf16) (y : S2048x1024.Idx) :
    k0_pay2 a x b y = x y + part a b y := by
  unfold_payloads
  pointwise
  rfl

/-- The accumulator starts at zero. -/
theorem pay1 (y : S2048x1024.Idx) : k0_pay1 (F := Ideal) y = 0 := by
  unfold_payloads
  pointwise

/-- The accumulator is written out as it is. -/
theorem pay3 (x : Vec Ideal S2048x1024 .f32) (y : S2048x1024.Idx) : k0_pay3 x y = x y := by
  unfold_payloads
  pointwise

/-- The accumulator after the last of the eight points. -/
theorem scratch (c : Dev nD) (t : Fin cfg0.N) (h7 : t.val % 8 = 7) (y : S2048x1024.Idx) :
    (outsAt0 m c t.val t.isLt).2 y = 0 + ∑ s : Fin 8, part (iblk m c 0 ⟨8 * (t.val / 8) + s.val, Pipeline.run_point_lt_of_flush t h7 s⟩)
      (iblk m c 1 ⟨8 * (t.val / 8) + s.val, Pipeline.run_point_lt_of_flush t h7 s⟩) y := by
  refine Pipeline.eq_sum_fin_of_reset_step_apply_of_flush (fun n h => (outsAt0 m c n h).2) 8 (fun _ => 0)
    (fun t y => part (iblk m c 0 t) (iblk m c 1 t) y) (fun t h i => ?_) (fun t h i => ?_) t h7 y
  · rw [outsAt0_A m c t h (by omega)]
    frame_out
    rw [pay2, pay1]
  · by_cases h' : t.val % 8 = 7
    · rw [outsAt0_C m c t h h']
      frame_out
      rw [read_unread_whole, pay2]
    · rw [outsAt0_B m c t h h']
      frame_out
      rw [read_unread_whole, pay2]

/-- The result array after the run. -/
theorem arr (c : Dev nD) : (dats m 0 c).arrAt 2 cfg0.N = G (m (c.tc.loc main_arg0)) (m (c.tc.loc main_arg1)) := by
  refine (dats m 0 c).arrAt_eq_of_covers 2 _ (by decide +kernel) fun t hf y => ?_
  blk_simp
  rw [after0_2]
  have h7 : t.val % 8 = 7 := (flush0_2 t).mp hf
  have h0 : ¬ t.val % 8 = 0 := by omega
  have hs : (outsAt0 m c t.val t.isLt).1 y = (outsAt0 m c t.val t.isLt).2 y := by
    rw [outsAt0_C m c t h0 h7]
    frame_out
    rw [pay3]
  rw [hs, scratch m c t h7 y, zero_add]
  unfold G part
  refine Fin.sum_mul_add_congr fun s k hl => ?_
  blk_point [iblk, V, idx ⟨8 * (t.val / 8) + s.val, Pipeline.run_point_lt_of_flush t h7 s⟩, idx t]

/-- The kernel's run, with the result named. -/
theorem runK (ρ : Dev nD → PrngReg) : θ_run defs (onTc (τ := τ) (main (F := Ideal))) ⟨m, fun _ => 0, ρ⟩ fun r => ∀ c : Dev nD,
      r.2.mem (c.tc.loc main_v0) = G (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c).1.trans (arr m c), (h c).2⟩) (Cert.Kernel4Ideal.Value.run_blocks m ρ)

/-- The reference's run, with the result named. -/
theorem runR (m : (ℓ : Loc Cert.Reference4Ideal.nD Cert.Reference4Ideal.τ Cert.Reference4Ideal.sig) → Buf (Elt Ideal) ℓ)
    (ρ : Dev Cert.Reference4Ideal.nD → PrngReg) :
    θ_run Cert.Reference4Ideal.defs (onTc (τ := Cert.Reference4Ideal.τ) (Cert.Reference4Ideal.main (F := Ideal))) ⟨m, fun _ => 0, ρ⟩ fun r => ∀ c : Dev Cert.Reference4Ideal.nD,
      r.2.mem (c.tc.loc Cert.Reference4Ideal.main_v8) = G (m (c.tc.loc Cert.Reference4Ideal.main_arg0)) (m (c.tc.loc Cert.Reference4Ideal.main_arg1))
      ∧ r.2.mem (c.tc.loc Cert.Reference4Ideal.main_arg0) = m (c.tc.loc Cert.Reference4Ideal.main_arg0)
      ∧ r.2.mem (c.tc.loc Cert.Reference4Ideal.main_arg1) = m (c.tc.loc Cert.Reference4Ideal.main_arg1) :=
  (θ_run _ _ _).mono (fun _ h c => ⟨(h c).1.trans (by
      funext i
      pointwise
      unfold G
      exact Finset.sum_congr rfl fun _ _ => mul_comm _ _), (h c).2⟩) (Cert.Reference4Ideal.Value.run m ρ)

end Cert.Ff2Dw

end
-- ==== Proof.NormGrad.lean ====
/- The gradient of a root-mean-square norm, on all extended reals: the way that keeps the inverse root whole and the way
   that writes its cube as a quotient give the same number. -/
module

public import Idealize.ShloMosaic.Lib.Pipeline.ValueKit
public import Idealize.ShloMosaic.Lib.Pointwise

@[expose] public section

noncomputable section

namespace Cert.NormGrad

open Idealize.ShloMosaic

/-- The mean square of a row plus the small constant. -/
def ms (x : Fin 1024 → EReal) : EReal :=
  Ideal.div (∑ k, x k * x k) (Ideal.ofBits FTy.f32 1149239296#32) + Ideal.ofBits FTy.f32 897988541#32

/-- The inverse root of the mean square. -/
def inv (x : Fin 1024 → EReal) : EReal := Ideal.rsqrt (ms x)

/-- The norm's gradient with the inverse root whole. -/
def whole (x u : Fin 1024 → EReal) (j : Fin 1024) : EReal :=
  inv x * (u j - x j * inv x * Ideal.div (∑ k, u k * (x k * inv x)) (Ideal.ofBits FTy.f32 1149239296#32))

/-- The norm's gradient with the cube of the inverse root as a quotient. -/
def quot (x u : Fin 1024 → EReal) (j : Fin 1024) : EReal :=
  Ideal.div ((∑ k, x k * u k) * (Ideal.ofBits FTy.f32 3204448256#32 * Ideal.div (inv x) (ms x))) (Ideal.ofBits FTy.f32 1149239296#32)
    * (Ideal.ofBits FTy.f32 1073741824#32 * x j)

theorem width : Ideal.ofBits .f32 1149239296#32 = ((1024 : ℝ) : EReal) := by
  simp [Ideal.ofBits, Ideal.ieee, -EReal.coe_mul]; norm_num

theorem two : Ideal.ofBits .f32 1073741824#32 = ((2 : ℝ) : EReal) := by
  simp [Ideal.ofBits, Ideal.ieee, -EReal.coe_mul]; norm_num

theorem minus_half : Ideal.ofBits .f32 3204448256#32 = ((-(1 / 2) : ℝ) : EReal) := by
  simp [Ideal.ofBits, Ideal.ieee, -EReal.coe_mul, -EReal.coe_neg]; norm_num

/-- The small constant is a positive real. -/
theorem eps : ∃ e : ℝ, 0 < e ∧ Ideal.ofBits .f32 897988541#32 = (e : EReal) := by
  refine ⟨_, ?_, by simp [Ideal.ofBits, Ideal.ieee, -EReal.coe_mul]; rfl⟩
  norm_num

theorem div_width (a : EReal) : Ideal.div a (Ideal.ofBits FTy.f32 1149239296#32) = a * ((1 / 1024 : ℝ) : EReal) := by
  rw [width, Ideal.div_coe (by norm_num)]

/-- A square is not negative. -/
theorem sq_nonneg (a : EReal) : 0 ≤ a * a := by
  induction a using EReal.rec with
  | bot => simp
  | coe r => rw [← EReal.coe_mul]; exact EReal.coe_nonneg.mpr (mul_self_nonneg r)
  | top => simp

/-- A positive real distributes over a sum of extended reals. -/
theorem mul_sum (r : ℝ) (hr : 0 ≤ r) {n : ℕ} (f : Fin n → EReal) : (r : EReal) * ∑ k, f k = ∑ k, (r : EReal) * f k := by
  induction n with
  | zero => simp
  | succ n ih =>
    rw [Fin.sum_univ_succ, Fin.sum_univ_succ, EReal.left_distrib_of_nonneg_of_ne_top (EReal.coe_nonneg.mpr hr) (EReal.coe_ne_top r), ih]

/-- Where the mean square is infinite both gradients are zero; else the inverse root is a positive real. -/
theorem cases (x : Fin 1024 → EReal) : (inv x = 0 ∧ ms x = ⊤) ∨ ∃ w r : ℝ, 0 < w ∧ 0 < r ∧ r * r * w = 1 ∧ ms x = w ∧ inv x = r := by
  obtain ⟨e, he, hE⟩ := eps
  have h0 : 0 ≤ ∑ k, x k * x k := Finset.sum_nonneg fun k _ => sq_nonneg (x k)
  unfold inv ms
  rw [div_width, hE]
  generalize ∑ k, x k * x k = s at h0
  induction s using EReal.rec with
  | bot => simp at h0
  | top =>
    left
    rw [EReal.top_mul_coe_of_pos (by norm_num), EReal.top_add_coe]
    exact ⟨rfl, rfl⟩
  | coe s =>
    right
    have hs : 0 ≤ s := EReal.coe_nonneg.mp h0
    rw [← EReal.coe_mul, ← EReal.coe_add]
    have hw : 0 < s * (1 / 1024) + e := by positivity
    generalize s * (1 / 1024) + e = w at hw ⊢
    refine ⟨w, (Real.sqrt w)⁻¹, hw, by positivity, ?_, rfl, ?_⟩
    · rw [← mul_inv, Real.mul_self_sqrt hw.le, inv_mul_cancel₀ hw.ne']
    · show (if _ then _ else _) = _
      rw [if_neg (by linarith), if_neg (by linarith)]

/-- The two gradients are equal, added to anything. -/
theorem eq (x u : Fin 1024 → EReal) (d : EReal) (j : Fin 1024) : d + whole x u j = d + u j * inv x + quot x u j := by
  rw [add_assoc]
  congr 1
  unfold whole quot
  rw [div_width, div_width, two, minus_half]
  rcases cases x with ⟨hi, hm⟩ | ⟨w, r, hw, hr, h1, hm, hi⟩
  · rw [hi, hm]
    simp [Ideal.div]
  · rw [hi, hm, Ideal.div_coe hw.ne']
    have hS : ∑ k, u k * (x k * (r : EReal)) = (r : EReal) * ∑ k, x k * u k := by
      rw [mul_sum r hr.le]
      exact Finset.sum_congr rfl fun k _ => by rw [mul_comm (u k), mul_comm (x k), mul_assoc]
    rw [hS]
    generalize ∑ k, x k * u k = S
    rw [sub_eq_add_neg, EReal.left_distrib_of_nonneg_of_ne_top (EReal.coe_nonneg.mpr hr.le) (EReal.coe_ne_top r), mul_comm (u j)]
    congr 1
    have e1 : (r : EReal) * -(x j * r * (r * S * ((1 / 1024 : ℝ) : EReal))) = ((-(r * r * r / 1024) : ℝ) : EReal) * (x j * S) := by
      have : -(x j * r * (r * S * ((1 / 1024 : ℝ) : EReal))) = ((-1 : ℝ) : EReal) * (x j * r * (r * S * ((1 / 1024 : ℝ) : EReal))) := by
        rw [EReal.coe_neg, EReal.coe_one, neg_mul, one_mul]
      rw [this]
      have : (-(r * r * r / 1024) : ℝ) = r * (-1) * r * r * (1 / 1024) := by ring
      rw [this, EReal.coe_mul, EReal.coe_mul, EReal.coe_mul, EReal.coe_mul]
      ac_rfl
    have e2 : S * (((-(1 / 2) : ℝ) : EReal) * ((r : EReal) * ((1 / w : ℝ) : EReal))) * ((1 / 1024 : ℝ) : EReal) * (((2 : ℝ) : EReal) * x j)
        = ((-(r * r * r / 1024) : ℝ) : EReal) * (x j * S) := by
      have hw' : 1 / w = r * r := by field_simp; linarith
      have : (-(r * r * r / 1024) : ℝ) = -(1 / 2) * r * (1 / w) * (1 / 1024) * 2 := by rw [hw']; ring
      rw [this, EReal.coe_mul, EReal.coe_mul, EReal.coe_mul, EReal.coe_mul]
      ac_rfl
    rw [e1, e2]

end Cert.NormGrad

end
-- ==== Proof.MidBwdRef.lean ====
/- The reference's gradient through the MLP's norm, entry by entry. -/
module

public import proofs.«01_k».proof.Proof.Gen.Reference5Ideal.Run
public import Idealize.ShloMosaic.Lib.Pipeline.ValueKit
public import Idealize.ShloMosaic.Lib.Pointwise
public import proofs.«01_k».proof.Proof.NormGrad

@[expose] public section

set_option maxRecDepth 16384

noncomputable section

namespace Cert.MidBwd.Ref

open Cert.Reference5Ideal Cert.Reference5Ideal.Gen Idealize.ShloMosaic Idealize.ShloMosaic.TcCoe Idealize.SL.Sem

open Cert.NormGrad (whole quot ms)

/-- Row `s` of sequence `b`. -/
def row (b : Fin 4) (s : Fin 2048) : Fin 8192 := ⟨b.val * 2048 + s.val, by have := b.isLt; have := s.isLt; omega⟩

/-- The reference's product. -/
theorem product (a : FVec Ideal S8192x4096 .bf16) (w : FVec Ideal S1024x4096 .f32) (i : S8192x1024.Idx) :
    (shapeCast S8192x1024 (Host.dotGeneral dot_S4x2048x4096_S1024x4096_S4x2048x1024_2_1_01_0_n_n none (shapeCast S4x2048x4096 (extf .f32 a bitsLt_bf16_f32) shapeCasts_S8192x4096_S4x2048x4096) w) shapeCasts_S4x2048x1024_S8192x1024 : FVec Ideal S8192x1024 .f32) i
    = ∑ k : Fin 4096, a (ix2 (i 0) k) * w (ix2 (i 1) k) := by
  pointwise

/-- The reference's residual. -/
theorem residual (x : FVec Ideal S8192x1024 .f32) (mx : FVec Ideal S8192x1024 .bf16) (g : FVec Ideal S4x1x1024 .f32) (i : S8192x1024.Idx) :
    (shapeCast S8192x1024 (addf (shapeCast S4x2048x1024 x shapeCasts_S8192x1024_S4x2048x1024) (mulf (broadcastInDim S4x2048x1024 ![0, 1, 2] bcast_S4x1x1024_S4x2048x1024_0_1_2 g) (shapeCast S4x2048x1024 (extf .f32 mx bitsLt_bf16_f32) shapeCasts_S8192x1024_S4x2048x1024))) shapeCasts_S4x2048x1024_S8192x1024 : FVec Ideal S8192x1024 .f32) i
    = x i + g (ix3 ⟨(i 0).val / 2048, by have : (i 0).val < 8192 := (i 0).isLt; omega⟩ 0 (i 1)) * mx i := by
  pointwise

/-- Reading an array of sequences by rows. -/
theorem rows (X : FVec Ideal S4x2048x1024 .f32) (Y : S8192x1024.Idx → EReal) (hX : ∀ i, (shapeCast S8192x1024 X shapeCasts_S4x2048x1024_S8192x1024 : FVec Ideal S8192x1024 .f32) i = Y i) (b : Fin 4) (s : Fin 2048) (j : Fin 1024) :
    X (ix3 b s j) = Y (ix2 (row b s) j) := by
  rw [← hX]
  unfold row
  pointwise

/-- The rows of a sequence summed. -/
theorem seqSum (X : FVec Ideal S4x2048x1024 .f32) (Y : S8192x1024.Idx → EReal) (hX : ∀ i, (shapeCast S8192x1024 X shapeCasts_S4x2048x1024_S8192x1024 : FVec Ideal S8192x1024 .f32) i = Y i) (i : S4x1x1024.Idx) :
    (shapeCast S4x1x1024 (Host.reduceAdd X (constant S_ .f32 0x00000000#32) reducesTo_S4x2048x1024_S4x1024_d1 h_S_) shapeCasts_S4x1024_S4x1x1024 : FVec Ideal S4x1x1024 .f32) i
    = ∑ s : Fin 2048, Y (ix2 (row (i 0) s) (i 2)) := by
  pointwise
  exact Finset.sum_congr (M := EReal) rfl fun s _ => rows X Y hX (i 0) s (i 2)

/-- A sum over the first two axes of three, entry by entry. -/
theorem over01 {a b n : Nat} {t : Shape} (h : (⟨3, ![a, b, n]⟩ : Shape).ReducesTo [0, 1] t) (v : (⟨3, ![a, b, n]⟩ : Shape).Idx → EReal) (z : EReal)
    (j : t.Idx) (r : Fin n) (hr : ∀ i, h.drop i = j ↔ i 2 = r) : Ideal.hostReduceAdd h v z j = z + ∑ p : Fin a, ∑ q : Fin b, v (ix3 p q r) := by
  have e : ∑ i ∈ Finset.univ.filter (fun i => h.drop i = j), v i = ∑ k : Fin a × Fin b, v (ix3 k.1 k.2 r) := by
    refine Finset.sum_filter_eq_sum_of_fiber _ (fun k : Fin a × Fin b => ix3 k.1 k.2 r)
      (fun _ _ e => Prod.ext (congrFun e 0) (congrFun e 1)) (fun i => (hr i).trans ⟨fun e => ⟨(i 0, i 1), ?_⟩, ?_⟩) v
    · funext d
      fin_cases d
      · rfl
      · rfl
      · exact e.symm
    · rintro ⟨k, rfl⟩
      rfl
  exact (congrArg (z + ·) e).trans (congrArg (z + ·) (Fintype.sum_prod_type _))

/-- Dropping the first two coordinates keeps the third. -/
theorem drop01 {a b n : Nat} (h : (⟨3, ![a, b, n]⟩ : Shape).ReducesTo [0, 1] ⟨1, ![n]⟩) (r : Fin n) (i : (⟨3, ![a, b, n]⟩ : Shape).Idx) :
    h.drop i = ix1 r ↔ i 2 = r := by
  constructor
  · intro e
    exact Fin.ext (congrArg Fin.val (congrFun e 0))
  · intro e
    funext d
    fin_cases d
    exact e

/-- All rows summed. -/
theorem allSum (X : FVec Ideal S4x2048x1024 .f32) (Y : S8192x1024.Idx → EReal) (hX : ∀ i, (shapeCast S8192x1024 X shapeCasts_S4x2048x1024_S8192x1024 : FVec Ideal S8192x1024 .f32) i = Y i) (i : S1x1024.Idx) :
    (shapeCast S1x1024 (Host.reduceAdd (shapeCast S1x1x1024 (Host.reduceAdd X (constant S_ .f32 0x00000000#32) reducesTo_S4x2048x1024_S1024_d0_1 h_S_) shapeCasts_S1024_S1x1x1024) (constant S_ .f32 0x00000000#32) reducesTo_S1x1x1024_S1024_d0_1 h_S_) shapeCasts_S1024_S1x1024 : FVec Ideal S1x1024 .f32) i
    = ∑ b : Fin 4, ∑ s : Fin 2048, Y (ix2 (row b s) (i 1)) := by
  pointwise
  refine (over01 _ _ _ _ (i 1) (drop01 _ _)).trans ?_
  rw [zero_add, Fin.sum_univ_one, Fin.sum_univ_one]
  pointwise
  refine (over01 _ _ _ _ (i 1) (drop01 _ _)).trans ?_
  rw [zero_add]
  exact Finset.sum_congr (M := EReal) rfl fun b _ => Finset.sum_congr (M := EReal) rfl fun s _ => rows X Y hX b s (i 1)

/-- What a row adds to the scale's gradient. -/
theorem scale (X : FVec Ideal S4x2048x1024 .f32) (Y : S8192x1024.Idx → EReal) (hX : ∀ i, (shapeCast S8192x1024 X shapeCasts_S4x2048x1024_S8192x1024 : FVec Ideal S8192x1024 .f32) i = Y i) (H : FVec Ideal S4x2048x1024 .f32) (Z : S8192x1024.Idx → EReal) (hH : ∀ i, (shapeCast S8192x1024 H shapeCasts_S4x2048x1024_S8192x1024 : FVec Ideal S8192x1024 .f32) i = Z i) (n : FVec Ideal S1024 .f32) (i : S8192x1024.Idx) :
    (shapeCast S8192x1024 (mulf (mulf (mulf X (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf X X) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 n))) H) shapeCasts_S4x2048x1024_S8192x1024 : FVec Ideal S8192x1024 .f32) i
    = Z i * (Y i * Cert.NormGrad.inv fun k => Y (ix2 (i 0) k)) * n (ix1 (i 1)) := by
  obtain rfl : Y = _ := (funext hX).symm
  obtain rfl : Z = _ := (funext hH).symm
  unfold Cert.NormGrad.inv ms
  rw [mul_assoc, mul_comm]
  pointwise

/-- What a row adds to the gain's gradient. -/
theorem gain (X : FVec Ideal S4x2048x1024 .f32) (Y : S8192x1024.Idx → EReal) (hX : ∀ i, (shapeCast S8192x1024 X shapeCasts_S4x2048x1024_S8192x1024 : FVec Ideal S8192x1024 .f32) i = Y i) (H : FVec Ideal S4x2048x1024 .f32) (Z : S8192x1024.Idx → EReal) (hH : ∀ i, (shapeCast S8192x1024 H shapeCasts_S4x2048x1024_S8192x1024 : FVec Ideal S8192x1024 .f32) i = Z i) (sc : FVec Ideal S4x1x1024 .f32) (i : S8192x1024.Idx) :
    (shapeCast S8192x1024 (mulf (mulf X (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf X X) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (mulf H (broadcastInDim S4x2048x1024 ![0, 1, 2] bcast_S4x1x1024_S4x2048x1024_0_1_2 (addf (broadcastInDim S4x1x1024 ![] bcast_S_S4x1x1024 (constant S_ .f32 0x3F800000#32)) sc)))) shapeCasts_S4x2048x1024_S8192x1024 : FVec Ideal S8192x1024 .f32) i
    = Z i * (1 + sc (ix3 ⟨(i 0).val / 2048, by have : (i 0).val < 8192 := (i 0).isLt; omega⟩ 0 (i 1))) * (Y i * Cert.NormGrad.inv fun k => Y (ix2 (i 0) k)) := by
  obtain rfl : Y = _ := (funext hX).symm
  obtain rfl : Z = _ := (funext hH).symm
  unfold Cert.NormGrad.inv ms
  rw [mul_comm]
  pointwise

/-- What a row adds to the gate's gradient. -/
theorem gate (X : FVec Ideal S4x2048x1024 .f32) (Y : S8192x1024.Idx → EReal) (hX : ∀ i, (shapeCast S8192x1024 X shapeCasts_S4x2048x1024_S8192x1024 : FVec Ideal S8192x1024 .f32) i = Y i) (mx : FVec Ideal S8192x1024 .bf16) (i : S8192x1024.Idx) :
    (shapeCast S8192x1024 (mulf X (shapeCast S4x2048x1024 (extf .f32 mx bitsLt_bf16_f32) shapeCasts_S8192x1024_S4x2048x1024)) shapeCasts_S4x2048x1024_S8192x1024 : FVec Ideal S8192x1024 .f32) i = Y i * mx i := by
  obtain rfl : Y = _ := (funext hX).symm
  pointwise

/-- The mixed branch's gradient. -/
theorem mixed (X : FVec Ideal S4x2048x1024 .f32) (Y : S8192x1024.Idx → EReal) (hX : ∀ i, (shapeCast S8192x1024 X shapeCasts_S4x2048x1024_S8192x1024 : FVec Ideal S8192x1024 .f32) i = Y i) (g : FVec Ideal S4x1x1024 .f32) (i : S8192x1024.Idx) :
    (truncf .bf16 (shapeCast S8192x1024 (mulf (broadcastInDim S4x2048x1024 ![0, 1, 2] bcast_S4x1x1024_S4x2048x1024_0_1_2 g) X) shapeCasts_S4x2048x1024_S8192x1024) bitsLt_bf16_f32 : FVec Ideal S8192x1024 .bf16) i
    = g (ix3 ⟨(i 0).val / 2048, by have : (i 0).val < 8192 := (i 0).isLt; omega⟩ 0 (i 1)) * Y i := by
  obtain rfl : Y = _ := (funext hX).symm
  pointwise

/-- The residual's gradient. -/
theorem grad (X : FVec Ideal S4x2048x1024 .f32) (Y : S8192x1024.Idx → EReal) (hX : ∀ i, (shapeCast S8192x1024 X shapeCasts_S4x2048x1024_S8192x1024 : FVec Ideal S8192x1024 .f32) i = Y i) (H : FVec Ideal S4x2048x1024 .f32) (Z : S8192x1024.Idx → EReal) (hH : ∀ i, (shapeCast S8192x1024 H shapeCasts_S4x2048x1024_S8192x1024 : FVec Ideal S8192x1024 .f32) i = Z i) (d : FVec Ideal S8192x1024 .f32) (sc : FVec Ideal S4x1x1024 .f32) (n : FVec Ideal S1024 .f32) (i : S8192x1024.Idx) :
    (shapeCast S8192x1024 (addf (addf (shapeCast S4x2048x1024 d shapeCasts_S8192x1024_S4x2048x1024) (mulf (mulf (mulf H (broadcastInDim S4x2048x1024 ![0, 1, 2] bcast_S4x1x1024_S4x2048x1024_0_1_2 (addf (broadcastInDim S4x1x1024 ![] bcast_S_S4x1x1024 (constant S_ .f32 0x3F800000#32)) sc))) (broadcastInDim S4x2048x1024 ![0, 1, 2] bcast_S1x1x1024_S4x2048x1024_0_1_2 (broadcastInDim S1x1x1024 ![2] bcast_S1024_S1x1x1024_2 n))) (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf X X) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32))))))) (mulf (broadcastInDim S4x2048x1024 ![0, 1] bcast_S4x2048_S4x2048x1024_0_1 (Host.reduceAdd (Host.divf (mulf (shapeCast S4x2048x1 (Host.reduceAdd (mulf X (mulf (mulf H (broadcastInDim S4x2048x1024 ![0, 1, 2] bcast_S4x1x1024_S4x2048x1024_0_1_2 (addf (broadcastInDim S4x1x1024 ![] bcast_S_S4x1x1024 (constant S_ .f32 0x3F800000#32)) sc))) (broadcastInDim S4x2048x1024 ![0, 1, 2] bcast_S1x1x1024_S4x2048x1024_0_1_2 (broadcastInDim S1x1x1024 ![2] bcast_S1024_S1x1x1024_2 n)))) (constant S_ .f32 0x00000000#32) reducesTo_S4x2048x1024_S4x2048_d2 h_S_) shapeCasts_S4x2048_S4x2048x1) (mulf (broadcastInDim S4x2048x1 ![] bcast_S_S4x2048x1 (constant S_ .f32 0xBF000000#32)) (Host.divf (Host.rsqrt (addf (Host.divf (broadcastInDim S4x2048x1 ![0, 1] bcast_S4x2048_S4x2048x1_0_1 (Host.reduceAdd (mulf X X) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))) (addf (Host.divf (broadcastInDim S4x2048x1 ![0, 1] bcast_S4x2048_S4x2048x1_0_1 (Host.reduceAdd (mulf X X) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1 ![] bcast_S_S4x2048x1 (constant S_ .f32 0x44800000#32))) (constant S_ .f32 0x00000000#32) reducesTo_S4x2048x1_S4x2048_d2 h_S_)) (mulf (broadcastInDim S4x2048x1024 ![] bcast_S_S4x2048x1024 (constant S_ .f32 0x40000000#32)) X))) shapeCasts_S4x2048x1024_S8192x1024 : FVec Ideal S8192x1024 .f32) i
    = d i + whole (fun k => Y (ix2 (i 0) k)) (fun k => Z (ix2 (i 0) k) * (1 + sc (ix3 ⟨(i 0).val / 2048, by have : (i 0).val < 8192 := (i 0).isLt; omega⟩ 0 k)) * n (ix1 k)) (i 1) := by
  refine Eq.trans ?_ (Cert.NormGrad.eq _ _ _ _).symm
  obtain rfl : Y = _ := (funext hX).symm
  obtain rfl : Z = _ := (funext hH).symm
  unfold quot Cert.NormGrad.inv ms
  pointwise
  rw [Fin.sum_univ_one]

end Cert.MidBwd.Ref

end
-- ==== Proof.MidBwd.lean ====
/- The value of the gradient through the MLP's norm, modulation and residual gate (the call `ff1_bwd`). -/
module

public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Lib.Pointwise
public import proofs.«01_k».proof.Proof.MidBwdRef

@[expose] public section

set_option maxRecDepth 16384

noncomputable section

namespace Cert.MidBwd

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

open Cert.NormGrad (inv whole)
open Cert.MidBwd.Ref (row)

/-- The sequence a row belongs to. -/
def bat (r : Fin 8192) : Fin 4 := ⟨r.val / 2048, by have := r.isLt; omega⟩

/-- The first residual. -/
def x1 (x mx : S8192x1024.Idx → EReal) (g : S4x1x1024.Idx → EReal) (i : S8192x1024.Idx) : EReal :=
  x i + g (ix3 (bat (i 0)) 0 (i 1)) * mx i

/-- The gradient at the norm's modulated output: the pre-activation's gradient against the weight. -/
def dh (da : S8192x4096.Idx → EReal) (w : S1024x4096.Idx → EReal) (i : S8192x1024.Idx) : EReal :=
  ∑ k : Fin 4096, da (ix2 (i 0) k) * w (ix2 (i 1) k)

/-- The gradient at the norm's output, before the scale. -/
def dn (h : S8192x1024.Idx → EReal) (sc : S4x1x1024.Idx → EReal) (i : S8192x1024.Idx) : EReal :=
  h i * (1 + sc (ix3 (bat (i 0)) 0 (i 1)))

/-- The gradient at the normed rows, before the gain. -/
def du (h : S8192x1024.Idx → EReal) (sc : S4x1x1024.Idx → EReal) (n : S1024.Idx → EReal) (i : S8192x1024.Idx) : EReal :=
  dn h sc i * n (ix1 (i 1))

/-- An entry of the normed rows. -/
def xh (X : S8192x1024.Idx → EReal) (i : S8192x1024.Idx) : EReal := X i * inv fun k => X (ix2 (i 0) k)

/-- The gradient at the residual: what comes past the norm and what comes through it. -/
def dx (d X h : S8192x1024.Idx → EReal) (sc : S4x1x1024.Idx → EReal) (n : S1024.Idx → EReal) (i : S8192x1024.Idx) : EReal :=
  d i + whole (fun k => X (ix2 (i 0) k)) (fun k => du h sc n (ix2 (i 0) k)) (i 1)

/-- The gradient at the mixed branch. -/
def dmix (g : S4x1x1024.Idx → EReal) (D : S8192x1024.Idx → EReal) (i : S8192x1024.Idx) : EReal :=
  g (ix3 (bat (i 0)) 0 (i 1)) * D i

/-- What a row adds to the scale's gradient. -/
def tScale (X h : S8192x1024.Idx → EReal) (n : S1024.Idx → EReal) (i : S8192x1024.Idx) : EReal := h i * xh X i * n (ix1 (i 1))

/-- What a row adds to the gate's gradient. -/
def tGate (D mx : S8192x1024.Idx → EReal) (i : S8192x1024.Idx) : EReal := D i * mx i

/-- What a row adds to the gain's gradient. -/
def tGain (X h : S8192x1024.Idx → EReal) (sc : S4x1x1024.Idx → EReal) (i : S8192x1024.Idx) : EReal := dn h sc i * xh X i

/-- The rows of a sequence summed. -/
def seqSum (T : S8192x1024.Idx → EReal) (i : S4x1x1024.Idx) : EReal := ∑ s : Fin 2048, T (ix2 (row (i 0) s) (i 2))

/-- All rows summed. -/
def allSum (T : S8192x1024.Idx → EReal) (i : S1x1024.Idx) : EReal := ∑ b : Fin 4, ∑ s : Fin 2048, T (ix2 (row b s) (i 1))

/-- Which block each window shows at a grid point: 512 rows of one sequence. -/
theorem idx : ∀ t : Fin grid0.N, win0_0.index t = ![t.val, 0] ∧ win0_1.index t = ![0, 0] ∧ win0_2.index t = ![t.val, 0] ∧
    win0_3.index t = ![t.val, 0] ∧ win0_4.index t = ![t.val, 0] ∧ win0_5.index t = ![t.val / 4, 0, 0] ∧
    win0_6.index t = ![t.val / 4, 0, 0] ∧ win0_7.index t = ![0, 0] ∧ win0_8.index t = ![t.val, 0] ∧ win0_9.index t = ![t.val, 0] ∧
    win0_10.index t = ![t.val / 4, 0, 0] ∧ win0_11.index t = ![t.val / 4, 0, 0] ∧ win0_12.index t = ![t.val / 4, 0, 0] ∧
    win0_13.index t = ![0, 0] := by
  decide +kernel

/-- The body's product. -/
theorem pay2 (a : Vec Ideal S512x4096 .bf16) (w : Vec Ideal S4096x1024 .bf16) (y : S512x1024.Idx) :
    k0_pay2 a (k0_pay1 (F := Ideal)) w y = ∑ k : Fin 4096, a (ix2 (y 0) k) * w (ix2 k (y 1)) := by
  unfold_payloads
  pointwise

/-- The body's gradient through the norm. -/
theorem pay14 (f x : Vec Ideal S512x1024 .f32) (sc : Vec Ideal S1x1x1024 .f32) (n : Vec Ideal S1x1024 .f32) (y : S512x1024.Idx) :
    k0_pay14 f x sc n y = whole (fun k => x (ix2 (y 0) k)) (fun k => f (ix2 (y 0) k) * (1 + sc (ix3 0 0 k)) * n (ix2 0 k)) (y 1) := by
  unfold whole Cert.NormGrad.inv Cert.NormGrad.ms
  unfold_payloads
  pointwise

/-- The residual's gradient. -/
theorem pay18 (d v : Vec Ideal S512x1024 .f32) (y : S512x1024.Idx) : k0_pay18 d v y = d y + v y := by
  unfold_payloads
  pointwise

/-- The mixed branch's gradient. -/
theorem pay20 (d v : Vec Ideal S512x1024 .f32) (g : Vec Ideal S1x1x1024 .f32) (y : S512x1024.Idx) :
    k0_pay20 d (k0_pay9 g) v y = g (ix3 0 0 (y 1)) * k0_pay18 d v y := by
  unfold_payloads
  pointwise

/-- What a block adds for the scale. -/
def add10 (f x : Vec Ideal S512x1024 .f32) (n : Vec Ideal S1x1024 .f32) (y : S1x1x1024.Idx) : EReal :=
  ∑ k : Fin 512, f (ix2 k (y 2)) * (x (ix2 k (y 2)) * inv fun j => x (ix2 k j)) * n (ix2 0 (y 2))

/-- What a block adds for the shift. -/
def add11 (f : Vec Ideal S512x1024 .f32) (y : S1x1x1024.Idx) : EReal := ∑ k : Fin 512, f (ix2 k (y 2))

/-- What a block adds for the gate. -/
def add12 (v : Vec Ideal S512x1024 .f32) (mx : Vec Ideal S512x1024 .bf16) (y : S1x1x1024.Idx) : EReal :=
  ∑ k : Fin 512, v (ix2 k (y 2)) * mx (ix2 k (y 2))

/-- What a block adds for the gain. -/
def add13 (f x : Vec Ideal S512x1024 .f32) (sc : Vec Ideal S1x1x1024 .f32) (y : S1x1024.Idx) : EReal :=
  ∑ k : Fin 512, f (ix2 k (y 1)) * (1 + sc (ix3 0 0 (y 1))) * (x (ix2 k (y 1)) * inv fun j => x (ix2 k j))

/-- The sum for the scale. -/
theorem pay24 (f x : Vec Ideal S512x1024 .f32) (n : Vec Ideal S1x1024 .f32) (s : Vec Ideal S1x1x1024 .f32) (y : S1x1x1024.Idx) :
    k0_pay3 (k0_pay24 (k0_pay10 n) (k0_pay15 f x) s) y
    = s y + add10 f x n y := by
  unfold add10
  unfold_payloads
  pointwise
  rfl

/-- The sum for the shift. -/
theorem pay16 (f : Vec Ideal S512x1024 .f32) (s : Vec Ideal S1x1x1024 .f32) (y : S1x1x1024.Idx) :
    k0_pay4 (k0_pay16 f) s y = s y + add11 f y := by
  unfold add11
  unfold_payloads
  pointwise

/-- The sum for the gate. -/
theorem pay19 (d v : Vec Ideal S512x1024 .f32) (mx : Vec Ideal S512x1024 .bf16) (s : Vec Ideal S1x1x1024 .f32) (y : S1x1x1024.Idx) :
    k0_pay5 (k0_pay19 d mx v) s y = s y + add12 (k0_pay18 d v) mx y := by
  unfold add12
  unfold_payloads
  pointwise

/-- The sum for the gain. -/
theorem pay17 (f x : Vec Ideal S512x1024 .f32) (sc : Vec Ideal S1x1x1024 .f32) (s : Vec Ideal S1x1024 .f32) (y : S1x1024.Idx) :
    k0_pay7 (k0_pay17 (k0_pay12 x) (k0_pay13 f sc)) s y
    = s y + add13 f x sc y := by
  unfold add13
  unfold_payloads
  pointwise
  rfl

theorem pay21 (y : S1x1x1024.Idx) : k0_pay21 (F := Ideal) y = (0 : EReal) := by
  unfold_payloads
  pointwise

theorem pay22 (y : S1x1x1024.Idx) : k0_pay22 (F := Ideal) y = (0 : EReal) := by
  unfold_payloads
  pointwise

theorem pay23 (y : S1x1x1024.Idx) : k0_pay23 (F := Ideal) y = (0 : EReal) := by
  unfold_payloads
  pointwise

theorem pay6 (y : S1x1024.Idx) : k0_pay6 (F := Ideal) y = (0 : EReal) := by
  unfold_payloads
  pointwise

/-- Row `s` of the block at point `t`. -/
def at512 (t : Fin cfg0.N) (s : Fin 512) : Fin 8192 := ⟨t.val * 512 + s.val, by have h : t.val < 16 := t.isLt; have := s.isLt; omega⟩

/-- The block at point `t` belongs to one sequence. -/
theorem bat_at (t : Fin cfg0.N) (s : Fin 512) : (bat (at512 t s)).val = t.val / 4 := by
  have := s.isLt
  show (t.val * 512 + s.val) / 2048 = t.val / 4
  omega

/-- The residual of the arguments. -/
def Xm (c : Dev nD) : S8192x1024.Idx → EReal := x1 (m (c.tc.loc main_arg0)) (m (c.tc.loc main_arg1)) (m (c.tc.loc main_arg2))

/-- The norm's output's gradient, of the arguments. -/
def Hm (c : Dev nD) : S8192x1024.Idx → EReal := dh (m (c.tc.loc main_arg8)) (m (c.tc.loc main_arg6))

/-- The residual's gradient, of the arguments. -/
def Dm (c : Dev nD) : S8192x1024.Idx → EReal := dx (m (c.tc.loc main_arg7)) (Xm m c) (Hm m c) (m (c.tc.loc main_arg4)) (m (c.tc.loc main_arg3))

/-- The rows' terms for scale, gate and gain, of the arguments. -/
def scaleM (c : Dev nD) : S8192x1024.Idx → EReal := tScale (Xm m c) (Hm m c) (m (c.tc.loc main_arg3))
def gateM (c : Dev nD) : S8192x1024.Idx → EReal := tGate (Dm m c) (m (c.tc.loc main_arg1))
def gainM (c : Dev nD) : S8192x1024.Idx → EReal := tGain (Xm m c) (Hm m c) (m (c.tc.loc main_arg4))

/-- The blocks at one point. -/
def b2 (c : Dev nD) (t : Fin cfg0.N) : Vec Ideal S512x1024 .f32 := iblk m c 2 t
def b3 (c : Dev nD) (t : Fin cfg0.N) : Vec Ideal S512x1024 .f32 := iblk m c 3 t
def b4 (c : Dev nD) (t : Fin cfg0.N) : Vec Ideal S512x1024 .bf16 := iblk m c 4 t
def b5 (c : Dev nD) (t : Fin cfg0.N) : Vec Ideal S1x1x1024 .f32 := iblk m c 5 t
def b6 (c : Dev nD) (t : Fin cfg0.N) : Vec Ideal S1x1x1024 .f32 := iblk m c 6 t
def b7 (c : Dev nD) (t : Fin cfg0.N) : Vec Ideal S1x1024 .f32 := iblk m c 7 t

/-- The product at one point. -/
def fB (c : Dev nD) (t : Fin cfg0.N) : Vec Ideal S512x1024 .f32 := k0_pay2 (iblk m c 0 t) (k0_pay1 (F := Ideal)) (iblk m c 1 t)

theorem fB_eq (c : Dev nD) (t : Fin cfg0.N) (y : S512x1024.Idx) : fB m c t y = Hm m c (ix2 (at512 t (y 0)) (y 1)) := by
  unfold fB
  rw [pay2]
  unfold Hm dh at512
  blk_point [iblk, V, idx t]

/-- The residual as the host computes it. -/
def hostX (x : FVec Ideal S8192x1024 .f32) (mx : FVec Ideal S8192x1024 .bf16) (g : FVec Ideal S4x1x1024 .f32) : FVec Ideal S8192x1024 .f32 :=
  shapeCast S8192x1024 (addf (shapeCast S4x2048x1024 x shapeCasts_S8192x1024_S4x2048x1024)
    (mulf (broadcastInDim S4x2048x1024 ![0, 1, 2] bcast_S4x1x1024_S4x2048x1024_0_1_2 g)
      (shapeCast S4x2048x1024 (extf .f32 mx bitsLt_bf16_f32) shapeCasts_S8192x1024_S4x2048x1024))) shapeCasts_S4x2048x1024_S8192x1024

theorem Vx (c : Dev nD) : V m c main_v6 = hostX (m (c.tc.loc main_arg0)) (m (c.tc.loc main_arg1)) (m (c.tc.loc main_arg2)) := by
  unfold V
  after_results_simp <;> rfl

theorem residual (x : FVec Ideal S8192x1024 .f32) (mx : FVec Ideal S8192x1024 .bf16) (g : FVec Ideal S4x1x1024 .f32) (i : S8192x1024.Idx) :
    hostX x mx g i = x1 x mx g i := by
  unfold hostX x1 bat
  pointwise

theorem xB (c : Dev nD) (t : Fin cfg0.N) (s : Fin 512) (k : Fin 1024) :
    b2 m c t (ix2 s k) = Xm m c (ix2 (at512 t s) k) := by
  have h : ∀ f : S8192x1024.Idx → EReal, ((View.whole main_v6).slice ((win0 2).rect t)).read (Elt Ideal) f (ix2 s k) = f (ix2 (at512 t s) k) := by
    intro f
    unfold at512
    blk_point [idx t]
  exact (h _).trans ((congrFun (Vx m c) _).trans (residual _ _ _ _))

theorem dB (c : Dev nD) (t : Fin cfg0.N) (y : S512x1024.Idx) :
    b3 m c t y = (m (c.tc.loc main_arg7)) (ix2 (at512 t (y 0)) (y 1)) := by
  unfold at512
  blk_point [b3, b4, b5, b6, b7, iblk, V, idx t]

theorem mB (c : Dev nD) (t : Fin cfg0.N) (s : Fin 512) (k : Fin 1024) :
    b4 m c t (ix2 s k) = (m (c.tc.loc main_arg1)) (ix2 (at512 t s) k) := by
  unfold at512
  blk_point [b3, b4, b5, b6, b7, iblk, V, idx t]

theorem scB (c : Dev nD) (t : Fin cfg0.N) (s : Fin 512) (k : Fin 1024) :
    b5 m c t (ix3 0 0 k) = (m (c.tc.loc main_arg4)) (ix3 (bat (at512 t s)) 0 k) := by
  have ht := bat_at t s
  generalize bat (at512 t s) = b at ht
  blk_point [b3, b4, b5, b6, b7, iblk, V, idx t, ht]

theorem gB (c : Dev nD) (t : Fin cfg0.N) (s : Fin 512) (k : Fin 1024) :
    b6 m c t (ix3 0 0 k) = (m (c.tc.loc main_arg2)) (ix3 (bat (at512 t s)) 0 k) := by
  have ht := bat_at t s
  generalize bat (at512 t s) = b at ht
  blk_point [b3, b4, b5, b6, b7, iblk, V, idx t, ht]

theorem nB (c : Dev nD) (t : Fin cfg0.N) (k : Fin 1024) :
    b7 m c t (ix2 0 k) = (m (c.tc.loc main_arg3)) (ix1 k) := by
  blk_point [b3, b4, b5, b6, b7, iblk, V, idx t]

/-- The residual's gradient on a block. -/
def dB18 (c : Dev nD) (t : Fin cfg0.N) : Vec Ideal S512x1024 .f32 :=
  k0_pay18 (b3 m c t) (k0_pay14 (fB m c t) (b2 m c t) (b5 m c t) (b7 m c t))

theorem dB18_eq (c : Dev nD) (t : Fin cfg0.N) (y : S512x1024.Idx) : dB18 m c t y = Dm m c (ix2 (at512 t (y 0)) (y 1)) := by
  unfold dB18
  rw [pay18, pay14, dB]
  have ha : (fun k : Fin 1024 => b2 m c t (ix2 (y 0) k)) = fun k => Xm m c (ix2 (at512 t (y 0)) k) :=
    funext fun k => xB m c t (y 0) k
  have hb : (fun k : Fin 1024 => fB m c t (ix2 (y 0) k) * (1 + b5 m c t (ix3 0 0 k)) * b7 m c t (ix2 0 k))
      = fun k => du (Hm m c) (m (c.tc.loc main_arg4)) (m (c.tc.loc main_arg3)) (ix2 (at512 t (y 0)) k) :=
    funext fun k => by
      rw [fB_eq, scB m c t (y 0) k, nB]
      rfl
  exact congrArg (HAdd.hAdd (α := EReal) (β := EReal) (γ := EReal) _) ((congrArg (fun a => whole a _ _) ha).trans (congrArg (fun b => whole _ b _) hb))

theorem xhB (c : Dev nD) (t : Fin cfg0.N) (s : Fin 512) (k : Fin 1024) :
    b2 m c t (ix2 s k) * (inv fun j => b2 m c t (ix2 s j)) = xh (Xm m c) (ix2 (at512 t s) k) := by
  have ha : (fun k : Fin 1024 => b2 m c t (ix2 s k)) = fun k => Xm m c (ix2 (at512 t s) k) :=
    funext fun k => xB m c t s k
  rw [ha, xB]
  rfl

/-- The first result at a point, whichever case it is. -/
theorem out8 (c : Dev nD) (t : Fin cfg0.N) (y : S512x1024.Idx) : (outsAt0 m c t.val t.isLt).1 y = dB18 m c t y := by
  unfold dB18 b2 b3 b5 b7 fB
  by_cases h2 : t.val % 4 = 0
  · by_cases h3 : t.val % 16 = 0
    · rw [outsAt0_A m c t h2 h3]
      frame_out
    · rw [outsAt0_C m c t h2 h3]
      frame_out
  · rw [outsAt0_B m c t h2 (by omega)]
    frame_out

/-- The second result at a point. -/
theorem out9 (c : Dev nD) (t : Fin cfg0.N) (y : S512x1024.Idx) :
    (outsAt0 m c t.val t.isLt).2.1 y = b6 m c t (ix3 0 0 (y 1)) * dB18 m c t y := by
  rw [dB18, ← pay20]
  unfold b2 b3 b5 b6 b7 fB
  by_cases h2 : t.val % 4 = 0
  · by_cases h3 : t.val % 16 = 0
    · rw [outsAt0_A m c t h2 h3]
      frame_out
    · rw [outsAt0_C m c t h2 h3]
      frame_out
  · rw [outsAt0_B m c t h2 (by omega)]
    frame_out

/-- A block's rows, summed for the scale. -/
theorem block10 (c : Dev nD) (t : Fin cfg0.N) (y : S1x1x1024.Idx) :
    add10 (fB m c t) (b2 m c t) (b7 m c t) y = ∑ k : Fin 512, scaleM m c (ix2 (at512 t k) (y 2)) :=
  Finset.sum_congr (M := EReal) rfl fun k _ => by
    have h := xhB m c t k (y 2)
    rw [h, fB_eq, nB m c t (y 2)]
    rfl

/-- A block's rows, summed for the shift. -/
theorem block11 (c : Dev nD) (t : Fin cfg0.N) (y : S1x1x1024.Idx) :
    add11 (fB m c t) y = ∑ k : Fin 512, Hm m c (ix2 (at512 t k) (y 2)) :=
  Finset.sum_congr (M := EReal) rfl fun k _ => fB_eq m c t _

/-- A block's rows, summed for the gate. -/
theorem block12 (c : Dev nD) (t : Fin cfg0.N) (y : S1x1x1024.Idx) :
    add12 (dB18 m c t) (b4 m c t) y = ∑ k : Fin 512, gateM m c (ix2 (at512 t k) (y 2)) :=
  Finset.sum_congr (M := EReal) rfl fun k _ => by
    rw [dB18_eq, mB m c t k (y 2)]
    rfl

/-- A block's rows, summed for the gain. -/
theorem block13 (c : Dev nD) (t : Fin cfg0.N) (y : S1x1024.Idx) :
    add13 (fB m c t) (b2 m c t) (b5 m c t) y = ∑ k : Fin 512, gainM m c (ix2 (at512 t k) (y 1)) :=
  Finset.sum_congr (M := EReal) rfl fun k _ => by
    have h := xhB m c t k (y 1)
    rw [h, fB_eq, scB m c t k (y 1)]
    rfl

/-- The scale's gradient after the last of a sequence's four points. -/
theorem sum10 (c : Dev nD) (t : Fin cfg0.N) (h : t.val % 4 = 3) (y : S1x1x1024.Idx) :
    (outsAt0 m c t.val t.isLt).2.2.1 y = 0 + ∑ s : Fin 4, (fun (p : Fin cfg0.N) => add10 (fB m c p) (b2 m c p) (b7 m c p) y)
      ⟨4 * (t.val / 4) + s.val, Pipeline.run_point_lt_of_flush t h s⟩ := by
  refine Pipeline.eq_sum_fin_of_reset_step_apply_of_flush (fun n h => (outsAt0 m c n h).2.2.1) 4 (fun _ => 0)
    (fun p y => add10 (fB m c p) (b2 m c p) (b7 m c p) y) (fun t h i => ?_) (fun t h i => ?_) t h y
  · unfold b2 b7 fB
    by_cases h3 : t.val % 16 = 0
    · rw [outsAt0_A m c t h h3]
      frame_out
      rw [pay24, pay21]
    · rw [outsAt0_C m c t h h3]
      frame_out
      rw [pay24, pay21]
  · unfold b2 b7 fB
    rw [outsAt0_B m c t h (by omega)]
    frame_out
    rw [pay24]

/-- The shift's gradient after the last of a sequence's four points. -/
theorem sum11 (c : Dev nD) (t : Fin cfg0.N) (h : t.val % 4 = 3) (y : S1x1x1024.Idx) :
    (outsAt0 m c t.val t.isLt).2.2.2.1 y = 0 + ∑ s : Fin 4, (fun (p : Fin cfg0.N) => add11 (fB m c p) y)
      ⟨4 * (t.val / 4) + s.val, Pipeline.run_point_lt_of_flush t h s⟩ := by
  refine Pipeline.eq_sum_fin_of_reset_step_apply_of_flush (fun n h => (outsAt0 m c n h).2.2.2.1) 4 (fun _ => 0)
    (fun p y => add11 (fB m c p) y) (fun t h i => ?_) (fun t h i => ?_) t h y
  · unfold fB
    by_cases h3 : t.val % 16 = 0
    · rw [outsAt0_A m c t h h3]
      frame_out
      rw [pay16, pay22]
    · rw [outsAt0_C m c t h h3]
      frame_out
      rw [pay16, pay22]
  · unfold fB
    rw [outsAt0_B m c t h (by omega)]
    frame_out
    rw [pay16]

/-- The gate's gradient after the last of a sequence's four points. -/
theorem sum12 (c : Dev nD) (t : Fin cfg0.N) (h : t.val % 4 = 3) (y : S1x1x1024.Idx) :
    (outsAt0 m c t.val t.isLt).2.2.2.2.1 y = 0 + ∑ s : Fin 4, (fun (p : Fin cfg0.N) => add12 (dB18 m c p) (b4 m c p) y)
      ⟨4 * (t.val / 4) + s.val, Pipeline.run_point_lt_of_flush t h s⟩ := by
  refine Pipeline.eq_sum_fin_of_reset_step_apply_of_flush (fun n h => (outsAt0 m c n h).2.2.2.2.1) 4 (fun _ => 0)
    (fun p y => add12 (dB18 m c p) (b4 m c p) y) (fun t h i => ?_) (fun t h i => ?_) t h y
  · unfold dB18 b2 b3 b4 b5 b7 fB
    by_cases h3 : t.val % 16 = 0
    · rw [outsAt0_A m c t h h3]
      frame_out
      rw [pay19, pay23]
    · rw [outsAt0_C m c t h h3]
      frame_out
      rw [pay19, pay23]
  · unfold dB18 b2 b3 b4 b5 b7 fB
    rw [outsAt0_B m c t h (by omega)]
    frame_out
    rw [pay19]

/-- The gain's gradient after the last point. -/
theorem sum13 (c : Dev nD) (t : Fin cfg0.N) (h : t.val % 16 = 15) (y : S1x1024.Idx) :
    (outsAt0 m c t.val t.isLt).2.2.2.2.2 y = 0 + ∑ s : Fin 16, (fun (p : Fin cfg0.N) => add13 (fB m c p) (b2 m c p) (b5 m c p) y)
      ⟨16 * (t.val / 16) + s.val, Pipeline.run_point_lt_of_flush t h s⟩ := by
  refine Pipeline.eq_sum_fin_of_reset_step_apply_of_flush (fun n h => (outsAt0 m c n h).2.2.2.2.2) 16 (fun _ => 0)
    (fun p y => add13 (fB m c p) (b2 m c p) (b5 m c p) y) (fun t h i => ?_) (fun t h i => ?_) t h y
  · unfold b2 b5 fB
    rw [outsAt0_A m c t (by omega) h]
    frame_out
    rw [pay17, pay6]
  · unfold b2 b5 fB
    by_cases h2 : t.val % 4 = 0
    · rw [outsAt0_C m c t h2 h]
      frame_out
      rw [pay17]
    · rw [outsAt0_B m c t h2 h]
      frame_out
      rw [pay17]

/-- The residual's gradient after the run. -/
theorem arr8 (c : Dev nD) : (dats m 0 c).arrAt 8 cfg0.N = Dm m c := by
  refine (dats m 0 c).arrAt_eq_of_covers 8 _ (by decide +kernel) fun t hf y => ?_
  blk_simp
  rw [after0_8, out8, dB18_eq]
  generalize Dm m c = G
  unfold at512
  blk_point [idx t]

/-- The mixed branch's gradient after the run. -/
theorem arr9 (c : Dev nD) : (dats m 0 c).arrAt 9 cfg0.N = dmix (m (c.tc.loc main_arg2)) (Dm m c) := by
  refine (dats m 0 c).arrAt_eq_of_covers 9 _ (by decide +kernel) fun t hf y => ?_
  blk_simp
  rw [after0_9, out9, dB18_eq, gB m c t (y 0) (y 1)]
  change dmix (m (c.tc.loc main_arg2)) (Dm m c) (ix2 (at512 t (y 0)) (y 1)) = _
  generalize dmix (m (c.tc.loc main_arg2)) (Dm m c) = G
  unfold at512
  blk_point [idx t]

/-- The scale's gradient after the run. -/
theorem arr10 (c : Dev nD) : (dats m 0 c).arrAt 10 cfg0.N = seqSum (scaleM m c) := by
  refine (dats m 0 c).arrAt_eq_of_covers 10 _ (by decide +kernel) fun t hf y => ?_
  blk_simp
  rw [after0_10]
  have h3 : t.val % 4 = 3 := (flush0_10 t).mp hf
  rw [sum10 m c t h3 y, zero_add]
  refine Eq.trans (Finset.sum_congr (M := EReal) rfl fun s _ => block10 m c _ y) ?_
  unfold seqSum
  refine Fin.sum_mul_add_congr fun s k hl => ?_
  generalize scaleM m c = T
  unfold at512 row
  blk_point [idx t]

/-- The shift's gradient after the run. -/
theorem arr11 (c : Dev nD) : (dats m 0 c).arrAt 11 cfg0.N = seqSum (Hm m c) := by
  refine (dats m 0 c).arrAt_eq_of_covers 11 _ (by decide +kernel) fun t hf y => ?_
  blk_simp
  rw [after0_11]
  have h3 : t.val % 4 = 3 := (flush0_11 t).mp hf
  rw [sum11 m c t h3 y, zero_add]
  refine Eq.trans (Finset.sum_congr (M := EReal) rfl fun s _ => block11 m c _ y) ?_
  unfold seqSum
  refine Fin.sum_mul_add_congr fun s k hl => ?_
  generalize Hm m c = T
  unfold at512 row
  blk_point [idx t]

/-- The gate's gradient after the run. -/
theorem arr12 (c : Dev nD) : (dats m 0 c).arrAt 12 cfg0.N = seqSum (gateM m c) := by
  refine (dats m 0 c).arrAt_eq_of_covers 12 _ (by decide +kernel) fun t hf y => ?_
  blk_simp
  rw [after0_12]
  have h3 : t.val % 4 = 3 := (flush0_12 t).mp hf
  rw [sum12 m c t h3 y, zero_add]
  refine Eq.trans (Finset.sum_congr (M := EReal) rfl fun s _ => block12 m c _ y) ?_
  unfold seqSum
  refine Fin.sum_mul_add_congr fun s k hl => ?_
  generalize gateM m c = T
  unfold at512 row
  blk_point [idx t]

/-- The blocks' rows, point by point, are the sequences' rows. -/
theorem regroup (g : Fin 8192 → EReal) : ∑ t : Fin 16, ∑ s : Fin 512, g ⟨t.val * 512 + s.val, by have := t.isLt; have := s.isLt; omega⟩
    = ∑ b : Fin 4, ∑ s : Fin 2048, g (row b s) :=
  (Fin.sum_mul_add_congr (f := g) fun _ _ _ => rfl).trans (Fin.sum_mul_add_congr (f := g) fun _ _ _ => rfl).symm

/-- The gain's gradient after the run. -/
theorem arr13 (c : Dev nD) : (dats m 0 c).arrAt 13 cfg0.N = allSum (gainM m c) := by
  refine (dats m 0 c).arrAt_eq_of_covers 13 _ (by decide +kernel) fun t hf y => ?_
  blk_simp
  rw [after0_13]
  have h15 : t.val % 16 = 15 := (flush0_13 t).mp hf
  rw [sum13 m c t h15 y, zero_add]
  refine Eq.trans (Finset.sum_congr (M := EReal) rfl fun s _ => block13 m c _ y) ?_
  have h0 : t.val / 16 = 0 := by have h : t.val < 16 := t.isLt; omega
  unfold allSum
  refine Eq.trans ?_ ((regroup fun r => gainM m c (ix2 r (y 1))).trans ?_)
  · refine Finset.sum_congr (M := EReal) rfl fun p _ => Finset.sum_congr (M := EReal) rfl fun s _ => ?_
    have hp : at512 ⟨16 * (t.val / 16) + p.val, Pipeline.run_point_lt_of_flush t h15 p⟩ s = ⟨p.val * 512 + s.val, by have := p.isLt; have := s.isLt; omega⟩ :=
      Fin.ext (by simp only [at512, h0]; omega)
    rw [hp]
  · refine Finset.sum_congr (M := EReal) rfl fun b _ => Finset.sum_congr (M := EReal) rfl fun s _ => ?_
    generalize gainM m c = T
    blk_point [idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v10_0) = dx (m (c.tc.loc main_arg7)) (x1 (m (c.tc.loc main_arg0)) (m (c.tc.loc main_arg1)) (m (c.tc.loc main_arg2))) (dh (m (c.tc.loc main_arg8)) (m (c.tc.loc main_arg6))) (m (c.tc.loc main_arg4)) (m (c.tc.loc main_arg3)) ∧
      r.2.mem (c.tc.loc main_v10_1) = dmix (m (c.tc.loc main_arg2)) (dx (m (c.tc.loc main_arg7)) (x1 (m (c.tc.loc main_arg0)) (m (c.tc.loc main_arg1)) (m (c.tc.loc main_arg2))) (dh (m (c.tc.loc main_arg8)) (m (c.tc.loc main_arg6))) (m (c.tc.loc main_arg4)) (m (c.tc.loc main_arg3))) ∧
      r.2.mem (c.tc.loc main_v10_2) = seqSum (tScale (x1 (m (c.tc.loc main_arg0)) (m (c.tc.loc main_arg1)) (m (c.tc.loc main_arg2))) (dh (m (c.tc.loc main_arg8)) (m (c.tc.loc main_arg6))) (m (c.tc.loc main_arg3))) ∧
      r.2.mem (c.tc.loc main_v10_3) = seqSum (dh (m (c.tc.loc main_arg8)) (m (c.tc.loc main_arg6))) ∧
      r.2.mem (c.tc.loc main_v10_4) = seqSum (tGate (dx (m (c.tc.loc main_arg7)) (x1 (m (c.tc.loc main_arg0)) (m (c.tc.loc main_arg1)) (m (c.tc.loc main_arg2))) (dh (m (c.tc.loc main_arg8)) (m (c.tc.loc main_arg6))) (m (c.tc.loc main_arg4)) (m (c.tc.loc main_arg3))) (m (c.tc.loc main_arg1))) ∧
      r.2.mem (c.tc.loc main_v10_5) = allSum (tGain (x1 (m (c.tc.loc main_arg0)) (m (c.tc.loc main_arg1)) (m (c.tc.loc main_arg2))) (dh (m (c.tc.loc main_arg8)) (m (c.tc.loc main_arg6))) (m (c.tc.loc main_arg4))) ∧
      r.2.mem (c.tc.loc main_arg0) = m (c.tc.loc main_arg0) ∧
      r.2.mem (c.tc.loc main_arg1) = m (c.tc.loc main_arg1) ∧
      r.2.mem (c.tc.loc main_arg2) = m (c.tc.loc main_arg2) ∧
      r.2.mem (c.tc.loc main_arg3) = m (c.tc.loc main_arg3) ∧
      r.2.mem (c.tc.loc main_arg4) = m (c.tc.loc main_arg4) ∧
      r.2.mem (c.tc.loc main_arg5) = m (c.tc.loc main_arg5) ∧
      r.2.mem (c.tc.loc main_arg6) = m (c.tc.loc main_arg6) ∧
      r.2.mem (c.tc.loc main_arg7) = m (c.tc.loc main_arg7) ∧
      r.2.mem (c.tc.loc main_arg8) = m (c.tc.loc main_arg8) :=
  (θ_run defs _ _).mono (fun _ h c => ⟨(h c).1.trans (arr8 m c), (h c).2.1.trans (arr9 m c), (h c).2.2.1.trans (arr10 m c), (h c).2.2.2.1.trans (arr11 m c), (h c).2.2.2.2.1.trans (arr12 m c), (h c).2.2.2.2.2.1.trans (arr13 m c), (h c).2.2.2.2.2.2⟩)
    (Cert.Kernel5Ideal.Value.run_blocks m ρ)

/-- The reference's run, with each result named. -/
theorem runR (m : (ℓ : Loc Cert.Reference5Ideal.nD Cert.Reference5Ideal.τ Cert.Reference5Ideal.sig) → Buf (Elt Ideal) ℓ) (ρ : Dev Cert.Reference5Ideal.nD → PrngReg) :
    θ_run Cert.Reference5Ideal.defs (onTc (τ := Cert.Reference5Ideal.τ) (Cert.Reference5Ideal.main (F := Ideal))) ⟨m, fun _ => 0, ρ⟩ fun r => ∀ c : Dev Cert.Reference5Ideal.nD,
      r.2.mem (c.tc.loc Cert.Reference5Ideal.main_v66) = dx (m (c.tc.loc Cert.Reference5Ideal.main_arg7)) (x1 (m (c.tc.loc Cert.Reference5Ideal.main_arg0)) (m (c.tc.loc Cert.Reference5Ideal.main_arg1)) (m (c.tc.loc Cert.Reference5Ideal.main_arg2))) (dh (m (c.tc.loc Cert.Reference5Ideal.main_arg8)) (m (c.tc.loc Cert.Reference5Ideal.main_arg6))) (m (c.tc.loc Cert.Reference5Ideal.main_arg4)) (m (c.tc.loc Cert.Reference5Ideal.main_arg3)) ∧
      r.2.mem (c.tc.loc Cert.Reference5Ideal.main_v68) = dmix (m (c.tc.loc Cert.Reference5Ideal.main_arg2)) (dx (m (c.tc.loc Cert.Reference5Ideal.main_arg7)) (x1 (m (c.tc.loc Cert.Reference5Ideal.main_arg0)) (m (c.tc.loc Cert.Reference5Ideal.main_arg1)) (m (c.tc.loc Cert.Reference5Ideal.main_arg2))) (dh (m (c.tc.loc Cert.Reference5Ideal.main_arg8)) (m (c.tc.loc Cert.Reference5Ideal.main_arg6))) (m (c.tc.loc Cert.Reference5Ideal.main_arg4)) (m (c.tc.loc Cert.Reference5Ideal.main_arg3))) ∧
      r.2.mem (c.tc.loc Cert.Reference5Ideal.main_v39) = seqSum (tScale (x1 (m (c.tc.loc Cert.Reference5Ideal.main_arg0)) (m (c.tc.loc Cert.Reference5Ideal.main_arg1)) (m (c.tc.loc Cert.Reference5Ideal.main_arg2))) (dh (m (c.tc.loc Cert.Reference5Ideal.main_arg8)) (m (c.tc.loc Cert.Reference5Ideal.main_arg6))) (m (c.tc.loc Cert.Reference5Ideal.main_arg3))) ∧
      r.2.mem (c.tc.loc Cert.Reference5Ideal.main_v36) = seqSum (dh (m (c.tc.loc Cert.Reference5Ideal.main_arg8)) (m (c.tc.loc Cert.Reference5Ideal.main_arg6))) ∧
      r.2.mem (c.tc.loc Cert.Reference5Ideal.main_v65) = seqSum (tGate (dx (m (c.tc.loc Cert.Reference5Ideal.main_arg7)) (x1 (m (c.tc.loc Cert.Reference5Ideal.main_arg0)) (m (c.tc.loc Cert.Reference5Ideal.main_arg1)) (m (c.tc.loc Cert.Reference5Ideal.main_arg2))) (dh (m (c.tc.loc Cert.Reference5Ideal.main_arg8)) (m (c.tc.loc Cert.Reference5Ideal.main_arg6))) (m (c.tc.loc Cert.Reference5Ideal.main_arg4)) (m (c.tc.loc Cert.Reference5Ideal.main_arg3))) (m (c.tc.loc Cert.Reference5Ideal.main_arg1))) ∧
      r.2.mem (c.tc.loc Cert.Reference5Ideal.main_v69) = allSum (tGain (x1 (m (c.tc.loc Cert.Reference5Ideal.main_arg0)) (m (c.tc.loc Cert.Reference5Ideal.main_arg1)) (m (c.tc.loc Cert.Reference5Ideal.main_arg2))) (dh (m (c.tc.loc Cert.Reference5Ideal.main_arg8)) (m (c.tc.loc Cert.Reference5Ideal.main_arg6))) (m (c.tc.loc Cert.Reference5Ideal.main_arg4))) ∧
      r.2.mem (c.tc.loc Cert.Reference5Ideal.main_arg0) = m (c.tc.loc Cert.Reference5Ideal.main_arg0) ∧
      r.2.mem (c.tc.loc Cert.Reference5Ideal.main_arg1) = m (c.tc.loc Cert.Reference5Ideal.main_arg1) ∧
      r.2.mem (c.tc.loc Cert.Reference5Ideal.main_arg2) = m (c.tc.loc Cert.Reference5Ideal.main_arg2) ∧
      r.2.mem (c.tc.loc Cert.Reference5Ideal.main_arg3) = m (c.tc.loc Cert.Reference5Ideal.main_arg3) ∧
      r.2.mem (c.tc.loc Cert.Reference5Ideal.main_arg4) = m (c.tc.loc Cert.Reference5Ideal.main_arg4) ∧
      r.2.mem (c.tc.loc Cert.Reference5Ideal.main_arg5) = m (c.tc.loc Cert.Reference5Ideal.main_arg5) ∧
      r.2.mem (c.tc.loc Cert.Reference5Ideal.main_arg6) = m (c.tc.loc Cert.Reference5Ideal.main_arg6) ∧
      r.2.mem (c.tc.loc Cert.Reference5Ideal.main_arg7) = m (c.tc.loc Cert.Reference5Ideal.main_arg7) ∧
      r.2.mem (c.tc.loc Cert.Reference5Ideal.main_arg8) = m (c.tc.loc Cert.Reference5Ideal.main_arg8) :=
  (θ_run _ _ _).mono (fun _ h c => ⟨(h c).1.trans (by
      clear h
      unfold Cert.Reference5Ideal.Value.res_main_v66
      funext i
      exact Ref.grad _ _ (Ref.residual _ _ _) _ _ (Ref.product _ _) _ _ _ i), (h c).2.1.trans (by
      clear h
      unfold Cert.Reference5Ideal.Value.res_main_v68
      funext i
      exact Ref.mixed _ _ (Ref.grad _ _ (Ref.residual _ _ _) _ _ (Ref.product _ _) _ _ _) _ i), (h c).2.2.1.trans (by
      clear h
      funext i
      exact Ref.seqSum _ _ (Ref.scale _ _ (Ref.residual _ _ _) _ _ (Ref.product _ _) _) i), (h c).2.2.2.1.trans (by
      clear h
      funext i
      exact Ref.seqSum _ _ (Ref.product _ _) i), (h c).2.2.2.2.1.trans (by
      clear h
      unfold Cert.Reference5Ideal.Value.res_main_v65
      funext i
      exact Ref.seqSum _ _ (Ref.gate _ _ (Ref.grad _ _ (Ref.residual _ _ _) _ _ (Ref.product _ _) _ _ _) _) i), (h c).2.2.2.2.2.1.trans (by
      clear h
      funext i
      exact Ref.allSum _ _ (Ref.gain _ _ (Ref.residual _ _ _) _ _ (Ref.product _ _) _) i), (h c).2.2.2.2.2.2⟩) (Cert.Reference5Ideal.Value.run m ρ)

end Cert.MidBwd

end
-- ==== Proof.Ff1.lean ====
/- The value of the MLP's first product (the call `ff1`). -/
module

public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Ff1

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

/-- One entry of the product. -/
def G (a : S8192x1024.Idx → EReal) (b : S1024x4096.Idx → EReal) (i : S8192x4096.Idx) : EReal :=
  (∑ k : Fin 1024, a (ix2 (i 0) k) * b (ix2 k (i 1)))

/-- Which block each window shows at a grid point. -/
theorem idx : ∀ t : Fin grid0.N, win0_0.index t = ![(grid0.coords t 0).val, 0] ∧ win0_1.index t = ![(grid0.coords t 1).val, 0] ∧ win0_2.index t = ![(grid0.coords t 0).val, (grid0.coords t 1).val] := by
  decide +kernel

/-- The result array after the run. -/
theorem arr (c : Dev nD) : (dats m 0 c).arrAt 2 cfg0.N = G (m (c.tc.loc main_arg0)) (m (c.tc.loc main_arg1)) := by
  refine (dats m 0 c).arrAt_eq_of_covers 2 _ (by decide +kernel) fun t hf y => ?_
  blk_simp
  rw [after0_2]
  unfold outsAt0
  frame_out
  unfold_payloads
  pointwise
  unfold G
  blk_point [iblk, V, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v2) = G (m (c.tc.loc main_arg0)) (m (c.tc.loc main_arg1)) ∧
      r.2.mem (c.tc.loc main_arg0) = m (c.tc.loc main_arg0) ∧
      r.2.mem (c.tc.loc main_arg1) = m (c.tc.loc main_arg1) :=
  (θ_run defs _ _).mono (fun _ h c => ⟨(h c).1.trans (arr m c), (h c).2⟩)
    (Cert.Kernel6Ideal.Value.run_blocks m ρ)

/-- The reference's run, with each result named. -/
theorem runR (m : (ℓ : Loc Cert.Reference6Ideal.nD Cert.Reference6Ideal.τ Cert.Reference6Ideal.sig) → Buf (Elt Ideal) ℓ) (ρ : Dev Cert.Reference6Ideal.nD → PrngReg) :
    θ_run Cert.Reference6Ideal.defs (onTc (τ := Cert.Reference6Ideal.τ) (Cert.Reference6Ideal.main (F := Ideal))) ⟨m, fun _ => 0, ρ⟩ fun r => ∀ c : Dev Cert.Reference6Ideal.nD,
      r.2.mem (c.tc.loc Cert.Reference6Ideal.main_v2) = G (m (c.tc.loc Cert.Reference6Ideal.main_arg0)) (m (c.tc.loc Cert.Reference6Ideal.main_arg1)) ∧
      r.2.mem (c.tc.loc Cert.Reference6Ideal.main_arg0) = m (c.tc.loc Cert.Reference6Ideal.main_arg0) ∧
      r.2.mem (c.tc.loc Cert.Reference6Ideal.main_arg1) = m (c.tc.loc Cert.Reference6Ideal.main_arg1) :=
  (θ_run _ _ _).mono (fun _ h c => ⟨(h c).1.trans (by
      clear h
      funext i
      pointwise
      rfl), (h c).2⟩) (Cert.Reference6Ideal.Value.run m ρ)

end Cert.Ff1

end
-- ==== Proof.Ff2LossRef.lean ====
/- The reference's loss head, entry by entry. -/
module

public import proofs.«01_k».proof.Proof.Gen.Reference7Ideal.Run
public import Idealize.ShloMosaic.Lib.Pipeline.ValueKit
public import Idealize.ShloMosaic.Lib.Pointwise

@[expose] public section

set_option maxRecDepth 16384

noncomputable section

namespace Cert.Ff2Loss.Ref

open Cert.Reference7Ideal Cert.Reference7Ideal.Gen Idealize.ShloMosaic Idealize.ShloMosaic.TcCoe Idealize.SL.Sem

/-- Row `s` of sequence `b`. -/
def row (b : Fin 4) (s : Fin 2048) : Fin 8192 := ⟨b.val * 2048 + s.val, by have := b.isLt; have := s.isLt; omega⟩

/-- Half, over the width, times twice an error: the error over the width. -/
theorem half_step (e : EReal) : Ideal.div (Ideal.ofBits FTy.f32 1056964608#32) (Ideal.ofBits FTy.f32 1149239296#32) * (Ideal.ofBits FTy.f32 1073741824#32 * e)
    = e * Ideal.ofBits FTy.f32 981467136#32 := by
  have a : Ideal.ofBits .f32 1056964608#32 = (((1 : ℝ) / 2 : ℝ) : EReal) := by
    simp [Ideal.ofBits, Ideal.ieee, -EReal.coe_mul]; norm_num
  have b : Ideal.ofBits .f32 1149239296#32 = ((1024 : ℝ) : EReal) := by
    simp [Ideal.ofBits, Ideal.ieee, -EReal.coe_mul]; norm_num
  have d : Ideal.ofBits .f32 1073741824#32 = ((2 : ℝ) : EReal) := by
    simp [Ideal.ofBits, Ideal.ieee, -EReal.coe_mul]; norm_num
  have h : Ideal.ofBits .f32 981467136#32 = (((1 : ℝ) / 1024 : ℝ) : EReal) := by
    simp [Ideal.ofBits, Ideal.ieee, -EReal.coe_mul]; norm_num
  rw [a, b, d, h, Ideal.div_coe (by norm_num), ← EReal.coe_mul, ← mul_assoc, ← EReal.coe_mul, mul_comm]
  norm_num

/-- The reference's error at a row of a sequence. -/
def err3 (x f r : S8192x1024.Idx → EReal) (g : S4x1x1024.Idx → EReal) (i : S8192x1024.Idx) : EReal :=
  x i + g (ix3 ⟨(i 0).val / 2048, by have : (i 0).val < 8192 := (i 0).isLt; omega⟩ 0 (i 1)) * f i - r i

/-- The reference's product. -/
theorem product (a : FVec Ideal S8192x4096 .bf16) (w : FVec Ideal S4096x1024 .f32) (i : S8192x1024.Idx) :
    (Host.dotGeneral dot_S8192x4096_S4096x1024_S8192x1024_1_0_0_1_n_n none (mulf (maximumf (extf .f32 a bitsLt_bf16_f32) (broadcastInDim S8192x4096 ![] bcast_S_S8192x4096 (constant S_ .f32 0x00000000#32))) (maximumf (extf .f32 a bitsLt_bf16_f32) (broadcastInDim S8192x4096 ![] bcast_S_S8192x4096 (constant S_ .f32 0x00000000#32)))) w : FVec Ideal S8192x1024 .f32) i
    = ∑ k : Fin 4096, max (a (ix2 (i 0) k)) 0 * max (a (ix2 (i 0) k)) 0 * w (ix2 k (i 1)) := by
  pointwise

/-- The reference's error, its rows laid one after the other. -/
theorem error (x f r : FVec Ideal S8192x1024 .f32) (g : FVec Ideal S4x1x1024 .f32) (i : S8192x1024.Idx) :
    (shapeCast S8192x1024 (subf (addf (shapeCast S4x2048x1024 x shapeCasts_S8192x1024_S4x2048x1024) (mulf (broadcastInDim S4x2048x1024 ![0, 1, 2] bcast_S4x1x1024_S4x2048x1024_0_1_2 g) (shapeCast S4x2048x1024 f shapeCasts_S8192x1024_S4x2048x1024))) (shapeCast S4x2048x1024 r shapeCasts_S8192x1024_S4x2048x1024)) shapeCasts_S4x2048x1024_S8192x1024 : FVec Ideal S8192x1024 .f32) i = err3 x f r g i := by
  pointwise
  rfl

/-- The reference's gradient at the output. -/
theorem step (E : FVec Ideal S4x2048x1024 .f32) (Y : S8192x1024.Idx → EReal)
    (hY : ∀ i, (shapeCast S8192x1024 E shapeCasts_S4x2048x1024_S8192x1024 : FVec Ideal S8192x1024 .f32) i = Y i) (i : S8192x1024.Idx) :
    (shapeCast S8192x1024 (mulf (broadcastInDim S4x2048x1024 ![0, 1] bcast_S4x2048_S4x2048x1024_0_1 (Host.divf (broadcastInDim S4x2048 ![] bcast_S_S4x2048 (mulf (constant S_ .f32 0x3F000000#32) (constant S_ .f32 0x3F800000#32))) (broadcastInDim S4x2048 ![] bcast_S_S4x2048 (constant S_ .f32 0x44800000#32)))) (mulf (broadcastInDim S4x2048x1024 ![] bcast_S_S4x2048x1024 (constant S_ .f32 0x40000000#32)) E)) shapeCasts_S4x2048x1024_S8192x1024 : FVec Ideal S8192x1024 .f32) i
    = Y i * Ideal.ofBits FTy.f32 981467136#32 := by
  rw [← hY]
  pointwise
  exact half_step _

/-- The reference's gradient at the MLP's output. -/
theorem gated (D : FVec Ideal S4x2048x1024 .f32) (g : FVec Ideal S4x1x1024 .f32) (Y : S8192x1024.Idx → EReal)
    (hY : ∀ i, (shapeCast S8192x1024 D shapeCasts_S4x2048x1024_S8192x1024 : FVec Ideal S8192x1024 .f32) i = Y i) (i : S8192x1024.Idx) :
    (truncf .bf16 (shapeCast S8192x1024 (mulf (broadcastInDim S4x2048x1024 ![0, 1, 2] bcast_S4x1x1024_S4x2048x1024_0_1_2 g) D) shapeCasts_S4x2048x1024_S8192x1024) bitsLt_bf16_f32 : FVec Ideal S8192x1024 .bf16) i
    = g (ix3 ⟨(i 0).val / 2048, by have : (i 0).val < 8192 := (i 0).isLt; omega⟩ 0 (i 1)) * Y i := by
  rw [← hY]
  pointwise

/-- Reading an array of sequences by rows. -/
theorem rows (D : FVec Ideal S4x2048x1024 .f32) (Y : S8192x1024.Idx → EReal)
    (hY : ∀ i, (shapeCast S8192x1024 D shapeCasts_S4x2048x1024_S8192x1024 : FVec Ideal S8192x1024 .f32) i = Y i) (b : Fin 4) (s : Fin 2048) (j : Fin 1024) :
    D (ix3 b s j) = Y (ix2 (row b s) j) := by
  rw [← hY]
  unfold row
  pointwise

/-- The reference's gradient at the gate. -/
theorem gateSum (D : FVec Ideal S4x2048x1024 .f32) (f : FVec Ideal S8192x1024 .f32) (Y : S8192x1024.Idx → EReal)
    (hY : ∀ i, (shapeCast S8192x1024 D shapeCasts_S4x2048x1024_S8192x1024 : FVec Ideal S8192x1024 .f32) i = Y i) (i : S4x1x1024.Idx) :
    (shapeCast S4x1x1024 (Host.reduceAdd (mulf D (shapeCast S4x2048x1024 f shapeCasts_S8192x1024_S4x2048x1024)) (constant S_ .f32 0x00000000#32) reducesTo_S4x2048x1024_S4x1024_d1 h_S_) shapeCasts_S4x1024_S4x1x1024 : FVec Ideal S4x1x1024 .f32) i
    = ∑ s : Fin 2048, Y (ix2 (row (i 0) s) (i 2)) * f (ix2 (row (i 0) s) (i 2)) := by
  pointwise
  refine Finset.sum_congr rfl fun s _ => ?_
  exact congrArg (· * f (ix2 (row (i 0) s) (i 2))) (rows D Y hY (i 0) s (i 2))

/-- The reference's sum of squares. -/
theorem squares (E : FVec Ideal S4x2048x1024 .f32) (Y : S8192x1024.Idx → EReal)
    (hY : ∀ i, (shapeCast S8192x1024 E shapeCasts_S4x2048x1024_S8192x1024 : FVec Ideal S8192x1024 .f32) i = Y i) (i : S1x128.Idx) :
    (broadcastInDim S1x128 ![] bcast_S_S1x128 (Host.reduceAdd (mulf E E) (constant S_ .f32 0x00000000#32) reducesTo_S4x2048x1024_S_d0_1_2 h_S_) : FVec Ideal S1x128 .f32) i
    = ∑ b : Fin 4, ∑ s : Fin 2048, ∑ j : Fin 1024, Y (ix2 (row b s) j) * Y (ix2 (row b s) j) := by
  pointwise
  refine Finset.sum_congr rfl fun b _ => Finset.sum_congr rfl fun s _ => Finset.sum_congr rfl fun j _ => ?_
  rw [rows E Y hY]

end Cert.Ff2Loss.Ref

end
-- ==== Proof.Ff2Loss.lean ====
/- The value of the MLP's second product with the loss head (the call `ff2_loss`). -/
module

public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack
public import Idealize.ShloMosaic.Lib.Pointwise
public import proofs.«01_k».proof.Proof.Ff2LossRef
@[expose] public section

set_option maxRecDepth 16384

noncomputable section

namespace Cert.Ff2Loss

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

open Cert.Ff2Loss.Ref (row half_step)

/-- The sequence a row belongs to. -/
def bat (r : Fin 8192) : Fin 4 := ⟨r.val / 2048, by have := r.isLt; omega⟩

/-- The second product of the MLP, with the squared rectifier applied to its left factor. -/
def F (a : S8192x4096.Idx → EReal) (w : S4096x1024.Idx → EReal) (i : S8192x1024.Idx) : EReal :=
  ∑ k : Fin 4096, max (a (ix2 (i 0) k)) 0 * max (a (ix2 (i 0) k)) 0 * w (ix2 k (i 1))

/-- How far the step's output is from its target. -/
def err (x r : S8192x1024.Idx → EReal) (g : S4x1x1024.Idx → EReal) (f : S8192x1024.Idx → EReal) (i : S8192x1024.Idx) : EReal :=
  x i + g (ix3 (bat (i 0)) 0 (i 1)) * f i - r i

/-- The loss's gradient at the step's output. -/
def dy (x r : S8192x1024.Idx → EReal) (g : S4x1x1024.Idx → EReal) (f : S8192x1024.Idx → EReal) (i : S8192x1024.Idx) : EReal :=
  err x r g f i * Ideal.ofBits FTy.f32 981467136#32

/-- The loss's gradient at the MLP's output. -/
def df (x r : S8192x1024.Idx → EReal) (g : S4x1x1024.Idx → EReal) (f : S8192x1024.Idx → EReal) (i : S8192x1024.Idx) : EReal :=
  g (ix3 (bat (i 0)) 0 (i 1)) * dy x r g f i

/-- The loss's gradient at the gate: the rows of one sequence summed. -/
def dgate (x r : S8192x1024.Idx → EReal) (g : S4x1x1024.Idx → EReal) (f : S8192x1024.Idx → EReal) (i : S4x1x1024.Idx) : EReal :=
  ∑ s : Fin 2048, dy x r g f (ix2 (row (i 0) s) (i 2)) * f (ix2 (row (i 0) s) (i 2))

/-- The sum of all squared errors. -/
def sq (x r : S8192x1024.Idx → EReal) (g : S4x1x1024.Idx → EReal) (f : S8192x1024.Idx → EReal) (_ : S1x128.Idx) : EReal :=
  ∑ b : Fin 4, ∑ s : Fin 2048, ∑ j : Fin 1024, err x r g f (ix2 (row b s) j) * err x r g f (ix2 (row b s) j)

/-- Which block each window shows at a grid point: 512 rows of one sequence. -/
theorem idx : ∀ t : Fin grid0.N, win0_0.index t = ![t.val, 0] ∧ win0_1.index t = ![0, 0] ∧ win0_2.index t = ![t.val, 0] ∧
    win0_3.index t = ![t.val, 0] ∧ win0_4.index t = ![t.val / 4, 0, 0] ∧ win0_5.index t = ![t.val, 0] ∧
    win0_6.index t = ![t.val, 0] ∧ win0_7.index t = ![t.val / 4, 0, 0] ∧ win0_8.index t = ![0, 0] := by
  decide +kernel

/-- The error on one block. -/
def errB (f x r : S512x1024.Idx → EReal) (g : S1x1x1024.Idx → EReal) (y : S512x1024.Idx) : EReal :=
  x y + g (ix3 0 0 (y 1)) * f y - r y

/-- The body's product. -/
theorem pay2 (a : Vec Ideal S512x4096 .bf16) (w : Vec Ideal S4096x1024 .bf16) (y : S512x1024.Idx) :
    k0_pay2 a (k0_pay1 (F := Ideal)) w y = ∑ k : Fin 4096, max (a (ix2 (y 0) k)) 0 * max (a (ix2 (y 0) k)) 0 * w (ix2 k (y 1)) := by
  unfold_payloads
  pointwise

/-- The body's gradient at the output. -/
theorem pay9 (f x r : Vec Ideal S512x1024 .f32) (g : Vec Ideal S1x1x1024 .f32) (y : S512x1024.Idx) :
    k0_pay9 f x r g y = errB f x r g y * Ideal.ofBits FTy.f32 981467136#32 := by
  unfold_payloads
  pointwise
  rfl

/-- The body's gradient at the MLP's output. -/
theorem pay12 (f x r : Vec Ideal S512x1024 .f32) (g : Vec Ideal S1x1x1024 .f32) (y : S512x1024.Idx) :
    k0_pay12 f x r g y = g (ix3 0 0 (y 1)) * (errB f x r g y * Ideal.ofBits FTy.f32 981467136#32) := by
  unfold_payloads
  pointwise
  rfl

/-- What one block adds to the gate's gradient. -/
def gateB (f x r : S512x1024.Idx → EReal) (g : S1x1x1024.Idx → EReal) (y : S1x1x1024.Idx) : EReal :=
  ∑ s : Fin 512, errB f x r g (ix2 s (y 2)) * Ideal.ofBits FTy.f32 981467136#32 * f (ix2 s (y 2))

/-- What one block adds to the sum of squares. -/
def sqB (f x r : S512x1024.Idx → EReal) (g : S1x1x1024.Idx → EReal) : EReal :=
  ∑ s : Fin 512, ∑ j : Fin 1024, errB f x r g (ix2 s j) * errB f x r g (ix2 s j)

/-- The body's sum for the gate. -/
theorem pay4 (f x r : Vec Ideal S512x1024 .f32) (g s : Vec Ideal S1x1x1024 .f32) (y : S1x1x1024.Idx) :
    k0_pay4 (k0_pay11 f x r g) s y = s y + gateB f x r g y := by
  unfold_payloads
  pointwise
  unfold gateB errB
  congr 1
  refine Finset.sum_congr rfl fun k _ => ?_
  have hg : g y = g (ix3 0 0 (y 2)) := congrArg g (funext fun d => by
    fin_cases d
    · exact Subsingleton.elim (α := Fin 1) _ _
    · exact Subsingleton.elim (α := Fin 1) _ _
    · rfl)
  rw [hg]
  rfl

/-- The body's sum of squares. -/
theorem pay6 (f x r : Vec Ideal S512x1024 .f32) (g : Vec Ideal S1x1x1024 .f32) (s : Vec Ideal S1x128 .f32) (y : S1x128.Idx) :
    k0_pay6 (k0_pay10 f x r g) s y = s y + sqB f x r g := by
  unfold_payloads
  pointwise
  rfl

/-- The gate's sum starts at zero. -/
theorem pay3 (y : S1x1x1024.Idx) : k0_pay3 (F := Ideal) y = (0 : EReal) := by
  unfold_payloads
  pointwise

/-- The sum of squares starts at zero. -/
theorem pay5 (y : S1x128.Idx) : k0_pay5 (F := Ideal) y = (0 : EReal) := by
  unfold_payloads
  pointwise

/-- The product at one point, a block of the whole product. -/
def fB (c : Dev nD) (t : Fin cfg0.N) : Vec Ideal S512x1024 .f32 := k0_pay2 (iblk m c 0 t) (k0_pay1 (F := Ideal)) (iblk m c 1 t)

/-- The whole product of the arguments. -/
abbrev Fm (c : Dev nD) : S8192x1024.Idx → EReal := F (m (c.tc.loc main_arg0)) (m (c.tc.loc main_arg4))

/-- The error of the arguments. -/
abbrev Em (c : Dev nD) : S8192x1024.Idx → EReal := err (m (c.tc.loc main_arg1)) (m (c.tc.loc main_arg2)) (m (c.tc.loc main_arg3)) (Fm m c)

/-- Row `s` of the block at point `t`. -/
def at512 (t : Fin cfg0.N) (s : Fin 512) : Fin 8192 := ⟨t.val * 512 + s.val, by have h : t.val < 16 := t.isLt; have := s.isLt; omega⟩

theorem fB_eq (c : Dev nD) (t : Fin cfg0.N) (y : S512x1024.Idx) : fB m c t y = Fm m c (ix2 (at512 t (y 0)) (y 1)) := by
  unfold fB
  rw [pay2]
  unfold Fm F at512
  blk_point [iblk, V, idx t]

theorem eB_eq (c : Dev nD) (t : Fin cfg0.N) (y : S512x1024.Idx) :
    errB (fB m c t) (iblk m c 2 t) (iblk m c 3 t) (iblk m c 4 t) y = Em m c (ix2 (at512 t (y 0)) (y 1)) := by
  unfold errB
  rw [fB_eq]
  unfold Em err bat at512
  have ht : (t.val * 512 + (y 0).val) / 2048 = t.val / 4 := by have := (y 0).isLt; have h : (y 0).val < 512 := this; omega
  blk_point [iblk, V, idx t, ht]

theorem gB_eq (c : Dev nD) (t : Fin cfg0.N) (y : S512x1024.Idx) :
    (iblk m c 4 t : S1x1x1024.Idx → EReal) (ix3 0 0 (y 1)) = m (c.tc.loc main_arg3) (ix3 (bat (at512 t (y 0))) 0 (y 1)) := by
  unfold bat at512
  have ht : (t.val * 512 + (y 0).val) / 2048 = t.val / 4 := by have := (y 0).isLt; have h : (y 0).val < 512 := this; omega
  blk_point [iblk, V, idx t, ht]

/-- The first result at a point, whichever case it is. -/
theorem out5 (c : Dev nD) (t : Fin cfg0.N) (y : S512x1024.Idx) :
    (outsAt0 m c t.val t.isLt).1 y = k0_pay9 (fB m c t) (iblk m c 2 t) (iblk m c 3 t) (iblk m c 4 t) y := by
  unfold fB
  by_cases h2 : t.val % 4 = 0
  · by_cases h3 : t.val % 16 = 0
    · rw [outsAt0_A m c t h2 h3]
      frame_out
    · rw [outsAt0_C m c t h2 h3]
      frame_out
  · rw [outsAt0_B m c t h2 (by omega)]
    frame_out

/-- The second result at a point. -/
theorem out6 (c : Dev nD) (t : Fin cfg0.N) (y : S512x1024.Idx) :
    (outsAt0 m c t.val t.isLt).2.1 y = k0_pay12 (fB m c t) (iblk m c 2 t) (iblk m c 3 t) (iblk m c 4 t) y := by
  unfold fB
  by_cases h2 : t.val % 4 = 0
  · by_cases h3 : t.val % 16 = 0
    · rw [outsAt0_A m c t h2 h3]
      frame_out
    · rw [outsAt0_C m c t h2 h3]
      frame_out
  · rw [outsAt0_B m c t h2 (by omega)]
    frame_out

/-- The gate's gradient after the last of a sequence's four points. -/
theorem sum7 (c : Dev nD) (t : Fin cfg0.N) (h : t.val % 4 = 3) (y : S1x1x1024.Idx) :
    (outsAt0 m c t.val t.isLt).2.2.1 y = 0 + ∑ s : Fin 4, (fun (p : Fin cfg0.N) => gateB (fB m c p) (iblk m c 2 p) (iblk m c 3 p) (iblk m c 4 p) y)
      ⟨4 * (t.val / 4) + s.val, Pipeline.run_point_lt_of_flush t h s⟩ := by
  refine Pipeline.eq_sum_fin_of_reset_step_apply_of_flush (fun n h => (outsAt0 m c n h).2.2.1) 4 (fun _ => 0)
    (fun p y => gateB (fB m c p) (iblk m c 2 p) (iblk m c 3 p) (iblk m c 4 p) y) (fun t h i => ?_) (fun t h i => ?_) t h y
  · unfold fB
    by_cases h3 : t.val % 16 = 0
    · rw [outsAt0_A m c t h h3]
      frame_out
      rw [pay4, pay3]
    · rw [outsAt0_C m c t h h3]
      frame_out
      rw [pay4, pay3]
  · unfold fB
    rw [outsAt0_B m c t h (by omega)]
    frame_out
    rw [pay4]

/-- The sum of squares after the last point. -/
theorem sum8 (c : Dev nD) (t : Fin cfg0.N) (h : t.val % 16 = 15) (y : S1x128.Idx) :
    (outsAt0 m c t.val t.isLt).2.2.2 y = 0 + ∑ s : Fin 16, (fun (p : Fin cfg0.N) => sqB (fB m c p) (iblk m c 2 p) (iblk m c 3 p) (iblk m c 4 p))
      ⟨16 * (t.val / 16) + s.val, Pipeline.run_point_lt_of_flush t h s⟩ := by
  refine Pipeline.eq_sum_fin_of_reset_step_apply_of_flush (fun n h => (outsAt0 m c n h).2.2.2) 16 (fun _ => 0)
    (fun p _ => sqB (fB m c p) (iblk m c 2 p) (iblk m c 3 p) (iblk m c 4 p)) (fun t h i => ?_) (fun t h i => ?_) t h y
  · unfold fB
    rw [outsAt0_A m c t (by omega) h]
    frame_out
    rw [pay6, pay5]
  · unfold fB
    by_cases h2 : t.val % 4 = 0
    · rw [outsAt0_C m c t h2 h]
      frame_out
      rw [pay6]
    · rw [outsAt0_B m c t h2 h]
      frame_out
      rw [pay6]

/-- The gradient at the step's output, after the run. -/
theorem arr5 (c : Dev nD) : (dats m 0 c).arrAt 5 cfg0.N =
    dy (m (c.tc.loc main_arg1)) (m (c.tc.loc main_arg2)) (m (c.tc.loc main_arg3)) (F (m (c.tc.loc main_arg0)) (m (c.tc.loc main_arg4))) := by
  refine (dats m 0 c).arrAt_eq_of_covers 5 _ (by decide +kernel) fun t hf y => ?_
  blk_simp
  rw [after0_5, out5, pay9, eB_eq]
  unfold Em Fm dy err bat at512
  blk_point [iblk, V, idx t]

/-- The gradient at the MLP's output, after the run. -/
theorem arr6 (c : Dev nD) : (dats m 0 c).arrAt 6 cfg0.N =
    df (m (c.tc.loc main_arg1)) (m (c.tc.loc main_arg2)) (m (c.tc.loc main_arg3)) (F (m (c.tc.loc main_arg0)) (m (c.tc.loc main_arg4))) := by
  refine (dats m 0 c).arrAt_eq_of_covers 6 _ (by decide +kernel) fun t hf y => ?_
  blk_simp
  rw [after0_6, out6, pay12, eB_eq, gB_eq m c t y]
  unfold Em Fm df dy err bat at512
  blk_point [iblk, V, idx t]

/-- The gate's gradient, after the run. -/
theorem arr7 (c : Dev nD) : (dats m 0 c).arrAt 7 cfg0.N =
    dgate (m (c.tc.loc main_arg1)) (m (c.tc.loc main_arg2)) (m (c.tc.loc main_arg3)) (F (m (c.tc.loc main_arg0)) (m (c.tc.loc main_arg4))) := by
  refine (dats m 0 c).arrAt_eq_of_covers 7 _ (by decide +kernel) fun t hf y => ?_
  blk_simp
  rw [after0_7]
  have h3 : t.val % 4 = 3 := (flush0_7 t).mp hf
  rw [sum7 m c t h3 y, zero_add]
  unfold dgate gateB
  refine Fin.sum_mul_add_congr fun s k hl => ?_
  simp only [eB_eq, fB_eq]
  unfold Em Fm dy err bat at512 row
  blk_point [iblk, V, idx t]

/-- The blocks' rows, point by point, are the sequences' rows. -/
theorem regroup (g : Fin 8192 → EReal) : ∑ t : Fin 16, ∑ s : Fin 512, g ⟨t.val * 512 + s.val, by have := t.isLt; have := s.isLt; omega⟩
    = ∑ b : Fin 4, ∑ s : Fin 2048, g (row b s) :=
  (Fin.sum_mul_add_congr (f := g) fun _ _ _ => rfl).trans (Fin.sum_mul_add_congr (f := g) fun _ _ _ => rfl).symm

/-- The sum of squares, after the run. -/
theorem arr8 (c : Dev nD) : (dats m 0 c).arrAt 8 cfg0.N =
    sq (m (c.tc.loc main_arg1)) (m (c.tc.loc main_arg2)) (m (c.tc.loc main_arg3)) (F (m (c.tc.loc main_arg0)) (m (c.tc.loc main_arg4))) := by
  refine (dats m 0 c).arrAt_eq_of_covers 8 _ (by decide +kernel) fun t hf y => ?_
  blk_simp
  rw [after0_8]
  have h15 : t.val % 16 = 15 := (flush0_8 t).mp hf
  rw [sum8 m c t h15 y, zero_add]
  unfold sqB
  simp only [eB_eq]
  have h0 : t.val / 16 = 0 := by have h : t.val < 16 := t.isLt; omega
  refine Eq.trans ?_ (regroup fun r => ∑ j : Fin 1024, Em m c (ix2 r j) * Em m c (ix2 r j))
  refine Finset.sum_congr (M := EReal) rfl fun p _ => Finset.sum_congr (M := EReal) rfl fun s _ => Finset.sum_congr (M := EReal) rfl fun j _ => ?_
  have hp : at512 ⟨16 * (t.val / 16) + p.val, Pipeline.run_point_lt_of_flush t h15 p⟩ s = ⟨p.val * 512 + s.val, by have := p.isLt; have := s.isLt; omega⟩ :=
    Fin.ext (by simp only [at512, h0]; omega)
  rw [show (ix2 s j : S512x1024.Idx) 0 = s from rfl, show (ix2 s j : S512x1024.Idx) 1 = j from rfl, hp]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v1_0) = dy (m (c.tc.loc main_arg1)) (m (c.tc.loc main_arg2)) (m (c.tc.loc main_arg3)) (F (m (c.tc.loc main_arg0)) (m (c.tc.loc main_arg4))) ∧
      r.2.mem (c.tc.loc main_v1_1) = df (m (c.tc.loc main_arg1)) (m (c.tc.loc main_arg2)) (m (c.tc.loc main_arg3)) (F (m (c.tc.loc main_arg0)) (m (c.tc.loc main_arg4))) ∧
      r.2.mem (c.tc.loc main_v1_2) = dgate (m (c.tc.loc main_arg1)) (m (c.tc.loc main_arg2)) (m (c.tc.loc main_arg3)) (F (m (c.tc.loc main_arg0)) (m (c.tc.loc main_arg4))) ∧
      r.2.mem (c.tc.loc main_v1_3) = sq (m (c.tc.loc main_arg1)) (m (c.tc.loc main_arg2)) (m (c.tc.loc main_arg3)) (F (m (c.tc.loc main_arg0)) (m (c.tc.loc main_arg4))) ∧
      r.2.mem (c.tc.loc main_arg0) = m (c.tc.loc main_arg0) ∧
      r.2.mem (c.tc.loc main_arg1) = m (c.tc.loc main_arg1) ∧
      r.2.mem (c.tc.loc main_arg2) = m (c.tc.loc main_arg2) ∧
      r.2.mem (c.tc.loc main_arg3) = m (c.tc.loc main_arg3) ∧
      r.2.mem (c.tc.loc main_arg4) = m (c.tc.loc main_arg4) :=
  (θ_run defs _ _).mono (fun _ h c => ⟨(h c).1.trans (arr5 m c), (h c).2.1.trans (arr6 m c), (h c).2.2.1.trans (arr7 m c), (h c).2.2.2.1.trans (arr8 m c), (h c).2.2.2.2⟩)
    (Cert.Kernel7Ideal.Value.run_blocks m ρ)

/-- The reference's run, with each result named. -/
theorem runR (m : (ℓ : Loc Cert.Reference7Ideal.nD Cert.Reference7Ideal.τ Cert.Reference7Ideal.sig) → Buf (Elt Ideal) ℓ) (ρ : Dev Cert.Reference7Ideal.nD → PrngReg) :
    θ_run Cert.Reference7Ideal.defs (onTc (τ := Cert.Reference7Ideal.τ) (Cert.Reference7Ideal.main (F := Ideal))) ⟨m, fun _ => 0, ρ⟩ fun r => ∀ c : Dev Cert.Reference7Ideal.nD,
      r.2.mem (c.tc.loc Cert.Reference7Ideal.main_v38) = dy (m (c.tc.loc Cert.Reference7Ideal.main_arg1)) (m (c.tc.loc Cert.Reference7Ideal.main_arg2)) (m (c.tc.loc Cert.Reference7Ideal.main_arg3)) (F (m (c.tc.loc Cert.Reference7Ideal.main_arg0)) (m (c.tc.loc Cert.Reference7Ideal.main_arg4))) ∧
      r.2.mem (c.tc.loc Cert.Reference7Ideal.main_v40) = df (m (c.tc.loc Cert.Reference7Ideal.main_arg1)) (m (c.tc.loc Cert.Reference7Ideal.main_arg2)) (m (c.tc.loc Cert.Reference7Ideal.main_arg3)) (F (m (c.tc.loc Cert.Reference7Ideal.main_arg0)) (m (c.tc.loc Cert.Reference7Ideal.main_arg4))) ∧
      r.2.mem (c.tc.loc Cert.Reference7Ideal.main_v29) = dgate (m (c.tc.loc Cert.Reference7Ideal.main_arg1)) (m (c.tc.loc Cert.Reference7Ideal.main_arg2)) (m (c.tc.loc Cert.Reference7Ideal.main_arg3)) (F (m (c.tc.loc Cert.Reference7Ideal.main_arg0)) (m (c.tc.loc Cert.Reference7Ideal.main_arg4))) ∧
      r.2.mem (c.tc.loc Cert.Reference7Ideal.main_v41) = sq (m (c.tc.loc Cert.Reference7Ideal.main_arg1)) (m (c.tc.loc Cert.Reference7Ideal.main_arg2)) (m (c.tc.loc Cert.Reference7Ideal.main_arg3)) (F (m (c.tc.loc Cert.Reference7Ideal.main_arg0)) (m (c.tc.loc Cert.Reference7Ideal.main_arg4))) ∧
      r.2.mem (c.tc.loc Cert.Reference7Ideal.main_arg0) = m (c.tc.loc Cert.Reference7Ideal.main_arg0) ∧
      r.2.mem (c.tc.loc Cert.Reference7Ideal.main_arg1) = m (c.tc.loc Cert.Reference7Ideal.main_arg1) ∧
      r.2.mem (c.tc.loc Cert.Reference7Ideal.main_arg2) = m (c.tc.loc Cert.Reference7Ideal.main_arg2) ∧
      r.2.mem (c.tc.loc Cert.Reference7Ideal.main_arg3) = m (c.tc.loc Cert.Reference7Ideal.main_arg3) ∧
      r.2.mem (c.tc.loc Cert.Reference7Ideal.main_arg4) = m (c.tc.loc Cert.Reference7Ideal.main_arg4) :=
  (θ_run _ _ _).mono (fun _ h c => ⟨(h c).1.trans (by
      clear h
      funext i
      refine (Ref.step _ _ (Ref.error _ _ _ _) i).trans ?_
      unfold dy
      congr 1
      exact congrFun (congrArg (err _ _ _) (funext fun k => Ref.product _ _ k)) i), (h c).2.1.trans (by
      clear h
      funext i
      refine (Ref.gated _ _ _ (Ref.step _ _ (Ref.error _ _ _ _)) i).trans ?_
      exact congrFun (congrArg (df _ _ _) (funext fun k => Ref.product _ _ k)) i), (h c).2.2.1.trans (by
      clear h
      funext i
      refine (Ref.gateSum _ _ _ (Ref.step _ _ (Ref.error _ _ _ _)) i).trans ?_
      exact congrFun (congrArg (dgate _ _ _) (funext fun k => Ref.product _ _ k)) i), (h c).2.2.2.1.trans (by
      clear h
      funext i
      refine (Ref.squares _ _ (Ref.error _ _ _ _) i).trans ?_
      exact congrFun (congrArg (sq _ _ _) (funext fun k => Ref.product _ _ k)) i), (h c).2.2.2.2⟩) (Cert.Reference7Ideal.Value.run m ρ)

end Cert.Ff2Loss

end
-- ==== Proof.OutProjRef.lean ====
/- The reference's gated merge, its projection, the residual and the second norm, entry by entry. -/
module

public import proofs.«01_k».proof.Proof.Gen.Reference8Ideal.Run
public import Idealize.ShloMosaic.Lib.Pipeline.ValueKit
public import Idealize.ShloMosaic.Lib.Pointwise

@[expose] public section

set_option maxRecDepth 16384

noncomputable section

namespace Cert.OutProj.Ref

open Cert.Reference8Ideal Cert.Reference8Ideal.Gen Idealize.ShloMosaic Idealize.ShloMosaic.TcCoe Idealize.SL.Sem

/-- The gate that weighs entry `i`: the sigmoid of the column `o` further on. -/
def gate (o : Nat) (ho : o ≤ 1024) (z : S8192x2048.Idx → EReal) (i : S8192x1024.Idx) : EReal :=
  Ideal.div 1 (1 + Ideal.exp (-z (ix2 (i 0) ⟨o + (i 1).val, Nat.add_lt_add_of_le_of_lt ho (i 1).isLt⟩)))

/-- The reference's residual, with the projection left open. -/
theorem residual (x M : FVec Ideal S8192x1024 .f32) (g : FVec Ideal S4x1x1024 .f32) (i : S8192x1024.Idx) :
    (shapeCast S8192x1024 (addf (shapeCast S4x2048x1024 x shapeCasts_S8192x1024_S4x2048x1024)
      (mulf (broadcastInDim S4x2048x1024 ![0, 1, 2] bcast_S4x1x1024_S4x2048x1024_0_1_2 g)
        (shapeCast S4x2048x1024 M shapeCasts_S8192x1024_S4x2048x1024))) shapeCasts_S4x2048x1024_S8192x1024 : FVec Ideal S8192x1024 .f32) i
    = x i + g (ix3 ⟨(i 0).val / 2048, by have : (i 0).val < 8192 := (i 0).isLt; omega⟩ 0 (i 1)) * M i := by
  pointwise

/-- The reference's gated merge. -/
theorem merge (z : FVec Ideal S8192x2048 .bf16) (ya yb : FVec Ideal S8192x1024 .bf16) (i : S8192x1024.Idx) :
    (addf (mulf (extractStridedSlice S8192x1024 ![0, 0] (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extf .f32 z bitsLt_bf16_f32))))) slices_S8192x2048_S8192x1024_0_0) (extf .f32 ya bitsLt_bf16_f32))
      (mulf (extractStridedSlice S8192x1024 ![0, 1024] (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extf .f32 z bitsLt_bf16_f32))))) slices_S8192x2048_S8192x1024_0_1024) (extf .f32 yb bitsLt_bf16_f32)) : FVec Ideal S8192x1024 .f32) i
    = gate 0 (by omega) z i * ya i + gate 1024 (by omega) z i * yb i := by
  pointwise
  simp only [gate, Nat.zero_add]

/-- The reference's output projection. -/
theorem project (z : FVec Ideal S8192x2048 .bf16) (ya yb : FVec Ideal S8192x1024 .bf16) (w : FVec Ideal S1024x1024 .f32) (i : S8192x1024.Idx) :
    (Host.dotGeneral dot_S8192x1024_S1024x1024_S8192x1024_1_0_0_1_n_n none (addf (mulf (extractStridedSlice S8192x1024 ![0, 0] (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extf .f32 z bitsLt_bf16_f32))))) slices_S8192x2048_S8192x1024_0_0) (extf .f32 ya bitsLt_bf16_f32))
      (mulf (extractStridedSlice S8192x1024 ![0, 1024] (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extf .f32 z bitsLt_bf16_f32))))) slices_S8192x2048_S8192x1024_0_1024) (extf .f32 yb bitsLt_bf16_f32))) w : FVec Ideal S8192x1024 .f32) i
    = ∑ k : Fin 1024, (gate 0 (by omega) z (ix2 (i 0) k) * ya (ix2 (i 0) k) + gate 1024 (by omega) z (ix2 (i 0) k) * yb (ix2 (i 0) k)) * w (ix2 k (i 1)) := by
  pointwise
  refine Finset.sum_congr rfl fun k _ => ?_
  simp only [gate, Nat.zero_add]
  rfl

/-- The reference's norm of rows kept by sequence, in terms of the same rows laid one after the other. -/
theorem norm (X : FVec Ideal S4x2048x1024 .f32) (n : FVec Ideal S1024 .f32) (sc sh : FVec Ideal S4x1x1024 .f32) (i : S8192x1024.Idx)
    (Y : S8192x1024.Idx → EReal) (hY : (shapeCast S8192x1024 X shapeCasts_S4x2048x1024_S8192x1024 : FVec Ideal S8192x1024 .f32) = Y) :
    (shapeCast S8192x1024 (addf (mulf (mulf (mulf X (broadcastInDim S4x2048x1024 ![0, 1, 2] bcast_S4x2048x1_S4x2048x1024_0_1_2 (Host.rsqrt (addf (Host.divf
      (broadcastInDim S4x2048x1 ![0, 1] bcast_S4x2048_S4x2048x1_0_1 (Host.reduceAdd (mulf X X) (constant S_ .f32 0x00000000#32) reducesTo_S4x2048x1024_S4x2048_d2 h_S_))
      (broadcastInDim S4x2048x1 ![] bcast_S_S4x2048x1 (constant S_ .f32 0x44800000#32))) (broadcastInDim S4x2048x1 ![] bcast_S_S4x2048x1 (constant S_ .f32 0x358637BD#32))))))
      (broadcastInDim S4x2048x1024 ![0, 1, 2] bcast_S1x1x1024_S4x2048x1024_0_1_2 (broadcastInDim S1x1x1024 ![2] bcast_S1024_S1x1x1024_2 n)))
      (broadcastInDim S4x2048x1024 ![0, 1, 2] bcast_S4x1x1024_S4x2048x1024_0_1_2 (addf (broadcastInDim S4x1x1024 ![] bcast_S_S4x1x1024 (constant S_ .f32 0x3F800000#32)) sc)))
      (broadcastInDim S4x2048x1024 ![0, 1, 2] bcast_S4x1x1024_S4x2048x1024_0_1_2 sh)) shapeCasts_S4x2048x1024_S8192x1024 : FVec Ideal S8192x1024 .f32) i
    = Y i * Ideal.rsqrt (Ideal.div (∑ k : Fin 1024, Y (ix2 (i 0) k) * Y (ix2 (i 0) k)) (Ideal.ofBits FTy.f32 0x44800000#32)
      + Ideal.ofBits FTy.f32 0x358637bd#32) * n (ix1 (i 1)) * (1 + sc (ix3 ⟨(i 0).val / 2048, by have : (i 0).val < 8192 := (i 0).isLt; omega⟩ 0 (i 1)))
      + sh (ix3 ⟨(i 0).val / 2048, by have : (i 0).val < 8192 := (i 0).isLt; omega⟩ 0 (i 1)) := by
  subst hY
  pointwise

end Cert.OutProj.Ref

end
-- ==== Proof.OutProj.lean ====
/- The values of the gated merge, its projection, the residual and the second norm (the call `out_proj`). -/
module

public import proofs.«01_k».proof.Proof.Gen.Kernel8Ideal.Value
public import proofs.«01_k».proof.Proof.Gen.Reference8Ideal.Run
public import Idealize.ShloMosaic.Lib.Pipeline.ValueKit
public import Idealize.ShloMosaic.Lib.Pipeline.ReadBack
public import Idealize.ShloMosaic.Lib.Pointwise
public import proofs.«01_k».proof.Proof.OutProjRef
@[expose] public section

set_option maxRecDepth 16384

noncomputable section

namespace Cert.OutProj

open Cert.Kernel8Ideal Cert.Kernel8Ideal.Gen Idealize.ShloMosaic Idealize.ShloMosaic.TcCoe Idealize.SL.Sem
open Idealize.ShloMosaic.Pipeline (Dat)
open Cert.OutProj.Ref (gate)
variable (m : (ℓ : Loc nD τ sig) → Buf (Elt Ideal) ℓ)

/-- The sequence that row `r` belongs to. -/
def bat (r : Fin 8192) : Fin 4 := ⟨r.val / 2048, by have := r.isLt; omega⟩

/-- The branches weighed by their gates. -/
def merged (z : S8192x2048.Idx → EReal) (ya yb : S8192x1024.Idx → EReal) (i : S8192x1024.Idx) : EReal :=
  gate 0 (by omega) z i * ya i + gate 1024 (by omega) z i * yb i

/-- The output projection. -/
def mixed (z : S8192x2048.Idx → EReal) (ya yb : S8192x1024.Idx → EReal) (w : S1024x1024.Idx → EReal) (i : S8192x1024.Idx) : EReal :=
  ∑ k : Fin 1024, merged z ya yb (ix2 (i 0) k) * w (ix2 k (i 1))

/-- The residual. -/
def x1 (z : S8192x2048.Idx → EReal) (ya yb x : S8192x1024.Idx → EReal) (g : S4x1x1024.Idx → EReal) (w : S1024x1024.Idx → EReal)
    (i : S8192x1024.Idx) : EReal :=
  x i + g (ix3 (bat (i 0)) 0 (i 1)) * mixed z ya yb w i

/-- The root-mean-square norm, scaled and shifted. -/
def normed (v : S8192x1024.Idx → EReal) (n : S1024.Idx → EReal) (sc sh : S4x1x1024.Idx → EReal) (i : S8192x1024.Idx) : EReal :=
  v i * Ideal.rsqrt (Ideal.div (∑ k : Fin 1024, v (ix2 (i 0) k) * v (ix2 (i 0) k)) (Ideal.ofBits FTy.f32 0x44800000#32)
    + Ideal.ofBits FTy.f32 0x358637bd#32) * n (ix1 (i 1)) * (1 + sc (ix3 (bat (i 0)) 0 (i 1))) + sh (ix3 (bat (i 0)) 0 (i 1))

/-- Which block each window shows at a grid point: sixteen points sweep the rows, four to a sequence. -/
theorem idx : ∀ t : Fin grid0.N, win0_0.index t = ![t.val, 0] ∧
    win0_1.index t = ![t.val, 1] ∧
    win0_2.index t = ![t.val, 0] ∧
    win0_3.index t = ![t.val, 0] ∧
    win0_4.index t = ![0, 0] ∧
    win0_5.index t = ![t.val, 0] ∧
    win0_6.index t = ![t.val / 4, 0, 0] ∧
    win0_7.index t = ![t.val / 4, 0, 0] ∧
    win0_8.index t = ![t.val / 4, 0, 0] ∧
    win0_9.index t = ![0, 0] ∧
    win0_10.index t = ![t.val, 0] ∧
    win0_11.index t = ![t.val, 0] ∧
    win0_12.index t = ![t.val, 0] ∧
    win0_13.index t = ![t.val, 0] := by
  decide +kernel

/-- The merged branches after the run. -/
theorem arr10 (c : Dev nD) : (dats m 0 c).arrAt 10 cfg0.N = merged (m (c.tc.loc main_arg0)) (m (c.tc.loc main_arg1)) (m (c.tc.loc main_arg2)) := by
  refine (dats m 0 c).arrAt_eq_of_covers 10 _ (by decide +kernel) fun t hf y => ?_
  blk_simp
  rw [after0_10]
  unfold outsAt0
  frame_out
  unfold_payloads
  pointwise
  simp only [zero_sub]
  simp only [normed, x1, mixed, merged, gate, bat]
  blk_point [iblk, V, idx t]

/-- The output projection after the run. -/
theorem arr11 (c : Dev nD) : (dats m 0 c).arrAt 11 cfg0.N = mixed (m (c.tc.loc main_arg0)) (m (c.tc.loc main_arg1)) (m (c.tc.loc main_arg2)) (m (c.tc.loc main_arg8)) := by
  refine (dats m 0 c).arrAt_eq_of_covers 11 _ (by decide +kernel) fun t hf y => ?_
  blk_simp
  rw [after0_11]
  unfold outsAt0
  frame_out
  unfold_payloads
  pointwise
  simp only [zero_sub]
  simp only [normed, x1, mixed, merged, gate, bat]
  blk_point [iblk, V, idx t]

/-- The residual after the run. -/
theorem arr12 (c : Dev nD) : (dats m 0 c).arrAt 12 cfg0.N = x1 (m (c.tc.loc main_arg0)) (m (c.tc.loc main_arg1)) (m (c.tc.loc main_arg2)) (m (c.tc.loc main_arg3)) (m (c.tc.loc main_arg4)) (m (c.tc.loc main_arg8)) := by
  refine (dats m 0 c).arrAt_eq_of_covers 12 _ (by decide +kernel) fun t hf y => ?_
  blk_simp
  rw [after0_12]
  unfold outsAt0
  frame_out
  unfold_payloads
  pointwise
  simp only [zero_sub]
  simp only [normed, x1, mixed, merged, gate, bat]
  blk_point [iblk, V, idx t]

/-- The second norm's rows after the run. -/
theorem arr13 (c : Dev nD) : (dats m 0 c).arrAt 13 cfg0.N = normed (x1 (m (c.tc.loc main_arg0)) (m (c.tc.loc main_arg1)) (m (c.tc.loc main_arg2)) (m (c.tc.loc main_arg3)) (m (c.tc.loc main_arg4)) (m (c.tc.loc main_arg8))) (m (c.tc.loc main_arg5)) (m (c.tc.loc main_arg6)) (m (c.tc.loc main_arg7)) := by
  refine (dats m 0 c).arrAt_eq_of_covers 13 _ (by decide +kernel) fun t hf y => ?_
  blk_simp
  rw [after0_13]
  unfold outsAt0
  frame_out
  unfold_payloads
  pointwise
  simp only [zero_sub]
  simp only [normed, x1, mixed, merged, gate, bat]
  blk_point [iblk, V, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v2_0) = merged (m (c.tc.loc main_arg0)) (m (c.tc.loc main_arg1)) (m (c.tc.loc main_arg2)) ∧
      r.2.mem (c.tc.loc main_v2_1) = mixed (m (c.tc.loc main_arg0)) (m (c.tc.loc main_arg1)) (m (c.tc.loc main_arg2)) (m (c.tc.loc main_arg8)) ∧
      r.2.mem (c.tc.loc main_v2_2) = x1 (m (c.tc.loc main_arg0)) (m (c.tc.loc main_arg1)) (m (c.tc.loc main_arg2)) (m (c.tc.loc main_arg3)) (m (c.tc.loc main_arg4)) (m (c.tc.loc main_arg8)) ∧
      r.2.mem (c.tc.loc main_v2_3) = normed (x1 (m (c.tc.loc main_arg0)) (m (c.tc.loc main_arg1)) (m (c.tc.loc main_arg2)) (m (c.tc.loc main_arg3)) (m (c.tc.loc main_arg4)) (m (c.tc.loc main_arg8))) (m (c.tc.loc main_arg5)) (m (c.tc.loc main_arg6)) (m (c.tc.loc main_arg7)) ∧
      r.2.mem (c.tc.loc main_arg0) = m (c.tc.loc main_arg0) ∧
      r.2.mem (c.tc.loc main_arg1) = m (c.tc.loc main_arg1) ∧
      r.2.mem (c.tc.loc main_arg2) = m (c.tc.loc main_arg2) ∧
      r.2.mem (c.tc.loc main_arg3) = m (c.tc.loc main_arg3) ∧
      r.2.mem (c.tc.loc main_arg4) = m (c.tc.loc main_arg4) ∧
      r.2.mem (c.tc.loc main_arg5) = m (c.tc.loc main_arg5) ∧
      r.2.mem (c.tc.loc main_arg6) = m (c.tc.loc main_arg6) ∧
      r.2.mem (c.tc.loc main_arg7) = m (c.tc.loc main_arg7) ∧
      r.2.mem (c.tc.loc main_arg8) = m (c.tc.loc main_arg8) :=
  (θ_run defs _ _).mono (fun _ h c => ⟨(h c).1.trans (arr10 m c), (h c).2.1.trans (arr11 m c), (h c).2.2.1.trans (arr12 m c), (h c).2.2.2.1.trans (arr13 m c), (h c).2.2.2.2⟩)
    (Cert.Kernel8Ideal.Value.run_blocks m ρ)

/-- The reference's run, with each result named. -/
theorem runR (m : (ℓ : Loc Cert.Reference8Ideal.nD Cert.Reference8Ideal.τ Cert.Reference8Ideal.sig) → Buf (Elt Ideal) ℓ) (ρ : Dev Cert.Reference8Ideal.nD → PrngReg) :
    θ_run Cert.Reference8Ideal.defs (onTc (τ := Cert.Reference8Ideal.τ) (Cert.Reference8Ideal.main (F := Ideal))) ⟨m, fun _ => 0, ρ⟩ fun r => ∀ c : Dev Cert.Reference8Ideal.nD,
      r.2.mem (c.tc.loc Cert.Reference8Ideal.main_v50) = merged (m (c.tc.loc Cert.Reference8Ideal.main_arg0)) (m (c.tc.loc Cert.Reference8Ideal.main_arg1)) (m (c.tc.loc Cert.Reference8Ideal.main_arg2)) ∧
      r.2.mem (c.tc.loc Cert.Reference8Ideal.main_v51) = mixed (m (c.tc.loc Cert.Reference8Ideal.main_arg0)) (m (c.tc.loc Cert.Reference8Ideal.main_arg1)) (m (c.tc.loc Cert.Reference8Ideal.main_arg2)) (m (c.tc.loc Cert.Reference8Ideal.main_arg8)) ∧
      r.2.mem (c.tc.loc Cert.Reference8Ideal.main_v52) = x1 (m (c.tc.loc Cert.Reference8Ideal.main_arg0)) (m (c.tc.loc Cert.Reference8Ideal.main_arg1)) (m (c.tc.loc Cert.Reference8Ideal.main_arg2)) (m (c.tc.loc Cert.Reference8Ideal.main_arg3)) (m (c.tc.loc Cert.Reference8Ideal.main_arg4)) (m (c.tc.loc Cert.Reference8Ideal.main_arg8)) ∧
      r.2.mem (c.tc.loc Cert.Reference8Ideal.main_v54) = normed (x1 (m (c.tc.loc Cert.Reference8Ideal.main_arg0)) (m (c.tc.loc Cert.Reference8Ideal.main_arg1)) (m (c.tc.loc Cert.Reference8Ideal.main_arg2)) (m (c.tc.loc Cert.Reference8Ideal.main_arg3)) (m (c.tc.loc Cert.Reference8Ideal.main_arg4)) (m (c.tc.loc Cert.Reference8Ideal.main_arg8))) (m (c.tc.loc Cert.Reference8Ideal.main_arg5)) (m (c.tc.loc Cert.Reference8Ideal.main_arg6)) (m (c.tc.loc Cert.Reference8Ideal.main_arg7)) ∧
      r.2.mem (c.tc.loc Cert.Reference8Ideal.main_arg0) = m (c.tc.loc Cert.Reference8Ideal.main_arg0) ∧
      r.2.mem (c.tc.loc Cert.Reference8Ideal.main_arg1) = m (c.tc.loc Cert.Reference8Ideal.main_arg1) ∧
      r.2.mem (c.tc.loc Cert.Reference8Ideal.main_arg2) = m (c.tc.loc Cert.Reference8Ideal.main_arg2) ∧
      r.2.mem (c.tc.loc Cert.Reference8Ideal.main_arg3) = m (c.tc.loc Cert.Reference8Ideal.main_arg3) ∧
      r.2.mem (c.tc.loc Cert.Reference8Ideal.main_arg4) = m (c.tc.loc Cert.Reference8Ideal.main_arg4) ∧
      r.2.mem (c.tc.loc Cert.Reference8Ideal.main_arg5) = m (c.tc.loc Cert.Reference8Ideal.main_arg5) ∧
      r.2.mem (c.tc.loc Cert.Reference8Ideal.main_arg6) = m (c.tc.loc Cert.Reference8Ideal.main_arg6) ∧
      r.2.mem (c.tc.loc Cert.Reference8Ideal.main_arg7) = m (c.tc.loc Cert.Reference8Ideal.main_arg7) ∧
      r.2.mem (c.tc.loc Cert.Reference8Ideal.main_arg8) = m (c.tc.loc Cert.Reference8Ideal.main_arg8) :=
  (θ_run _ _ _).mono (fun _ h c => ⟨(h c).1.trans (by
      clear h
      funext i
      exact Ref.merge _ _ _ i), (h c).2.1.trans (by
      clear h
      funext i
      exact Ref.project _ _ _ _ i), (h c).2.2.1.trans (by
      clear h
      funext i
      refine (Ref.residual _ _ _ i).trans ?_
      rw [Ref.project]
      rfl), (h c).2.2.2.1.trans (by
      clear h
      funext i
      unfold Cert.Reference8Ideal.Value.res_main_v54
      refine (Ref.norm _ _ _ _ i _ (funext fun j => (Ref.residual _ _ _ j).trans (congrArg (fun e => _ + _ * e) (Ref.project _ _ _ _ j)))).trans ?_
      rfl), (h c).2.2.2.2⟩) (Cert.Reference8Ideal.Value.run m ρ)

end Cert.OutProj

end
-- ==== Proof.InProjRef.lean ====
/- The reference's first norm and input projection, entry by entry. -/
module

public import proofs.«01_k».proof.Proof.Gen.Reference9Ideal.Run
public import Idealize.ShloMosaic.Lib.Pipeline.ValueKit
public import Idealize.ShloMosaic.Lib.Pointwise

@[expose] public section

set_option maxRecDepth 16384

noncomputable section

namespace Cert.InProj.Ref

open Cert.Reference9Ideal Cert.Reference9Ideal.Gen Idealize.ShloMosaic Idealize.ShloMosaic.TcCoe Idealize.SL.Sem

/-- The reference's norm of rows kept by sequence, in terms of the same rows laid one after the other. -/
theorem norm (X : FVec Ideal S4x2048x1024 .f32) (n : FVec Ideal S1024 .f32) (sc sh : FVec Ideal S4x1x1024 .f32) (i : S8192x1024.Idx)
    (Y : S8192x1024.Idx → EReal) (hY : (shapeCast S8192x1024 X shapeCasts_S4x2048x1024_S8192x1024 : FVec Ideal S8192x1024 .f32) = Y) :
    (shapeCast S8192x1024 (addf (mulf (mulf (mulf X (broadcastInDim S4x2048x1024 ![0, 1, 2] bcast_S4x2048x1_S4x2048x1024_0_1_2 (Host.rsqrt (addf (Host.divf
      (broadcastInDim S4x2048x1 ![0, 1] bcast_S4x2048_S4x2048x1_0_1 (Host.reduceAdd (mulf X X) (constant S_ .f32 0x00000000#32) reducesTo_S4x2048x1024_S4x2048_d2 h_S_))
      (broadcastInDim S4x2048x1 ![] bcast_S_S4x2048x1 (constant S_ .f32 0x44800000#32))) (broadcastInDim S4x2048x1 ![] bcast_S_S4x2048x1 (constant S_ .f32 0x358637BD#32))))))
      (broadcastInDim S4x2048x1024 ![0, 1, 2] bcast_S1x1x1024_S4x2048x1024_0_1_2 (broadcastInDim S1x1x1024 ![2] bcast_S1024_S1x1x1024_2 n)))
      (broadcastInDim S4x2048x1024 ![0, 1, 2] bcast_S4x1x1024_S4x2048x1024_0_1_2 (addf (broadcastInDim S4x1x1024 ![] bcast_S_S4x1x1024 (constant S_ .f32 0x3F800000#32)) sc)))
      (broadcastInDim S4x2048x1024 ![0, 1, 2] bcast_S4x1x1024_S4x2048x1024_0_1_2 sh)) shapeCasts_S4x2048x1024_S8192x1024 : FVec Ideal S8192x1024 .f32) i
    = Y i * Ideal.rsqrt (Ideal.div (∑ k : Fin 1024, Y (ix2 (i 0) k) * Y (ix2 (i 0) k)) (Ideal.ofBits FTy.f32 0x44800000#32)
      + Ideal.ofBits FTy.f32 0x358637bd#32) * n (ix1 (i 1)) * (1 + sc (ix3 ⟨(i 0).val / 2048, by have : (i 0).val < 8192 := (i 0).isLt; omega⟩ 0 (i 1)))
      + sh (ix3 ⟨(i 0).val / 2048, by have : (i 0).val < 8192 := (i 0).isLt; omega⟩ 0 (i 1)) := by
  subst hY
  pointwise

/-- Rows taken apart by sequence and laid back are the rows. -/
theorem there (v : FVec Ideal S8192x1024 .f32) : (shapeCast S8192x1024 (shapeCast S4x2048x1024 v shapeCasts_S8192x1024_S4x2048x1024) shapeCasts_S4x2048x1024_S8192x1024 : FVec Ideal S8192x1024 .f32) = v := by
  funext i
  pointwise

/-- The reference's product of rows kept by sequence. -/
theorem project (X : FVec Ideal S4x2048x1024 .f32) (w : FVec Ideal S1024x3488 .f32) (i : S8192x3488.Idx)
    (Y : S8192x1024.Idx → EReal) (hY : (shapeCast S8192x1024 X shapeCasts_S4x2048x1024_S8192x1024 : FVec Ideal S8192x1024 .f32) = Y) :
    (shapeCast S8192x3488 (Host.dotGeneral dot_S4x2048x1024_S1024x3488_S4x2048x3488_2_0_01_1_n_n none X w) shapeCasts_S4x2048x3488_S8192x3488 : FVec Ideal S8192x3488 .f32) i
    = ∑ k : Fin 1024, Y (ix2 (i 0) k) * w (ix2 k (i 1)) := by
  subst hY
  pointwise

/-- The gates' columns of the product. -/
theorem gates (T : FVec Ideal S8192x3488 .f32) (i : S8192x2048.Idx) :
    (truncf .bf16 (extractStridedSlice S8192x2048 ![0, 1440] T slices_S8192x3488_S8192x2048_0_1440 : FVec Ideal S8192x2048 .f32) bitsLt_bf16_f32 : FVec Ideal S8192x2048 .bf16) i
    = T (ix2 (i 0) ⟨1440 + (i 1).val, by have : (i 1).val < 2048 := (i 1).isLt; omega⟩) := by
  pointwise

/-- The convolution branch's columns of the product. -/
theorem glu (T : FVec Ideal S8192x3488 .f32) (i : S8192x1024.Idx) :
    (truncf .bf16 (extractStridedSlice S8192x1024 ![0, 416] T slices_S8192x3488_S8192x1024_0_416 : FVec Ideal S8192x1024 .f32) bitsLt_bf16_f32 : FVec Ideal S8192x1024 .bf16) i
    = T (ix2 (i 0) ⟨416 + (i 1).val, by have : (i 1).val < 1024 := (i 1).isLt; omega⟩) := by
  pointwise

/-- The reference's small columns in their lanes. -/
theorem small (T : FVec Ideal S8192x3488 .f32) (i : S8192x512.Idx) :
    (concatenate S8192x512 1 [⟨S8192x400, ((extractStridedSlice S8192x400 ![0, 0] T slices_S8192x3488_S8192x400_0_0) : (⟨S8192x400, .f32⟩ : BufTy).Contents (Elt Ideal))⟩,
      ⟨S8192x48, ((broadcastInDim S8192x48 ![] bcast_S_S8192x48 (constant (F := Ideal) S_ .f32 0x00000000#32)) : (⟨S8192x48, .f32⟩ : BufTy).Contents (Elt Ideal))⟩,
      ⟨S8192x16, ((extractStridedSlice S8192x16 ![0, 400] T slices_S8192x3488_S8192x16_0_400) : (⟨S8192x16, .f32⟩ : BufTy).Contents (Elt Ideal))⟩,
      ⟨S8192x48, ((broadcastInDim S8192x48 ![] bcast_S_S8192x48 (constant (F := Ideal) S_ .f32 0x00000000#32)) : (⟨S8192x48, .f32⟩ : BufTy).Contents (Elt Ideal))⟩] concatenates_S8192x400_S8192x48_S8192x16_S8192x48_S8192x512_d1 : FVec Ideal S8192x512 .f32) i
    = if h : (i 1).val < 400 then T (ix2 (i 0) ⟨(i 1).val, by omega⟩)
      else if (i 1).val - 400 < 48 then 0
      else if h : (i 1).val - 400 - 48 < 16 then T (ix2 (i 0) ⟨400 + ((i 1).val - 400 - 48), by omega⟩) else 0 := by
  pointwise
  rfl

end Cert.InProj.Ref

end
-- ==== Proof.InProj.lean ====
/- The values of the first norm and the input projection (the call `in_proj_fwd`). -/
module

public import proofs.«01_k».proof.Proof.Gen.Kernel9Ideal.Value
public import proofs.«01_k».proof.Proof.Gen.Reference9Ideal.Run
public import Idealize.ShloMosaic.Lib.Pipeline.ValueKit
public import Idealize.ShloMosaic.Lib.Pipeline.ReadBack
public import Idealize.ShloMosaic.Lib.Pointwise
public import proofs.«01_k».proof.Proof.InProjRef
@[expose] public section

set_option maxRecDepth 16384

noncomputable section

namespace Cert.InProj

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ)

/-- The sequence that row `r` belongs to. -/
def bat (r : Fin 8192) : Fin 4 := ⟨r.val / 2048, by have := r.isLt; omega⟩

/-- The root-mean-square norm, scaled and shifted. -/
def normed (v : S8192x1024.Idx → EReal) (sc sh : S4x1x1024.Idx → EReal) (n : S1024.Idx → EReal) (i : S8192x1024.Idx) : EReal :=
  v i * Ideal.rsqrt (Ideal.div (∑ k : Fin 1024, v (ix2 (i 0) k) * v (ix2 (i 0) k)) (Ideal.ofBits FTy.f32 0x44800000#32)
    + Ideal.ofBits FTy.f32 0x358637bd#32) * n (ix1 (i 1)) * (1 + sc (ix3 (bat (i 0)) 0 (i 1))) + sh (ix3 (bat (i 0)) 0 (i 1))

/-- Row `r` of the normed rows against column `j` of the weight. -/
def proj (v : S8192x1024.Idx → EReal) (sc sh : S4x1x1024.Idx → EReal) (n : S1024.Idx → EReal) (w : S1024x3488.Idx → EReal)
    (r : Fin 8192) (j : Fin 3488) : EReal := ∑ k : Fin 1024, normed v sc sh n (ix2 r k) * w (ix2 k j)

/-- The gates' columns. -/
def zgate (v : S8192x1024.Idx → EReal) (sc sh : S4x1x1024.Idx → EReal) (n : S1024.Idx → EReal) (w : S1024x3488.Idx → EReal)
    (i : S8192x2048.Idx) : EReal := proj v sc sh n w (i 0) ⟨1440 + (i 1).val, by have : (i 1).val < 2048 := (i 1).isLt; omega⟩

/-- The convolution branch's columns. -/
def zglu (v : S8192x1024.Idx → EReal) (sc sh : S4x1x1024.Idx → EReal) (n : S1024.Idx → EReal) (w : S1024x3488.Idx → EReal)
    (i : S8192x1024.Idx) : EReal := proj v sc sh n w (i 0) ⟨416 + (i 1).val, by have : (i 1).val < 1024 := (i 1).isLt; omega⟩

/-- The small columns in their lanes: 400 of them, a gap of 48 zeros, the next 16, a gap of 48 zeros. -/
def zsm (v : S8192x1024.Idx → EReal) (sc sh : S4x1x1024.Idx → EReal) (n : S1024.Idx → EReal) (w : S1024x3488.Idx → EReal)
    (i : S8192x512.Idx) : EReal :=
  if h : (i 1).val < 400 then proj v sc sh n w (i 0) ⟨(i 1).val, by omega⟩
  else if (i 1).val - 400 < 48 then 0
  else if h : (i 1).val - 400 - 48 < 16 then proj v sc sh n w (i 0) ⟨400 + ((i 1).val - 400 - 48), by omega⟩ else 0

/-- The small columns' weight in those lanes: entry `k` of column `j`. -/
def wlane (w : S1024x3488.Idx → EReal) (j : Fin 512) (k : Fin 1024) : EReal :=
  if h : j.val < 400 then w (ix2 k ⟨j.val, by omega⟩)
  else if j.val - 400 < 48 then 0
  else if h : j.val - 400 - 48 < 16 then w (ix2 k ⟨400 + (j.val - 400 - 48), by omega⟩) else 0

/-- The small columns are the normed rows times the weight in its lanes. -/
theorem zsm_eq (v : S8192x1024.Idx → EReal) (sc sh : S4x1x1024.Idx → EReal) (n : S1024.Idx → EReal) (w : S1024x3488.Idx → EReal)
    (i : S8192x512.Idx) : zsm v sc sh n w i = ∑ k : Fin 1024, normed v sc sh n (ix2 (i 0) k) * wlane w (i 1) k := by
  unfold zsm wlane
  split_ifs
  · rfl
  · simp
  · rfl
  · simp

/-- The weight as the call gets it: its columns as rows. -/
def wt (w : FVec Ideal S1024x3488 .f32) : FVec Ideal S3488x1024 .bf16 := truncf .bf16 (transpose S3488x1024 [1, 0] w transposes_S1024x3488_S3488x1024_1_0) bitsLt_bf16_f32

/-- The small columns' weight as the call gets it: rows of the transposed weight, with zeros after each group. -/
theorem Vsm (c : Dev nD) : V m c main_v6 = concatenate S512x1024 0
    [⟨S400x1024, (extractStridedSlice S400x1024 ![0, 0] (wt (m (c.tc.loc main_arg4))) slices_S3488x1024_S400x1024_0_0 : (⟨S400x1024, .bf16⟩ : BufTy).Contents (Elt Ideal))⟩,
     ⟨S48x1024, (broadcastInDim S48x1024 ![] bcast_S_S48x1024 (constant (F := Ideal) S_ .bf16 0x0000#16) : (⟨S48x1024, .bf16⟩ : BufTy).Contents (Elt Ideal))⟩,
     ⟨S16x1024, (extractStridedSlice S16x1024 ![400, 0] (wt (m (c.tc.loc main_arg4))) slices_S3488x1024_S16x1024_400_0 : (⟨S16x1024, .bf16⟩ : BufTy).Contents (Elt Ideal))⟩,
     ⟨S48x1024, (broadcastInDim S48x1024 ![] bcast_S_S48x1024 (constant (F := Ideal) S_ .bf16 0x0000#16) : (⟨S48x1024, .bf16⟩ : BufTy).Contents (Elt Ideal))⟩]
    concatenates_S400x1024_S48x1024_S16x1024_S48x1024_S512x1024_d0 := by
  unfold V
  after_results_simp <;> rfl

/-- The same, entry by entry. -/
theorem Vsm_apply (c : Dev nD) (i : S512x1024.Idx) : V m c main_v6 i = wlane (m (c.tc.loc main_arg4)) (i 0) (i 1) := by
  rw [Vsm]
  unfold wt
  pointwise
  rfl

/-- Which block each window shows at a grid point: sixteen points sweep the rows, four to a sequence. -/
theorem idx : ∀ t : Fin grid0.N, win0_0.index t = ![t.val, 0] ∧
    win0_1.index t = ![t.val / 4, 0, 0] ∧
    win0_2.index t = ![t.val / 4, 0, 0] ∧
    win0_3.index t = ![0, 0] ∧
    win0_4.index t = ![0, 0] ∧
    win0_5.index t = ![0, 0] ∧
    win0_6.index t = ![0, 0] ∧
    win0_7.index t = ![t.val, 0] ∧
    win0_8.index t = ![t.val, 0] ∧
    win0_9.index t = ![t.val, 0] ∧
    win0_10.index t = ![t.val, 0] := by
  decide +kernel

/-- The call sees the whole of it at every point. -/
theorem iblk_sm (c : Dev nD) (t : Fin cfg0.N) (i : S512x1024.Idx) : iblk m c 6 t i = wlane (m (c.tc.loc main_arg4)) (i 0) (i 1) := by
  have h : ∀ f : S512x1024.Idx → EReal, ((View.whole main_v6).slice ((win0 6).rect t)).read (Elt Ideal) f i = f i := by
    intro f
    blk_point [idx t]
  exact (h _).trans (Vsm_apply m c i)

/-- The normed rows after the run. -/
theorem arr7 (c : Dev nD) : (dats m 0 c).arrAt 7 cfg0.N = normed (m (c.tc.loc main_arg0)) (m (c.tc.loc main_arg1)) (m (c.tc.loc main_arg2)) (m (c.tc.loc main_arg3)) := by
  refine (dats m 0 c).arrAt_eq_of_covers 7 _ (by decide +kernel) fun t hf y => ?_
  blk_simp
  rw [after0_7]
  unfold_out out0_7
  frame_out
  unfold_payloads
  pointwise
  simp only [zglu, zgate, proj, normed, bat]
  blk_point [iblk, V, idx t]

/-- The gates after the run. -/
theorem arr8 (c : Dev nD) : (dats m 0 c).arrAt 8 cfg0.N = zgate (m (c.tc.loc main_arg0)) (m (c.tc.loc main_arg1)) (m (c.tc.loc main_arg2)) (m (c.tc.loc main_arg3)) (m (c.tc.loc main_arg4)) := by
  refine (dats m 0 c).arrAt_eq_of_covers 8 _ (by decide +kernel) fun t hf y => ?_
  blk_simp
  rw [after0_8]
  unfold_out out0_8
  frame_out
  unfold_payloads
  pointwise
  simp only [zglu, zgate, proj, normed, bat]
  blk_point [iblk, V, idx t]

/-- The convolution branch's columns after the run. -/
theorem arr9 (c : Dev nD) : (dats m 0 c).arrAt 9 cfg0.N = zglu (m (c.tc.loc main_arg0)) (m (c.tc.loc main_arg1)) (m (c.tc.loc main_arg2)) (m (c.tc.loc main_arg3)) (m (c.tc.loc main_arg4)) := by
  refine (dats m 0 c).arrAt_eq_of_covers 9 _ (by decide +kernel) fun t hf y => ?_
  blk_simp
  rw [after0_9]
  unfold_out out0_9
  frame_out
  unfold_payloads
  pointwise
  simp only [zglu, zgate, proj, normed, bat]
  blk_point [iblk, V, idx t]

/-- The small columns after the run. -/
theorem arr10 (c : Dev nD) : (dats m 0 c).arrAt 10 cfg0.N = zsm (m (c.tc.loc main_arg0)) (m (c.tc.loc main_arg1)) (m (c.tc.loc main_arg2)) (m (c.tc.loc main_arg3)) (m (c.tc.loc main_arg4)) := by
  refine (dats m 0 c).arrAt_eq_of_covers 10 _ (by decide +kernel) fun t hf y => ?_
  blk_simp
  rw [after0_10]
  unfold_out out0_10
  frame_out
  unfold_payloads
  pointwise
  rw [zsm_eq]
  simp only [iblk_sm, normed, bat]
  generalize wlane (m (c.tc.loc main_arg4)) = f
  change (_ : EReal) = (_ : EReal)
  refine Finset.sum_congr (M := EReal) rfl fun x _ => congrArg₂ (· * ·) ?_ ?_
  swap
  · refine congrArg (fun j => f j x) (Fin.ext ?_)
    blk_point [idx t]
  blk_point [iblk, V, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v10_0) = normed (m (c.tc.loc main_arg0)) (m (c.tc.loc main_arg1)) (m (c.tc.loc main_arg2)) (m (c.tc.loc main_arg3)) ∧
      r.2.mem (c.tc.loc main_v10_1) = zgate (m (c.tc.loc main_arg0)) (m (c.tc.loc main_arg1)) (m (c.tc.loc main_arg2)) (m (c.tc.loc main_arg3)) (m (c.tc.loc main_arg4)) ∧
      r.2.mem (c.tc.loc main_v10_2) = zglu (m (c.tc.loc main_arg0)) (m (c.tc.loc main_arg1)) (m (c.tc.loc main_arg2)) (m (c.tc.loc main_arg3)) (m (c.tc.loc main_arg4)) ∧
      r.2.mem (c.tc.loc main_v10_3) = zsm (m (c.tc.loc main_arg0)) (m (c.tc.loc main_arg1)) (m (c.tc.loc main_arg2)) (m (c.tc.loc main_arg3)) (m (c.tc.loc main_arg4)) ∧
      r.2.mem (c.tc.loc main_arg0) = m (c.tc.loc main_arg0) ∧
      r.2.mem (c.tc.loc main_arg1) = m (c.tc.loc main_arg1) ∧
      r.2.mem (c.tc.loc main_arg2) = m (c.tc.loc main_arg2) ∧
      r.2.mem (c.tc.loc main_arg3) = m (c.tc.loc main_arg3) ∧
      r.2.mem (c.tc.loc main_arg4) = m (c.tc.loc main_arg4) :=
  (θ_run defs _ _).mono (fun _ h c => ⟨(h c).1.trans (arr7 m c), (h c).2.1.trans (arr8 m c), (h c).2.2.1.trans (arr9 m c), (h c).2.2.2.1.trans (arr10 m c), (h c).2.2.2.2⟩)
    (Cert.Kernel9Ideal.Value.run_blocks m ρ)

/-- The reference's run, with each result named. -/
theorem runR (m : (ℓ : Loc Cert.Reference9Ideal.nD Cert.Reference9Ideal.τ Cert.Reference9Ideal.sig) → Buf (Elt Ideal) ℓ) (ρ : Dev Cert.Reference9Ideal.nD → PrngReg) :
    θ_run Cert.Reference9Ideal.defs (onTc (τ := Cert.Reference9Ideal.τ) (Cert.Reference9Ideal.main (F := Ideal))) ⟨m, fun _ => 0, ρ⟩ fun r => ∀ c : Dev Cert.Reference9Ideal.nD,
      r.2.mem (c.tc.loc Cert.Reference9Ideal.main_v27) = normed (m (c.tc.loc Cert.Reference9Ideal.main_arg0)) (m (c.tc.loc Cert.Reference9Ideal.main_arg1)) (m (c.tc.loc Cert.Reference9Ideal.main_arg2)) (m (c.tc.loc Cert.Reference9Ideal.main_arg3)) ∧
      r.2.mem (c.tc.loc Cert.Reference9Ideal.main_v29) = zgate (m (c.tc.loc Cert.Reference9Ideal.main_arg0)) (m (c.tc.loc Cert.Reference9Ideal.main_arg1)) (m (c.tc.loc Cert.Reference9Ideal.main_arg2)) (m (c.tc.loc Cert.Reference9Ideal.main_arg3)) (m (c.tc.loc Cert.Reference9Ideal.main_arg4)) ∧
      r.2.mem (c.tc.loc Cert.Reference9Ideal.main_v31) = zglu (m (c.tc.loc Cert.Reference9Ideal.main_arg0)) (m (c.tc.loc Cert.Reference9Ideal.main_arg1)) (m (c.tc.loc Cert.Reference9Ideal.main_arg2)) (m (c.tc.loc Cert.Reference9Ideal.main_arg3)) (m (c.tc.loc Cert.Reference9Ideal.main_arg4)) ∧
      r.2.mem (c.tc.loc Cert.Reference9Ideal.main_v25) = zsm (m (c.tc.loc Cert.Reference9Ideal.main_arg0)) (m (c.tc.loc Cert.Reference9Ideal.main_arg1)) (m (c.tc.loc Cert.Reference9Ideal.main_arg2)) (m (c.tc.loc Cert.Reference9Ideal.main_arg3)) (m (c.tc.loc Cert.Reference9Ideal.main_arg4)) ∧
      r.2.mem (c.tc.loc Cert.Reference9Ideal.main_arg0) = m (c.tc.loc Cert.Reference9Ideal.main_arg0) ∧
      r.2.mem (c.tc.loc Cert.Reference9Ideal.main_arg1) = m (c.tc.loc Cert.Reference9Ideal.main_arg1) ∧
      r.2.mem (c.tc.loc Cert.Reference9Ideal.main_arg2) = m (c.tc.loc Cert.Reference9Ideal.main_arg2) ∧
      r.2.mem (c.tc.loc Cert.Reference9Ideal.main_arg3) = m (c.tc.loc Cert.Reference9Ideal.main_arg3) ∧
      r.2.mem (c.tc.loc Cert.Reference9Ideal.main_arg4) = m (c.tc.loc Cert.Reference9Ideal.main_arg4) :=
  (θ_run _ _ _).mono (fun _ h c => ⟨(h c).1.trans (by
      clear h
      funext i
      exact Ref.norm _ _ _ _ _ _ (Ref.there _)), (h c).2.1.trans (by
      clear h
      funext i
      exact (Ref.gates _ i).trans (Ref.project _ _ _ _ (funext fun j => Ref.norm _ _ _ _ j _ (Ref.there _)))), (h c).2.2.1.trans (by
      clear h
      funext i
      exact (Ref.glu _ i).trans (Ref.project _ _ _ _ (funext fun j => Ref.norm _ _ _ _ j _ (Ref.there _)))), (h c).2.2.2.1.trans (by
      clear h
      funext i
      refine (Ref.small _ i).trans ?_
      unfold zsm
      split_ifs
      · exact (Ref.project _ _ _ _ (funext fun j => Ref.norm _ _ _ _ j _ (Ref.there _)))
      · rfl
      · exact (Ref.project _ _ _ _ (funext fun j => Ref.norm _ _ _ _ j _ (Ref.there _)))
      · rfl), (h c).2.2.2.2⟩) (Cert.Reference9Ideal.Value.run m ρ)

end Cert.InProj

end
-- ==== Proof.MlaOut.lean ====
/- The value of the attention branch's output projection (the call `mla_out`). -/
module

public import proofs.«01_k».proof.Proof.Gen.Kernel10Ideal.Value
public import proofs.«01_k».proof.Proof.Gen.Reference10Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MlaOut

open Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ)

/-- One entry of the product. -/
def G (a : S8192x512.Idx → EReal) (b : S512x1024.Idx → EReal) (i : S8192x1024.Idx) : EReal :=
  (∑ k : Fin 512, a (ix2 (i 0) k) * b (ix2 k (i 1)))

/-- Which block each window shows at a grid point. -/
theorem idx : ∀ t : Fin grid0.N, win0_0.index t = ![(grid0.coords t 0).val, 0] ∧ win0_1.index t = ![(grid0.coords t 1).val, 0] ∧ win0_2.index t = ![(grid0.coords t 0).val, (grid0.coords t 1).val] := by
  decide +kernel

/-- The result array after the run. -/
theorem arr (c : Dev nD) : (dats m 0 c).arrAt 2 cfg0.N = G (m (c.tc.loc main_arg0)) (m (c.tc.loc main_arg1)) := by
  refine (dats m 0 c).arrAt_eq_of_covers 2 _ (by decide +kernel) fun t hf y => ?_
  blk_simp
  rw [after0_2]
  unfold outsAt0
  frame_out
  unfold_payloads
  pointwise
  unfold G
  blk_point [iblk, V, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v2) = G (m (c.tc.loc main_arg0)) (m (c.tc.loc main_arg1)) ∧
      r.2.mem (c.tc.loc main_arg0) = m (c.tc.loc main_arg0) ∧
      r.2.mem (c.tc.loc main_arg1) = m (c.tc.loc main_arg1) :=
  (θ_run defs _ _).mono (fun _ h c => ⟨(h c).1.trans (arr m c), (h c).2⟩)
    (Cert.Kernel10Ideal.Value.run_blocks m ρ)

/-- The reference's run, with each result named. -/
theorem runR (m : (ℓ : Loc Cert.Reference10Ideal.nD Cert.Reference10Ideal.τ Cert.Reference10Ideal.sig) → Buf (Elt Ideal) ℓ) (ρ : Dev Cert.Reference10Ideal.nD → PrngReg) :
    θ_run Cert.Reference10Ideal.defs (onTc (τ := Cert.Reference10Ideal.τ) (Cert.Reference10Ideal.main (F := Ideal))) ⟨m, fun _ => 0, ρ⟩ fun r => ∀ c : Dev Cert.Reference10Ideal.nD,
      r.2.mem (c.tc.loc Cert.Reference10Ideal.main_v2) = G (m (c.tc.loc Cert.Reference10Ideal.main_arg0)) (m (c.tc.loc Cert.Reference10Ideal.main_arg1)) ∧
      r.2.mem (c.tc.loc Cert.Reference10Ideal.main_arg0) = m (c.tc.loc Cert.Reference10Ideal.main_arg0) ∧
      r.2.mem (c.tc.loc Cert.Reference10Ideal.main_arg1) = m (c.tc.loc Cert.Reference10Ideal.main_arg1) :=
  (θ_run _ _ _).mono (fun _ h c => ⟨(h c).1.trans (by
      clear h
      funext i
      pointwise
      rfl), (h c).2⟩) (Cert.Reference10Ideal.Value.run m ρ)

end Cert.MlaOut

end
-- ==== Proof.MlaOutBwd.lean ====
/- The gradient the attention branch's output projection passes back (the call `mla_out_bwd`). -/
module

public import proofs.«01_k».proof.Proof.Gen.Kernel11Ideal.Value
public import proofs.«01_k».proof.Proof.Gen.Reference11Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MlaOutBwd

open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ)

/-- One entry of the product. -/
def G (a : S8192x1024.Idx → EReal) (b : S512x1024.Idx → EReal) (i : S8192x512.Idx) : EReal :=
  (∑ k : Fin 1024, a (ix2 (i 0) k) * b (ix2 (i 1) k))

/-- Which block each window shows at a grid point. -/
theorem idx : ∀ t : Fin grid0.N, win0_0.index t = ![(grid0.coords t 0).val, 0] ∧ win0_1.index t = ![0, (grid0.coords t 1).val] ∧ win0_2.index t = ![(grid0.coords t 0).val, (grid0.coords t 1).val] := by
  decide +kernel

/-- The result array after the run. -/
theorem arr (c : Dev nD) : (dats m 0 c).arrAt 2 cfg0.N = G (m (c.tc.loc main_arg0)) (m (c.tc.loc main_arg1)) := by
  refine (dats m 0 c).arrAt_eq_of_covers 2 _ (by decide +kernel) fun t hf y => ?_
  blk_simp
  rw [after0_2]
  unfold outsAt0
  frame_out
  unfold_payloads
  pointwise
  unfold G
  blk_point [iblk, V, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v2) = G (m (c.tc.loc main_arg0)) (m (c.tc.loc main_arg1)) ∧
      r.2.mem (c.tc.loc main_arg0) = m (c.tc.loc main_arg0) ∧
      r.2.mem (c.tc.loc main_arg1) = m (c.tc.loc main_arg1) :=
  (θ_run defs _ _).mono (fun _ h c => ⟨(h c).1.trans (arr m c), (h c).2⟩)
    (Cert.Kernel11Ideal.Value.run_blocks m ρ)

/-- The reference's run, with each result named. -/
theorem runR (m : (ℓ : Loc Cert.Reference11Ideal.nD Cert.Reference11Ideal.τ Cert.Reference11Ideal.sig) → Buf (Elt Ideal) ℓ) (ρ : Dev Cert.Reference11Ideal.nD → PrngReg) :
    θ_run Cert.Reference11Ideal.defs (onTc (τ := Cert.Reference11Ideal.τ) (Cert.Reference11Ideal.main (F := Ideal))) ⟨m, fun _ => 0, ρ⟩ fun r => ∀ c : Dev Cert.Reference11Ideal.nD,
      r.2.mem (c.tc.loc Cert.Reference11Ideal.main_v4) = G (m (c.tc.loc Cert.Reference11Ideal.main_arg0)) (m (c.tc.loc Cert.Reference11Ideal.main_arg1)) ∧
      r.2.mem (c.tc.loc Cert.Reference11Ideal.main_arg0) = m (c.tc.loc Cert.Reference11Ideal.main_arg0) ∧
      r.2.mem (c.tc.loc Cert.Reference11Ideal.main_arg1) = m (c.tc.loc Cert.Reference11Ideal.main_arg1) :=
  (θ_run _ _ _).mono (fun _ h c => ⟨(h c).1.trans (by
      clear h
      funext i
      pointwise
      rfl), (h c).2⟩) (Cert.Reference11Ideal.Value.run m ρ)

end Cert.MlaOutBwd

end
-- ==== Proof.MlaOutDw.lean ====
/- The value of the gradient of the attention branch's output weight (the call `mla_out_dw`). -/
module

public import proofs.«01_k».proof.Proof.Gen.Kernel12Ideal.Value
public import proofs.«01_k».proof.Proof.Gen.Reference12Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MlaOutDw

open Cert.Kernel12Ideal Cert.Kernel12Ideal.Gen Idealize.ShloMosaic Idealize.ShloMosaic.TcCoe Idealize.SL.Sem
open Idealize.ShloMosaic.Pipeline (Dat)

variable (m : (ℓ : Loc nD τ sig) → Buf (Elt Ideal) ℓ)

/-- One entry of the weight's gradient: a column of `p` against a column of `q`. -/
def G (p : S8192x1024.Idx → EReal) (q : S8192x512.Idx → EReal) (i : S1024x512.Idx) : EReal :=
  ∑ k : Fin 8192, p (ix2 k (i 0)) * q (ix2 k (i 1))

/-- Eight points in a row sweep the rows for one block of the result. -/
theorem idx : ∀ t : Fin grid0.N, win0_0.index t = ![t.val % 8, t.val / 8] ∧ win0_1.index t = ![t.val % 8, 0] ∧
    win0_2.index t = ![t.val / 8, 0] := by
  decide +kernel

/-- What one point adds to the accumulator, from the blocks it sees. -/
def part (p : S1024x1024.Idx → EReal) (q : S1024x512.Idx → EReal) (y : S1024x512.Idx) : EReal :=
  ∑ x : Fin 1024, p (ix2 x (y 0)) * q (ix2 x (y 1))

/-- The body's sum is the accumulator plus `part`. -/
theorem pay2 (p : Vec Ideal S1024x1024 .bf16) (x : Vec Ideal S1024x512 .f32) (q : Vec Ideal S1024x512 .bf16) (y : S1024x512.Idx) :
    k0_pay2 p x q y = x y + part p q y := by
  unfold_payloads
  pointwise
  rfl

/-- The accumulator starts at zero. -/
theorem pay1 (y : S1024x512.Idx) : k0_pay1 (F := Ideal) y = 0 := by
  unfold_payloads
  pointwise

/-- The accumulator is written out as it is. -/
theorem pay3 (x : Vec Ideal S1024x512 .f32) (y : S1024x512.Idx) : k0_pay3 x y = x y := by
  unfold_payloads
  pointwise

/-- The accumulator after the last of the eight points. -/
theorem scratch (c : Dev nD) (t : Fin cfg0.N) (h7 : t.val % 8 = 7) (y : S1024x512.Idx) :
    (outsAt0 m c t.val t.isLt).2 y = 0 + ∑ s : Fin 8, part (iblk m c 0 ⟨8 * (t.val / 8) + s.val, Pipeline.run_point_lt_of_flush t h7 s⟩)
      (iblk m c 1 ⟨8 * (t.val / 8) + s.val, Pipeline.run_point_lt_of_flush t h7 s⟩) y := by
  refine Pipeline.eq_sum_fin_of_reset_step_apply_of_flush (fun n h => (outsAt0 m c n h).2) 8 (fun _ => 0)
    (fun t y => part (iblk m c 0 t) (iblk m c 1 t) y) (fun t h i => ?_) (fun t h i => ?_) t h7 y
  · rw [outsAt0_A m c t h (by omega)]
    frame_out
    rw [pay2, pay1]
  · by_cases h' : t.val % 8 = 7
    · rw [outsAt0_C m c t h h']
      frame_out
      rw [read_unread_whole, pay2]
    · rw [outsAt0_B m c t h h']
      frame_out
      rw [read_unread_whole, pay2]

/-- The result array after the run. -/
theorem arr (c : Dev nD) : (dats m 0 c).arrAt 2 cfg0.N = G (m (c.tc.loc main_arg1)) (m (c.tc.loc main_arg0)) := by
  refine (dats m 0 c).arrAt_eq_of_covers 2 _ (by decide +kernel) fun t hf y => ?_
  blk_simp
  rw [after0_2]
  have h7 : t.val % 8 = 7 := (flush0_2 t).mp hf
  have h0 : ¬ t.val % 8 = 0 := by omega
  have hs : (outsAt0 m c t.val t.isLt).1 y = (outsAt0 m c t.val t.isLt).2 y := by
    rw [outsAt0_C m c t h0 h7]
    frame_out
    rw [pay3]
  rw [hs, scratch m c t h7 y, zero_add]
  unfold G part
  refine Fin.sum_mul_add_congr fun s k hl => ?_
  blk_point [iblk, V, idx ⟨8 * (t.val / 8) + s.val, Pipeline.run_point_lt_of_flush t h7 s⟩, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v0) = G (m (c.tc.loc main_arg1)) (m (c.tc.loc main_arg0)) ∧
      r.2.mem (c.tc.loc main_arg0) = m (c.tc.loc main_arg0) ∧
      r.2.mem (c.tc.loc main_arg1) = m (c.tc.loc main_arg1) :=
  (θ_run defs _ _).mono (fun _ h c => ⟨(h c).1.trans (arr m c), (h c).2⟩)
    (Cert.Kernel12Ideal.Value.run_blocks m ρ)

/-- The reference's run, with each result named. -/
theorem runR (m : (ℓ : Loc Cert.Reference12Ideal.nD Cert.Reference12Ideal.τ Cert.Reference12Ideal.sig) → Buf (Elt Ideal) ℓ) (ρ : Dev Cert.Reference12Ideal.nD → PrngReg) :
    θ_run Cert.Reference12Ideal.defs (onTc (τ := Cert.Reference12Ideal.τ) (Cert.Reference12Ideal.main (F := Ideal))) ⟨m, fun _ => 0, ρ⟩ fun r => ∀ c : Dev Cert.Reference12Ideal.nD,
      r.2.mem (c.tc.loc Cert.Reference12Ideal.main_v7) = G (m (c.tc.loc Cert.Reference12Ideal.main_arg1)) (m (c.tc.loc Cert.Reference12Ideal.main_arg0)) ∧
      r.2.mem (c.tc.loc Cert.Reference12Ideal.main_arg0) = m (c.tc.loc Cert.Reference12Ideal.main_arg0) ∧
      r.2.mem (c.tc.loc Cert.Reference12Ideal.main_arg1) = m (c.tc.loc Cert.Reference12Ideal.main_arg1) :=
  (θ_run _ _ _).mono (fun _ h c => ⟨(h c).1.trans (by
      clear h
      funext i
      pointwise
      unfold G
      first | rfl | exact Finset.sum_congr rfl fun _ _ => mul_comm _ _), (h c).2⟩) (Cert.Reference12Ideal.Value.run m ρ)

end Cert.MlaOutDw

end
-- ==== Proof.ConvOut.lean ====
/- The value of the convolution branch's output projection (the call `conv_out`). -/
module

public import proofs.«01_k».proof.Proof.Gen.Kernel13Ideal.Value
public import proofs.«01_k».proof.Proof.Gen.Reference13Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ConvOut

open Cert.Kernel13Ideal Cert.Kernel13Ideal.Gen Idealize.ShloMosaic Idealize.ShloMosaic.TcCoe Idealize.SL.Sem
open Idealize.ShloMosaic.Pipeline (Dat)

variable (m : (ℓ : Loc nD τ sig) → Buf (Elt Ideal) ℓ)

/-- One entry of the product. -/
def G (a : S8192x512.Idx → EReal) (b : S512x1024.Idx → EReal) (i : S8192x1024.Idx) : EReal :=
  (∑ k : Fin 512, a (ix2 (i 0) k) * b (ix2 k (i 1)))

/-- Which block each window shows at a grid point. -/
theorem idx : ∀ t : Fin grid0.N, win0_0.index t = ![(grid0.coords t 0).val, 0] ∧ win0_1.index t = ![(grid0.coords t 1).val, 0] ∧ win0_2.index t = ![(grid0.coords t 0).val, (grid0.coords t 1).val] := by
  decide +kernel

/-- The result array after the run. -/
theorem arr (c : Dev nD) : (dats m 0 c).arrAt 2 cfg0.N = G (m (c.tc.loc main_arg0)) (m (c.tc.loc main_arg1)) := by
  refine (dats m 0 c).arrAt_eq_of_covers 2 _ (by decide +kernel) fun t hf y => ?_
  blk_simp
  rw [after0_2]
  unfold outsAt0
  frame_out
  unfold_payloads
  pointwise
  unfold G
  blk_point [iblk, V, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v2) = G (m (c.tc.loc main_arg0)) (m (c.tc.loc main_arg1)) ∧
      r.2.mem (c.tc.loc main_arg0) = m (c.tc.loc main_arg0) ∧
      r.2.mem (c.tc.loc main_arg1) = m (c.tc.loc main_arg1) :=
  (θ_run defs _ _).mono (fun _ h c => ⟨(h c).1.trans (arr m c), (h c).2⟩)
    (Cert.Kernel13Ideal.Value.run_blocks m ρ)

/-- The reference's run, with each result named. -/
theorem runR (m : (ℓ : Loc Cert.Reference13Ideal.nD Cert.Reference13Ideal.τ Cert.Reference13Ideal.sig) → Buf (Elt Ideal) ℓ) (ρ : Dev Cert.Reference13Ideal.nD → PrngReg) :
    θ_run Cert.Reference13Ideal.defs (onTc (τ := Cert.Reference13Ideal.τ) (Cert.Reference13Ideal.main (F := Ideal))) ⟨m, fun _ => 0, ρ⟩ fun r => ∀ c : Dev Cert.Reference13Ideal.nD,
      r.2.mem (c.tc.loc Cert.Reference13Ideal.main_v2) = G (m (c.tc.loc Cert.Reference13Ideal.main_arg0)) (m (c.tc.loc Cert.Reference13Ideal.main_arg1)) ∧
      r.2.mem (c.tc.loc Cert.Reference13Ideal.main_arg0) = m (c.tc.loc Cert.Reference13Ideal.main_arg0) ∧
      r.2.mem (c.tc.loc Cert.Reference13Ideal.main_arg1) = m (c.tc.loc Cert.Reference13Ideal.main_arg1) :=
  (θ_run _ _ _).mono (fun _ h c => ⟨(h c).1.trans (by
      clear h
      funext i
      pointwise
      rfl), (h c).2⟩) (Cert.Reference13Ideal.Value.run m ρ)

end Cert.ConvOut

end
-- ==== Proof.ConvOutBwd.lean ====
/- The gradient the convolution branch's output projection passes back (the call `conv_out_bwd`). -/
module

public import proofs.«01_k».proof.Proof.Gen.Kernel14Ideal.Value
public import proofs.«01_k».proof.Proof.Gen.Reference14Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ConvOutBwd

open Cert.Kernel14Ideal Cert.Kernel14Ideal.Gen Idealize.ShloMosaic Idealize.ShloMosaic.TcCoe Idealize.SL.Sem
open Idealize.ShloMosaic.Pipeline (Dat)

variable (m : (ℓ : Loc nD τ sig) → Buf (Elt Ideal) ℓ)

/-- One entry of the product. -/
def G (a : S8192x1024.Idx → EReal) (b : S512x1024.Idx → EReal) (i : S8192x512.Idx) : EReal :=
  (∑ k : Fin 1024, a (ix2 (i 0) k) * b (ix2 (i 1) k))

/-- Which block each window shows at a grid point. -/
theorem idx : ∀ t : Fin grid0.N, win0_0.index t = ![(grid0.coords t 0).val, 0] ∧ win0_1.index t = ![0, (grid0.coords t 1).val] ∧ win0_2.index t = ![(grid0.coords t 0).val, (grid0.coords t 1).val] := by
  decide +kernel

/-- The result array after the run. -/
theorem arr (c : Dev nD) : (dats m 0 c).arrAt 2 cfg0.N = G (m (c.tc.loc main_arg0)) (m (c.tc.loc main_arg1)) := by
  refine (dats m 0 c).arrAt_eq_of_covers 2 _ (by decide +kernel) fun t hf y => ?_
  blk_simp
  rw [after0_2]
  unfold outsAt0
  frame_out
  unfold_payloads
  pointwise
  unfold G
  blk_point [iblk, V, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v2) = G (m (c.tc.loc main_arg0)) (m (c.tc.loc main_arg1)) ∧
      r.2.mem (c.tc.loc main_arg0) = m (c.tc.loc main_arg0) ∧
      r.2.mem (c.tc.loc main_arg1) = m (c.tc.loc main_arg1) :=
  (θ_run defs _ _).mono (fun _ h c => ⟨(h c).1.trans (arr m c), (h c).2⟩)
    (Cert.Kernel14Ideal.Value.run_blocks m ρ)

/-- The reference's run, with each result named. -/
theorem runR (m : (ℓ : Loc Cert.Reference14Ideal.nD Cert.Reference14Ideal.τ Cert.Reference14Ideal.sig) → Buf (Elt Ideal) ℓ) (ρ : Dev Cert.Reference14Ideal.nD → PrngReg) :
    θ_run Cert.Reference14Ideal.defs (onTc (τ := Cert.Reference14Ideal.τ) (Cert.Reference14Ideal.main (F := Ideal))) ⟨m, fun _ => 0, ρ⟩ fun r => ∀ c : Dev Cert.Reference14Ideal.nD,
      r.2.mem (c.tc.loc Cert.Reference14Ideal.main_v4) = G (m (c.tc.loc Cert.Reference14Ideal.main_arg0)) (m (c.tc.loc Cert.Reference14Ideal.main_arg1)) ∧
      r.2.mem (c.tc.loc Cert.Reference14Ideal.main_arg0) = m (c.tc.loc Cert.Reference14Ideal.main_arg0) ∧
      r.2.mem (c.tc.loc Cert.Reference14Ideal.main_arg1) = m (c.tc.loc Cert.Reference14Ideal.main_arg1) :=
  (θ_run _ _ _).mono (fun _ h c => ⟨(h c).1.trans (by
      clear h
      funext i
      pointwise
      rfl), (h c).2⟩) (Cert.Reference14Ideal.Value.run m ρ)

end Cert.ConvOutBwd

end
-- ==== Proof.ConvOutDw.lean ====
/- The value of the gradient of the convolution branch's output weight (the call `conv_out_dw`). -/
module

public import proofs.«01_k».proof.Proof.Gen.Kernel15Ideal.Value
public import proofs.«01_k».proof.Proof.Gen.Reference15Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ConvOutDw

open Cert.Kernel15Ideal Cert.Kernel15Ideal.Gen Idealize.ShloMosaic Idealize.ShloMosaic.TcCoe Idealize.SL.Sem
open Idealize.ShloMosaic.Pipeline (Dat)

variable (m : (ℓ : Loc nD τ sig) → Buf (Elt Ideal) ℓ)

/-- One entry of the weight's gradient: a column of `p` against a column of `q`. -/
def G (p : S8192x1024.Idx → EReal) (q : S8192x512.Idx → EReal) (i : S1024x512.Idx) : EReal :=
  ∑ k : Fin 8192, p (ix2 k (i 0)) * q (ix2 k (i 1))

/-- Eight points in a row sweep the rows for one block of the result. -/
theorem idx : ∀ t : Fin grid0.N, win0_0.index t = ![t.val % 8, t.val / 8] ∧ win0_1.index t = ![t.val % 8, 0] ∧
    win0_2.index t = ![t.val / 8, 0] := by
  decide +kernel

/-- What one point adds to the accumulator, from the blocks it sees. -/
def part (p : S1024x1024.Idx → EReal) (q : S1024x512.Idx → EReal) (y : S1024x512.Idx) : EReal :=
  ∑ x : Fin 1024, p (ix2 x (y 0)) * q (ix2 x (y 1))

/-- The body's sum is the accumulator plus `part`. -/
theorem pay2 (p : Vec Ideal S1024x1024 .bf16) (x : Vec Ideal S1024x512 .f32) (q : Vec Ideal S1024x512 .bf16) (y : S1024x512.Idx) :
    k0_pay2 p x q y = x y + part p q y := by
  unfold_payloads
  pointwise
  rfl

/-- The accumulator starts at zero. -/
theorem pay1 (y : S1024x512.Idx) : k0_pay1 (F := Ideal) y = 0 := by
  unfold_payloads
  pointwise

/-- The accumulator is written out as it is. -/
theorem pay3 (x : Vec Ideal S1024x512 .f32) (y : S1024x512.Idx) : k0_pay3 x y = x y := by
  unfold_payloads
  pointwise

/-- The accumulator after the last of the eight points. -/
theorem scratch (c : Dev nD) (t : Fin cfg0.N) (h7 : t.val % 8 = 7) (y : S1024x512.Idx) :
    (outsAt0 m c t.val t.isLt).2 y = 0 + ∑ s : Fin 8, part (iblk m c 0 ⟨8 * (t.val / 8) + s.val, Pipeline.run_point_lt_of_flush t h7 s⟩)
      (iblk m c 1 ⟨8 * (t.val / 8) + s.val, Pipeline.run_point_lt_of_flush t h7 s⟩) y := by
  refine Pipeline.eq_sum_fin_of_reset_step_apply_of_flush (fun n h => (outsAt0 m c n h).2) 8 (fun _ => 0)
    (fun t y => part (iblk m c 0 t) (iblk m c 1 t) y) (fun t h i => ?_) (fun t h i => ?_) t h7 y
  · rw [outsAt0_A m c t h (by omega)]
    frame_out
    rw [pay2, pay1]
  · by_cases h' : t.val % 8 = 7
    · rw [outsAt0_C m c t h h']
      frame_out
      rw [read_unread_whole, pay2]
    · rw [outsAt0_B m c t h h']
      frame_out
      rw [read_unread_whole, pay2]

/-- The result array after the run. -/
theorem arr (c : Dev nD) : (dats m 0 c).arrAt 2 cfg0.N = G (m (c.tc.loc main_arg1)) (m (c.tc.loc main_arg0)) := by
  refine (dats m 0 c).arrAt_eq_of_covers 2 _ (by decide +kernel) fun t hf y => ?_
  blk_simp
  rw [after0_2]
  have h7 : t.val % 8 = 7 := (flush0_2 t).mp hf
  have h0 : ¬ t.val % 8 = 0 := by omega
  have hs : (outsAt0 m c t.val t.isLt).1 y = (outsAt0 m c t.val t.isLt).2 y := by
    rw [outsAt0_C m c t h0 h7]
    frame_out
    rw [pay3]
  rw [hs, scratch m c t h7 y, zero_add]
  unfold G part
  refine Fin.sum_mul_add_congr fun s k hl => ?_
  blk_point [iblk, V, idx ⟨8 * (t.val / 8) + s.val, Pipeline.run_point_lt_of_flush t h7 s⟩, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v0) = G (m (c.tc.loc main_arg1)) (m (c.tc.loc main_arg0)) ∧
      r.2.mem (c.tc.loc main_arg0) = m (c.tc.loc main_arg0) ∧
      r.2.mem (c.tc.loc main_arg1) = m (c.tc.loc main_arg1) :=
  (θ_run defs _ _).mono (fun _ h c => ⟨(h c).1.trans (arr m c), (h c).2⟩)
    (Cert.Kernel15Ideal.Value.run_blocks m ρ)

/-- The reference's run, with each result named. -/
theorem runR (m : (ℓ : Loc Cert.Reference15Ideal.nD Cert.Reference15Ideal.τ Cert.Reference15Ideal.sig) → Buf (Elt Ideal) ℓ) (ρ : Dev Cert.Reference15Ideal.nD → PrngReg) :
    θ_run Cert.Reference15Ideal.defs (onTc (τ := Cert.Reference15Ideal.τ) (Cert.Reference15Ideal.main (F := Ideal))) ⟨m, fun _ => 0, ρ⟩ fun r => ∀ c : Dev Cert.Reference15Ideal.nD,
      r.2.mem (c.tc.loc Cert.Reference15Ideal.main_v7) = G (m (c.tc.loc Cert.Reference15Ideal.main_arg1)) (m (c.tc.loc Cert.Reference15Ideal.main_arg0)) ∧
      r.2.mem (c.tc.loc Cert.Reference15Ideal.main_arg0) = m (c.tc.loc Cert.Reference15Ideal.main_arg0) ∧
      r.2.mem (c.tc.loc Cert.Reference15Ideal.main_arg1) = m (c.tc.loc Cert.Reference15Ideal.main_arg1) :=
  (θ_run _ _ _).mono (fun _ h c => ⟨(h c).1.trans (by
      clear h
      funext i
      pointwise
      unfold G
      first | rfl | exact Finset.sum_congr rfl fun _ _ => mul_comm _ _), (h c).2⟩) (Cert.Reference15Ideal.Value.run m ρ)

end Cert.ConvOutDw

end
-- ==== Proof.Ff1Dw.lean ====
/- The value of the gradient of the MLP's first weight (the call `ff1_dw`). -/
module

public import proofs.«01_k».proof.Proof.Gen.Kernel16Ideal.Value
public import proofs.«01_k».proof.Proof.Gen.Reference16Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Ff1Dw

open Cert.Kernel16Ideal Cert.Kernel16Ideal.Gen Idealize.ShloMosaic Idealize.ShloMosaic.TcCoe Idealize.SL.Sem
open Idealize.ShloMosaic.Pipeline (Dat)

variable (m : (ℓ : Loc nD τ sig) → Buf (Elt Ideal) ℓ)

/-- One entry of the weight's gradient: a column of `p` against a column of `q`. -/
def G (p : S8192x4096.Idx → EReal) (q : S8192x1024.Idx → EReal) (i : S4096x1024.Idx) : EReal :=
  ∑ k : Fin 8192, p (ix2 k (i 0)) * q (ix2 k (i 1))

/-- Eight points in a row sweep the rows for one block of the result. -/
theorem idx : ∀ t : Fin grid0.N, win0_0.index t = ![t.val % 8, t.val / 8] ∧ win0_1.index t = ![t.val % 8, 0] ∧
    win0_2.index t = ![t.val / 8, 0] := by
  decide +kernel

/-- What one point adds to the accumulator, from the blocks it sees. -/
def part (p : S1024x2048.Idx → EReal) (q : S1024x1024.Idx → EReal) (y : S2048x1024.Idx) : EReal :=
  ∑ x : Fin 1024, p (ix2 x (y 0)) * q (ix2 x (y 1))

/-- The body's sum is the accumulator plus `part`. -/
theorem pay2 (p : Vec Ideal S1024x2048 .bf16) (x : Vec Ideal S2048x1024 .f32) (q : Vec Ideal S1024x1024 .bf16) (y : S2048x1024.Idx) :
    k0_pay2 p x q y = x y + part p q y := by
  unfold_payloads
  pointwise
  rfl

/-- The accumulator starts at zero. -/
theorem pay1 (y : S2048x1024.Idx) : k0_pay1 (F := Ideal) y = 0 := by
  unfold_payloads
  pointwise

/-- The accumulator is written out as it is. -/
theorem pay3 (x : Vec Ideal S2048x1024 .f32) (y : S2048x1024.Idx) : k0_pay3 x y = x y := by
  unfold_payloads
  pointwise

/-- The accumulator after the last of the eight points. -/
theorem scratch (c : Dev nD) (t : Fin cfg0.N) (h7 : t.val % 8 = 7) (y : S2048x1024.Idx) :
    (outsAt0 m c t.val t.isLt).2 y = 0 + ∑ s : Fin 8, part (iblk m c 0 ⟨8 * (t.val / 8) + s.val, Pipeline.run_point_lt_of_flush t h7 s⟩)
      (iblk m c 1 ⟨8 * (t.val / 8) + s.val, Pipeline.run_point_lt_of_flush t h7 s⟩) y := by
  refine Pipeline.eq_sum_fin_of_reset_step_apply_of_flush (fun n h => (outsAt0 m c n h).2) 8 (fun _ => 0)
    (fun t y => part (iblk m c 0 t) (iblk m c 1 t) y) (fun t h i => ?_) (fun t h i => ?_) t h7 y
  · rw [outsAt0_A m c t h (by omega)]
    frame_out
    rw [pay2, pay1]
  · by_cases h' : t.val % 8 = 7
    · rw [outsAt0_C m c t h h']
      frame_out
      rw [read_unread_whole, pay2]
    · rw [outsAt0_B m c t h h']
      frame_out
      rw [read_unread_whole, pay2]

/-- The result array after the run. -/
theorem arr (c : Dev nD) : (dats m 0 c).arrAt 2 cfg0.N = G (m (c.tc.loc main_arg1)) (m (c.tc.loc main_arg0)) := by
  refine (dats m 0 c).arrAt_eq_of_covers 2 _ (by decide +kernel) fun t hf y => ?_
  blk_simp
  rw [after0_2]
  have h7 : t.val % 8 = 7 := (flush0_2 t).mp hf
  have h0 : ¬ t.val % 8 = 0 := by omega
  have hs : (outsAt0 m c t.val t.isLt).1 y = (outsAt0 m c t.val t.isLt).2 y := by
    rw [outsAt0_C m c t h0 h7]
    frame_out
    rw [pay3]
  rw [hs, scratch m c t h7 y, zero_add]
  unfold G part
  refine Fin.sum_mul_add_congr fun s k hl => ?_
  blk_point [iblk, V, idx ⟨8 * (t.val / 8) + s.val, Pipeline.run_point_lt_of_flush t h7 s⟩, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v0) = G (m (c.tc.loc main_arg1)) (m (c.tc.loc main_arg0)) ∧
      r.2.mem (c.tc.loc main_arg0) = m (c.tc.loc main_arg0) ∧
      r.2.mem (c.tc.loc main_arg1) = m (c.tc.loc main_arg1) :=
  (θ_run defs _ _).mono (fun _ h c => ⟨(h c).1.trans (arr m c), (h c).2⟩)
    (Cert.Kernel16Ideal.Value.run_blocks m ρ)

/-- The reference's run, with each result named. -/
theorem runR (m : (ℓ : Loc Cert.Reference16Ideal.nD Cert.Reference16Ideal.τ Cert.Reference16Ideal.sig) → Buf (Elt Ideal) ℓ) (ρ : Dev Cert.Reference16Ideal.nD → PrngReg) :
    θ_run Cert.Reference16Ideal.defs (onTc (τ := Cert.Reference16Ideal.τ) (Cert.Reference16Ideal.main (F := Ideal))) ⟨m, fun _ => 0, ρ⟩ fun r => ∀ c : Dev Cert.Reference16Ideal.nD,
      r.2.mem (c.tc.loc Cert.Reference16Ideal.main_v7) = G (m (c.tc.loc Cert.Reference16Ideal.main_arg1)) (m (c.tc.loc Cert.Reference16Ideal.main_arg0)) ∧
      r.2.mem (c.tc.loc Cert.Reference16Ideal.main_arg0) = m (c.tc.loc Cert.Reference16Ideal.main_arg0) ∧
      r.2.mem (c.tc.loc Cert.Reference16Ideal.main_arg1) = m (c.tc.loc Cert.Reference16Ideal.main_arg1) :=
  (θ_run _ _ _).mono (fun _ h c => ⟨(h c).1.trans (by
      clear h
      funext i
      pointwise
      unfold G
      first | rfl | exact Finset.sum_congr rfl fun _ _ => mul_comm _ _), (h c).2⟩) (Cert.Reference16Ideal.Value.run m ρ)

end Cert.Ff1Dw

end
-- ==== Proof.OutProjDw.lean ====
/- The value of the gradient of the merged branches' output weight (the call `out_proj_dw`). -/
module

public import proofs.«01_k».proof.Proof.Gen.Kernel17Ideal.Value
public import proofs.«01_k».proof.Proof.Gen.Reference17Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.OutProjDw

open Cert.Kernel17Ideal Cert.Kernel17Ideal.Gen Idealize.ShloMosaic Idealize.ShloMosaic.TcCoe Idealize.SL.Sem
open Idealize.ShloMosaic.Pipeline (Dat)

variable (m : (ℓ : Loc nD τ sig) → Buf (Elt Ideal) ℓ)

/-- One entry of the weight's gradient: a column of `p` against a column of `q`. -/
def G (p : S8192x1024.Idx → EReal) (q : S8192x1024.Idx → EReal) (i : S1024x1024.Idx) : EReal :=
  ∑ k : Fin 8192, p (ix2 k (i 0)) * q (ix2 k (i 1))

/-- Eight points in a row sweep the rows for one block of the result. -/
theorem idx : ∀ t : Fin grid0.N, win0_0.index t = ![t.val % 8, t.val / 8] ∧ win0_1.index t = ![t.val % 8, 0] ∧
    win0_2.index t = ![t.val / 8, 0] := by
  decide +kernel

/-- What one point adds to the accumulator, from the blocks it sees. -/
def part (p : S1024x1024.Idx → EReal) (q : S1024x1024.Idx → EReal) (y : S1024x1024.Idx) : EReal :=
  ∑ x : Fin 1024, p (ix2 x (y 0)) * q (ix2 x (y 1))

/-- The body's sum is the accumulator plus `part`. -/
theorem pay2 (p : Vec Ideal S1024x1024 .bf16) (x : Vec Ideal S1024x1024 .f32) (q : Vec Ideal S1024x1024 .bf16) (y : S1024x1024.Idx) :
    k0_pay2 p x q y = x y + part p q y := by
  unfold_payloads
  pointwise
  rfl

/-- The accumulator starts at zero. -/
theorem pay1 (y : S1024x1024.Idx) : k0_pay1 (F := Ideal) y = 0 := by
  unfold_payloads
  pointwise

/-- The accumulator is written out as it is. -/
theorem pay3 (x : Vec Ideal S1024x1024 .f32) (y : S1024x1024.Idx) : k0_pay3 x y = x y := by
  unfold_payloads
  pointwise

/-- The accumulator after the last of the eight points. -/
theorem scratch (c : Dev nD) (t : Fin cfg0.N) (h7 : t.val % 8 = 7) (y : S1024x1024.Idx) :
    (outsAt0 m c t.val t.isLt).2 y = 0 + ∑ s : Fin 8, part (iblk m c 0 ⟨8 * (t.val / 8) + s.val, Pipeline.run_point_lt_of_flush t h7 s⟩)
      (iblk m c 1 ⟨8 * (t.val / 8) + s.val, Pipeline.run_point_lt_of_flush t h7 s⟩) y := by
  refine Pipeline.eq_sum_fin_of_reset_step_apply_of_flush (fun n h => (outsAt0 m c n h).2) 8 (fun _ => 0)
    (fun t y => part (iblk m c 0 t) (iblk m c 1 t) y) (fun t h i => ?_) (fun t h i => ?_) t h7 y
  · rw [outsAt0_A m c t h (by omega)]
    frame_out
    rw [pay2, pay1]
  · by_cases h' : t.val % 8 = 7
    · rw [outsAt0_C m c t h h']
      frame_out
      rw [read_unread_whole, pay2]
    · rw [outsAt0_B m c t h h']
      frame_out
      rw [read_unread_whole, pay2]

/-- The result array after the run. -/
theorem arr (c : Dev nD) : (dats m 0 c).arrAt 2 cfg0.N = G (m (c.tc.loc main_arg0)) (m (c.tc.loc main_arg1)) := by
  refine (dats m 0 c).arrAt_eq_of_covers 2 _ (by decide +kernel) fun t hf y => ?_
  blk_simp
  rw [after0_2]
  have h7 : t.val % 8 = 7 := (flush0_2 t).mp hf
  have h0 : ¬ t.val % 8 = 0 := by omega
  have hs : (outsAt0 m c t.val t.isLt).1 y = (outsAt0 m c t.val t.isLt).2 y := by
    rw [outsAt0_C m c t h0 h7]
    frame_out
    rw [pay3]
  rw [hs, scratch m c t h7 y, zero_add]
  unfold G part
  refine Fin.sum_mul_add_congr fun s k hl => ?_
  blk_point [iblk, V, idx ⟨8 * (t.val / 8) + s.val, Pipeline.run_point_lt_of_flush t h7 s⟩, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v0) = G (m (c.tc.loc main_arg0)) (m (c.tc.loc main_arg1)) ∧
      r.2.mem (c.tc.loc main_arg0) = m (c.tc.loc main_arg0) ∧
      r.2.mem (c.tc.loc main_arg1) = m (c.tc.loc main_arg1) :=
  (θ_run defs _ _).mono (fun _ h c => ⟨(h c).1.trans (arr m c), (h c).2⟩)
    (Cert.Kernel17Ideal.Value.run_blocks m ρ)

/-- The reference's run, with each result named. -/
theorem runR (m : (ℓ : Loc Cert.Reference17Ideal.nD Cert.Reference17Ideal.τ Cert.Reference17Ideal.sig) → Buf (Elt Ideal) ℓ) (ρ : Dev Cert.Reference17Ideal.nD → PrngReg) :
    θ_run Cert.Reference17Ideal.defs (onTc (τ := Cert.Reference17Ideal.τ) (Cert.Reference17Ideal.main (F := Ideal))) ⟨m, fun _ => 0, ρ⟩ fun r => ∀ c : Dev Cert.Reference17Ideal.nD,
      r.2.mem (c.tc.loc Cert.Reference17Ideal.main_v6) = G (m (c.tc.loc Cert.Reference17Ideal.main_arg0)) (m (c.tc.loc Cert.Reference17Ideal.main_arg1)) ∧
      r.2.mem (c.tc.loc Cert.Reference17Ideal.main_arg0) = m (c.tc.loc Cert.Reference17Ideal.main_arg0) ∧
      r.2.mem (c.tc.loc Cert.Reference17Ideal.main_arg1) = m (c.tc.loc Cert.Reference17Ideal.main_arg1) :=
  (θ_run _ _ _).mono (fun _ h c => ⟨(h c).1.trans (by
      clear h
      funext i
      pointwise
      unfold G
      first | rfl | exact Finset.sum_congr rfl fun _ _ => mul_comm _ _), (h c).2⟩) (Cert.Reference17Ideal.Value.run m ρ)

end Cert.OutProjDw

end
-- ==== Proof.GateDwA.lean ====
/- The value of the gradient of the input weight's columns for the attention branch's gate (the call `in_proj_gate_dw_a`). -/
module

public import proofs.«01_k».proof.Proof.Gen.Kernel18Ideal.Value
public import proofs.«01_k».proof.Proof.Gen.Reference18Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GateDwA

open Cert.Kernel18Ideal Cert.Kernel18Ideal.Gen Idealize.ShloMosaic Idealize.ShloMosaic.TcCoe Idealize.SL.Sem
open Idealize.ShloMosaic.Pipeline (Dat)

variable (m : (ℓ : Loc nD τ sig) → Buf (Elt Ideal) ℓ)

/-- One entry of the weight's gradient: a column of `p` against a column of `q`. -/
def G (p : S8192x1024.Idx → EReal) (q : S8192x1024.Idx → EReal) (i : S1024x1024.Idx) : EReal :=
  ∑ k : Fin 8192, p (ix2 k (i 0)) * q (ix2 k (i 1))

/-- Eight points in a row sweep the rows for one block of the result. -/
theorem idx : ∀ t : Fin grid0.N, win0_0.index t = ![t.val % 8, t.val / 8] ∧ win0_1.index t = ![t.val % 8, 0] ∧
    win0_2.index t = ![t.val / 8, 0] := by
  decide +kernel

/-- What one point adds to the accumulator, from the blocks it sees. -/
def part (p : S1024x1024.Idx → EReal) (q : S1024x1024.Idx → EReal) (y : S1024x1024.Idx) : EReal :=
  ∑ x : Fin 1024, p (ix2 x (y 0)) * q (ix2 x (y 1))

/-- The body's sum is the accumulator plus `part`. -/
theorem pay2 (p : Vec Ideal S1024x1024 .bf16) (x : Vec Ideal S1024x1024 .f32) (q : Vec Ideal S1024x1024 .bf16) (y : S1024x1024.Idx) :
    k0_pay2 p x q y = x y + part p q y := by
  unfold_payloads
  pointwise
  rfl

/-- The accumulator starts at zero. -/
theorem pay1 (y : S1024x1024.Idx) : k0_pay1 (F := Ideal) y = 0 := by
  unfold_payloads
  pointwise

/-- The accumulator is written out as it is. -/
theorem pay3 (x : Vec Ideal S1024x1024 .f32) (y : S1024x1024.Idx) : k0_pay3 x y = x y := by
  unfold_payloads
  pointwise

/-- The accumulator after the last of the eight points. -/
theorem scratch (c : Dev nD) (t : Fin cfg0.N) (h7 : t.val % 8 = 7) (y : S1024x1024.Idx) :
    (outsAt0 m c t.val t.isLt).2 y = 0 + ∑ s : Fin 8, part (iblk m c 0 ⟨8 * (t.val / 8) + s.val, Pipeline.run_point_lt_of_flush t h7 s⟩)
      (iblk m c 1 ⟨8 * (t.val / 8) + s.val, Pipeline.run_point_lt_of_flush t h7 s⟩) y := by
  refine Pipeline.eq_sum_fin_of_reset_step_apply_of_flush (fun n h => (outsAt0 m c n h).2) 8 (fun _ => 0)
    (fun t y => part (iblk m c 0 t) (iblk m c 1 t) y) (fun t h i => ?_) (fun t h i => ?_) t h7 y
  · rw [outsAt0_A m c t h (by omega)]
    frame_out
    rw [pay2, pay1]
  · by_cases h' : t.val % 8 = 7
    · rw [outsAt0_C m c t h h']
      frame_out
      rw [read_unread_whole, pay2]
    · rw [outsAt0_B m c t h h']
      frame_out
      rw [read_unread_whole, pay2]

/-- The result array after the run. -/
theorem arr (c : Dev nD) : (dats m 0 c).arrAt 2 cfg0.N = G (m (c.tc.loc main_arg1)) (m (c.tc.loc main_arg0)) := by
  refine (dats m 0 c).arrAt_eq_of_covers 2 _ (by decide +kernel) fun t hf y => ?_
  blk_simp
  rw [after0_2]
  have h7 : t.val % 8 = 7 := (flush0_2 t).mp hf
  have h0 : ¬ t.val % 8 = 0 := by omega
  have hs : (outsAt0 m c t.val t.isLt).1 y = (outsAt0 m c t.val t.isLt).2 y := by
    rw [outsAt0_C m c t h0 h7]
    frame_out
    rw [pay3]
  rw [hs, scratch m c t h7 y, zero_add]
  unfold G part
  refine Fin.sum_mul_add_congr fun s k hl => ?_
  blk_point [iblk, V, idx ⟨8 * (t.val / 8) + s.val, Pipeline.run_point_lt_of_flush t h7 s⟩, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v0) = G (m (c.tc.loc main_arg1)) (m (c.tc.loc main_arg0)) ∧
      r.2.mem (c.tc.loc main_arg0) = m (c.tc.loc main_arg0) ∧
      r.2.mem (c.tc.loc main_arg1) = m (c.tc.loc main_arg1) :=
  (θ_run defs _ _).mono (fun _ h c => ⟨(h c).1.trans (arr m c), (h c).2⟩)
    (Cert.Kernel18Ideal.Value.run_blocks m ρ)

/-- The reference's run, with each result named. -/
theorem runR (m : (ℓ : Loc Cert.Reference18Ideal.nD Cert.Reference18Ideal.τ Cert.Reference18Ideal.sig) → Buf (Elt Ideal) ℓ) (ρ : Dev Cert.Reference18Ideal.nD → PrngReg) :
    θ_run Cert.Reference18Ideal.defs (onTc (τ := Cert.Reference18Ideal.τ) (Cert.Reference18Ideal.main (F := Ideal))) ⟨m, fun _ => 0, ρ⟩ fun r => ∀ c : Dev Cert.Reference18Ideal.nD,
      r.2.mem (c.tc.loc Cert.Reference18Ideal.main_v7) = G (m (c.tc.loc Cert.Reference18Ideal.main_arg1)) (m (c.tc.loc Cert.Reference18Ideal.main_arg0)) ∧
      r.2.mem (c.tc.loc Cert.Reference18Ideal.main_arg0) = m (c.tc.loc Cert.Reference18Ideal.main_arg0) ∧
      r.2.mem (c.tc.loc Cert.Reference18Ideal.main_arg1) = m (c.tc.loc Cert.Reference18Ideal.main_arg1) :=
  (θ_run _ _ _).mono (fun _ h c => ⟨(h c).1.trans (by
      clear h
      funext i
      pointwise
      unfold G
      first | rfl | exact Finset.sum_congr rfl fun _ _ => mul_comm _ _), (h c).2⟩) (Cert.Reference18Ideal.Value.run m ρ)

end Cert.GateDwA

end
-- ==== Proof.GateDwB.lean ====
/- The value of the gradient of the input weight's columns for the convolution branch's gate (the call `in_proj_gate_dw_b`). -/
module

public import proofs.«01_k».proof.Proof.Gen.Kernel19Ideal.Value
public import proofs.«01_k».proof.Proof.Gen.Reference19Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GateDwB

open Cert.Kernel19Ideal Cert.Kernel19Ideal.Gen Idealize.ShloMosaic Idealize.ShloMosaic.TcCoe Idealize.SL.Sem
open Idealize.ShloMosaic.Pipeline (Dat)

variable (m : (ℓ : Loc nD τ sig) → Buf (Elt Ideal) ℓ)

/-- One entry of the weight's gradient: a column of `p` against a column of `q`. -/
def G (p : S8192x1024.Idx → EReal) (q : S8192x1024.Idx → EReal) (i : S1024x1024.Idx) : EReal :=
  ∑ k : Fin 8192, p (ix2 k (i 0)) * q (ix2 k (i 1))

/-- Eight points in a row sweep the rows for one block of the result. -/
theorem idx : ∀ t : Fin grid0.N, win0_0.index t = ![t.val % 8, t.val / 8] ∧ win0_1.index t = ![t.val % 8, 0] ∧
    win0_2.index t = ![t.val / 8, 0] := by
  decide +kernel

/-- What one point adds to the accumulator, from the blocks it sees. -/
def part (p : S1024x1024.Idx → EReal) (q : S1024x1024.Idx → EReal) (y : S1024x1024.Idx) : EReal :=
  ∑ x : Fin 1024, p (ix2 x (y 0)) * q (ix2 x (y 1))

/-- The body's sum is the accumulator plus `part`. -/
theorem pay2 (p : Vec Ideal S1024x1024 .bf16) (x : Vec Ideal S1024x1024 .f32) (q : Vec Ideal S1024x1024 .bf16) (y : S1024x1024.Idx) :
    k0_pay2 p x q y = x y + part p q y := by
  unfold_payloads
  pointwise
  rfl

/-- The accumulator starts at zero. -/
theorem pay1 (y : S1024x1024.Idx) : k0_pay1 (F := Ideal) y = 0 := by
  unfold_payloads
  pointwise

/-- The accumulator is written out as it is. -/
theorem pay3 (x : Vec Ideal S1024x1024 .f32) (y : S1024x1024.Idx) : k0_pay3 x y = x y := by
  unfold_payloads
  pointwise

/-- The accumulator after the last of the eight points. -/
theorem scratch (c : Dev nD) (t : Fin cfg0.N) (h7 : t.val % 8 = 7) (y : S1024x1024.Idx) :
    (outsAt0 m c t.val t.isLt).2 y = 0 + ∑ s : Fin 8, part (iblk m c 0 ⟨8 * (t.val / 8) + s.val, Pipeline.run_point_lt_of_flush t h7 s⟩)
      (iblk m c 1 ⟨8 * (t.val / 8) + s.val, Pipeline.run_point_lt_of_flush t h7 s⟩) y := by
  refine Pipeline.eq_sum_fin_of_reset_step_apply_of_flush (fun n h => (outsAt0 m c n h).2) 8 (fun _ => 0)
    (fun t y => part (iblk m c 0 t) (iblk m c 1 t) y) (fun t h i => ?_) (fun t h i => ?_) t h7 y
  · rw [outsAt0_A m c t h (by omega)]
    frame_out
    rw [pay2, pay1]
  · by_cases h' : t.val % 8 = 7
    · rw [outsAt0_C m c t h h']
      frame_out
      rw [read_unread_whole, pay2]
    · rw [outsAt0_B m c t h h']
      frame_out
      rw [read_unread_whole, pay2]

/-- The result array after the run. -/
theorem arr (c : Dev nD) : (dats m 0 c).arrAt 2 cfg0.N = G (m (c.tc.loc main_arg1)) (m (c.tc.loc main_arg0)) := by
  refine (dats m 0 c).arrAt_eq_of_covers 2 _ (by decide +kernel) fun t hf y => ?_
  blk_simp
  rw [after0_2]
  have h7 : t.val % 8 = 7 := (flush0_2 t).mp hf
  have h0 : ¬ t.val % 8 = 0 := by omega
  have hs : (outsAt0 m c t.val t.isLt).1 y = (outsAt0 m c t.val t.isLt).2 y := by
    rw [outsAt0_C m c t h0 h7]
    frame_out
    rw [pay3]
  rw [hs, scratch m c t h7 y, zero_add]
  unfold G part
  refine Fin.sum_mul_add_congr fun s k hl => ?_
  blk_point [iblk, V, idx ⟨8 * (t.val / 8) + s.val, Pipeline.run_point_lt_of_flush t h7 s⟩, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v0) = G (m (c.tc.loc main_arg1)) (m (c.tc.loc main_arg0)) ∧
      r.2.mem (c.tc.loc main_arg0) = m (c.tc.loc main_arg0) ∧
      r.2.mem (c.tc.loc main_arg1) = m (c.tc.loc main_arg1) :=
  (θ_run defs _ _).mono (fun _ h c => ⟨(h c).1.trans (arr m c), (h c).2⟩)
    (Cert.Kernel19Ideal.Value.run_blocks m ρ)

/-- The reference's run, with each result named. -/
theorem runR (m : (ℓ : Loc Cert.Reference19Ideal.nD Cert.Reference19Ideal.τ Cert.Reference19Ideal.sig) → Buf (Elt Ideal) ℓ) (ρ : Dev Cert.Reference19Ideal.nD → PrngReg) :
    θ_run Cert.Reference19Ideal.defs (onTc (τ := Cert.Reference19Ideal.τ) (Cert.Reference19Ideal.main (F := Ideal))) ⟨m, fun _ => 0, ρ⟩ fun r => ∀ c : Dev Cert.Reference19Ideal.nD,
      r.2.mem (c.tc.loc Cert.Reference19Ideal.main_v7) = G (m (c.tc.loc Cert.Reference19Ideal.main_arg1)) (m (c.tc.loc Cert.Reference19Ideal.main_arg0)) ∧
      r.2.mem (c.tc.loc Cert.Reference19Ideal.main_arg0) = m (c.tc.loc Cert.Reference19Ideal.main_arg0) ∧
      r.2.mem (c.tc.loc Cert.Reference19Ideal.main_arg1) = m (c.tc.loc Cert.Reference19Ideal.main_arg1) :=
  (θ_run _ _ _).mono (fun _ h c => ⟨(h c).1.trans (by
      clear h
      funext i
      pointwise
      unfold G
      first | rfl | exact Finset.sum_congr rfl fun _ _ => mul_comm _ _), (h c).2⟩) (Cert.Reference19Ideal.Value.run m ρ)

end Cert.GateDwB

end
-- ==== Proof.GluDw.lean ====
/- The value of the gradient of the input weight's columns for the convolution branch (the call `in_proj_glu_dw`). -/
module

public import proofs.«01_k».proof.Proof.Gen.Kernel20Ideal.Value
public import proofs.«01_k».proof.Proof.Gen.Reference20Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GluDw

open Cert.Kernel20Ideal Cert.Kernel20Ideal.Gen Idealize.ShloMosaic Idealize.ShloMosaic.TcCoe Idealize.SL.Sem
open Idealize.ShloMosaic.Pipeline (Dat)

variable (m : (ℓ : Loc nD τ sig) → Buf (Elt Ideal) ℓ)

/-- One entry of the weight's gradient: a column of `p` against a column of `q`. -/
def G (p : S8192x1024.Idx → EReal) (q : S8192x1024.Idx → EReal) (i : S1024x1024.Idx) : EReal :=
  ∑ k : Fin 8192, p (ix2 k (i 0)) * q (ix2 k (i 1))

/-- Eight points in a row sweep the rows for one block of the result. -/
theorem idx : ∀ t : Fin grid0.N, win0_0.index t = ![t.val % 8, t.val / 8] ∧ win0_1.index t = ![t.val % 8, 0] ∧
    win0_2.index t = ![t.val / 8, 0] := by
  decide +kernel

/-- What one point adds to the accumulator, from the blocks it sees. -/
def part (p : S1024x1024.Idx → EReal) (q : S1024x1024.Idx → EReal) (y : S1024x1024.Idx) : EReal :=
  ∑ x : Fin 1024, p (ix2 x (y 0)) * q (ix2 x (y 1))

/-- The body's sum is the accumulator plus `part`. -/
theorem pay2 (p : Vec Ideal S1024x1024 .bf16) (x : Vec Ideal S1024x1024 .f32) (q : Vec Ideal S1024x1024 .bf16) (y : S1024x1024.Idx) :
    k0_pay2 p x q y = x y + part p q y := by
  unfold_payloads
  pointwise
  rfl

/-- The accumulator starts at zero. -/
theorem pay1 (y : S1024x1024.Idx) : k0_pay1 (F := Ideal) y = 0 := by
  unfold_payloads
  pointwise

/-- The accumulator is written out as it is. -/
theorem pay3 (x : Vec Ideal S1024x1024 .f32) (y : S1024x1024.Idx) : k0_pay3 x y = x y := by
  unfold_payloads
  pointwise

/-- The accumulator after the last of the eight points. -/
theorem scratch (c : Dev nD) (t : Fin cfg0.N) (h7 : t.val % 8 = 7) (y : S1024x1024.Idx) :
    (outsAt0 m c t.val t.isLt).2 y = 0 + ∑ s : Fin 8, part (iblk m c 0 ⟨8 * (t.val / 8) + s.val, Pipeline.run_point_lt_of_flush t h7 s⟩)
      (iblk m c 1 ⟨8 * (t.val / 8) + s.val, Pipeline.run_point_lt_of_flush t h7 s⟩) y := by
  refine Pipeline.eq_sum_fin_of_reset_step_apply_of_flush (fun n h => (outsAt0 m c n h).2) 8 (fun _ => 0)
    (fun t y => part (iblk m c 0 t) (iblk m c 1 t) y) (fun t h i => ?_) (fun t h i => ?_) t h7 y
  · rw [outsAt0_A m c t h (by omega)]
    frame_out
    rw [pay2, pay1]
  · by_cases h' : t.val % 8 = 7
    · rw [outsAt0_C m c t h h']
      frame_out
      rw [read_unread_whole, pay2]
    · rw [outsAt0_B m c t h h']
      frame_out
      rw [read_unread_whole, pay2]

/-- The result array after the run. -/
theorem arr (c : Dev nD) : (dats m 0 c).arrAt 2 cfg0.N = G (m (c.tc.loc main_arg1)) (m (c.tc.loc main_arg0)) := by
  refine (dats m 0 c).arrAt_eq_of_covers 2 _ (by decide +kernel) fun t hf y => ?_
  blk_simp
  rw [after0_2]
  have h7 : t.val % 8 = 7 := (flush0_2 t).mp hf
  have h0 : ¬ t.val % 8 = 0 := by omega
  have hs : (outsAt0 m c t.val t.isLt).1 y = (outsAt0 m c t.val t.isLt).2 y := by
    rw [outsAt0_C m c t h0 h7]
    frame_out
    rw [pay3]
  rw [hs, scratch m c t h7 y, zero_add]
  unfold G part
  refine Fin.sum_mul_add_congr fun s k hl => ?_
  blk_point [iblk, V, idx ⟨8 * (t.val / 8) + s.val, Pipeline.run_point_lt_of_flush t h7 s⟩, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v0) = G (m (c.tc.loc main_arg1)) (m (c.tc.loc main_arg0)) ∧
      r.2.mem (c.tc.loc main_arg0) = m (c.tc.loc main_arg0) ∧
      r.2.mem (c.tc.loc main_arg1) = m (c.tc.loc main_arg1) :=
  (θ_run defs _ _).mono (fun _ h c => ⟨(h c).1.trans (arr m c), (h c).2⟩)
    (Cert.Kernel20Ideal.Value.run_blocks m ρ)

/-- The reference's run, with each result named. -/
theorem runR (m : (ℓ : Loc Cert.Reference20Ideal.nD Cert.Reference20Ideal.τ Cert.Reference20Ideal.sig) → Buf (Elt Ideal) ℓ) (ρ : Dev Cert.Reference20Ideal.nD → PrngReg) :
    θ_run Cert.Reference20Ideal.defs (onTc (τ := Cert.Reference20Ideal.τ) (Cert.Reference20Ideal.main (F := Ideal))) ⟨m, fun _ => 0, ρ⟩ fun r => ∀ c : Dev Cert.Reference20Ideal.nD,
      r.2.mem (c.tc.loc Cert.Reference20Ideal.main_v7) = G (m (c.tc.loc Cert.Reference20Ideal.main_arg1)) (m (c.tc.loc Cert.Reference20Ideal.main_arg0)) ∧
      r.2.mem (c.tc.loc Cert.Reference20Ideal.main_arg0) = m (c.tc.loc Cert.Reference20Ideal.main_arg0) ∧
      r.2.mem (c.tc.loc Cert.Reference20Ideal.main_arg1) = m (c.tc.loc Cert.Reference20Ideal.main_arg1) :=
  (θ_run _ _ _).mono (fun _ h c => ⟨(h c).1.trans (by
      clear h
      funext i
      pointwise
      unfold G
      first | rfl | exact Finset.sum_congr rfl fun _ _ => mul_comm _ _), (h c).2⟩) (Cert.Reference20Ideal.Value.run m ρ)

end Cert.GluDw

end
-- ==== Proof.SmallDw.lean ====
/- The value of the gradient of the input weight's columns for the latents and the rotary key (the call `in_proj_sm_dw`). -/
module

public import proofs.«01_k».proof.Proof.Gen.Kernel21Ideal.Value
public import proofs.«01_k».proof.Proof.Gen.Reference21Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.SmallDw

open Cert.Kernel21Ideal Cert.Kernel21Ideal.Gen Idealize.ShloMosaic Idealize.ShloMosaic.TcCoe Idealize.SL.Sem
open Idealize.ShloMosaic.Pipeline (Dat)

variable (m : (ℓ : Loc nD τ sig) → Buf (Elt Ideal) ℓ)

/-- One entry of the weight's gradient: a column of `p` against a column of `q`. -/
def G (p : S8192x512.Idx → EReal) (q : S8192x1024.Idx → EReal) (i : S512x1024.Idx) : EReal :=
  ∑ k : Fin 8192, p (ix2 k (i 0)) * q (ix2 k (i 1))

/-- Eight points in a row sweep the rows for one block of the result. -/
theorem idx : ∀ t : Fin grid0.N, win0_0.index t = ![t.val % 8, t.val / 8] ∧ win0_1.index t = ![t.val % 8, 0] ∧
    win0_2.index t = ![t.val / 8, 0] := by
  decide +kernel

/-- What one point adds to the accumulator, from the blocks it sees. -/
def part (p : S1024x512.Idx → EReal) (q : S1024x1024.Idx → EReal) (y : S512x1024.Idx) : EReal :=
  ∑ x : Fin 1024, p (ix2 x (y 0)) * q (ix2 x (y 1))

/-- The body's sum is the accumulator plus `part`. -/
theorem pay2 (p : Vec Ideal S1024x512 .bf16) (x : Vec Ideal S512x1024 .f32) (q : Vec Ideal S1024x1024 .bf16) (y : S512x1024.Idx) :
    k0_pay2 p x q y = x y + part p q y := by
  unfold_payloads
  pointwise
  rfl

/-- The accumulator starts at zero. -/
theorem pay1 (y : S512x1024.Idx) : k0_pay1 (F := Ideal) y = 0 := by
  unfold_payloads
  pointwise

/-- The accumulator is written out as it is. -/
theorem pay3 (x : Vec Ideal S512x1024 .f32) (y : S512x1024.Idx) : k0_pay3 x y = x y := by
  unfold_payloads
  pointwise

/-- The accumulator after the last of the eight points. -/
theorem scratch (c : Dev nD) (t : Fin cfg0.N) (h7 : t.val % 8 = 7) (y : S512x1024.Idx) :
    (outsAt0 m c t.val t.isLt).2 y = 0 + ∑ s : Fin 8, part (iblk m c 0 ⟨8 * (t.val / 8) + s.val, Pipeline.run_point_lt_of_flush t h7 s⟩)
      (iblk m c 1 ⟨8 * (t.val / 8) + s.val, Pipeline.run_point_lt_of_flush t h7 s⟩) y := by
  refine Pipeline.eq_sum_fin_of_reset_step_apply_of_flush (fun n h => (outsAt0 m c n h).2) 8 (fun _ => 0)
    (fun t y => part (iblk m c 0 t) (iblk m c 1 t) y) (fun t h i => ?_) (fun t h i => ?_) t h7 y
  · rw [outsAt0_A m c t h (by omega)]
    frame_out
    rw [pay2, pay1]
  · by_cases h' : t.val % 8 = 7
    · rw [outsAt0_C m c t h h']
      frame_out
      rw [read_unread_whole, pay2]
    · rw [outsAt0_B m c t h h']
      frame_out
      rw [read_unread_whole, pay2]

/-- The result array after the run. -/
theorem arr (c : Dev nD) : (dats m 0 c).arrAt 2 cfg0.N = G (m (c.tc.loc main_arg1)) (m (c.tc.loc main_arg0)) := by
  refine (dats m 0 c).arrAt_eq_of_covers 2 _ (by decide +kernel) fun t hf y => ?_
  blk_simp
  rw [after0_2]
  have h7 : t.val % 8 = 7 := (flush0_2 t).mp hf
  have h0 : ¬ t.val % 8 = 0 := by omega
  have hs : (outsAt0 m c t.val t.isLt).1 y = (outsAt0 m c t.val t.isLt).2 y := by
    rw [outsAt0_C m c t h0 h7]
    frame_out
    rw [pay3]
  rw [hs, scratch m c t h7 y, zero_add]
  unfold G part
  refine Fin.sum_mul_add_congr fun s k hl => ?_
  blk_point [iblk, V, idx ⟨8 * (t.val / 8) + s.val, Pipeline.run_point_lt_of_flush t h7 s⟩, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v0) = G (m (c.tc.loc main_arg1)) (m (c.tc.loc main_arg0)) ∧
      r.2.mem (c.tc.loc main_arg0) = m (c.tc.loc main_arg0) ∧
      r.2.mem (c.tc.loc main_arg1) = m (c.tc.loc main_arg1) :=
  (θ_run defs _ _).mono (fun _ h c => ⟨(h c).1.trans (arr m c), (h c).2⟩)
    (Cert.Kernel21Ideal.Value.run_blocks m ρ)

/-- The reference's run, with each result named. -/
theorem runR (m : (ℓ : Loc Cert.Reference21Ideal.nD Cert.Reference21Ideal.τ Cert.Reference21Ideal.sig) → Buf (Elt Ideal) ℓ) (ρ : Dev Cert.Reference21Ideal.nD → PrngReg) :
    θ_run Cert.Reference21Ideal.defs (onTc (τ := Cert.Reference21Ideal.τ) (Cert.Reference21Ideal.main (F := Ideal))) ⟨m, fun _ => 0, ρ⟩ fun r => ∀ c : Dev Cert.Reference21Ideal.nD,
      r.2.mem (c.tc.loc Cert.Reference21Ideal.main_v7) = G (m (c.tc.loc Cert.Reference21Ideal.main_arg1)) (m (c.tc.loc Cert.Reference21Ideal.main_arg0)) ∧
      r.2.mem (c.tc.loc Cert.Reference21Ideal.main_arg0) = m (c.tc.loc Cert.Reference21Ideal.main_arg0) ∧
      r.2.mem (c.tc.loc Cert.Reference21Ideal.main_arg1) = m (c.tc.loc Cert.Reference21Ideal.main_arg1) :=
  (θ_run _ _ _).mono (fun _ h c => ⟨(h c).1.trans (by
      clear h
      funext i
      pointwise
      unfold G
      first | rfl | exact Finset.sum_congr rfl fun _ _ => mul_comm _ _), (h c).2⟩) (Cert.Reference21Ideal.Value.run m ρ)

end Cert.SmallDw

end
-- ==== Proof.AdaFwd.lean ====
/- The value of the modulation (the call `ada_fwd`). -/
module

public import proofs.«01_k».proof.Proof.Gen.Kernel22Ideal.Value
public import proofs.«01_k».proof.Proof.Gen.Reference22Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdaFwd

open Cert.Kernel22Ideal Cert.Kernel22Ideal.Gen Idealize.ShloMosaic Idealize.ShloMosaic.TcCoe Idealize.SL.Sem
open Idealize.ShloMosaic.Pipeline (Dat)

variable (m : (ℓ : Loc nD τ sig) → Buf (Elt Ideal) ℓ)

/-- One entry of the product. -/
def G (a : S32x1024.Idx → EReal) (b : S1024x768.Idx → EReal) (e : S768.Idx → EReal) (i : S32x768.Idx) : EReal :=
  (∑ k : Fin 1024, (a (ix2 (i 0) k) * Ideal.div 1 (1 + Ideal.exp (-a (ix2 (i 0) k)))) * b (ix2 k (i 1))) + e (ix1 (i 1))

/-- Which block each window shows at a grid point. -/
theorem idx : ∀ t : Fin grid0.N, win0_0.index t = ![(grid0.coords t 0).val, 0] ∧ win0_1.index t = ![0, (grid0.coords t 1).val] ∧ win0_2.index t = ![(grid0.coords t 0).val, (grid0.coords t 1).val] ∧ win0_3.index t = ![(grid0.coords t 0).val, (grid0.coords t 1).val] := by
  decide +kernel

/-- The result array after the run. -/
theorem arr (c : Dev nD) : (dats m 0 c).arrAt 3 cfg0.N = G (m (c.tc.loc main_arg0)) (m (c.tc.loc main_arg1)) (m (c.tc.loc main_arg2)) := by
  refine (dats m 0 c).arrAt_eq_of_covers 3 _ (by decide +kernel) fun t hf y => ?_
  blk_simp
  rw [after0_3]
  unfold outsAt0
  frame_out
  unfold_payloads
  pointwise
  simp only [zero_sub]
  unfold G
  blk_point [iblk, V, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v1) = G (m (c.tc.loc main_arg0)) (m (c.tc.loc main_arg1)) (m (c.tc.loc main_arg2)) ∧
      r.2.mem (c.tc.loc main_arg0) = m (c.tc.loc main_arg0) ∧
      r.2.mem (c.tc.loc main_arg1) = m (c.tc.loc main_arg1) ∧
      r.2.mem (c.tc.loc main_arg2) = m (c.tc.loc main_arg2) :=
  (θ_run defs _ _).mono (fun _ h c => ⟨(h c).1.trans (arr m c), (h c).2⟩)
    (Cert.Kernel22Ideal.Value.run_blocks m ρ)

/-- The reference's run, with each result named. -/
theorem runR (m : (ℓ : Loc Cert.Reference22Ideal.nD Cert.Reference22Ideal.τ Cert.Reference22Ideal.sig) → Buf (Elt Ideal) ℓ) (ρ : Dev Cert.Reference22Ideal.nD → PrngReg) :
    θ_run Cert.Reference22Ideal.defs (onTc (τ := Cert.Reference22Ideal.τ) (Cert.Reference22Ideal.main (F := Ideal))) ⟨m, fun _ => 0, ρ⟩ fun r => ∀ c : Dev Cert.Reference22Ideal.nD,
      r.2.mem (c.tc.loc Cert.Reference22Ideal.main_v4) = G (m (c.tc.loc Cert.Reference22Ideal.main_arg0)) (m (c.tc.loc Cert.Reference22Ideal.main_arg1)) (m (c.tc.loc Cert.Reference22Ideal.main_arg2)) ∧
      r.2.mem (c.tc.loc Cert.Reference22Ideal.main_arg0) = m (c.tc.loc Cert.Reference22Ideal.main_arg0) ∧
      r.2.mem (c.tc.loc Cert.Reference22Ideal.main_arg1) = m (c.tc.loc Cert.Reference22Ideal.main_arg1) ∧
      r.2.mem (c.tc.loc Cert.Reference22Ideal.main_arg2) = m (c.tc.loc Cert.Reference22Ideal.main_arg2) :=
  (θ_run _ _ _).mono (fun _ h c => ⟨(h c).1.trans (by
      clear h
      funext i
      pointwise
      rfl), (h c).2⟩) (Cert.Reference22Ideal.Value.run m ρ)

end Cert.AdaFwd

end
-- ==== Proof.AdaDw.lean ====
/- The value of the gradient of the modulation's weight (the call `ada_dw`). -/
module

public import proofs.«01_k».proof.Proof.Gen.Kernel23Ideal.Value
public import proofs.«01_k».proof.Proof.Gen.Reference23Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdaDw

open Cert.Kernel23Ideal Cert.Kernel23Ideal.Gen Idealize.ShloMosaic Idealize.ShloMosaic.TcCoe Idealize.SL.Sem
open Idealize.ShloMosaic.Pipeline (Dat)

variable (m : (ℓ : Loc nD τ sig) → Buf (Elt Ideal) ℓ)

/-- One entry of the product. -/
def G (a : S32x1024.Idx → EReal) (b : S32x768.Idx → EReal) (i : S1024x768.Idx) : EReal :=
  (∑ k : Fin 32, (a (ix2 k (i 0)) * Ideal.div 1 (1 + Ideal.exp (-a (ix2 k (i 0))))) * b (ix2 k (i 1)))

/-- Which block each window shows at a grid point. -/
theorem idx : ∀ t : Fin grid0.N, win0_0.index t = ![0, (grid0.coords t 0).val] ∧ win0_1.index t = ![0, (grid0.coords t 1).val] ∧ win0_2.index t = ![(grid0.coords t 0).val, (grid0.coords t 1).val] := by
  decide +kernel

/-- The result array after the run. -/
theorem arr (c : Dev nD) : (dats m 0 c).arrAt 2 cfg0.N = G (m (c.tc.loc main_arg0)) (m (c.tc.loc main_arg1)) := by
  refine (dats m 0 c).arrAt_eq_of_covers 2 _ (by decide +kernel) fun t hf y => ?_
  blk_simp
  rw [after0_2]
  unfold outsAt0
  frame_out
  unfold_payloads
  pointwise
  simp only [zero_sub]
  unfold G
  blk_point [iblk, V, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v0) = G (m (c.tc.loc main_arg0)) (m (c.tc.loc main_arg1)) ∧
      r.2.mem (c.tc.loc main_arg0) = m (c.tc.loc main_arg0) ∧
      r.2.mem (c.tc.loc main_arg1) = m (c.tc.loc main_arg1) :=
  (θ_run defs _ _).mono (fun _ h c => ⟨(h c).1.trans (arr m c), (h c).2⟩)
    (Cert.Kernel23Ideal.Value.run_blocks m ρ)

/-- The reference's run, with each result named. -/
theorem runR (m : (ℓ : Loc Cert.Reference23Ideal.nD Cert.Reference23Ideal.τ Cert.Reference23Ideal.sig) → Buf (Elt Ideal) ℓ) (ρ : Dev Cert.Reference23Ideal.nD → PrngReg) :
    θ_run Cert.Reference23Ideal.defs (onTc (τ := Cert.Reference23Ideal.τ) (Cert.Reference23Ideal.main (F := Ideal))) ⟨m, fun _ => 0, ρ⟩ fun r => ∀ c : Dev Cert.Reference23Ideal.nD,
      r.2.mem (c.tc.loc Cert.Reference23Ideal.main_v4) = G (m (c.tc.loc Cert.Reference23Ideal.main_arg0)) (m (c.tc.loc Cert.Reference23Ideal.main_arg1)) ∧
      r.2.mem (c.tc.loc Cert.Reference23Ideal.main_arg0) = m (c.tc.loc Cert.Reference23Ideal.main_arg0) ∧
      r.2.mem (c.tc.loc Cert.Reference23Ideal.main_arg1) = m (c.tc.loc Cert.Reference23Ideal.main_arg1) :=
  (θ_run _ _ _).mono (fun _ h c => ⟨(h c).1.trans (by
      clear h
      funext i
      pointwise
      unfold G
      exact Finset.sum_congr rfl fun _ _ => mul_comm _ _), (h c).2⟩) (Cert.Reference23Ideal.Value.run m ρ)

end Cert.AdaDw

end
-- ==== Proof.AdaDb.lean ====
/- The value of the gradient of the modulation's bias (the call `ada_db`). -/
module

public import proofs.«01_k».proof.Proof.Gen.Kernel24Ideal.Value
public import proofs.«01_k».proof.Proof.Gen.Reference24Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdaDb

open Cert.Kernel24Ideal Cert.Kernel24Ideal.Gen Idealize.ShloMosaic Idealize.ShloMosaic.TcCoe Idealize.SL.Sem
open Idealize.ShloMosaic.Pipeline (Dat)

variable (m : (ℓ : Loc nD τ sig) → Buf (Elt Ideal) ℓ)

/-- The sum of a column. -/
def G (d : S32x768.Idx → EReal) (i : S1x768.Idx) : EReal := ∑ k : Fin 32, d (ix2 k (i 1))

/-- Both windows show their whole arrays. -/
theorem idx : ∀ t : Fin grid0.N, win0_0.index t = ![0, 0] ∧ win0_1.index t = ![0, 0] := by
  decide +kernel

/-- The result array after the run. -/
theorem arr (c : Dev nD) : (dats m 0 c).arrAt 1 cfg0.N = G (m (c.tc.loc main_arg0)) := by
  refine (dats m 0 c).arrAt_eq_of_covers 1 _ (by decide +kernel) fun t hf y => ?_
  blk_simp
  rw [after0_1]
  unfold outsAt0
  frame_out
  unfold_payloads
  pointwise
  unfold G
  blk_point [iblk, V, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v0) = G (m (c.tc.loc main_arg0)) ∧
      r.2.mem (c.tc.loc main_arg0) = m (c.tc.loc main_arg0) :=
  (θ_run defs _ _).mono (fun _ h c => ⟨(h c).1.trans (arr m c), (h c).2⟩)
    (Cert.Kernel24Ideal.Value.run_blocks m ρ)

/-- The reference's run, with each result named. -/
theorem runR (m : (ℓ : Loc Cert.Reference24Ideal.nD Cert.Reference24Ideal.τ Cert.Reference24Ideal.sig) → Buf (Elt Ideal) ℓ) (ρ : Dev Cert.Reference24Ideal.nD → PrngReg) :
    θ_run Cert.Reference24Ideal.defs (onTc (τ := Cert.Reference24Ideal.τ) (Cert.Reference24Ideal.main (F := Ideal))) ⟨m, fun _ => 0, ρ⟩ fun r => ∀ c : Dev Cert.Reference24Ideal.nD,
      r.2.mem (c.tc.loc Cert.Reference24Ideal.main_v8) = G (m (c.tc.loc Cert.Reference24Ideal.main_arg0)) ∧
      r.2.mem (c.tc.loc Cert.Reference24Ideal.main_arg0) = m (c.tc.loc Cert.Reference24Ideal.main_arg0) :=
  (θ_run _ _ _).mono (fun _ h c => ⟨(h c).1.trans (by
      clear h
      funext i
      pointwise
      simp only [Fin.sum_univ_one]
      rfl), (h c).2⟩) (Cert.Reference24Ideal.Value.run m ρ)

end Cert.AdaDb

end
-- ==== Proof.AdamwWAda.lean ====
/- The value of the optimiser's step for `w_ada` (the call `adamw_w_ada`). -/
module

public import proofs.«01_k».proof.Proof.Gen.Kernel25Ideal.Value
public import proofs.«01_k».proof.Proof.Gen.Reference25Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamwWAda

open Cert.Kernel25Ideal Cert.Kernel25Ideal.Gen Idealize.ShloMosaic Idealize.ShloMosaic.TcCoe Idealize.SL.Sem
open Idealize.ShloMosaic.Pipeline (Dat)

variable (m : (ℓ : Loc nD τ sig) → Buf (Elt Ideal) ℓ)

/-- The gradient: the devices' parts summed. -/
def grad (p : S1x1024x768.Idx → EReal) (i : S1024x768.Idx) : EReal := ∑ d : Fin 1, p (ix3 d (i 0) (i 1))

/-- The first moment after the step. -/
def newM (p : S1x1024x768.Idx → EReal) (u : S1024x768.Idx → EReal) (i : S1024x768.Idx) : EReal :=
  Ideal.ofBits FTy.f32 0x3f666666#32 * u i + Ideal.ofBits FTy.f32 0x3dcccccd#32 * grad p i

/-- The second moment after the step. -/
def newV (p : S1x1024x768.Idx → EReal) (v : S1024x768.Idx → EReal) (i : S1024x768.Idx) : EReal :=
  Ideal.ofBits FTy.f32 0x3f7fbe77#32 * v i + Ideal.ofBits FTy.f32 0x3a83126f#32 * (grad p i * grad p i)

/-- The weight's change. -/
def delta (w : S1024x768.Idx → EReal) (p : S1x1024x768.Idx → EReal) (u v : S1024x768.Idx → EReal) (i : S1024x768.Idx) : EReal :=
  Ideal.ofBits FTy.f32 0xba83126f#32 *
    (Ideal.div (Ideal.div (newM p u i) (Ideal.ofBits FTy.f32 0x3f26bd02#32))
      (Ideal.sqrt (Ideal.div (newV p v i) (Ideal.ofBits FTy.f32 0x3c231acc#32)) + Ideal.ofBits FTy.f32 0x322bcc77#32)
      + Ideal.ofBits FTy.f32 0x3c23d70a#32 * w i)

/-- Which block each window shows at a grid point. -/
theorem idx : ∀ t : Fin grid0.N, win0_0.index t = ![t.val, 0] ∧ win0_1.index t = ![0, t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by
  decide +kernel

/-- The gradient after the run. -/
theorem arr4 (c : Dev nD) : (dats m 0 c).arrAt 4 cfg0.N = grad (m (c.tc.loc main_arg1)) := by
  refine (dats m 0 c).arrAt_eq_of_covers 4 _ (by decide +kernel) fun t hf y => ?_
  blk_simp
  rw [after0_4]
  unfold out0_4
  frame_out
  unfold_payloads
  pointwise
  simp only [delta, newM, newV, grad, Fin.sum_univ_one]
  blk_point [iblk, V, idx t]

/-- The weight's change after the run. -/
theorem arr5 (c : Dev nD) : (dats m 0 c).arrAt 5 cfg0.N = delta (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  unfold out0_5
  frame_out
  unfold_payloads
  pointwise
  simp only [delta, newM, newV, grad, Fin.sum_univ_one]
  blk_point [iblk, V, idx t]

/-- The first moment after the run. -/
theorem arr6 (c : Dev nD) : (dats m 0 c).arrAt 6 cfg0.N = newM (m (c.tc.loc main_arg1)) (m (c.tc.loc main_arg2)) := by
  refine (dats m 0 c).arrAt_eq_of_covers 6 _ (by decide +kernel) fun t hf y => ?_
  blk_simp
  rw [after0_6]
  unfold out0_6
  frame_out
  unfold_payloads
  pointwise
  simp only [delta, newM, newV, grad, Fin.sum_univ_one]
  blk_point [iblk, V, idx t]

/-- The second moment after the run. -/
theorem arr7 (c : Dev nD) : (dats m 0 c).arrAt 7 cfg0.N = newV (m (c.tc.loc main_arg1)) (m (c.tc.loc main_arg3)) := by
  refine (dats m 0 c).arrAt_eq_of_covers 7 _ (by decide +kernel) fun t hf y => ?_
  blk_simp
  rw [after0_7]
  unfold out0_7
  frame_out
  unfold_payloads
  pointwise
  simp only [delta, newM, newV, grad, Fin.sum_univ_one]
  blk_point [iblk, V, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v0_0) = grad (m (c.tc.loc main_arg1)) ∧
      r.2.mem (c.tc.loc main_v0_1) = delta (m (c.tc.loc main_arg0)) (m (c.tc.loc main_arg1)) (m (c.tc.loc main_arg2)) (m (c.tc.loc main_arg3)) ∧
      r.2.mem (c.tc.loc main_v0_2) = newM (m (c.tc.loc main_arg1)) (m (c.tc.loc main_arg2)) ∧
      r.2.mem (c.tc.loc main_v0_3) = newV (m (c.tc.loc main_arg1)) (m (c.tc.loc main_arg3)) ∧
      r.2.mem (c.tc.loc main_arg0) = m (c.tc.loc main_arg0) ∧
      r.2.mem (c.tc.loc main_arg1) = m (c.tc.loc main_arg1) ∧
      r.2.mem (c.tc.loc main_arg2) = m (c.tc.loc main_arg2) ∧
      r.2.mem (c.tc.loc main_arg3) = m (c.tc.loc main_arg3) :=
  (θ_run defs _ _).mono (fun _ h c => ⟨(h c).1.trans (arr4 m c), (h c).2.1.trans (arr5 m c), (h c).2.2.1.trans (arr6 m c), (h c).2.2.2.1.trans (arr7 m c), (h c).2.2.2.2⟩)
    (Cert.Kernel25Ideal.Value.run_blocks m ρ)

/-- The reference's run, with each result named. -/
theorem runR (m : (ℓ : Loc Cert.Reference25Ideal.nD Cert.Reference25Ideal.τ Cert.Reference25Ideal.sig) → Buf (Elt Ideal) ℓ) (ρ : Dev Cert.Reference25Ideal.nD → PrngReg) :
    θ_run Cert.Reference25Ideal.defs (onTc (τ := Cert.Reference25Ideal.τ) (Cert.Reference25Ideal.main (F := Ideal))) ⟨m, fun _ => 0, ρ⟩ fun r => ∀ c : Dev Cert.Reference25Ideal.nD,
      r.2.mem (c.tc.loc Cert.Reference25Ideal.main_v0) = grad (m (c.tc.loc Cert.Reference25Ideal.main_arg1)) ∧
      r.2.mem (c.tc.loc Cert.Reference25Ideal.main_v24) = delta (m (c.tc.loc Cert.Reference25Ideal.main_arg0)) (m (c.tc.loc Cert.Reference25Ideal.main_arg1)) (m (c.tc.loc Cert.Reference25Ideal.main_arg2)) (m (c.tc.loc Cert.Reference25Ideal.main_arg3)) ∧
      r.2.mem (c.tc.loc Cert.Reference25Ideal.main_v5) = newM (m (c.tc.loc Cert.Reference25Ideal.main_arg1)) (m (c.tc.loc Cert.Reference25Ideal.main_arg2)) ∧
      r.2.mem (c.tc.loc Cert.Reference25Ideal.main_v11) = newV (m (c.tc.loc Cert.Reference25Ideal.main_arg1)) (m (c.tc.loc Cert.Reference25Ideal.main_arg3)) ∧
      r.2.mem (c.tc.loc Cert.Reference25Ideal.main_arg0) = m (c.tc.loc Cert.Reference25Ideal.main_arg0) ∧
      r.2.mem (c.tc.loc Cert.Reference25Ideal.main_arg1) = m (c.tc.loc Cert.Reference25Ideal.main_arg1) ∧
      r.2.mem (c.tc.loc Cert.Reference25Ideal.main_arg2) = m (c.tc.loc Cert.Reference25Ideal.main_arg2) ∧
      r.2.mem (c.tc.loc Cert.Reference25Ideal.main_arg3) = m (c.tc.loc Cert.Reference25Ideal.main_arg3) :=
  (θ_run _ _ _).mono (fun _ h c => ⟨(h c).1.trans (by
      clear h
      funext i
      pointwise
      rfl), (h c).2.1.trans (by
      clear h
      funext i
      pointwise
      rfl), (h c).2.2.1.trans (by
      clear h
      funext i
      pointwise
      rfl), (h c).2.2.2.1.trans (by
      clear h
      funext i
      pointwise
      rfl), (h c).2.2.2.2⟩) (Cert.Reference25Ideal.Value.run m ρ)

end Cert.AdamwWAda

end
-- ==== Proof.AdamwBAda.lean ====
/- The value of the optimiser's step for `b_ada` (the call `adamw_b_ada`). -/
module

public import proofs.«01_k».proof.Proof.Gen.Kernel26Ideal.Value
public import proofs.«01_k».proof.Proof.Gen.Reference26Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamwBAda

open Cert.Kernel26Ideal Cert.Kernel26Ideal.Gen Idealize.ShloMosaic Idealize.ShloMosaic.TcCoe Idealize.SL.Sem
open Idealize.ShloMosaic.Pipeline (Dat)

variable (m : (ℓ : Loc nD τ sig) → Buf (Elt Ideal) ℓ)

/-- The gradient: the devices' parts summed. -/
def grad (p : S1x1x6144.Idx → EReal) (i : S1x6144.Idx) : EReal := ∑ d : Fin 1, p (ix3 d 0 (i 1))

/-- The first moment after the step. -/
def newM (p : S1x1x6144.Idx → EReal) (u : S1x6144.Idx → EReal) (i : S1x6144.Idx) : EReal :=
  Ideal.ofBits FTy.f32 0x3f666666#32 * u i + Ideal.ofBits FTy.f32 0x3dcccccd#32 * grad p i

/-- The second moment after the step. -/
def newV (p : S1x1x6144.Idx → EReal) (v : S1x6144.Idx → EReal) (i : S1x6144.Idx) : EReal :=
  Ideal.ofBits FTy.f32 0x3f7fbe77#32 * v i + Ideal.ofBits FTy.f32 0x3a83126f#32 * (grad p i * grad p i)

/-- The weight's change. -/
def delta (w : S1x6144.Idx → EReal) (p : S1x1x6144.Idx → EReal) (u v : S1x6144.Idx → EReal) (i : S1x6144.Idx) : EReal :=
  Ideal.ofBits FTy.f32 0xba83126f#32 *
    (Ideal.div (Ideal.div (newM p u i) (Ideal.ofBits FTy.f32 0x3f26bd02#32))
      (Ideal.sqrt (Ideal.div (newV p v i) (Ideal.ofBits FTy.f32 0x3c231acc#32)) + Ideal.ofBits FTy.f32 0x322bcc77#32)
      + Ideal.ofBits FTy.f32 0x3c23d70a#32 * w i)

/-- Which block each window shows at a grid point. -/
theorem idx : ∀ t : Fin grid0.N, win0_0.index t = ![t.val, 0] ∧ win0_1.index t = ![0, t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by
  decide +kernel

/-- The gradient after the run. -/
theorem arr4 (c : Dev nD) : (dats m 0 c).arrAt 4 cfg0.N = grad (m (c.tc.loc main_arg1)) := by
  refine (dats m 0 c).arrAt_eq_of_covers 4 _ (by decide +kernel) fun t hf y => ?_
  blk_simp
  rw [after0_4]
  unfold out0_4
  frame_out
  unfold_payloads
  pointwise
  simp only [delta, newM, newV, grad, Fin.sum_univ_one]
  blk_point [iblk, V, idx t]

/-- The weight's change after the run. -/
theorem arr5 (c : Dev nD) : (dats m 0 c).arrAt 5 cfg0.N = delta (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  unfold out0_5
  frame_out
  unfold_payloads
  pointwise
  simp only [delta, newM, newV, grad, Fin.sum_univ_one]
  blk_point [iblk, V, idx t]

/-- The first moment after the run. -/
theorem arr6 (c : Dev nD) : (dats m 0 c).arrAt 6 cfg0.N = newM (m (c.tc.loc main_arg1)) (m (c.tc.loc main_arg2)) := by
  refine (dats m 0 c).arrAt_eq_of_covers 6 _ (by decide +kernel) fun t hf y => ?_
  blk_simp
  rw [after0_6]
  unfold out0_6
  frame_out
  unfold_payloads
  pointwise
  simp only [delta, newM, newV, grad, Fin.sum_univ_one]
  blk_point [iblk, V, idx t]

/-- The second moment after the run. -/
theorem arr7 (c : Dev nD) : (dats m 0 c).arrAt 7 cfg0.N = newV (m (c.tc.loc main_arg1)) (m (c.tc.loc main_arg3)) := by
  refine (dats m 0 c).arrAt_eq_of_covers 7 _ (by decide +kernel) fun t hf y => ?_
  blk_simp
  rw [after0_7]
  unfold out0_7
  frame_out
  unfold_payloads
  pointwise
  simp only [delta, newM, newV, grad, Fin.sum_univ_one]
  blk_point [iblk, V, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v0_0) = grad (m (c.tc.loc main_arg1)) ∧
      r.2.mem (c.tc.loc main_v0_1) = delta (m (c.tc.loc main_arg0)) (m (c.tc.loc main_arg1)) (m (c.tc.loc main_arg2)) (m (c.tc.loc main_arg3)) ∧
      r.2.mem (c.tc.loc main_v0_2) = newM (m (c.tc.loc main_arg1)) (m (c.tc.loc main_arg2)) ∧
      r.2.mem (c.tc.loc main_v0_3) = newV (m (c.tc.loc main_arg1)) (m (c.tc.loc main_arg3)) ∧
      r.2.mem (c.tc.loc main_arg0) = m (c.tc.loc main_arg0) ∧
      r.2.mem (c.tc.loc main_arg1) = m (c.tc.loc main_arg1) ∧
      r.2.mem (c.tc.loc main_arg2) = m (c.tc.loc main_arg2) ∧
      r.2.mem (c.tc.loc main_arg3) = m (c.tc.loc main_arg3) :=
  (θ_run defs _ _).mono (fun _ h c => ⟨(h c).1.trans (arr4 m c), (h c).2.1.trans (arr5 m c), (h c).2.2.1.trans (arr6 m c), (h c).2.2.2.1.trans (arr7 m c), (h c).2.2.2.2⟩)
    (Cert.Kernel26Ideal.Value.run_blocks m ρ)

/-- The reference's run, with each result named. -/
theorem runR (m : (ℓ : Loc Cert.Reference26Ideal.nD Cert.Reference26Ideal.τ Cert.Reference26Ideal.sig) → Buf (Elt Ideal) ℓ) (ρ : Dev Cert.Reference26Ideal.nD → PrngReg) :
    θ_run Cert.Reference26Ideal.defs (onTc (τ := Cert.Reference26Ideal.τ) (Cert.Reference26Ideal.main (F := Ideal))) ⟨m, fun _ => 0, ρ⟩ fun r => ∀ c : Dev Cert.Reference26Ideal.nD,
      r.2.mem (c.tc.loc Cert.Reference26Ideal.main_v0) = grad (m (c.tc.loc Cert.Reference26Ideal.main_arg1)) ∧
      r.2.mem (c.tc.loc Cert.Reference26Ideal.main_v24) = delta (m (c.tc.loc Cert.Reference26Ideal.main_arg0)) (m (c.tc.loc Cert.Reference26Ideal.main_arg1)) (m (c.tc.loc Cert.Reference26Ideal.main_arg2)) (m (c.tc.loc Cert.Reference26Ideal.main_arg3)) ∧
      r.2.mem (c.tc.loc Cert.Reference26Ideal.main_v5) = newM (m (c.tc.loc Cert.Reference26Ideal.main_arg1)) (m (c.tc.loc Cert.Reference26Ideal.main_arg2)) ∧
      r.2.mem (c.tc.loc Cert.Reference26Ideal.main_v11) = newV (m (c.tc.loc Cert.Reference26Ideal.main_arg1)) (m (c.tc.loc Cert.Reference26Ideal.main_arg3)) ∧
      r.2.mem (c.tc.loc Cert.Reference26Ideal.main_arg0) = m (c.tc.loc Cert.Reference26Ideal.main_arg0) ∧
      r.2.mem (c.tc.loc Cert.Reference26Ideal.main_arg1) = m (c.tc.loc Cert.Reference26Ideal.main_arg1) ∧
      r.2.mem (c.tc.loc Cert.Reference26Ideal.main_arg2) = m (c.tc.loc Cert.Reference26Ideal.main_arg2) ∧
      r.2.mem (c.tc.loc Cert.Reference26Ideal.main_arg3) = m (c.tc.loc Cert.Reference26Ideal.main_arg3) :=
  (θ_run _ _ _).mono (fun _ h c => ⟨(h c).1.trans (by
      clear h
      funext i
      pointwise
      rfl), (h c).2.1.trans (by
      clear h
      funext i
      pointwise
      rfl), (h c).2.2.1.trans (by
      clear h
      funext i
      pointwise
      rfl), (h c).2.2.2.1.trans (by
      clear h
      funext i
      pointwise
      rfl), (h c).2.2.2.2⟩) (Cert.Reference26Ideal.Value.run m ρ)

end Cert.AdamwBAda

end
-- ==== Proof.AdamwNorm1G.lean ====
/- The value of the optimiser's step for `norm1_g` (the call `adamw_norm1_g`). -/
module

public import proofs.«01_k».proof.Proof.Gen.Kernel27Ideal.Value
public import proofs.«01_k».proof.Proof.Gen.Reference27Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamwNorm1G

open Cert.Kernel27Ideal Cert.Kernel27Ideal.Gen Idealize.ShloMosaic Idealize.ShloMosaic.TcCoe Idealize.SL.Sem
open Idealize.ShloMosaic.Pipeline (Dat)

variable (m : (ℓ : Loc nD τ sig) → Buf (Elt Ideal) ℓ)

/-- The gradient: the devices' parts summed. -/
def grad (p : S8x1x1024.Idx → EReal) (i : S1x1024.Idx) : EReal := ∑ d : Fin 8, p (ix3 d 0 (i 1))

/-- The first moment after the step. -/
def newM (p : S8x1x1024.Idx → EReal) (u : S1x1024.Idx → EReal) (i : S1x1024.Idx) : EReal :=
  Ideal.ofBits FTy.f32 0x3f666666#32 * u i + Ideal.ofBits FTy.f32 0x3dcccccd#32 * grad p i

/-- The second moment after the step. -/
def newV (p : S8x1x1024.Idx → EReal) (v : S1x1024.Idx → EReal) (i : S1x1024.Idx) : EReal :=
  Ideal.ofBits FTy.f32 0x3f7fbe77#32 * v i + Ideal.ofBits FTy.f32 0x3a83126f#32 * (grad p i * grad p i)

/-- The weight's change. -/
def delta (w : S1x1024.Idx → EReal) (p : S8x1x1024.Idx → EReal) (u v : S1x1024.Idx → EReal) (i : S1x1024.Idx) : EReal :=
  Ideal.ofBits FTy.f32 0xba83126f#32 *
    (Ideal.div (Ideal.div (newM p u i) (Ideal.ofBits FTy.f32 0x3f26bd02#32))
      (Ideal.sqrt (Ideal.div (newV p v i) (Ideal.ofBits FTy.f32 0x3c231acc#32)) + Ideal.ofBits FTy.f32 0x322bcc77#32)
      + Ideal.ofBits FTy.f32 0x3c23d70a#32 * w i)

/-- Which block each window shows at a grid point. -/
theorem idx : ∀ t : Fin grid0.N, win0_0.index t = ![t.val, 0] ∧ win0_1.index t = ![0, t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by
  decide +kernel

/-- The gradient after the run. -/
theorem arr4 (c : Dev nD) : (dats m 0 c).arrAt 4 cfg0.N = grad (m (c.tc.loc main_arg1)) := by
  refine (dats m 0 c).arrAt_eq_of_covers 4 _ (by decide +kernel) fun t hf y => ?_
  blk_simp
  rw [after0_4]
  unfold_out out0_4
  frame_out
  unfold_payloads
  pointwise
  simp only [delta, newM, newV, grad, Fin.sum_univ_eight]
  have h : ∀ d : Fin 8, iblk m c 1 t (ix3 d 0 (y 1)) =
      m (c.tc.loc main_arg1) (ix3 d 0 (((View.whole main_v0_0).slice (win0_4.rect t)).emb y 1)) := fun d => by
    blk_point [iblk, V, idx t]
  simp only [h]

/-- The weight's change after the run. -/
theorem arr5 (c : Dev nD) : (dats m 0 c).arrAt 5 cfg0.N = delta (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  unfold_out out0_5
  frame_out
  unfold_payloads
  pointwise
  simp only [delta, newM, newV, grad, Fin.sum_univ_eight]
  have h : ∀ d : Fin 8, iblk m c 1 t (ix3 d 0 (y 1)) =
      m (c.tc.loc main_arg1) (ix3 d 0 (((View.whole main_v0_1).slice (win0_5.rect t)).emb y 1)) := fun d => by
    blk_point [iblk, V, idx t]
  simp only [h]
  blk_point [iblk, V, idx t]

/-- The first moment after the run. -/
theorem arr6 (c : Dev nD) : (dats m 0 c).arrAt 6 cfg0.N = newM (m (c.tc.loc main_arg1)) (m (c.tc.loc main_arg2)) := by
  refine (dats m 0 c).arrAt_eq_of_covers 6 _ (by decide +kernel) fun t hf y => ?_
  blk_simp
  rw [after0_6]
  unfold_out out0_6
  frame_out
  unfold_payloads
  pointwise
  simp only [delta, newM, newV, grad, Fin.sum_univ_eight]
  have h : ∀ d : Fin 8, iblk m c 1 t (ix3 d 0 (y 1)) =
      m (c.tc.loc main_arg1) (ix3 d 0 (((View.whole main_v0_2).slice (win0_6.rect t)).emb y 1)) := fun d => by
    blk_point [iblk, V, idx t]
  simp only [h]
  blk_point [iblk, V, idx t]

/-- The second moment after the run. -/
theorem arr7 (c : Dev nD) : (dats m 0 c).arrAt 7 cfg0.N = newV (m (c.tc.loc main_arg1)) (m (c.tc.loc main_arg3)) := by
  refine (dats m 0 c).arrAt_eq_of_covers 7 _ (by decide +kernel) fun t hf y => ?_
  blk_simp
  rw [after0_7]
  unfold_out out0_7
  frame_out
  unfold_payloads
  pointwise
  simp only [delta, newM, newV, grad, Fin.sum_univ_eight]
  have h : ∀ d : Fin 8, iblk m c 1 t (ix3 d 0 (y 1)) =
      m (c.tc.loc main_arg1) (ix3 d 0 (((View.whole main_v0_3).slice (win0_7.rect t)).emb y 1)) := fun d => by
    blk_point [iblk, V, idx t]
  simp only [h]
  blk_point [iblk, V, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v0_0) = grad (m (c.tc.loc main_arg1)) ∧
      r.2.mem (c.tc.loc main_v0_1) = delta (m (c.tc.loc main_arg0)) (m (c.tc.loc main_arg1)) (m (c.tc.loc main_arg2)) (m (c.tc.loc main_arg3)) ∧
      r.2.mem (c.tc.loc main_v0_2) = newM (m (c.tc.loc main_arg1)) (m (c.tc.loc main_arg2)) ∧
      r.2.mem (c.tc.loc main_v0_3) = newV (m (c.tc.loc main_arg1)) (m (c.tc.loc main_arg3)) ∧
      r.2.mem (c.tc.loc main_arg0) = m (c.tc.loc main_arg0) ∧
      r.2.mem (c.tc.loc main_arg1) = m (c.tc.loc main_arg1) ∧
      r.2.mem (c.tc.loc main_arg2) = m (c.tc.loc main_arg2) ∧
      r.2.mem (c.tc.loc main_arg3) = m (c.tc.loc main_arg3) :=
  (θ_run defs _ _).mono (fun _ h c => ⟨(h c).1.trans (arr4 m c), (h c).2.1.trans (arr5 m c), (h c).2.2.1.trans (arr6 m c), (h c).2.2.2.1.trans (arr7 m c), (h c).2.2.2.2⟩)
    (Cert.Kernel27Ideal.Value.run_blocks m ρ)

/-- The reference's run, with each result named. -/
theorem runR (m : (ℓ : Loc Cert.Reference27Ideal.nD Cert.Reference27Ideal.τ Cert.Reference27Ideal.sig) → Buf (Elt Ideal) ℓ) (ρ : Dev Cert.Reference27Ideal.nD → PrngReg) :
    θ_run Cert.Reference27Ideal.defs (onTc (τ := Cert.Reference27Ideal.τ) (Cert.Reference27Ideal.main (F := Ideal))) ⟨m, fun _ => 0, ρ⟩ fun r => ∀ c : Dev Cert.Reference27Ideal.nD,
      r.2.mem (c.tc.loc Cert.Reference27Ideal.main_v0) = grad (m (c.tc.loc Cert.Reference27Ideal.main_arg1)) ∧
      r.2.mem (c.tc.loc Cert.Reference27Ideal.main_v24) = delta (m (c.tc.loc Cert.Reference27Ideal.main_arg0)) (m (c.tc.loc Cert.Reference27Ideal.main_arg1)) (m (c.tc.loc Cert.Reference27Ideal.main_arg2)) (m (c.tc.loc Cert.Reference27Ideal.main_arg3)) ∧
      r.2.mem (c.tc.loc Cert.Reference27Ideal.main_v5) = newM (m (c.tc.loc Cert.Reference27Ideal.main_arg1)) (m (c.tc.loc Cert.Reference27Ideal.main_arg2)) ∧
      r.2.mem (c.tc.loc Cert.Reference27Ideal.main_v11) = newV (m (c.tc.loc Cert.Reference27Ideal.main_arg1)) (m (c.tc.loc Cert.Reference27Ideal.main_arg3)) ∧
      r.2.mem (c.tc.loc Cert.Reference27Ideal.main_arg0) = m (c.tc.loc Cert.Reference27Ideal.main_arg0) ∧
      r.2.mem (c.tc.loc Cert.Reference27Ideal.main_arg1) = m (c.tc.loc Cert.Reference27Ideal.main_arg1) ∧
      r.2.mem (c.tc.loc Cert.Reference27Ideal.main_arg2) = m (c.tc.loc Cert.Reference27Ideal.main_arg2) ∧
      r.2.mem (c.tc.loc Cert.Reference27Ideal.main_arg3) = m (c.tc.loc Cert.Reference27Ideal.main_arg3) :=
  (θ_run _ _ _).mono (fun _ h c => ⟨(h c).1.trans (by
      clear h
      funext i
      pointwise
      rfl), (h c).2.1.trans (by
      clear h
      funext i
      pointwise
      rfl), (h c).2.2.1.trans (by
      clear h
      funext i
      pointwise
      rfl), (h c).2.2.2.1.trans (by
      clear h
      funext i
      pointwise
      rfl), (h c).2.2.2.2⟩) (Cert.Reference27Ideal.Value.run m ρ)

end Cert.AdamwNorm1G

end
-- ==== Proof.AdamwWIn.lean ====
/- The value of the optimiser's step for `w_in` (the call `adamw_w_in`). -/
module

public import proofs.«01_k».proof.Proof.Gen.Kernel28Ideal.Value
public import proofs.«01_k».proof.Proof.Gen.Reference28Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamwWIn

open Cert.Kernel28Ideal Cert.Kernel28Ideal.Gen Idealize.ShloMosaic Idealize.ShloMosaic.TcCoe Idealize.SL.Sem
open Idealize.ShloMosaic.Pipeline (Dat)

variable (m : (ℓ : Loc nD τ sig) → Buf (Elt Ideal) ℓ)

/-- The gradient: the devices' parts summed. -/
def grad (p : S1x1024x436.Idx → EReal) (i : S1024x436.Idx) : EReal := ∑ d : Fin 1, p (ix3 d (i 0) (i 1))

/-- The first moment after the step. -/
def newM (p : S1x1024x436.Idx → EReal) (u : S1024x436.Idx → EReal) (i : S1024x436.Idx) : EReal :=
  Ideal.ofBits FTy.f32 0x3f666666#32 * u i + Ideal.ofBits FTy.f32 0x3dcccccd#32 * grad p i

/-- The second moment after the step. -/
def newV (p : S1x1024x436.Idx → EReal) (v : S1024x436.Idx → EReal) (i : S1024x436.Idx) : EReal :=
  Ideal.ofBits FTy.f32 0x3f7fbe77#32 * v i + Ideal.ofBits FTy.f32 0x3a83126f#32 * (grad p i * grad p i)

/-- The weight's change. -/
def delta (w : S1024x436.Idx → EReal) (p : S1x1024x436.Idx → EReal) (u v : S1024x436.Idx → EReal) (i : S1024x436.Idx) : EReal :=
  Ideal.ofBits FTy.f32 0xba83126f#32 *
    (Ideal.div (Ideal.div (newM p u i) (Ideal.ofBits FTy.f32 0x3f26bd02#32))
      (Ideal.sqrt (Ideal.div (newV p v i) (Ideal.ofBits FTy.f32 0x3c231acc#32)) + Ideal.ofBits FTy.f32 0x322bcc77#32)
      + Ideal.ofBits FTy.f32 0x3c23d70a#32 * w i)

/-- Which block each window shows at a grid point. -/
theorem idx : ∀ t : Fin grid0.N, win0_0.index t = ![t.val, 0] ∧ win0_1.index t = ![0, t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by
  decide +kernel

/-- The gradient after the run. -/
theorem arr4 (c : Dev nD) : (dats m 0 c).arrAt 4 cfg0.N = grad (m (c.tc.loc main_arg1)) := by
  refine (dats m 0 c).arrAt_eq_of_covers 4 _ (by decide +kernel) fun t hf y => ?_
  blk_simp
  rw [after0_4]
  unfold out0_4
  frame_out
  unfold_payloads
  pointwise
  simp only [delta, newM, newV, grad, Fin.sum_univ_one]
  blk_point [iblk, V, idx t]

/-- The weight's change after the run. -/
theorem arr5 (c : Dev nD) : (dats m 0 c).arrAt 5 cfg0.N = delta (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  unfold out0_5
  frame_out
  unfold_payloads
  pointwise
  simp only [delta, newM, newV, grad, Fin.sum_univ_one]
  blk_point [iblk, V, idx t]

/-- The first moment after the run. -/
theorem arr6 (c : Dev nD) : (dats m 0 c).arrAt 6 cfg0.N = newM (m (c.tc.loc main_arg1)) (m (c.tc.loc main_arg2)) := by
  refine (dats m 0 c).arrAt_eq_of_covers 6 _ (by decide +kernel) fun t hf y => ?_
  blk_simp
  rw [after0_6]
  unfold out0_6
  frame_out
  unfold_payloads
  pointwise
  simp only [delta, newM, newV, grad, Fin.sum_univ_one]
  blk_point [iblk, V, idx t]

/-- The second moment after the run. -/
theorem arr7 (c : Dev nD) : (dats m 0 c).arrAt 7 cfg0.N = newV (m (c.tc.loc main_arg1)) (m (c.tc.loc main_arg3)) := by
  refine (dats m 0 c).arrAt_eq_of_covers 7 _ (by decide +kernel) fun t hf y => ?_
  blk_simp
  rw [after0_7]
  unfold out0_7
  frame_out
  unfold_payloads
  pointwise
  simp only [delta, newM, newV, grad, Fin.sum_univ_one]
  blk_point [iblk, V, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v0_0) = grad (m (c.tc.loc main_arg1)) ∧
      r.2.mem (c.tc.loc main_v0_1) = delta (m (c.tc.loc main_arg0)) (m (c.tc.loc main_arg1)) (m (c.tc.loc main_arg2)) (m (c.tc.loc main_arg3)) ∧
      r.2.mem (c.tc.loc main_v0_2) = newM (m (c.tc.loc main_arg1)) (m (c.tc.loc main_arg2)) ∧
      r.2.mem (c.tc.loc main_v0_3) = newV (m (c.tc.loc main_arg1)) (m (c.tc.loc main_arg3)) ∧
      r.2.mem (c.tc.loc main_arg0) = m (c.tc.loc main_arg0) ∧
      r.2.mem (c.tc.loc main_arg1) = m (c.tc.loc main_arg1) ∧
      r.2.mem (c.tc.loc main_arg2) = m (c.tc.loc main_arg2) ∧
      r.2.mem (c.tc.loc main_arg3) = m (c.tc.loc main_arg3) :=
  (θ_run defs _ _).mono (fun _ h c => ⟨(h c).1.trans (arr4 m c), (h c).2.1.trans (arr5 m c), (h c).2.2.1.trans (arr6 m c), (h c).2.2.2.1.trans (arr7 m c), (h c).2.2.2.2⟩)
    (Cert.Kernel28Ideal.Value.run_blocks m ρ)

/-- The reference's run, with each result named. -/
theorem runR (m : (ℓ : Loc Cert.Reference28Ideal.nD Cert.Reference28Ideal.τ Cert.Reference28Ideal.sig) → Buf (Elt Ideal) ℓ) (ρ : Dev Cert.Reference28Ideal.nD → PrngReg) :
    θ_run Cert.Reference28Ideal.defs (onTc (τ := Cert.Reference28Ideal.τ) (Cert.Reference28Ideal.main (F := Ideal))) ⟨m, fun _ => 0, ρ⟩ fun r => ∀ c : Dev Cert.Reference28Ideal.nD,
      r.2.mem (c.tc.loc Cert.Reference28Ideal.main_v0) = grad (m (c.tc.loc Cert.Reference28Ideal.main_arg1)) ∧
      r.2.mem (c.tc.loc Cert.Reference28Ideal.main_v24) = delta (m (c.tc.loc Cert.Reference28Ideal.main_arg0)) (m (c.tc.loc Cert.Reference28Ideal.main_arg1)) (m (c.tc.loc Cert.Reference28Ideal.main_arg2)) (m (c.tc.loc Cert.Reference28Ideal.main_arg3)) ∧
      r.2.mem (c.tc.loc Cert.Reference28Ideal.main_v5) = newM (m (c.tc.loc Cert.Reference28Ideal.main_arg1)) (m (c.tc.loc Cert.Reference28Ideal.main_arg2)) ∧
      r.2.mem (c.tc.loc Cert.Reference28Ideal.main_v11) = newV (m (c.tc.loc Cert.Reference28Ideal.main_arg1)) (m (c.tc.loc Cert.Reference28Ideal.main_arg3)) ∧
      r.2.mem (c.tc.loc Cert.Reference28Ideal.main_arg0) = m (c.tc.loc Cert.Reference28Ideal.main_arg0) ∧
      r.2.mem (c.tc.loc Cert.Reference28Ideal.main_arg1) = m (c.tc.loc Cert.Reference28Ideal.main_arg1) ∧
      r.2.mem (c.tc.loc Cert.Reference28Ideal.main_arg2) = m (c.tc.loc Cert.Reference28Ideal.main_arg2) ∧
      r.2.mem (c.tc.loc Cert.Reference28Ideal.main_arg3) = m (c.tc.loc Cert.Reference28Ideal.main_arg3) :=
  (θ_run _ _ _).mono (fun _ h c => ⟨(h c).1.trans (by
      clear h
      funext i
      pointwise
      rfl), (h c).2.1.trans (by
      clear h
      funext i
      pointwise
      rfl), (h c).2.2.1.trans (by
      clear h
      funext i
      pointwise
      rfl), (h c).2.2.2.1.trans (by
      clear h
      funext i
      pointwise
      rfl), (h c).2.2.2.2⟩) (Cert.Reference28Ideal.Value.run m ρ)

end Cert.AdamwWIn

end
-- ==== Proof.AdamwQLatentG.lean ====
/- The value of the optimiser's step for `q_latent_g` (the call `adamw_q_latent_g`). -/
module

public import proofs.«01_k».proof.Proof.Gen.Kernel29Ideal.Value
public import proofs.«01_k».proof.Proof.Gen.Reference29Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamwQLatentG

open Cert.Kernel29Ideal Cert.Kernel29Ideal.Gen Idealize.ShloMosaic Idealize.ShloMosaic.TcCoe Idealize.SL.Sem
open Idealize.ShloMosaic.Pipeline (Dat)

variable (m : (ℓ : Loc nD τ sig) → Buf (Elt Ideal) ℓ)

/-- The gradient: the devices' parts summed. -/
def grad (p : S8x1x256.Idx → EReal) (i : S1x256.Idx) : EReal := ∑ d : Fin 8, p (ix3 d 0 (i 1))

/-- The first moment after the step. -/
def newM (p : S8x1x256.Idx → EReal) (u : S1x256.Idx → EReal) (i : S1x256.Idx) : EReal :=
  Ideal.ofBits FTy.f32 0x3f666666#32 * u i + Ideal.ofBits FTy.f32 0x3dcccccd#32 * grad p i

/-- The second moment after the step. -/
def newV (p : S8x1x256.Idx → EReal) (v : S1x256.Idx → EReal) (i : S1x256.Idx) : EReal :=
  Ideal.ofBits FTy.f32 0x3f7fbe77#32 * v i + Ideal.ofBits FTy.f32 0x3a83126f#32 * (grad p i * grad p i)

/-- The weight's change. -/
def delta (w : S1x256.Idx → EReal) (p : S8x1x256.Idx → EReal) (u v : S1x256.Idx → EReal) (i : S1x256.Idx) : EReal :=
  Ideal.ofBits FTy.f32 0xba83126f#32 *
    (Ideal.div (Ideal.div (newM p u i) (Ideal.ofBits FTy.f32 0x3f26bd02#32))
      (Ideal.sqrt (Ideal.div (newV p v i) (Ideal.ofBits FTy.f32 0x3c231acc#32)) + Ideal.ofBits FTy.f32 0x322bcc77#32)
      + Ideal.ofBits FTy.f32 0x3c23d70a#32 * w i)

/-- Which block each window shows at a grid point. -/
theorem idx : ∀ t : Fin grid0.N, win0_0.index t = ![t.val, 0] ∧ win0_1.index t = ![0, t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by
  decide +kernel

/-- The gradient after the run. -/
theorem arr4 (c : Dev nD) : (dats m 0 c).arrAt 4 cfg0.N = grad (m (c.tc.loc main_arg1)) := by
  refine (dats m 0 c).arrAt_eq_of_covers 4 _ (by decide +kernel) fun t hf y => ?_
  blk_simp
  rw [after0_4]
  unfold_out out0_4
  frame_out
  unfold_payloads
  pointwise
  simp only [delta, newM, newV, grad, Fin.sum_univ_eight]
  have h : ∀ d : Fin 8, iblk m c 1 t (ix3 d 0 (y 1)) =
      m (c.tc.loc main_arg1) (ix3 d 0 (((View.whole main_v0_0).slice (win0_4.rect t)).emb y 1)) := fun d => by
    blk_point [iblk, V, idx t]
  simp only [h]

/-- The weight's change after the run. -/
theorem arr5 (c : Dev nD) : (dats m 0 c).arrAt 5 cfg0.N = delta (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  unfold_out out0_5
  frame_out
  unfold_payloads
  pointwise
  simp only [delta, newM, newV, grad, Fin.sum_univ_eight]
  have h : ∀ d : Fin 8, iblk m c 1 t (ix3 d 0 (y 1)) =
      m (c.tc.loc main_arg1) (ix3 d 0 (((View.whole main_v0_1).slice (win0_5.rect t)).emb y 1)) := fun d => by
    blk_point [iblk, V, idx t]
  simp only [h]
  blk_point [iblk, V, idx t]

/-- The first moment after the run. -/
theorem arr6 (c : Dev nD) : (dats m 0 c).arrAt 6 cfg0.N = newM (m (c.tc.loc main_arg1)) (m (c.tc.loc main_arg2)) := by
  refine (dats m 0 c).arrAt_eq_of_covers 6 _ (by decide +kernel) fun t hf y => ?_
  blk_simp
  rw [after0_6]
  unfold_out out0_6
  frame_out
  unfold_payloads
  pointwise
  simp only [delta, newM, newV, grad, Fin.sum_univ_eight]
  have h : ∀ d : Fin 8, iblk m c 1 t (ix3 d 0 (y 1)) =
      m (c.tc.loc main_arg1) (ix3 d 0 (((View.whole main_v0_2).slice (win0_6.rect t)).emb y 1)) := fun d => by
    blk_point [iblk, V, idx t]
  simp only [h]
  blk_point [iblk, V, idx t]

/-- The second moment after the run. -/
theorem arr7 (c : Dev nD) : (dats m 0 c).arrAt 7 cfg0.N = newV (m (c.tc.loc main_arg1)) (m (c.tc.loc main_arg3)) := by
  refine (dats m 0 c).arrAt_eq_of_covers 7 _ (by decide +kernel) fun t hf y => ?_
  blk_simp
  rw [after0_7]
  unfold_out out0_7
  frame_out
  unfold_payloads
  pointwise
  simp only [delta, newM, newV, grad, Fin.sum_univ_eight]
  have h : ∀ d : Fin 8, iblk m c 1 t (ix3 d 0 (y 1)) =
      m (c.tc.loc main_arg1) (ix3 d 0 (((View.whole main_v0_3).slice (win0_7.rect t)).emb y 1)) := fun d => by
    blk_point [iblk, V, idx t]
  simp only [h]
  blk_point [iblk, V, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v0_0) = grad (m (c.tc.loc main_arg1)) ∧
      r.2.mem (c.tc.loc main_v0_1) = delta (m (c.tc.loc main_arg0)) (m (c.tc.loc main_arg1)) (m (c.tc.loc main_arg2)) (m (c.tc.loc main_arg3)) ∧
      r.2.mem (c.tc.loc main_v0_2) = newM (m (c.tc.loc main_arg1)) (m (c.tc.loc main_arg2)) ∧
      r.2.mem (c.tc.loc main_v0_3) = newV (m (c.tc.loc main_arg1)) (m (c.tc.loc main_arg3)) ∧
      r.2.mem (c.tc.loc main_arg0) = m (c.tc.loc main_arg0) ∧
      r.2.mem (c.tc.loc main_arg1) = m (c.tc.loc main_arg1) ∧
      r.2.mem (c.tc.loc main_arg2) = m (c.tc.loc main_arg2) ∧
      r.2.mem (c.tc.loc main_arg3) = m (c.tc.loc main_arg3) :=
  (θ_run defs _ _).mono (fun _ h c => ⟨(h c).1.trans (arr4 m c), (h c).2.1.trans (arr5 m c), (h c).2.2.1.trans (arr6 m c), (h c).2.2.2.1.trans (arr7 m c), (h c).2.2.2.2⟩)
    (Cert.Kernel29Ideal.Value.run_blocks m ρ)

/-- The reference's run, with each result named. -/
theorem runR (m : (ℓ : Loc Cert.Reference29Ideal.nD Cert.Reference29Ideal.τ Cert.Reference29Ideal.sig) → Buf (Elt Ideal) ℓ) (ρ : Dev Cert.Reference29Ideal.nD → PrngReg) :
    θ_run Cert.Reference29Ideal.defs (onTc (τ := Cert.Reference29Ideal.τ) (Cert.Reference29Ideal.main (F := Ideal))) ⟨m, fun _ => 0, ρ⟩ fun r => ∀ c : Dev Cert.Reference29Ideal.nD,
      r.2.mem (c.tc.loc Cert.Reference29Ideal.main_v0) = grad (m (c.tc.loc Cert.Reference29Ideal.main_arg1)) ∧
      r.2.mem (c.tc.loc Cert.Reference29Ideal.main_v24) = delta (m (c.tc.loc Cert.Reference29Ideal.main_arg0)) (m (c.tc.loc Cert.Reference29Ideal.main_arg1)) (m (c.tc.loc Cert.Reference29Ideal.main_arg2)) (m (c.tc.loc Cert.Reference29Ideal.main_arg3)) ∧
      r.2.mem (c.tc.loc Cert.Reference29Ideal.main_v5) = newM (m (c.tc.loc Cert.Reference29Ideal.main_arg1)) (m (c.tc.loc Cert.Reference29Ideal.main_arg2)) ∧
      r.2.mem (c.tc.loc Cert.Reference29Ideal.main_v11) = newV (m (c.tc.loc Cert.Reference29Ideal.main_arg1)) (m (c.tc.loc Cert.Reference29Ideal.main_arg3)) ∧
      r.2.mem (c.tc.loc Cert.Reference29Ideal.main_arg0) = m (c.tc.loc Cert.Reference29Ideal.main_arg0) ∧
      r.2.mem (c.tc.loc Cert.Reference29Ideal.main_arg1) = m (c.tc.loc Cert.Reference29Ideal.main_arg1) ∧
      r.2.mem (c.tc.loc Cert.Reference29Ideal.main_arg2) = m (c.tc.loc Cert.Reference29Ideal.main_arg2) ∧
      r.2.mem (c.tc.loc Cert.Reference29Ideal.main_arg3) = m (c.tc.loc Cert.Reference29Ideal.main_arg3) :=
  (θ_run _ _ _).mono (fun _ h c => ⟨(h c).1.trans (by
      clear h
      funext i
      pointwise
      rfl), (h c).2.1.trans (by
      clear h
      funext i
      pointwise
      rfl), (h c).2.2.1.trans (by
      clear h
      funext i
      pointwise
      rfl), (h c).2.2.2.1.trans (by
      clear h
      funext i
      pointwise
      rfl), (h c).2.2.2.2⟩) (Cert.Reference29Ideal.Value.run m ρ)

end Cert.AdamwQLatentG

end
-- ==== Proof.AdamwWUq.lean ====
/- The value of the optimiser's step for `w_uq` (the call `adamw_w_uq`). -/
module

public import proofs.«01_k».proof.Proof.Gen.Kernel30Ideal.Value
public import proofs.«01_k».proof.Proof.Gen.Reference30Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamwWUq

open Cert.Kernel30Ideal Cert.Kernel30Ideal.Gen Idealize.ShloMosaic Idealize.ShloMosaic.TcCoe Idealize.SL.Sem
open Idealize.ShloMosaic.Pipeline (Dat)

variable (m : (ℓ : Loc nD τ sig) → Buf (Elt Ideal) ℓ)

/-- The gradient: the devices' parts summed. -/
def grad (p : S8x256x96.Idx → EReal) (i : S256x96.Idx) : EReal := ∑ d : Fin 8, p (ix3 d (i 0) (i 1))

/-- The first moment after the step. -/
def newM (p : S8x256x96.Idx → EReal) (u : S256x96.Idx → EReal) (i : S256x96.Idx) : EReal :=
  Ideal.ofBits FTy.f32 0x3f666666#32 * u i + Ideal.ofBits FTy.f32 0x3dcccccd#32 * grad p i

/-- The second moment after the step. -/
def newV (p : S8x256x96.Idx → EReal) (v : S256x96.Idx → EReal) (i : S256x96.Idx) : EReal :=
  Ideal.ofBits FTy.f32 0x3f7fbe77#32 * v i + Ideal.ofBits FTy.f32 0x3a83126f#32 * (grad p i * grad p i)

/-- The weight's change. -/
def delta (w : S256x96.Idx → EReal) (p : S8x256x96.Idx → EReal) (u v : S256x96.Idx → EReal) (i : S256x96.Idx) : EReal :=
  Ideal.ofBits FTy.f32 0xba83126f#32 *
    (Ideal.div (Ideal.div (newM p u i) (Ideal.ofBits FTy.f32 0x3f26bd02#32))
      (Ideal.sqrt (Ideal.div (newV p v i) (Ideal.ofBits FTy.f32 0x3c231acc#32)) + Ideal.ofBits FTy.f32 0x322bcc77#32)
      + Ideal.ofBits FTy.f32 0x3c23d70a#32 * w i)

/-- Which block each window shows at a grid point. -/
theorem idx : ∀ t : Fin grid0.N, win0_0.index t = ![t.val, 0] ∧ win0_1.index t = ![0, t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by
  decide +kernel

/-- The gradient after the run. -/
theorem arr4 (c : Dev nD) : (dats m 0 c).arrAt 4 cfg0.N = grad (m (c.tc.loc main_arg1)) := by
  refine (dats m 0 c).arrAt_eq_of_covers 4 _ (by decide +kernel) fun t hf y => ?_
  blk_simp
  rw [after0_4]
  unfold_out out0_4
  frame_out
  unfold_payloads
  pointwise
  simp only [delta, newM, newV, grad, Fin.sum_univ_eight]
  have h : ∀ d : Fin 8, iblk m c 1 t (ix3 d (y 0) (y 1)) =
      m (c.tc.loc main_arg1) (ix3 d (((View.whole main_v0_0).slice (win0_4.rect t)).emb y 0) (((View.whole main_v0_0).slice (win0_4.rect t)).emb y 1)) := fun d => by
    blk_point [iblk, V, idx t]
  simp only [h]

/-- The weight's change after the run. -/
theorem arr5 (c : Dev nD) : (dats m 0 c).arrAt 5 cfg0.N = delta (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  unfold_out out0_5
  frame_out
  unfold_payloads
  pointwise
  simp only [delta, newM, newV, grad, Fin.sum_univ_eight]
  have h : ∀ d : Fin 8, iblk m c 1 t (ix3 d (y 0) (y 1)) =
      m (c.tc.loc main_arg1) (ix3 d (((View.whole main_v0_1).slice (win0_5.rect t)).emb y 0) (((View.whole main_v0_1).slice (win0_5.rect t)).emb y 1)) := fun d => by
    blk_point [iblk, V, idx t]
  simp only [h]
  blk_point [iblk, V, idx t]

/-- The first moment after the run. -/
theorem arr6 (c : Dev nD) : (dats m 0 c).arrAt 6 cfg0.N = newM (m (c.tc.loc main_arg1)) (m (c.tc.loc main_arg2)) := by
  refine (dats m 0 c).arrAt_eq_of_covers 6 _ (by decide +kernel) fun t hf y => ?_
  blk_simp
  rw [after0_6]
  unfold_out out0_6
  frame_out
  unfold_payloads
  pointwise
  simp only [delta, newM, newV, grad, Fin.sum_univ_eight]
  have h : ∀ d : Fin 8, iblk m c 1 t (ix3 d (y 0) (y 1)) =
      m (c.tc.loc main_arg1) (ix3 d (((View.whole main_v0_2).slice (win0_6.rect t)).emb y 0) (((View.whole main_v0_2).slice (win0_6.rect t)).emb y 1)) := fun d => by
    blk_point [iblk, V, idx t]
  simp only [h]
  blk_point [iblk, V, idx t]

/-- The second moment after the run. -/
theorem arr7 (c : Dev nD) : (dats m 0 c).arrAt 7 cfg0.N = newV (m (c.tc.loc main_arg1)) (m (c.tc.loc main_arg3)) := by
  refine (dats m 0 c).arrAt_eq_of_covers 7 _ (by decide +kernel) fun t hf y => ?_
  blk_simp
  rw [after0_7]
  unfold_out out0_7
  frame_out
  unfold_payloads
  pointwise
  simp only [delta, newM, newV, grad, Fin.sum_univ_eight]
  have h : ∀ d : Fin 8, iblk m c 1 t (ix3 d (y 0) (y 1)) =
      m (c.tc.loc main_arg1) (ix3 d (((View.whole main_v0_3).slice (win0_7.rect t)).emb y 0) (((View.whole main_v0_3).slice (win0_7.rect t)).emb y 1)) := fun d => by
    blk_point [iblk, V, idx t]
  simp only [h]
  blk_point [iblk, V, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v0_0) = grad (m (c.tc.loc main_arg1)) ∧
      r.2.mem (c.tc.loc main_v0_1) = delta (m (c.tc.loc main_arg0)) (m (c.tc.loc main_arg1)) (m (c.tc.loc main_arg2)) (m (c.tc.loc main_arg3)) ∧
      r.2.mem (c.tc.loc main_v0_2) = newM (m (c.tc.loc main_arg1)) (m (c.tc.loc main_arg2)) ∧
      r.2.mem (c.tc.loc main_v0_3) = newV (m (c.tc.loc main_arg1)) (m (c.tc.loc main_arg3)) ∧
      r.2.mem (c.tc.loc main_arg0) = m (c.tc.loc main_arg0) ∧
      r.2.mem (c.tc.loc main_arg1) = m (c.tc.loc main_arg1) ∧
      r.2.mem (c.tc.loc main_arg2) = m (c.tc.loc main_arg2) ∧
      r.2.mem (c.tc.loc main_arg3) = m (c.tc.loc main_arg3) :=
  (θ_run defs _ _).mono (fun _ h c => ⟨(h c).1.trans (arr4 m c), (h c).2.1.trans (arr5 m c), (h c).2.2.1.trans (arr6 m c), (h c).2.2.2.1.trans (arr7 m c), (h c).2.2.2.2⟩)
    (Cert.Kernel30Ideal.Value.run_blocks m ρ)

/-- The reference's run, with each result named. -/
theorem runR (m : (ℓ : Loc Cert.Reference30Ideal.nD Cert.Reference30Ideal.τ Cert.Reference30Ideal.sig) → Buf (Elt Ideal) ℓ) (ρ : Dev Cert.Reference30Ideal.nD → PrngReg) :
    θ_run Cert.Reference30Ideal.defs (onTc (τ := Cert.Reference30Ideal.τ) (Cert.Reference30Ideal.main (F := Ideal))) ⟨m, fun _ => 0, ρ⟩ fun r => ∀ c : Dev Cert.Reference30Ideal.nD,
      r.2.mem (c.tc.loc Cert.Reference30Ideal.main_v1) = grad (m (c.tc.loc Cert.Reference30Ideal.main_arg1)) ∧
      r.2.mem (c.tc.loc Cert.Reference30Ideal.main_v25) = delta (m (c.tc.loc Cert.Reference30Ideal.main_arg0)) (m (c.tc.loc Cert.Reference30Ideal.main_arg1)) (m (c.tc.loc Cert.Reference30Ideal.main_arg2)) (m (c.tc.loc Cert.Reference30Ideal.main_arg3)) ∧
      r.2.mem (c.tc.loc Cert.Reference30Ideal.main_v6) = newM (m (c.tc.loc Cert.Reference30Ideal.main_arg1)) (m (c.tc.loc Cert.Reference30Ideal.main_arg2)) ∧
      r.2.mem (c.tc.loc Cert.Reference30Ideal.main_v12) = newV (m (c.tc.loc Cert.Reference30Ideal.main_arg1)) (m (c.tc.loc Cert.Reference30Ideal.main_arg3)) ∧
      r.2.mem (c.tc.loc Cert.Reference30Ideal.main_arg0) = m (c.tc.loc Cert.Reference30Ideal.main_arg0) ∧
      r.2.mem (c.tc.loc Cert.Reference30Ideal.main_arg1) = m (c.tc.loc Cert.Reference30Ideal.main_arg1) ∧
      r.2.mem (c.tc.loc Cert.Reference30Ideal.main_arg2) = m (c.tc.loc Cert.Reference30Ideal.main_arg2) ∧
      r.2.mem (c.tc.loc Cert.Reference30Ideal.main_arg3) = m (c.tc.loc Cert.Reference30Ideal.main_arg3) :=
  (θ_run _ _ _).mono (fun _ h c => ⟨(h c).1.trans (by
      clear h
      funext i
      pointwise
      rfl), (h c).2.1.trans (by
      clear h
      funext i
      pointwise
      rfl), (h c).2.2.1.trans (by
      clear h
      funext i
      pointwise
      rfl), (h c).2.2.2.1.trans (by
      clear h
      funext i
      pointwise
      rfl), (h c).2.2.2.2⟩) (Cert.Reference30Ideal.Value.run m ρ)

end Cert.AdamwWUq

end
-- ==== Proof.AdamwKvLatentG.lean ====
/- The value of the optimiser's step for `kv_latent_g` (the call `adamw_kv_latent_g`). -/
module

public import proofs.«01_k».proof.Proof.Gen.Kernel31Ideal.Value
public import proofs.«01_k».proof.Proof.Gen.Reference31Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamwKvLatentG

open Cert.Kernel31Ideal Cert.Kernel31Ideal.Gen Idealize.ShloMosaic Idealize.ShloMosaic.TcCoe Idealize.SL.Sem
open Idealize.ShloMosaic.Pipeline (Dat)

variable (m : (ℓ : Loc nD τ sig) → Buf (Elt Ideal) ℓ)

/-- The gradient: the devices' parts summed. -/
def grad (p : S8x1x128.Idx → EReal) (i : S1x128.Idx) : EReal := ∑ d : Fin 8, p (ix3 d 0 (i 1))

/-- The first moment after the step. -/
def newM (p : S8x1x128.Idx → EReal) (u : S1x128.Idx → EReal) (i : S1x128.Idx) : EReal :=
  Ideal.ofBits FTy.f32 0x3f666666#32 * u i + Ideal.ofBits FTy.f32 0x3dcccccd#32 * grad p i

/-- The second moment after the step. -/
def newV (p : S8x1x128.Idx → EReal) (v : S1x128.Idx → EReal) (i : S1x128.Idx) : EReal :=
  Ideal.ofBits FTy.f32 0x3f7fbe77#32 * v i + Ideal.ofBits FTy.f32 0x3a83126f#32 * (grad p i * grad p i)

/-- The weight's change. -/
def delta (w : S1x128.Idx → EReal) (p : S8x1x128.Idx → EReal) (u v : S1x128.Idx → EReal) (i : S1x128.Idx) : EReal :=
  Ideal.ofBits FTy.f32 0xba83126f#32 *
    (Ideal.div (Ideal.div (newM p u i) (Ideal.ofBits FTy.f32 0x3f26bd02#32))
      (Ideal.sqrt (Ideal.div (newV p v i) (Ideal.ofBits FTy.f32 0x3c231acc#32)) + Ideal.ofBits FTy.f32 0x322bcc77#32)
      + Ideal.ofBits FTy.f32 0x3c23d70a#32 * w i)

/-- Which block each window shows at a grid point. -/
theorem idx : ∀ t : Fin grid0.N, win0_0.index t = ![t.val, 0] ∧ win0_1.index t = ![0, t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by
  decide +kernel

/-- The gradient after the run. -/
theorem arr4 (c : Dev nD) : (dats m 0 c).arrAt 4 cfg0.N = grad (m (c.tc.loc main_arg1)) := by
  refine (dats m 0 c).arrAt_eq_of_covers 4 _ (by decide +kernel) fun t hf y => ?_
  blk_simp
  rw [after0_4]
  unfold_out out0_4
  frame_out
  unfold_payloads
  pointwise
  simp only [delta, newM, newV, grad, Fin.sum_univ_eight]
  have h : ∀ d : Fin 8, iblk m c 1 t (ix3 d 0 (y 1)) =
      m (c.tc.loc main_arg1) (ix3 d 0 (((View.whole main_v0_0).slice (win0_4.rect t)).emb y 1)) := fun d => by
    blk_point [iblk, V, idx t]
  simp only [h]

/-- The weight's change after the run. -/
theorem arr5 (c : Dev nD) : (dats m 0 c).arrAt 5 cfg0.N = delta (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  unfold_out out0_5
  frame_out
  unfold_payloads
  pointwise
  simp only [delta, newM, newV, grad, Fin.sum_univ_eight]
  have h : ∀ d : Fin 8, iblk m c 1 t (ix3 d 0 (y 1)) =
      m (c.tc.loc main_arg1) (ix3 d 0 (((View.whole main_v0_1).slice (win0_5.rect t)).emb y 1)) := fun d => by
    blk_point [iblk, V, idx t]
  simp only [h]
  blk_point [iblk, V, idx t]

/-- The first moment after the run. -/
theorem arr6 (c : Dev nD) : (dats m 0 c).arrAt 6 cfg0.N = newM (m (c.tc.loc main_arg1)) (m (c.tc.loc main_arg2)) := by
  refine (dats m 0 c).arrAt_eq_of_covers 6 _ (by decide +kernel) fun t hf y => ?_
  blk_simp
  rw [after0_6]
  unfold_out out0_6
  frame_out
  unfold_payloads
  pointwise
  simp only [delta, newM, newV, grad, Fin.sum_univ_eight]
  have h : ∀ d : Fin 8, iblk m c 1 t (ix3 d 0 (y 1)) =
      m (c.tc.loc main_arg1) (ix3 d 0 (((View.whole main_v0_2).slice (win0_6.rect t)).emb y 1)) := fun d => by
    blk_point [iblk, V, idx t]
  simp only [h]
  blk_point [iblk, V, idx t]

/-- The second moment after the run. -/
theorem arr7 (c : Dev nD) : (dats m 0 c).arrAt 7 cfg0.N = newV (m (c.tc.loc main_arg1)) (m (c.tc.loc main_arg3)) := by
  refine (dats m 0 c).arrAt_eq_of_covers 7 _ (by decide +kernel) fun t hf y => ?_
  blk_simp
  rw [after0_7]
  unfold_out out0_7
  frame_out
  unfold_payloads
  pointwise
  simp only [delta, newM, newV, grad, Fin.sum_univ_eight]
  have h : ∀ d : Fin 8, iblk m c 1 t (ix3 d 0 (y 1)) =
      m (c.tc.loc main_arg1) (ix3 d 0 (((View.whole main_v0_3).slice (win0_7.rect t)).emb y 1)) := fun d => by
    blk_point [iblk, V, idx t]
  simp only [h]
  blk_point [iblk, V, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v0_0) = grad (m (c.tc.loc main_arg1)) ∧
      r.2.mem (c.tc.loc main_v0_1) = delta (m (c.tc.loc main_arg0)) (m (c.tc.loc main_arg1)) (m (c.tc.loc main_arg2)) (m (c.tc.loc main_arg3)) ∧
      r.2.mem (c.tc.loc main_v0_2) = newM (m (c.tc.loc main_arg1)) (m (c.tc.loc main_arg2)) ∧
      r.2.mem (c.tc.loc main_v0_3) = newV (m (c.tc.loc main_arg1)) (m (c.tc.loc main_arg3)) ∧
      r.2.mem (c.tc.loc main_arg0) = m (c.tc.loc main_arg0) ∧
      r.2.mem (c.tc.loc main_arg1) = m (c.tc.loc main_arg1) ∧
      r.2.mem (c.tc.loc main_arg2) = m (c.tc.loc main_arg2) ∧
      r.2.mem (c.tc.loc main_arg3) = m (c.tc.loc main_arg3) :=
  (θ_run defs _ _).mono (fun _ h c => ⟨(h c).1.trans (arr4 m c), (h c).2.1.trans (arr5 m c), (h c).2.2.1.trans (arr6 m c), (h c).2.2.2.1.trans (arr7 m c), (h c).2.2.2.2⟩)
    (Cert.Kernel31Ideal.Value.run_blocks m ρ)

/-- The reference's run, with each result named. -/
theorem runR (m : (ℓ : Loc Cert.Reference31Ideal.nD Cert.Reference31Ideal.τ Cert.Reference31Ideal.sig) → Buf (Elt Ideal) ℓ) (ρ : Dev Cert.Reference31Ideal.nD → PrngReg) :
    θ_run Cert.Reference31Ideal.defs (onTc (τ := Cert.Reference31Ideal.τ) (Cert.Reference31Ideal.main (F := Ideal))) ⟨m, fun _ => 0, ρ⟩ fun r => ∀ c : Dev Cert.Reference31Ideal.nD,
      r.2.mem (c.tc.loc Cert.Reference31Ideal.main_v0) = grad (m (c.tc.loc Cert.Reference31Ideal.main_arg1)) ∧
      r.2.mem (c.tc.loc Cert.Reference31Ideal.main_v24) = delta (m (c.tc.loc Cert.Reference31Ideal.main_arg0)) (m (c.tc.loc Cert.Reference31Ideal.main_arg1)) (m (c.tc.loc Cert.Reference31Ideal.main_arg2)) (m (c.tc.loc Cert.Reference31Ideal.main_arg3)) ∧
      r.2.mem (c.tc.loc Cert.Reference31Ideal.main_v5) = newM (m (c.tc.loc Cert.Reference31Ideal.main_arg1)) (m (c.tc.loc Cert.Reference31Ideal.main_arg2)) ∧
      r.2.mem (c.tc.loc Cert.Reference31Ideal.main_v11) = newV (m (c.tc.loc Cert.Reference31Ideal.main_arg1)) (m (c.tc.loc Cert.Reference31Ideal.main_arg3)) ∧
      r.2.mem (c.tc.loc Cert.Reference31Ideal.main_arg0) = m (c.tc.loc Cert.Reference31Ideal.main_arg0) ∧
      r.2.mem (c.tc.loc Cert.Reference31Ideal.main_arg1) = m (c.tc.loc Cert.Reference31Ideal.main_arg1) ∧
      r.2.mem (c.tc.loc Cert.Reference31Ideal.main_arg2) = m (c.tc.loc Cert.Reference31Ideal.main_arg2) ∧
      r.2.mem (c.tc.loc Cert.Reference31Ideal.main_arg3) = m (c.tc.loc Cert.Reference31Ideal.main_arg3) :=
  (θ_run _ _ _).mono (fun _ h c => ⟨(h c).1.trans (by
      clear h
      funext i
      pointwise
      rfl), (h c).2.1.trans (by
      clear h
      funext i
      pointwise
      rfl), (h c).2.2.1.trans (by
      clear h
      funext i
      pointwise
      rfl), (h c).2.2.2.1.trans (by
      clear h
      funext i
      pointwise
      rfl), (h c).2.2.2.2⟩) (Cert.Reference31Ideal.Value.run m ρ)

end Cert.AdamwKvLatentG

end
-- ==== Proof.AdamwWUkv.lean ====
/- The value of the optimiser's step for `w_ukv` (the call `adamw_w_ukv`). -/
module

public import proofs.«01_k».proof.Proof.Gen.Kernel32Ideal.Value
public import proofs.«01_k».proof.Proof.Gen.Reference32Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamwWUkv

open Cert.Kernel32Ideal Cert.Kernel32Ideal.Gen Idealize.ShloMosaic Idealize.ShloMosaic.TcCoe Idealize.SL.Sem
open Idealize.ShloMosaic.Pipeline (Dat)

variable (m : (ℓ : Loc nD τ sig) → Buf (Elt Ideal) ℓ)

/-- The gradient: the devices' parts summed. -/
def grad (p : S8x128x128.Idx → EReal) (i : S128x128.Idx) : EReal := ∑ d : Fin 8, p (ix3 d (i 0) (i 1))

/-- The first moment after the step. -/
def newM (p : S8x128x128.Idx → EReal) (u : S128x128.Idx → EReal) (i : S128x128.Idx) : EReal :=
  Ideal.ofBits FTy.f32 0x3f666666#32 * u i + Ideal.ofBits FTy.f32 0x3dcccccd#32 * grad p i

/-- The second moment after the step. -/
def newV (p : S8x128x128.Idx → EReal) (v : S128x128.Idx → EReal) (i : S128x128.Idx) : EReal :=
  Ideal.ofBits FTy.f32 0x3f7fbe77#32 * v i + Ideal.ofBits FTy.f32 0x3a83126f#32 * (grad p i * grad p i)

/-- The weight's change. -/
def delta (w : S128x128.Idx → EReal) (p : S8x128x128.Idx → EReal) (u v : S128x128.Idx → EReal) (i : S128x128.Idx) : EReal :=
  Ideal.ofBits FTy.f32 0xba83126f#32 *
    (Ideal.div (Ideal.div (newM p u i) (Ideal.ofBits FTy.f32 0x3f26bd02#32))
      (Ideal.sqrt (Ideal.div (newV p v i) (Ideal.ofBits FTy.f32 0x3c231acc#32)) + Ideal.ofBits FTy.f32 0x322bcc77#32)
      + Ideal.ofBits FTy.f32 0x3c23d70a#32 * w i)

/-- Which block each window shows at a grid point. -/
theorem idx : ∀ t : Fin grid0.N, win0_0.index t = ![t.val, 0] ∧ win0_1.index t = ![0, t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by
  decide +kernel

/-- The gradient after the run. -/
theorem arr4 (c : Dev nD) : (dats m 0 c).arrAt 4 cfg0.N = grad (m (c.tc.loc main_arg1)) := by
  refine (dats m 0 c).arrAt_eq_of_covers 4 _ (by decide +kernel) fun t hf y => ?_
  blk_simp
  rw [after0_4]
  unfold_out out0_4
  frame_out
  unfold_payloads
  pointwise
  simp only [delta, newM, newV, grad, Fin.sum_univ_eight]
  have h : ∀ d : Fin 8, iblk m c 1 t (ix3 d (y 0) (y 1)) =
      m (c.tc.loc main_arg1) (ix3 d (((View.whole main_v0_0).slice (win0_4.rect t)).emb y 0) (((View.whole main_v0_0).slice (win0_4.rect t)).emb y 1)) := fun d => by
    blk_point [iblk, V, idx t]
  simp only [h]

/-- The weight's change after the run. -/
theorem arr5 (c : Dev nD) : (dats m 0 c).arrAt 5 cfg0.N = delta (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  unfold_out out0_5
  frame_out
  unfold_payloads
  pointwise
  simp only [delta, newM, newV, grad, Fin.sum_univ_eight]
  have h : ∀ d : Fin 8, iblk m c 1 t (ix3 d (y 0) (y 1)) =
      m (c.tc.loc main_arg1) (ix3 d (((View.whole main_v0_1).slice (win0_5.rect t)).emb y 0) (((View.whole main_v0_1).slice (win0_5.rect t)).emb y 1)) := fun d => by
    blk_point [iblk, V, idx t]
  simp only [h]
  blk_point [iblk, V, idx t]

/-- The first moment after the run. -/
theorem arr6 (c : Dev nD) : (dats m 0 c).arrAt 6 cfg0.N = newM (m (c.tc.loc main_arg1)) (m (c.tc.loc main_arg2)) := by
  refine (dats m 0 c).arrAt_eq_of_covers 6 _ (by decide +kernel) fun t hf y => ?_
  blk_simp
  rw [after0_6]
  unfold_out out0_6
  frame_out
  unfold_payloads
  pointwise
  simp only [delta, newM, newV, grad, Fin.sum_univ_eight]
  have h : ∀ d : Fin 8, iblk m c 1 t (ix3 d (y 0) (y 1)) =
      m (c.tc.loc main_arg1) (ix3 d (((View.whole main_v0_2).slice (win0_6.rect t)).emb y 0) (((View.whole main_v0_2).slice (win0_6.rect t)).emb y 1)) := fun d => by
    blk_point [iblk, V, idx t]
  simp only [h]
  blk_point [iblk, V, idx t]

/-- The second moment after the run. -/
theorem arr7 (c : Dev nD) : (dats m 0 c).arrAt 7 cfg0.N = newV (m (c.tc.loc main_arg1)) (m (c.tc.loc main_arg3)) := by
  refine (dats m 0 c).arrAt_eq_of_covers 7 _ (by decide +kernel) fun t hf y => ?_
  blk_simp
  rw [after0_7]
  unfold_out out0_7
  frame_out
  unfold_payloads
  pointwise
  simp only [delta, newM, newV, grad, Fin.sum_univ_eight]
  have h : ∀ d : Fin 8, iblk m c 1 t (ix3 d (y 0) (y 1)) =
      m (c.tc.loc main_arg1) (ix3 d (((View.whole main_v0_3).slice (win0_7.rect t)).emb y 0) (((View.whole main_v0_3).slice (win0_7.rect t)).emb y 1)) := fun d => by
    blk_point [iblk, V, idx t]
  simp only [h]
  blk_point [iblk, V, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v0_0) = grad (m (c.tc.loc main_arg1)) ∧
      r.2.mem (c.tc.loc main_v0_1) = delta (m (c.tc.loc main_arg0)) (m (c.tc.loc main_arg1)) (m (c.tc.loc main_arg2)) (m (c.tc.loc main_arg3)) ∧
      r.2.mem (c.tc.loc main_v0_2) = newM (m (c.tc.loc main_arg1)) (m (c.tc.loc main_arg2)) ∧
      r.2.mem (c.tc.loc main_v0_3) = newV (m (c.tc.loc main_arg1)) (m (c.tc.loc main_arg3)) ∧
      r.2.mem (c.tc.loc main_arg0) = m (c.tc.loc main_arg0) ∧
      r.2.mem (c.tc.loc main_arg1) = m (c.tc.loc main_arg1) ∧
      r.2.mem (c.tc.loc main_arg2) = m (c.tc.loc main_arg2) ∧
      r.2.mem (c.tc.loc main_arg3) = m (c.tc.loc main_arg3) :=
  (θ_run defs _ _).mono (fun _ h c => ⟨(h c).1.trans (arr4 m c), (h c).2.1.trans (arr5 m c), (h c).2.2.1.trans (arr6 m c), (h c).2.2.2.1.trans (arr7 m c), (h c).2.2.2.2⟩)
    (Cert.Kernel32Ideal.Value.run_blocks m ρ)

/-- The reference's run, with each result named. -/
theorem runR (m : (ℓ : Loc Cert.Reference32Ideal.nD Cert.Reference32Ideal.τ Cert.Reference32Ideal.sig) → Buf (Elt Ideal) ℓ) (ρ : Dev Cert.Reference32Ideal.nD → PrngReg) :
    θ_run Cert.Reference32Ideal.defs (onTc (τ := Cert.Reference32Ideal.τ) (Cert.Reference32Ideal.main (F := Ideal))) ⟨m, fun _ => 0, ρ⟩ fun r => ∀ c : Dev Cert.Reference32Ideal.nD,
      r.2.mem (c.tc.loc Cert.Reference32Ideal.main_v1) = grad (m (c.tc.loc Cert.Reference32Ideal.main_arg1)) ∧
      r.2.mem (c.tc.loc Cert.Reference32Ideal.main_v25) = delta (m (c.tc.loc Cert.Reference32Ideal.main_arg0)) (m (c.tc.loc Cert.Reference32Ideal.main_arg1)) (m (c.tc.loc Cert.Reference32Ideal.main_arg2)) (m (c.tc.loc Cert.Reference32Ideal.main_arg3)) ∧
      r.2.mem (c.tc.loc Cert.Reference32Ideal.main_v6) = newM (m (c.tc.loc Cert.Reference32Ideal.main_arg1)) (m (c.tc.loc Cert.Reference32Ideal.main_arg2)) ∧
      r.2.mem (c.tc.loc Cert.Reference32Ideal.main_v12) = newV (m (c.tc.loc Cert.Reference32Ideal.main_arg1)) (m (c.tc.loc Cert.Reference32Ideal.main_arg3)) ∧
      r.2.mem (c.tc.loc Cert.Reference32Ideal.main_arg0) = m (c.tc.loc Cert.Reference32Ideal.main_arg0) ∧
      r.2.mem (c.tc.loc Cert.Reference32Ideal.main_arg1) = m (c.tc.loc Cert.Reference32Ideal.main_arg1) ∧
      r.2.mem (c.tc.loc Cert.Reference32Ideal.main_arg2) = m (c.tc.loc Cert.Reference32Ideal.main_arg2) ∧
      r.2.mem (c.tc.loc Cert.Reference32Ideal.main_arg3) = m (c.tc.loc Cert.Reference32Ideal.main_arg3) :=
  (θ_run _ _ _).mono (fun _ h c => ⟨(h c).1.trans (by
      clear h
      funext i
      pointwise
      rfl), (h c).2.1.trans (by
      clear h
      funext i
      pointwise
      rfl), (h c).2.2.1.trans (by
      clear h
      funext i
      pointwise
      rfl), (h c).2.2.2.1.trans (by
      clear h
      funext i
      pointwise
      rfl), (h c).2.2.2.2⟩) (Cert.Reference32Ideal.Value.run m ρ)

end Cert.AdamwWUkv

end
-- ==== Proof.AdamwQkNormQG.lean ====
/- The value of the optimiser's step for `qk_norm_q_g` (the call `adamw_qk_norm_q_g`). -/
module

public import proofs.«01_k».proof.Proof.Gen.Kernel33Ideal.Value
public import proofs.«01_k».proof.Proof.Gen.Reference33Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamwQkNormQG

open Cert.Kernel33Ideal Cert.Kernel33Ideal.Gen Idealize.ShloMosaic Idealize.ShloMosaic.TcCoe Idealize.SL.Sem
open Idealize.ShloMosaic.Pipeline (Dat)

variable (m : (ℓ : Loc nD τ sig) → Buf (Elt Ideal) ℓ)

/-- The gradient: the devices' parts summed. -/
def grad (p : S8x1x96.Idx → EReal) (i : S1x96.Idx) : EReal := ∑ d : Fin 8, p (ix3 d 0 (i 1))

/-- The first moment after the step. -/
def newM (p : S8x1x96.Idx → EReal) (u : S1x96.Idx → EReal) (i : S1x96.Idx) : EReal :=
  Ideal.ofBits FTy.f32 0x3f666666#32 * u i + Ideal.ofBits FTy.f32 0x3dcccccd#32 * grad p i

/-- The second moment after the step. -/
def newV (p : S8x1x96.Idx → EReal) (v : S1x96.Idx → EReal) (i : S1x96.Idx) : EReal :=
  Ideal.ofBits FTy.f32 0x3f7fbe77#32 * v i + Ideal.ofBits FTy.f32 0x3a83126f#32 * (grad p i * grad p i)

/-- The weight's change. -/
def delta (w : S1x96.Idx → EReal) (p : S8x1x96.Idx → EReal) (u v : S1x96.Idx → EReal) (i : S1x96.Idx) : EReal :=
  Ideal.ofBits FTy.f32 0xba83126f#32 *
    (Ideal.div (Ideal.div (newM p u i) (Ideal.ofBits FTy.f32 0x3f26bd02#32))
      (Ideal.sqrt (Ideal.div (newV p v i) (Ideal.ofBits FTy.f32 0x3c231acc#32)) + Ideal.ofBits FTy.f32 0x322bcc77#32)
      + Ideal.ofBits FTy.f32 0x3c23d70a#32 * w i)

/-- Which block each window shows at a grid point. -/
theorem idx : ∀ t : Fin grid0.N, win0_0.index t = ![t.val, 0] ∧ win0_1.index t = ![0, t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by
  decide +kernel

/-- The gradient after the run. -/
theorem arr4 (c : Dev nD) : (dats m 0 c).arrAt 4 cfg0.N = grad (m (c.tc.loc main_arg1)) := by
  refine (dats m 0 c).arrAt_eq_of_covers 4 _ (by decide +kernel) fun t hf y => ?_
  blk_simp
  rw [after0_4]
  unfold_out out0_4
  frame_out
  unfold_payloads
  pointwise
  simp only [delta, newM, newV, grad, Fin.sum_univ_eight]
  have h : ∀ d : Fin 8, iblk m c 1 t (ix3 d 0 (y 1)) =
      m (c.tc.loc main_arg1) (ix3 d 0 (((View.whole main_v0_0).slice (win0_4.rect t)).emb y 1)) := fun d => by
    blk_point [iblk, V, idx t]
  simp only [h]

/-- The weight's change after the run. -/
theorem arr5 (c : Dev nD) : (dats m 0 c).arrAt 5 cfg0.N = delta (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  unfold_out out0_5
  frame_out
  unfold_payloads
  pointwise
  simp only [delta, newM, newV, grad, Fin.sum_univ_eight]
  have h : ∀ d : Fin 8, iblk m c 1 t (ix3 d 0 (y 1)) =
      m (c.tc.loc main_arg1) (ix3 d 0 (((View.whole main_v0_1).slice (win0_5.rect t)).emb y 1)) := fun d => by
    blk_point [iblk, V, idx t]
  simp only [h]
  blk_point [iblk, V, idx t]

/-- The first moment after the run. -/
theorem arr6 (c : Dev nD) : (dats m 0 c).arrAt 6 cfg0.N = newM (m (c.tc.loc main_arg1)) (m (c.tc.loc main_arg2)) := by
  refine (dats m 0 c).arrAt_eq_of_covers 6 _ (by decide +kernel) fun t hf y => ?_
  blk_simp
  rw [after0_6]
  unfold_out out0_6
  frame_out
  unfold_payloads
  pointwise
  simp only [delta, newM, newV, grad, Fin.sum_univ_eight]
  have h : ∀ d : Fin 8, iblk m c 1 t (ix3 d 0 (y 1)) =
      m (c.tc.loc main_arg1) (ix3 d 0 (((View.whole main_v0_2).slice (win0_6.rect t)).emb y 1)) := fun d => by
    blk_point [iblk, V, idx t]
  simp only [h]
  blk_point [iblk, V, idx t]

/-- The second moment after the run. -/
theorem arr7 (c : Dev nD) : (dats m 0 c).arrAt 7 cfg0.N = newV (m (c.tc.loc main_arg1)) (m (c.tc.loc main_arg3)) := by
  refine (dats m 0 c).arrAt_eq_of_covers 7 _ (by decide +kernel) fun t hf y => ?_
  blk_simp
  rw [after0_7]
  unfold_out out0_7
  frame_out
  unfold_payloads
  pointwise
  simp only [delta, newM, newV, grad, Fin.sum_univ_eight]
  have h : ∀ d : Fin 8, iblk m c 1 t (ix3 d 0 (y 1)) =
      m (c.tc.loc main_arg1) (ix3 d 0 (((View.whole main_v0_3).slice (win0_7.rect t)).emb y 1)) := fun d => by
    blk_point [iblk, V, idx t]
  simp only [h]
  blk_point [iblk, V, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v0_0) = grad (m (c.tc.loc main_arg1)) ∧
      r.2.mem (c.tc.loc main_v0_1) = delta (m (c.tc.loc main_arg0)) (m (c.tc.loc main_arg1)) (m (c.tc.loc main_arg2)) (m (c.tc.loc main_arg3)) ∧
      r.2.mem (c.tc.loc main_v0_2) = newM (m (c.tc.loc main_arg1)) (m (c.tc.loc main_arg2)) ∧
      r.2.mem (c.tc.loc main_v0_3) = newV (m (c.tc.loc main_arg1)) (m (c.tc.loc main_arg3)) ∧
      r.2.mem (c.tc.loc main_arg0) = m (c.tc.loc main_arg0) ∧
      r.2.mem (c.tc.loc main_arg1) = m (c.tc.loc main_arg1) ∧
      r.2.mem (c.tc.loc main_arg2) = m (c.tc.loc main_arg2) ∧
      r.2.mem (c.tc.loc main_arg3) = m (c.tc.loc main_arg3) :=
  (θ_run defs _ _).mono (fun _ h c => ⟨(h c).1.trans (arr4 m c), (h c).2.1.trans (arr5 m c), (h c).2.2.1.trans (arr6 m c), (h c).2.2.2.1.trans (arr7 m c), (h c).2.2.2.2⟩)
    (Cert.Kernel33Ideal.Value.run_blocks m ρ)

/-- The reference's run, with each result named. -/
theorem runR (m : (ℓ : Loc Cert.Reference33Ideal.nD Cert.Reference33Ideal.τ Cert.Reference33Ideal.sig) → Buf (Elt Ideal) ℓ) (ρ : Dev Cert.Reference33Ideal.nD → PrngReg) :
    θ_run Cert.Reference33Ideal.defs (onTc (τ := Cert.Reference33Ideal.τ) (Cert.Reference33Ideal.main (F := Ideal))) ⟨m, fun _ => 0, ρ⟩ fun r => ∀ c : Dev Cert.Reference33Ideal.nD,
      r.2.mem (c.tc.loc Cert.Reference33Ideal.main_v0) = grad (m (c.tc.loc Cert.Reference33Ideal.main_arg1)) ∧
      r.2.mem (c.tc.loc Cert.Reference33Ideal.main_v24) = delta (m (c.tc.loc Cert.Reference33Ideal.main_arg0)) (m (c.tc.loc Cert.Reference33Ideal.main_arg1)) (m (c.tc.loc Cert.Reference33Ideal.main_arg2)) (m (c.tc.loc Cert.Reference33Ideal.main_arg3)) ∧
      r.2.mem (c.tc.loc Cert.Reference33Ideal.main_v5) = newM (m (c.tc.loc Cert.Reference33Ideal.main_arg1)) (m (c.tc.loc Cert.Reference33Ideal.main_arg2)) ∧
      r.2.mem (c.tc.loc Cert.Reference33Ideal.main_v11) = newV (m (c.tc.loc Cert.Reference33Ideal.main_arg1)) (m (c.tc.loc Cert.Reference33Ideal.main_arg3)) ∧
      r.2.mem (c.tc.loc Cert.Reference33Ideal.main_arg0) = m (c.tc.loc Cert.Reference33Ideal.main_arg0) ∧
      r.2.mem (c.tc.loc Cert.Reference33Ideal.main_arg1) = m (c.tc.loc Cert.Reference33Ideal.main_arg1) ∧
      r.2.mem (c.tc.loc Cert.Reference33Ideal.main_arg2) = m (c.tc.loc Cert.Reference33Ideal.main_arg2) ∧
      r.2.mem (c.tc.loc Cert.Reference33Ideal.main_arg3) = m (c.tc.loc Cert.Reference33Ideal.main_arg3) :=
  (θ_run _ _ _).mono (fun _ h c => ⟨(h c).1.trans (by
      clear h
      funext i
      pointwise
      rfl), (h c).2.1.trans (by
      clear h
      funext i
      pointwise
      rfl), (h c).2.2.1.trans (by
      clear h
      funext i
      pointwise
      rfl), (h c).2.2.2.1.trans (by
      clear h
      funext i
      pointwise
      rfl), (h c).2.2.2.2⟩) (Cert.Reference33Ideal.Value.run m ρ)

end Cert.AdamwQkNormQG

end
-- ==== Proof.AdamwQkNormKG.lean ====
/- The value of the optimiser's step for `qk_norm_k_g` (the call `adamw_qk_norm_k_g`). -/
module

public import proofs.«01_k».proof.Proof.Gen.Kernel34Ideal.Value
public import proofs.«01_k».proof.Proof.Gen.Reference34Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamwQkNormKG

open Cert.Kernel34Ideal Cert.Kernel34Ideal.Gen Idealize.ShloMosaic Idealize.ShloMosaic.TcCoe Idealize.SL.Sem
open Idealize.ShloMosaic.Pipeline (Dat)

variable (m : (ℓ : Loc nD τ sig) → Buf (Elt Ideal) ℓ)

/-- The gradient: the devices' parts summed. -/
def grad (p : S8x1x96.Idx → EReal) (i : S1x96.Idx) : EReal := ∑ d : Fin 8, p (ix3 d 0 (i 1))

/-- The first moment after the step. -/
def newM (p : S8x1x96.Idx → EReal) (u : S1x96.Idx → EReal) (i : S1x96.Idx) : EReal :=
  Ideal.ofBits FTy.f32 0x3f666666#32 * u i + Ideal.ofBits FTy.f32 0x3dcccccd#32 * grad p i

/-- The second moment after the step. -/
def newV (p : S8x1x96.Idx → EReal) (v : S1x96.Idx → EReal) (i : S1x96.Idx) : EReal :=
  Ideal.ofBits FTy.f32 0x3f7fbe77#32 * v i + Ideal.ofBits FTy.f32 0x3a83126f#32 * (grad p i * grad p i)

/-- The weight's change. -/
def delta (w : S1x96.Idx → EReal) (p : S8x1x96.Idx → EReal) (u v : S1x96.Idx → EReal) (i : S1x96.Idx) : EReal :=
  Ideal.ofBits FTy.f32 0xba83126f#32 *
    (Ideal.div (Ideal.div (newM p u i) (Ideal.ofBits FTy.f32 0x3f26bd02#32))
      (Ideal.sqrt (Ideal.div (newV p v i) (Ideal.ofBits FTy.f32 0x3c231acc#32)) + Ideal.ofBits FTy.f32 0x322bcc77#32)
      + Ideal.ofBits FTy.f32 0x3c23d70a#32 * w i)

/-- Which block each window shows at a grid point. -/
theorem idx : ∀ t : Fin grid0.N, win0_0.index t = ![t.val, 0] ∧ win0_1.index t = ![0, t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by
  decide +kernel

/-- The gradient after the run. -/
theorem arr4 (c : Dev nD) : (dats m 0 c).arrAt 4 cfg0.N = grad (m (c.tc.loc main_arg1)) := by
  refine (dats m 0 c).arrAt_eq_of_covers 4 _ (by decide +kernel) fun t hf y => ?_
  blk_simp
  rw [after0_4]
  unfold_out out0_4
  frame_out
  unfold_payloads
  pointwise
  simp only [delta, newM, newV, grad, Fin.sum_univ_eight]
  have h : ∀ d : Fin 8, iblk m c 1 t (ix3 d 0 (y 1)) =
      m (c.tc.loc main_arg1) (ix3 d 0 (((View.whole main_v0_0).slice (win0_4.rect t)).emb y 1)) := fun d => by
    blk_point [iblk, V, idx t]
  simp only [h]

/-- The weight's change after the run. -/
theorem arr5 (c : Dev nD) : (dats m 0 c).arrAt 5 cfg0.N = delta (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  unfold_out out0_5
  frame_out
  unfold_payloads
  pointwise
  simp only [delta, newM, newV, grad, Fin.sum_univ_eight]
  have h : ∀ d : Fin 8, iblk m c 1 t (ix3 d 0 (y 1)) =
      m (c.tc.loc main_arg1) (ix3 d 0 (((View.whole main_v0_1).slice (win0_5.rect t)).emb y 1)) := fun d => by
    blk_point [iblk, V, idx t]
  simp only [h]
  blk_point [iblk, V, idx t]

/-- The first moment after the run. -/
theorem arr6 (c : Dev nD) : (dats m 0 c).arrAt 6 cfg0.N = newM (m (c.tc.loc main_arg1)) (m (c.tc.loc main_arg2)) := by
  refine (dats m 0 c).arrAt_eq_of_covers 6 _ (by decide +kernel) fun t hf y => ?_
  blk_simp
  rw [after0_6]
  unfold_out out0_6
  frame_out
  unfold_payloads
  pointwise
  simp only [delta, newM, newV, grad, Fin.sum_univ_eight]
  have h : ∀ d : Fin 8, iblk m c 1 t (ix3 d 0 (y 1)) =
      m (c.tc.loc main_arg1) (ix3 d 0 (((View.whole main_v0_2).slice (win0_6.rect t)).emb y 1)) := fun d => by
    blk_point [iblk, V, idx t]
  simp only [h]
  blk_point [iblk, V, idx t]

/-- The second moment after the run. -/
theorem arr7 (c : Dev nD) : (dats m 0 c).arrAt 7 cfg0.N = newV (m (c.tc.loc main_arg1)) (m (c.tc.loc main_arg3)) := by
  refine (dats m 0 c).arrAt_eq_of_covers 7 _ (by decide +kernel) fun t hf y => ?_
  blk_simp
  rw [after0_7]
  unfold_out out0_7
  frame_out
  unfold_payloads
  pointwise
  simp only [delta, newM, newV, grad, Fin.sum_univ_eight]
  have h : ∀ d : Fin 8, iblk m c 1 t (ix3 d 0 (y 1)) =
      m (c.tc.loc main_arg1) (ix3 d 0 (((View.whole main_v0_3).slice (win0_7.rect t)).emb y 1)) := fun d => by
    blk_point [iblk, V, idx t]
  simp only [h]
  blk_point [iblk, V, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v0_0) = grad (m (c.tc.loc main_arg1)) ∧
      r.2.mem (c.tc.loc main_v0_1) = delta (m (c.tc.loc main_arg0)) (m (c.tc.loc main_arg1)) (m (c.tc.loc main_arg2)) (m (c.tc.loc main_arg3)) ∧
      r.2.mem (c.tc.loc main_v0_2) = newM (m (c.tc.loc main_arg1)) (m (c.tc.loc main_arg2)) ∧
      r.2.mem (c.tc.loc main_v0_3) = newV (m (c.tc.loc main_arg1)) (m (c.tc.loc main_arg3)) ∧
      r.2.mem (c.tc.loc main_arg0) = m (c.tc.loc main_arg0) ∧
      r.2.mem (c.tc.loc main_arg1) = m (c.tc.loc main_arg1) ∧
      r.2.mem (c.tc.loc main_arg2) = m (c.tc.loc main_arg2) ∧
      r.2.mem (c.tc.loc main_arg3) = m (c.tc.loc main_arg3) :=
  (θ_run defs _ _).mono (fun _ h c => ⟨(h c).1.trans (arr4 m c), (h c).2.1.trans (arr5 m c), (h c).2.2.1.trans (arr6 m c), (h c).2.2.2.1.trans (arr7 m c), (h c).2.2.2.2⟩)
    (Cert.Kernel34Ideal.Value.run_blocks m ρ)

/-- The reference's run, with each result named. -/
theorem runR (m : (ℓ : Loc Cert.Reference34Ideal.nD Cert.Reference34Ideal.τ Cert.Reference34Ideal.sig) → Buf (Elt Ideal) ℓ) (ρ : Dev Cert.Reference34Ideal.nD → PrngReg) :
    θ_run Cert.Reference34Ideal.defs (onTc (τ := Cert.Reference34Ideal.τ) (Cert.Reference34Ideal.main (F := Ideal))) ⟨m, fun _ => 0, ρ⟩ fun r => ∀ c : Dev Cert.Reference34Ideal.nD,
      r.2.mem (c.tc.loc Cert.Reference34Ideal.main_v0) = grad (m (c.tc.loc Cert.Reference34Ideal.main_arg1)) ∧
      r.2.mem (c.tc.loc Cert.Reference34Ideal.main_v24) = delta (m (c.tc.loc Cert.Reference34Ideal.main_arg0)) (m (c.tc.loc Cert.Reference34Ideal.main_arg1)) (m (c.tc.loc Cert.Reference34Ideal.main_arg2)) (m (c.tc.loc Cert.Reference34Ideal.main_arg3)) ∧
      r.2.mem (c.tc.loc Cert.Reference34Ideal.main_v5) = newM (m (c.tc.loc Cert.Reference34Ideal.main_arg1)) (m (c.tc.loc Cert.Reference34Ideal.main_arg2)) ∧
      r.2.mem (c.tc.loc Cert.Reference34Ideal.main_v11) = newV (m (c.tc.loc Cert.Reference34Ideal.main_arg1)) (m (c.tc.loc Cert.Reference34Ideal.main_arg3)) ∧
      r.2.mem (c.tc.loc Cert.Reference34Ideal.main_arg0) = m (c.tc.loc Cert.Reference34Ideal.main_arg0) ∧
      r.2.mem (c.tc.loc Cert.Reference34Ideal.main_arg1) = m (c.tc.loc Cert.Reference34Ideal.main_arg1) ∧
      r.2.mem (c.tc.loc Cert.Reference34Ideal.main_arg2) = m (c.tc.loc Cert.Reference34Ideal.main_arg2) ∧
      r.2.mem (c.tc.loc Cert.Reference34Ideal.main_arg3) = m (c.tc.loc Cert.Reference34Ideal.main_arg3) :=
  (θ_run _ _ _).mono (fun _ h c => ⟨(h c).1.trans (by
      clear h
      funext i
      pointwise
      rfl), (h c).2.1.trans (by
      clear h
      funext i
      pointwise
      rfl), (h c).2.2.1.trans (by
      clear h
      funext i
      pointwise
      rfl), (h c).2.2.2.1.trans (by
      clear h
      funext i
      pointwise
      rfl), (h c).2.2.2.2⟩) (Cert.Reference34Ideal.Value.run m ρ)

end Cert.AdamwQkNormKG

end
-- ==== Proof.AdamwWOMla.lean ====
/- The value of the optimiser's step for `w_o_mla` (the call `adamw_w_o_mla`). -/
module

public import proofs.«01_k».proof.Proof.Gen.Kernel35Ideal.Value
public import proofs.«01_k».proof.Proof.Gen.Reference35Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamwWOMla

open Cert.Kernel35Ideal Cert.Kernel35Ideal.Gen Idealize.ShloMosaic Idealize.ShloMosaic.TcCoe Idealize.SL.Sem
open Idealize.ShloMosaic.Pipeline (Dat)

variable (m : (ℓ : Loc nD τ sig) → Buf (Elt Ideal) ℓ)

/-- The gradient: the devices' parts summed. -/
def grad (p : S8x128x512.Idx → EReal) (i : S512x128.Idx) : EReal := ∑ d : Fin 8, p (ix3 d (i 1) (i 0))

/-- The first moment after the step. -/
def newM (p : S8x128x512.Idx → EReal) (u : S512x128.Idx → EReal) (i : S512x128.Idx) : EReal :=
  Ideal.ofBits FTy.f32 0x3f666666#32 * u i + Ideal.ofBits FTy.f32 0x3dcccccd#32 * grad p i

/-- The second moment after the step. -/
def newV (p : S8x128x512.Idx → EReal) (v : S512x128.Idx → EReal) (i : S512x128.Idx) : EReal :=
  Ideal.ofBits FTy.f32 0x3f7fbe77#32 * v i + Ideal.ofBits FTy.f32 0x3a83126f#32 * (grad p i * grad p i)

/-- The weight's change. -/
def delta (w : S512x128.Idx → EReal) (p : S8x128x512.Idx → EReal) (u v : S512x128.Idx → EReal) (i : S512x128.Idx) : EReal :=
  Ideal.ofBits FTy.f32 0xba83126f#32 *
    (Ideal.div (Ideal.div (newM p u i) (Ideal.ofBits FTy.f32 0x3f26bd02#32))
      (Ideal.sqrt (Ideal.div (newV p v i) (Ideal.ofBits FTy.f32 0x3c231acc#32)) + Ideal.ofBits FTy.f32 0x322bcc77#32)
      + Ideal.ofBits FTy.f32 0x3c23d70a#32 * w i)

/-- Which block each window shows at a grid point. -/
theorem idx : ∀ t : Fin grid0.N, win0_0.index t = ![t.val, 0] ∧ win0_1.index t = ![0, 0, t.val] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by
  decide +kernel

/-- The gradient after the run. -/
theorem arr4 (c : Dev nD) : (dats m 0 c).arrAt 4 cfg0.N = grad (m (c.tc.loc main_arg1)) := by
  refine (dats m 0 c).arrAt_eq_of_covers 4 _ (by decide +kernel) fun t hf y => ?_
  blk_simp
  rw [after0_4]
  unfold_out out0_4
  frame_out
  unfold_payloads
  pointwise
  simp only [delta, newM, newV, grad, Fin.sum_univ_eight]
  have h : ∀ d : Fin 8, iblk m c 1 t (ix3 d (y 1) (y 0)) =
      m (c.tc.loc main_arg1) (ix3 d (((View.whole main_v0_0).slice (win0_4.rect t)).emb y 1) (((View.whole main_v0_0).slice (win0_4.rect t)).emb y 0)) := fun d => by
    blk_point [iblk, V, idx t]
  simp only [h]

/-- The weight's change after the run. -/
theorem arr5 (c : Dev nD) : (dats m 0 c).arrAt 5 cfg0.N = delta (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  unfold_out out0_5
  frame_out
  unfold_payloads
  pointwise
  simp only [delta, newM, newV, grad, Fin.sum_univ_eight]
  have h : ∀ d : Fin 8, iblk m c 1 t (ix3 d (y 1) (y 0)) =
      m (c.tc.loc main_arg1) (ix3 d (((View.whole main_v0_1).slice (win0_5.rect t)).emb y 1) (((View.whole main_v0_1).slice (win0_5.rect t)).emb y 0)) := fun d => by
    blk_point [iblk, V, idx t]
  simp only [h]
  blk_point [iblk, V, idx t]

/-- The first moment after the run. -/
theorem arr6 (c : Dev nD) : (dats m 0 c).arrAt 6 cfg0.N = newM (m (c.tc.loc main_arg1)) (m (c.tc.loc main_arg2)) := by
  refine (dats m 0 c).arrAt_eq_of_covers 6 _ (by decide +kernel) fun t hf y => ?_
  blk_simp
  rw [after0_6]
  unfold_out out0_6
  frame_out
  unfold_payloads
  pointwise
  simp only [delta, newM, newV, grad, Fin.sum_univ_eight]
  have h : ∀ d : Fin 8, iblk m c 1 t (ix3 d (y 1) (y 0)) =
      m (c.tc.loc main_arg1) (ix3 d (((View.whole main_v0_2).slice (win0_6.rect t)).emb y 1) (((View.whole main_v0_2).slice (win0_6.rect t)).emb y 0)) := fun d => by
    blk_point [iblk, V, idx t]
  simp only [h]
  blk_point [iblk, V, idx t]

/-- The second moment after the run. -/
theorem arr7 (c : Dev nD) : (dats m 0 c).arrAt 7 cfg0.N = newV (m (c.tc.loc main_arg1)) (m (c.tc.loc main_arg3)) := by
  refine (dats m 0 c).arrAt_eq_of_covers 7 _ (by decide +kernel) fun t hf y => ?_
  blk_simp
  rw [after0_7]
  unfold_out out0_7
  frame_out
  unfold_payloads
  pointwise
  simp only [delta, newM, newV, grad, Fin.sum_univ_eight]
  have h : ∀ d : Fin 8, iblk m c 1 t (ix3 d (y 1) (y 0)) =
      m (c.tc.loc main_arg1) (ix3 d (((View.whole main_v0_3).slice (win0_7.rect t)).emb y 1) (((View.whole main_v0_3).slice (win0_7.rect t)).emb y 0)) := fun d => by
    blk_point [iblk, V, idx t]
  simp only [h]
  blk_point [iblk, V, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v0_0) = grad (m (c.tc.loc main_arg1)) ∧
      r.2.mem (c.tc.loc main_v0_1) = delta (m (c.tc.loc main_arg0)) (m (c.tc.loc main_arg1)) (m (c.tc.loc main_arg2)) (m (c.tc.loc main_arg3)) ∧
      r.2.mem (c.tc.loc main_v0_2) = newM (m (c.tc.loc main_arg1)) (m (c.tc.loc main_arg2)) ∧
      r.2.mem (c.tc.loc main_v0_3) = newV (m (c.tc.loc main_arg1)) (m (c.tc.loc main_arg3)) ∧
      r.2.mem (c.tc.loc main_arg0) = m (c.tc.loc main_arg0) ∧
      r.2.mem (c.tc.loc main_arg1) = m (c.tc.loc main_arg1) ∧
      r.2.mem (c.tc.loc main_arg2) = m (c.tc.loc main_arg2) ∧
      r.2.mem (c.tc.loc main_arg3) = m (c.tc.loc main_arg3) :=
  (θ_run defs _ _).mono (fun _ h c => ⟨(h c).1.trans (arr4 m c), (h c).2.1.trans (arr5 m c), (h c).2.2.1.trans (arr6 m c), (h c).2.2.2.1.trans (arr7 m c), (h c).2.2.2.2⟩)
    (Cert.Kernel35Ideal.Value.run_blocks m ρ)

/-- The reference's run, with each result named. -/
theorem runR (m : (ℓ : Loc Cert.Reference35Ideal.nD Cert.Reference35Ideal.τ Cert.Reference35Ideal.sig) → Buf (Elt Ideal) ℓ) (ρ : Dev Cert.Reference35Ideal.nD → PrngReg) :
    θ_run Cert.Reference35Ideal.defs (onTc (τ := Cert.Reference35Ideal.τ) (Cert.Reference35Ideal.main (F := Ideal))) ⟨m, fun _ => 0, ρ⟩ fun r => ∀ c : Dev Cert.Reference35Ideal.nD,
      r.2.mem (c.tc.loc Cert.Reference35Ideal.main_v2) = grad (m (c.tc.loc Cert.Reference35Ideal.main_arg1)) ∧
      r.2.mem (c.tc.loc Cert.Reference35Ideal.main_v26) = delta (m (c.tc.loc Cert.Reference35Ideal.main_arg0)) (m (c.tc.loc Cert.Reference35Ideal.main_arg1)) (m (c.tc.loc Cert.Reference35Ideal.main_arg2)) (m (c.tc.loc Cert.Reference35Ideal.main_arg3)) ∧
      r.2.mem (c.tc.loc Cert.Reference35Ideal.main_v7) = newM (m (c.tc.loc Cert.Reference35Ideal.main_arg1)) (m (c.tc.loc Cert.Reference35Ideal.main_arg2)) ∧
      r.2.mem (c.tc.loc Cert.Reference35Ideal.main_v13) = newV (m (c.tc.loc Cert.Reference35Ideal.main_arg1)) (m (c.tc.loc Cert.Reference35Ideal.main_arg3)) ∧
      r.2.mem (c.tc.loc Cert.Reference35Ideal.main_arg0) = m (c.tc.loc Cert.Reference35Ideal.main_arg0) ∧
      r.2.mem (c.tc.loc Cert.Reference35Ideal.main_arg1) = m (c.tc.loc Cert.Reference35Ideal.main_arg1) ∧
      r.2.mem (c.tc.loc Cert.Reference35Ideal.main_arg2) = m (c.tc.loc Cert.Reference35Ideal.main_arg2) ∧
      r.2.mem (c.tc.loc Cert.Reference35Ideal.main_arg3) = m (c.tc.loc Cert.Reference35Ideal.main_arg3) :=
  (θ_run _ _ _).mono (fun _ h c => ⟨(h c).1.trans (by
      clear h
      funext i
      pointwise
      rfl), (h c).2.1.trans (by
      clear h
      funext i
      pointwise
      rfl), (h c).2.2.1.trans (by
      clear h
      funext i
      pointwise
      rfl), (h c).2.2.2.1.trans (by
      clear h
      funext i
      pointwise
      rfl), (h c).2.2.2.2⟩) (Cert.Reference35Ideal.Value.run m ρ)

end Cert.AdamwWOMla

end
-- ==== Proof.AdamwConvW.lean ====
/- The value of the optimiser's step for `conv_w` (the call `adamw_conv_w`). -/
module

public import proofs.«01_k».proof.Proof.Gen.Kernel36Ideal.Value
public import proofs.«01_k».proof.Proof.Gen.Reference36Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamwConvW

open Cert.Kernel36Ideal Cert.Kernel36Ideal.Gen Idealize.ShloMosaic Idealize.ShloMosaic.TcCoe Idealize.SL.Sem
open Idealize.ShloMosaic.Pipeline (Dat)

variable (m : (ℓ : Loc nD τ sig) → Buf (Elt Ideal) ℓ)

/-- The gradient: the devices' parts summed. -/
def grad (p : S8x31x64.Idx → EReal) (i : S31x64.Idx) : EReal := ∑ d : Fin 8, p (ix3 d (i 0) (i 1))

/-- The first moment after the step. -/
def newM (p : S8x31x64.Idx → EReal) (u : S31x64.Idx → EReal) (i : S31x64.Idx) : EReal :=
  Ideal.ofBits FTy.f32 0x3f666666#32 * u i + Ideal.ofBits FTy.f32 0x3dcccccd#32 * grad p i

/-- The second moment after the step. -/
def newV (p : S8x31x64.Idx → EReal) (v : S31x64.Idx → EReal) (i : S31x64.Idx) : EReal :=
  Ideal.ofBits FTy.f32 0x3f7fbe77#32 * v i + Ideal.ofBits FTy.f32 0x3a83126f#32 * (grad p i * grad p i)

/-- The weight's change. -/
def delta (w : S31x64.Idx → EReal) (p : S8x31x64.Idx → EReal) (u v : S31x64.Idx → EReal) (i : S31x64.Idx) : EReal :=
  Ideal.ofBits FTy.f32 0xba83126f#32 *
    (Ideal.div (Ideal.div (newM p u i) (Ideal.ofBits FTy.f32 0x3f26bd02#32))
      (Ideal.sqrt (Ideal.div (newV p v i) (Ideal.ofBits FTy.f32 0x3c231acc#32)) + Ideal.ofBits FTy.f32 0x322bcc77#32)
      + Ideal.ofBits FTy.f32 0x3c23d70a#32 * w i)

/-- Which block each window shows at a grid point. -/
theorem idx : ∀ t : Fin grid0.N, win0_0.index t = ![t.val, 0] ∧ win0_1.index t = ![0, t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by
  decide +kernel

/-- The gradient after the run. -/
theorem arr4 (c : Dev nD) : (dats m 0 c).arrAt 4 cfg0.N = grad (m (c.tc.loc main_arg1)) := by
  refine (dats m 0 c).arrAt_eq_of_covers 4 _ (by decide +kernel) fun t hf y => ?_
  blk_simp
  rw [after0_4]
  unfold_out out0_4
  frame_out
  unfold_payloads
  pointwise
  simp only [delta, newM, newV, grad, Fin.sum_univ_eight]
  have h : ∀ d : Fin 8, iblk m c 1 t (ix3 d (y 0) (y 1)) =
      m (c.tc.loc main_arg1) (ix3 d (((View.whole main_v0_0).slice (win0_4.rect t)).emb y 0) (((View.whole main_v0_0).slice (win0_4.rect t)).emb y 1)) := fun d => by
    blk_point [iblk, V, idx t]
  simp only [h]

/-- The weight's change after the run. -/
theorem arr5 (c : Dev nD) : (dats m 0 c).arrAt 5 cfg0.N = delta (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  unfold_out out0_5
  frame_out
  unfold_payloads
  pointwise
  simp only [delta, newM, newV, grad, Fin.sum_univ_eight]
  have h : ∀ d : Fin 8, iblk m c 1 t (ix3 d (y 0) (y 1)) =
      m (c.tc.loc main_arg1) (ix3 d (((View.whole main_v0_1).slice (win0_5.rect t)).emb y 0) (((View.whole main_v0_1).slice (win0_5.rect t)).emb y 1)) := fun d => by
    blk_point [iblk, V, idx t]
  simp only [h]
  blk_point [iblk, V, idx t]

/-- The first moment after the run. -/
theorem arr6 (c : Dev nD) : (dats m 0 c).arrAt 6 cfg0.N = newM (m (c.tc.loc main_arg1)) (m (c.tc.loc main_arg2)) := by
  refine (dats m 0 c).arrAt_eq_of_covers 6 _ (by decide +kernel) fun t hf y => ?_
  blk_simp
  rw [after0_6]
  unfold_out out0_6
  frame_out
  unfold_payloads
  pointwise
  simp only [delta, newM, newV, grad, Fin.sum_univ_eight]
  have h : ∀ d : Fin 8, iblk m c 1 t (ix3 d (y 0) (y 1)) =
      m (c.tc.loc main_arg1) (ix3 d (((View.whole main_v0_2).slice (win0_6.rect t)).emb y 0) (((View.whole main_v0_2).slice (win0_6.rect t)).emb y 1)) := fun d => by
    blk_point [iblk, V, idx t]
  simp only [h]
  blk_point [iblk, V, idx t]

/-- The second moment after the run. -/
theorem arr7 (c : Dev nD) : (dats m 0 c).arrAt 7 cfg0.N = newV (m (c.tc.loc main_arg1)) (m (c.tc.loc main_arg3)) := by
  refine (dats m 0 c).arrAt_eq_of_covers 7 _ (by decide +kernel) fun t hf y => ?_
  blk_simp
  rw [after0_7]
  unfold_out out0_7
  frame_out
  unfold_payloads
  pointwise
  simp only [delta, newM, newV, grad, Fin.sum_univ_eight]
  have h : ∀ d : Fin 8, iblk m c 1 t (ix3 d (y 0) (y 1)) =
      m (c.tc.loc main_arg1) (ix3 d (((View.whole main_v0_3).slice (win0_7.rect t)).emb y 0) (((View.whole main_v0_3).slice (win0_7.rect t)).emb y 1)) := fun d => by
    blk_point [iblk, V, idx t]
  simp only [h]
  blk_point [iblk, V, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v0_0) = grad (m (c.tc.loc main_arg1)) ∧
      r.2.mem (c.tc.loc main_v0_1) = delta (m (c.tc.loc main_arg0)) (m (c.tc.loc main_arg1)) (m (c.tc.loc main_arg2)) (m (c.tc.loc main_arg3)) ∧
      r.2.mem (c.tc.loc main_v0_2) = newM (m (c.tc.loc main_arg1)) (m (c.tc.loc main_arg2)) ∧
      r.2.mem (c.tc.loc main_v0_3) = newV (m (c.tc.loc main_arg1)) (m (c.tc.loc main_arg3)) ∧
      r.2.mem (c.tc.loc main_arg0) = m (c.tc.loc main_arg0) ∧
      r.2.mem (c.tc.loc main_arg1) = m (c.tc.loc main_arg1) ∧
      r.2.mem (c.tc.loc main_arg2) = m (c.tc.loc main_arg2) ∧
      r.2.mem (c.tc.loc main_arg3) = m (c.tc.loc main_arg3) :=
  (θ_run defs _ _).mono (fun _ h c => ⟨(h c).1.trans (arr4 m c), (h c).2.1.trans (arr5 m c), (h c).2.2.1.trans (arr6 m c), (h c).2.2.2.1.trans (arr7 m c), (h c).2.2.2.2⟩)
    (Cert.Kernel36Ideal.Value.run_blocks m ρ)

/-- The reference's run, with each result named. -/
theorem runR (m : (ℓ : Loc Cert.Reference36Ideal.nD Cert.Reference36Ideal.τ Cert.Reference36Ideal.sig) → Buf (Elt Ideal) ℓ) (ρ : Dev Cert.Reference36Ideal.nD → PrngReg) :
    θ_run Cert.Reference36Ideal.defs (onTc (τ := Cert.Reference36Ideal.τ) (Cert.Reference36Ideal.main (F := Ideal))) ⟨m, fun _ => 0, ρ⟩ fun r => ∀ c : Dev Cert.Reference36Ideal.nD,
      r.2.mem (c.tc.loc Cert.Reference36Ideal.main_v0) = grad (m (c.tc.loc Cert.Reference36Ideal.main_arg1)) ∧
      r.2.mem (c.tc.loc Cert.Reference36Ideal.main_v24) = delta (m (c.tc.loc Cert.Reference36Ideal.main_arg0)) (m (c.tc.loc Cert.Reference36Ideal.main_arg1)) (m (c.tc.loc Cert.Reference36Ideal.main_arg2)) (m (c.tc.loc Cert.Reference36Ideal.main_arg3)) ∧
      r.2.mem (c.tc.loc Cert.Reference36Ideal.main_v5) = newM (m (c.tc.loc Cert.Reference36Ideal.main_arg1)) (m (c.tc.loc Cert.Reference36Ideal.main_arg2)) ∧
      r.2.mem (c.tc.loc Cert.Reference36Ideal.main_v11) = newV (m (c.tc.loc Cert.Reference36Ideal.main_arg1)) (m (c.tc.loc Cert.Reference36Ideal.main_arg3)) ∧
      r.2.mem (c.tc.loc Cert.Reference36Ideal.main_arg0) = m (c.tc.loc Cert.Reference36Ideal.main_arg0) ∧
      r.2.mem (c.tc.loc Cert.Reference36Ideal.main_arg1) = m (c.tc.loc Cert.Reference36Ideal.main_arg1) ∧
      r.2.mem (c.tc.loc Cert.Reference36Ideal.main_arg2) = m (c.tc.loc Cert.Reference36Ideal.main_arg2) ∧
      r.2.mem (c.tc.loc Cert.Reference36Ideal.main_arg3) = m (c.tc.loc Cert.Reference36Ideal.main_arg3) :=
  (θ_run _ _ _).mono (fun _ h c => ⟨(h c).1.trans (by
      clear h
      funext i
      pointwise
      rfl), (h c).2.1.trans (by
      clear h
      funext i
      pointwise
      rfl), (h c).2.2.1.trans (by
      clear h
      funext i
      pointwise
      rfl), (h c).2.2.2.1.trans (by
      clear h
      funext i
      pointwise
      rfl), (h c).2.2.2.2⟩) (Cert.Reference36Ideal.Value.run m ρ)

end Cert.AdamwConvW

end
-- ==== Proof.AdamwConvB.lean ====
/- The value of the optimiser's step for `conv_b` (the call `adamw_conv_b`). -/
module

public import proofs.«01_k».proof.Proof.Gen.Kernel37Ideal.Value
public import proofs.«01_k».proof.Proof.Gen.Reference37Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamwConvB

open Cert.Kernel37Ideal Cert.Kernel37Ideal.Gen Idealize.ShloMosaic Idealize.ShloMosaic.TcCoe Idealize.SL.Sem
open Idealize.ShloMosaic.Pipeline (Dat)

variable (m : (ℓ : Loc nD τ sig) → Buf (Elt Ideal) ℓ)

/-- The gradient: the devices' parts summed. -/
def grad (p : S8x1x512.Idx → EReal) (i : S1x512.Idx) : EReal := ∑ d : Fin 8, p (ix3 d 0 (i 1))

/-- The first moment after the step. -/
def newM (p : S8x1x512.Idx → EReal) (u : S1x512.Idx → EReal) (i : S1x512.Idx) : EReal :=
  Ideal.ofBits FTy.f32 0x3f666666#32 * u i + Ideal.ofBits FTy.f32 0x3dcccccd#32 * grad p i

/-- The second moment after the step. -/
def newV (p : S8x1x512.Idx → EReal) (v : S1x512.Idx → EReal) (i : S1x512.Idx) : EReal :=
  Ideal.ofBits FTy.f32 0x3f7fbe77#32 * v i + Ideal.ofBits FTy.f32 0x3a83126f#32 * (grad p i * grad p i)

/-- The weight's change. -/
def delta (w : S1x512.Idx → EReal) (p : S8x1x512.Idx → EReal) (u v : S1x512.Idx → EReal) (i : S1x512.Idx) : EReal :=
  Ideal.ofBits FTy.f32 0xba83126f#32 *
    (Ideal.div (Ideal.div (newM p u i) (Ideal.ofBits FTy.f32 0x3f26bd02#32))
      (Ideal.sqrt (Ideal.div (newV p v i) (Ideal.ofBits FTy.f32 0x3c231acc#32)) + Ideal.ofBits FTy.f32 0x322bcc77#32)
      + Ideal.ofBits FTy.f32 0x3c23d70a#32 * w i)

/-- Which block each window shows at a grid point. -/
theorem idx : ∀ t : Fin grid0.N, win0_0.index t = ![t.val, 0] ∧ win0_1.index t = ![0, t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by
  decide +kernel

/-- The gradient after the run. -/
theorem arr4 (c : Dev nD) : (dats m 0 c).arrAt 4 cfg0.N = grad (m (c.tc.loc main_arg1)) := by
  refine (dats m 0 c).arrAt_eq_of_covers 4 _ (by decide +kernel) fun t hf y => ?_
  blk_simp
  rw [after0_4]
  unfold_out out0_4
  frame_out
  unfold_payloads
  pointwise
  simp only [delta, newM, newV, grad, Fin.sum_univ_eight]
  have h : ∀ d : Fin 8, iblk m c 1 t (ix3 d 0 (y 1)) =
      m (c.tc.loc main_arg1) (ix3 d 0 (((View.whole main_v0_0).slice (win0_4.rect t)).emb y 1)) := fun d => by
    blk_point [iblk, V, idx t]
  simp only [h]

/-- The weight's change after the run. -/
theorem arr5 (c : Dev nD) : (dats m 0 c).arrAt 5 cfg0.N = delta (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  unfold_out out0_5
  frame_out
  unfold_payloads
  pointwise
  simp only [delta, newM, newV, grad, Fin.sum_univ_eight]
  have h : ∀ d : Fin 8, iblk m c 1 t (ix3 d 0 (y 1)) =
      m (c.tc.loc main_arg1) (ix3 d 0 (((View.whole main_v0_1).slice (win0_5.rect t)).emb y 1)) := fun d => by
    blk_point [iblk, V, idx t]
  simp only [h]
  blk_point [iblk, V, idx t]

/-- The first moment after the run. -/
theorem arr6 (c : Dev nD) : (dats m 0 c).arrAt 6 cfg0.N = newM (m (c.tc.loc main_arg1)) (m (c.tc.loc main_arg2)) := by
  refine (dats m 0 c).arrAt_eq_of_covers 6 _ (by decide +kernel) fun t hf y => ?_
  blk_simp
  rw [after0_6]
  unfold_out out0_6
  frame_out
  unfold_payloads
  pointwise
  simp only [delta, newM, newV, grad, Fin.sum_univ_eight]
  have h : ∀ d : Fin 8, iblk m c 1 t (ix3 d 0 (y 1)) =
      m (c.tc.loc main_arg1) (ix3 d 0 (((View.whole main_v0_2).slice (win0_6.rect t)).emb y 1)) := fun d => by
    blk_point [iblk, V, idx t]
  simp only [h]
  blk_point [iblk, V, idx t]

/-- The second moment after the run. -/
theorem arr7 (c : Dev nD) : (dats m 0 c).arrAt 7 cfg0.N = newV (m (c.tc.loc main_arg1)) (m (c.tc.loc main_arg3)) := by
  refine (dats m 0 c).arrAt_eq_of_covers 7 _ (by decide +kernel) fun t hf y => ?_
  blk_simp
  rw [after0_7]
  unfold_out out0_7
  frame_out
  unfold_payloads
  pointwise
  simp only [delta, newM, newV, grad, Fin.sum_univ_eight]
  have h : ∀ d : Fin 8, iblk m c 1 t (ix3 d 0 (y 1)) =
      m (c.tc.loc main_arg1) (ix3 d 0 (((View.whole main_v0_3).slice (win0_7.rect t)).emb y 1)) := fun d => by
    blk_point [iblk, V, idx t]
  simp only [h]
  blk_point [iblk, V, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v0_0) = grad (m (c.tc.loc main_arg1)) ∧
      r.2.mem (c.tc.loc main_v0_1) = delta (m (c.tc.loc main_arg0)) (m (c.tc.loc main_arg1)) (m (c.tc.loc main_arg2)) (m (c.tc.loc main_arg3)) ∧
      r.2.mem (c.tc.loc main_v0_2) = newM (m (c.tc.loc main_arg1)) (m (c.tc.loc main_arg2)) ∧
      r.2.mem (c.tc.loc main_v0_3) = newV (m (c.tc.loc main_arg1)) (m (c.tc.loc main_arg3)) ∧
      r.2.mem (c.tc.loc main_arg0) = m (c.tc.loc main_arg0) ∧
      r.2.mem (c.tc.loc main_arg1) = m (c.tc.loc main_arg1) ∧
      r.2.mem (c.tc.loc main_arg2) = m (c.tc.loc main_arg2) ∧
      r.2.mem (c.tc.loc main_arg3) = m (c.tc.loc main_arg3) :=
  (θ_run defs _ _).mono (fun _ h c => ⟨(h c).1.trans (arr4 m c), (h c).2.1.trans (arr5 m c), (h c).2.2.1.trans (arr6 m c), (h c).2.2.2.1.trans (arr7 m c), (h c).2.2.2.2⟩)
    (Cert.Kernel37Ideal.Value.run_blocks m ρ)

/-- The reference's run, with each result named. -/
theorem runR (m : (ℓ : Loc Cert.Reference37Ideal.nD Cert.Reference37Ideal.τ Cert.Reference37Ideal.sig) → Buf (Elt Ideal) ℓ) (ρ : Dev Cert.Reference37Ideal.nD → PrngReg) :
    θ_run Cert.Reference37Ideal.defs (onTc (τ := Cert.Reference37Ideal.τ) (Cert.Reference37Ideal.main (F := Ideal))) ⟨m, fun _ => 0, ρ⟩ fun r => ∀ c : Dev Cert.Reference37Ideal.nD,
      r.2.mem (c.tc.loc Cert.Reference37Ideal.main_v0) = grad (m (c.tc.loc Cert.Reference37Ideal.main_arg1)) ∧
      r.2.mem (c.tc.loc Cert.Reference37Ideal.main_v24) = delta (m (c.tc.loc Cert.Reference37Ideal.main_arg0)) (m (c.tc.loc Cert.Reference37Ideal.main_arg1)) (m (c.tc.loc Cert.Reference37Ideal.main_arg2)) (m (c.tc.loc Cert.Reference37Ideal.main_arg3)) ∧
      r.2.mem (c.tc.loc Cert.Reference37Ideal.main_v5) = newM (m (c.tc.loc Cert.Reference37Ideal.main_arg1)) (m (c.tc.loc Cert.Reference37Ideal.main_arg2)) ∧
      r.2.mem (c.tc.loc Cert.Reference37Ideal.main_v11) = newV (m (c.tc.loc Cert.Reference37Ideal.main_arg1)) (m (c.tc.loc Cert.Reference37Ideal.main_arg3)) ∧
      r.2.mem (c.tc.loc Cert.Reference37Ideal.main_arg0) = m (c.tc.loc Cert.Reference37Ideal.main_arg0) ∧
      r.2.mem (c.tc.loc Cert.Reference37Ideal.main_arg1) = m (c.tc.loc Cert.Reference37Ideal.main_arg1) ∧
      r.2.mem (c.tc.loc Cert.Reference37Ideal.main_arg2) = m (c.tc.loc Cert.Reference37Ideal.main_arg2) ∧
      r.2.mem (c.tc.loc Cert.Reference37Ideal.main_arg3) = m (c.tc.loc Cert.Reference37Ideal.main_arg3) :=
  (θ_run _ _ _).mono (fun _ h c => ⟨(h c).1.trans (by
      clear h
      funext i
      pointwise
      rfl), (h c).2.1.trans (by
      clear h
      funext i
      pointwise
      rfl), (h c).2.2.1.trans (by
      clear h
      funext i
      pointwise
      rfl), (h c).2.2.2.1.trans (by
      clear h
      funext i
      pointwise
      rfl), (h c).2.2.2.2⟩) (Cert.Reference37Ideal.Value.run m ρ)

end Cert.AdamwConvB

end
-- ==== Proof.AdamwConvLnG.lean ====
/- The value of the optimiser's step for `conv_ln_g` (the call `adamw_conv_ln_g`). -/
module

public import proofs.«01_k».proof.Proof.Gen.Kernel38Ideal.Value
public import proofs.«01_k».proof.Proof.Gen.Reference38Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamwConvLnG

open Cert.Kernel38Ideal Cert.Kernel38Ideal.Gen Idealize.ShloMosaic Idealize.ShloMosaic.TcCoe Idealize.SL.Sem
open Idealize.ShloMosaic.Pipeline (Dat)

variable (m : (ℓ : Loc nD τ sig) → Buf (Elt Ideal) ℓ)

/-- The gradient: the devices' parts summed. -/
def grad (p : S8x1x512.Idx → EReal) (i : S1x512.Idx) : EReal := ∑ d : Fin 8, p (ix3 d 0 (i 1))

/-- The first moment after the step. -/
def newM (p : S8x1x512.Idx → EReal) (u : S1x512.Idx → EReal) (i : S1x512.Idx) : EReal :=
  Ideal.ofBits FTy.f32 0x3f666666#32 * u i + Ideal.ofBits FTy.f32 0x3dcccccd#32 * grad p i

/-- The second moment after the step. -/
def newV (p : S8x1x512.Idx → EReal) (v : S1x512.Idx → EReal) (i : S1x512.Idx) : EReal :=
  Ideal.ofBits FTy.f32 0x3f7fbe77#32 * v i + Ideal.ofBits FTy.f32 0x3a83126f#32 * (grad p i * grad p i)

/-- The weight's change. -/
def delta (w : S1x512.Idx → EReal) (p : S8x1x512.Idx → EReal) (u v : S1x512.Idx → EReal) (i : S1x512.Idx) : EReal :=
  Ideal.ofBits FTy.f32 0xba83126f#32 *
    (Ideal.div (Ideal.div (newM p u i) (Ideal.ofBits FTy.f32 0x3f26bd02#32))
      (Ideal.sqrt (Ideal.div (newV p v i) (Ideal.ofBits FTy.f32 0x3c231acc#32)) + Ideal.ofBits FTy.f32 0x322bcc77#32)
      + Ideal.ofBits FTy.f32 0x3c23d70a#32 * w i)

/-- Which block each window shows at a grid point. -/
theorem idx : ∀ t : Fin grid0.N, win0_0.index t = ![t.val, 0] ∧ win0_1.index t = ![0, t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by
  decide +kernel

/-- The gradient after the run. -/
theorem arr4 (c : Dev nD) : (dats m 0 c).arrAt 4 cfg0.N = grad (m (c.tc.loc main_arg1)) := by
  refine (dats m 0 c).arrAt_eq_of_covers 4 _ (by decide +kernel) fun t hf y => ?_
  blk_simp
  rw [after0_4]
  unfold_out out0_4
  frame_out
  unfold_payloads
  pointwise
  simp only [delta, newM, newV, grad, Fin.sum_univ_eight]
  have h : ∀ d : Fin 8, iblk m c 1 t (ix3 d 0 (y 1)) =
      m (c.tc.loc main_arg1) (ix3 d 0 (((View.whole main_v0_0).slice (win0_4.rect t)).emb y 1)) := fun d => by
    blk_point [iblk, V, idx t]
  simp only [h]

/-- The weight's change after the run. -/
theorem arr5 (c : Dev nD) : (dats m 0 c).arrAt 5 cfg0.N = delta (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  unfold_out out0_5
  frame_out
  unfold_payloads
  pointwise
  simp only [delta, newM, newV, grad, Fin.sum_univ_eight]
  have h : ∀ d : Fin 8, iblk m c 1 t (ix3 d 0 (y 1)) =
      m (c.tc.loc main_arg1) (ix3 d 0 (((View.whole main_v0_1).slice (win0_5.rect t)).emb y 1)) := fun d => by
    blk_point [iblk, V, idx t]
  simp only [h]
  blk_point [iblk, V, idx t]

/-- The first moment after the run. -/
theorem arr6 (c : Dev nD) : (dats m 0 c).arrAt 6 cfg0.N = newM (m (c.tc.loc main_arg1)) (m (c.tc.loc main_arg2)) := by
  refine (dats m 0 c).arrAt_eq_of_covers 6 _ (by decide +kernel) fun t hf y => ?_
  blk_simp
  rw [after0_6]
  unfold_out out0_6
  frame_out
  unfold_payloads
  pointwise
  simp only [delta, newM, newV, grad, Fin.sum_univ_eight]
  have h : ∀ d : Fin 8, iblk m c 1 t (ix3 d 0 (y 1)) =
      m (c.tc.loc main_arg1) (ix3 d 0 (((View.whole main_v0_2).slice (win0_6.rect t)).emb y 1)) := fun d => by
    blk_point [iblk, V, idx t]
  simp only [h]
  blk_point [iblk, V, idx t]

/-- The second moment after the run. -/
theorem arr7 (c : Dev nD) : (dats m 0 c).arrAt 7 cfg0.N = newV (m (c.tc.loc main_arg1)) (m (c.tc.loc main_arg3)) := by
  refine (dats m 0 c).arrAt_eq_of_covers 7 _ (by decide +kernel) fun t hf y => ?_
  blk_simp
  rw [after0_7]
  unfold_out out0_7
  frame_out
  unfold_payloads
  pointwise
  simp only [delta, newM, newV, grad, Fin.sum_univ_eight]
  have h : ∀ d : Fin 8, iblk m c 1 t (ix3 d 0 (y 1)) =
      m (c.tc.loc main_arg1) (ix3 d 0 (((View.whole main_v0_3).slice (win0_7.rect t)).emb y 1)) := fun d => by
    blk_point [iblk, V, idx t]
  simp only [h]
  blk_point [iblk, V, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v0_0) = grad (m (c.tc.loc main_arg1)) ∧
      r.2.mem (c.tc.loc main_v0_1) = delta (m (c.tc.loc main_arg0)) (m (c.tc.loc main_arg1)) (m (c.tc.loc main_arg2)) (m (c.tc.loc main_arg3)) ∧
      r.2.mem (c.tc.loc main_v0_2) = newM (m (c.tc.loc main_arg1)) (m (c.tc.loc main_arg2)) ∧
      r.2.mem (c.tc.loc main_v0_3) = newV (m (c.tc.loc main_arg1)) (m (c.tc.loc main_arg3)) ∧
      r.2.mem (c.tc.loc main_arg0) = m (c.tc.loc main_arg0) ∧
      r.2.mem (c.tc.loc main_arg1) = m (c.tc.loc main_arg1) ∧
      r.2.mem (c.tc.loc main_arg2) = m (c.tc.loc main_arg2) ∧
      r.2.mem (c.tc.loc main_arg3) = m (c.tc.loc main_arg3) :=
  (θ_run defs _ _).mono (fun _ h c => ⟨(h c).1.trans (arr4 m c), (h c).2.1.trans (arr5 m c), (h c).2.2.1.trans (arr6 m c), (h c).2.2.2.1.trans (arr7 m c), (h c).2.2.2.2⟩)
    (Cert.Kernel38Ideal.Value.run_blocks m ρ)

/-- The reference's run, with each result named. -/
theorem runR (m : (ℓ : Loc Cert.Reference38Ideal.nD Cert.Reference38Ideal.τ Cert.Reference38Ideal.sig) → Buf (Elt Ideal) ℓ) (ρ : Dev Cert.Reference38Ideal.nD → PrngReg) :
    θ_run Cert.Reference38Ideal.defs (onTc (τ := Cert.Reference38Ideal.τ) (Cert.Reference38Ideal.main (F := Ideal))) ⟨m, fun _ => 0, ρ⟩ fun r => ∀ c : Dev Cert.Reference38Ideal.nD,
      r.2.mem (c.tc.loc Cert.Reference38Ideal.main_v0) = grad (m (c.tc.loc Cert.Reference38Ideal.main_arg1)) ∧
      r.2.mem (c.tc.loc Cert.Reference38Ideal.main_v24) = delta (m (c.tc.loc Cert.Reference38Ideal.main_arg0)) (m (c.tc.loc Cert.Reference38Ideal.main_arg1)) (m (c.tc.loc Cert.Reference38Ideal.main_arg2)) (m (c.tc.loc Cert.Reference38Ideal.main_arg3)) ∧
      r.2.mem (c.tc.loc Cert.Reference38Ideal.main_v5) = newM (m (c.tc.loc Cert.Reference38Ideal.main_arg1)) (m (c.tc.loc Cert.Reference38Ideal.main_arg2)) ∧
      r.2.mem (c.tc.loc Cert.Reference38Ideal.main_v11) = newV (m (c.tc.loc Cert.Reference38Ideal.main_arg1)) (m (c.tc.loc Cert.Reference38Ideal.main_arg3)) ∧
      r.2.mem (c.tc.loc Cert.Reference38Ideal.main_arg0) = m (c.tc.loc Cert.Reference38Ideal.main_arg0) ∧
      r.2.mem (c.tc.loc Cert.Reference38Ideal.main_arg1) = m (c.tc.loc Cert.Reference38Ideal.main_arg1) ∧
      r.2.mem (c.tc.loc Cert.Reference38Ideal.main_arg2) = m (c.tc.loc Cert.Reference38Ideal.main_arg2) ∧
      r.2.mem (c.tc.loc Cert.Reference38Ideal.main_arg3) = m (c.tc.loc Cert.Reference38Ideal.main_arg3) :=
  (θ_run _ _ _).mono (fun _ h c => ⟨(h c).1.trans (by
      clear h
      funext i
      pointwise
      rfl), (h c).2.1.trans (by
      clear h
      funext i
      pointwise
      rfl), (h c).2.2.1.trans (by
      clear h
      funext i
      pointwise
      rfl), (h c).2.2.2.1.trans (by
      clear h
      funext i
      pointwise
      rfl), (h c).2.2.2.2⟩) (Cert.Reference38Ideal.Value.run m ρ)

end Cert.AdamwConvLnG

end
-- ==== Proof.AdamwConvLnB.lean ====
/- The value of the optimiser's step for `conv_ln_b` (the call `adamw_conv_ln_b`). -/
module

public import proofs.«01_k».proof.Proof.Gen.Kernel39Ideal.Value
public import proofs.«01_k».proof.Proof.Gen.Reference39Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamwConvLnB

open Cert.Kernel39Ideal Cert.Kernel39Ideal.Gen Idealize.ShloMosaic Idealize.ShloMosaic.TcCoe Idealize.SL.Sem
open Idealize.ShloMosaic.Pipeline (Dat)

variable (m : (ℓ : Loc nD τ sig) → Buf (Elt Ideal) ℓ)

/-- The gradient: the devices' parts summed. -/
def grad (p : S8x1x512.Idx → EReal) (i : S1x512.Idx) : EReal := ∑ d : Fin 8, p (ix3 d 0 (i 1))

/-- The first moment after the step. -/
def newM (p : S8x1x512.Idx → EReal) (u : S1x512.Idx → EReal) (i : S1x512.Idx) : EReal :=
  Ideal.ofBits FTy.f32 0x3f666666#32 * u i + Ideal.ofBits FTy.f32 0x3dcccccd#32 * grad p i

/-- The second moment after the step. -/
def newV (p : S8x1x512.Idx → EReal) (v : S1x512.Idx → EReal) (i : S1x512.Idx) : EReal :=
  Ideal.ofBits FTy.f32 0x3f7fbe77#32 * v i + Ideal.ofBits FTy.f32 0x3a83126f#32 * (grad p i * grad p i)

/-- The weight's change. -/
def delta (w : S1x512.Idx → EReal) (p : S8x1x512.Idx → EReal) (u v : S1x512.Idx → EReal) (i : S1x512.Idx) : EReal :=
  Ideal.ofBits FTy.f32 0xba83126f#32 *
    (Ideal.div (Ideal.div (newM p u i) (Ideal.ofBits FTy.f32 0x3f26bd02#32))
      (Ideal.sqrt (Ideal.div (newV p v i) (Ideal.ofBits FTy.f32 0x3c231acc#32)) + Ideal.ofBits FTy.f32 0x322bcc77#32)
      + Ideal.ofBits FTy.f32 0x3c23d70a#32 * w i)

/-- Which block each window shows at a grid point. -/
theorem idx : ∀ t : Fin grid0.N, win0_0.index t = ![t.val, 0] ∧ win0_1.index t = ![0, t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by
  decide +kernel

/-- The gradient after the run. -/
theorem arr4 (c : Dev nD) : (dats m 0 c).arrAt 4 cfg0.N = grad (m (c.tc.loc main_arg1)) := by
  refine (dats m 0 c).arrAt_eq_of_covers 4 _ (by decide +kernel) fun t hf y => ?_
  blk_simp
  rw [after0_4]
  unfold_out out0_4
  frame_out
  unfold_payloads
  pointwise
  simp only [delta, newM, newV, grad, Fin.sum_univ_eight]
  have h : ∀ d : Fin 8, iblk m c 1 t (ix3 d 0 (y 1)) =
      m (c.tc.loc main_arg1) (ix3 d 0 (((View.whole main_v0_0).slice (win0_4.rect t)).emb y 1)) := fun d => by
    blk_point [iblk, V, idx t]
  simp only [h]

/-- The weight's change after the run. -/
theorem arr5 (c : Dev nD) : (dats m 0 c).arrAt 5 cfg0.N = delta (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  unfold_out out0_5
  frame_out
  unfold_payloads
  pointwise
  simp only [delta, newM, newV, grad, Fin.sum_univ_eight]
  have h : ∀ d : Fin 8, iblk m c 1 t (ix3 d 0 (y 1)) =
      m (c.tc.loc main_arg1) (ix3 d 0 (((View.whole main_v0_1).slice (win0_5.rect t)).emb y 1)) := fun d => by
    blk_point [iblk, V, idx t]
  simp only [h]
  blk_point [iblk, V, idx t]

/-- The first moment after the run. -/
theorem arr6 (c : Dev nD) : (dats m 0 c).arrAt 6 cfg0.N = newM (m (c.tc.loc main_arg1)) (m (c.tc.loc main_arg2)) := by
  refine (dats m 0 c).arrAt_eq_of_covers 6 _ (by decide +kernel) fun t hf y => ?_
  blk_simp
  rw [after0_6]
  unfold_out out0_6
  frame_out
  unfold_payloads
  pointwise
  simp only [delta, newM, newV, grad, Fin.sum_univ_eight]
  have h : ∀ d : Fin 8, iblk m c 1 t (ix3 d 0 (y 1)) =
      m (c.tc.loc main_arg1) (ix3 d 0 (((View.whole main_v0_2).slice (win0_6.rect t)).emb y 1)) := fun d => by
    blk_point [iblk, V, idx t]
  simp only [h]
  blk_point [iblk, V, idx t]

/-- The second moment after the run. -/
theorem arr7 (c : Dev nD) : (dats m 0 c).arrAt 7 cfg0.N = newV (m (c.tc.loc main_arg1)) (m (c.tc.loc main_arg3)) := by
  refine (dats m 0 c).arrAt_eq_of_covers 7 _ (by decide +kernel) fun t hf y => ?_
  blk_simp
  rw [after0_7]
  unfold_out out0_7
  frame_out
  unfold_payloads
  pointwise
  simp only [delta, newM, newV, grad, Fin.sum_univ_eight]
  have h : ∀ d : Fin 8, iblk m c 1 t (ix3 d 0 (y 1)) =
      m (c.tc.loc main_arg1) (ix3 d 0 (((View.whole main_v0_3).slice (win0_7.rect t)).emb y 1)) := fun d => by
    blk_point [iblk, V, idx t]
  simp only [h]
  blk_point [iblk, V, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v0_0) = grad (m (c.tc.loc main_arg1)) ∧
      r.2.mem (c.tc.loc main_v0_1) = delta (m (c.tc.loc main_arg0)) (m (c.tc.loc main_arg1)) (m (c.tc.loc main_arg2)) (m (c.tc.loc main_arg3)) ∧
      r.2.mem (c.tc.loc main_v0_2) = newM (m (c.tc.loc main_arg1)) (m (c.tc.loc main_arg2)) ∧
      r.2.mem (c.tc.loc main_v0_3) = newV (m (c.tc.loc main_arg1)) (m (c.tc.loc main_arg3)) ∧
      r.2.mem (c.tc.loc main_arg0) = m (c.tc.loc main_arg0) ∧
      r.2.mem (c.tc.loc main_arg1) = m (c.tc.loc main_arg1) ∧
      r.2.mem (c.tc.loc main_arg2) = m (c.tc.loc main_arg2) ∧
      r.2.mem (c.tc.loc main_arg3) = m (c.tc.loc main_arg3) :=
  (θ_run defs _ _).mono (fun _ h c => ⟨(h c).1.trans (arr4 m c), (h c).2.1.trans (arr5 m c), (h c).2.2.1.trans (arr6 m c), (h c).2.2.2.1.trans (arr7 m c), (h c).2.2.2.2⟩)
    (Cert.Kernel39Ideal.Value.run_blocks m ρ)

/-- The reference's run, with each result named. -/
theorem runR (m : (ℓ : Loc Cert.Reference39Ideal.nD Cert.Reference39Ideal.τ Cert.Reference39Ideal.sig) → Buf (Elt Ideal) ℓ) (ρ : Dev Cert.Reference39Ideal.nD → PrngReg) :
    θ_run Cert.Reference39Ideal.defs (onTc (τ := Cert.Reference39Ideal.τ) (Cert.Reference39Ideal.main (F := Ideal))) ⟨m, fun _ => 0, ρ⟩ fun r => ∀ c : Dev Cert.Reference39Ideal.nD,
      r.2.mem (c.tc.loc Cert.Reference39Ideal.main_v0) = grad (m (c.tc.loc Cert.Reference39Ideal.main_arg1)) ∧
      r.2.mem (c.tc.loc Cert.Reference39Ideal.main_v24) = delta (m (c.tc.loc Cert.Reference39Ideal.main_arg0)) (m (c.tc.loc Cert.Reference39Ideal.main_arg1)) (m (c.tc.loc Cert.Reference39Ideal.main_arg2)) (m (c.tc.loc Cert.Reference39Ideal.main_arg3)) ∧
      r.2.mem (c.tc.loc Cert.Reference39Ideal.main_v5) = newM (m (c.tc.loc Cert.Reference39Ideal.main_arg1)) (m (c.tc.loc Cert.Reference39Ideal.main_arg2)) ∧
      r.2.mem (c.tc.loc Cert.Reference39Ideal.main_v11) = newV (m (c.tc.loc Cert.Reference39Ideal.main_arg1)) (m (c.tc.loc Cert.Reference39Ideal.main_arg3)) ∧
      r.2.mem (c.tc.loc Cert.Reference39Ideal.main_arg0) = m (c.tc.loc Cert.Reference39Ideal.main_arg0) ∧
      r.2.mem (c.tc.loc Cert.Reference39Ideal.main_arg1) = m (c.tc.loc Cert.Reference39Ideal.main_arg1) ∧
      r.2.mem (c.tc.loc Cert.Reference39Ideal.main_arg2) = m (c.tc.loc Cert.Reference39Ideal.main_arg2) ∧
      r.2.mem (c.tc.loc Cert.Reference39Ideal.main_arg3) = m (c.tc.loc Cert.Reference39Ideal.main_arg3) :=
  (θ_run _ _ _).mono (fun _ h c => ⟨(h c).1.trans (by
      clear h
      funext i
      pointwise
      rfl), (h c).2.1.trans (by
      clear h
      funext i
      pointwise
      rfl), (h c).2.2.1.trans (by
      clear h
      funext i
      pointwise
      rfl), (h c).2.2.2.1.trans (by
      clear h
      funext i
      pointwise
      rfl), (h c).2.2.2.2⟩) (Cert.Reference39Ideal.Value.run m ρ)

end Cert.AdamwConvLnB

end
-- ==== Proof.AdamwWPwOut.lean ====
/- The value of the optimiser's step for `w_pw_out` (the call `adamw_w_pw_out`). -/
module

public import proofs.«01_k».proof.Proof.Gen.Kernel40Ideal.Value
public import proofs.«01_k».proof.Proof.Gen.Reference40Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamwWPwOut

open Cert.Kernel40Ideal Cert.Kernel40Ideal.Gen Idealize.ShloMosaic Idealize.ShloMosaic.TcCoe Idealize.SL.Sem
open Idealize.ShloMosaic.Pipeline (Dat)

variable (m : (ℓ : Loc nD τ sig) → Buf (Elt Ideal) ℓ)

/-- The gradient: the devices' parts summed. -/
def grad (p : S8x128x512.Idx → EReal) (i : S512x128.Idx) : EReal := ∑ d : Fin 8, p (ix3 d (i 1) (i 0))

/-- The first moment after the step. -/
def newM (p : S8x128x512.Idx → EReal) (u : S512x128.Idx → EReal) (i : S512x128.Idx) : EReal :=
  Ideal.ofBits FTy.f32 0x3f666666#32 * u i + Ideal.ofBits FTy.f32 0x3dcccccd#32 * grad p i

/-- The second moment after the step. -/
def newV (p : S8x128x512.Idx → EReal) (v : S512x128.Idx → EReal) (i : S512x128.Idx) : EReal :=
  Ideal.ofBits FTy.f32 0x3f7fbe77#32 * v i + Ideal.ofBits FTy.f32 0x3a83126f#32 * (grad p i * grad p i)

/-- The weight's change. -/
def delta (w : S512x128.Idx → EReal) (p : S8x128x512.Idx → EReal) (u v : S512x128.Idx → EReal) (i : S512x128.Idx) : EReal :=
  Ideal.ofBits FTy.f32 0xba83126f#32 *
    (Ideal.div (Ideal.div (newM p u i) (Ideal.ofBits FTy.f32 0x3f26bd02#32))
      (Ideal.sqrt (Ideal.div (newV p v i) (Ideal.ofBits FTy.f32 0x3c231acc#32)) + Ideal.ofBits FTy.f32 0x322bcc77#32)
      + Ideal.ofBits FTy.f32 0x3c23d70a#32 * w i)

/-- Which block each window shows at a grid point. -/
theorem idx : ∀ t : Fin grid0.N, win0_0.index t = ![t.val, 0] ∧ win0_1.index t = ![0, 0, t.val] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by
  decide +kernel

/-- The gradient after the run. -/
theorem arr4 (c : Dev nD) : (dats m 0 c).arrAt 4 cfg0.N = grad (m (c.tc.loc main_arg1)) := by
  refine (dats m 0 c).arrAt_eq_of_covers 4 _ (by decide +kernel) fun t hf y => ?_
  blk_simp
  rw [after0_4]
  unfold_out out0_4
  frame_out
  unfold_payloads
  pointwise
  simp only [delta, newM, newV, grad, Fin.sum_univ_eight]
  have h : ∀ d : Fin 8, iblk m c 1 t (ix3 d (y 1) (y 0)) =
      m (c.tc.loc main_arg1) (ix3 d (((View.whole main_v0_0).slice (win0_4.rect t)).emb y 1) (((View.whole main_v0_0).slice (win0_4.rect t)).emb y 0)) := fun d => by
    blk_point [iblk, V, idx t]
  simp only [h]

/-- The weight's change after the run. -/
theorem arr5 (c : Dev nD) : (dats m 0 c).arrAt 5 cfg0.N = delta (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  unfold_out out0_5
  frame_out
  unfold_payloads
  pointwise
  simp only [delta, newM, newV, grad, Fin.sum_univ_eight]
  have h : ∀ d : Fin 8, iblk m c 1 t (ix3 d (y 1) (y 0)) =
      m (c.tc.loc main_arg1) (ix3 d (((View.whole main_v0_1).slice (win0_5.rect t)).emb y 1) (((View.whole main_v0_1).slice (win0_5.rect t)).emb y 0)) := fun d => by
    blk_point [iblk, V, idx t]
  simp only [h]
  blk_point [iblk, V, idx t]

/-- The first moment after the run. -/
theorem arr6 (c : Dev nD) : (dats m 0 c).arrAt 6 cfg0.N = newM (m (c.tc.loc main_arg1)) (m (c.tc.loc main_arg2)) := by
  refine (dats m 0 c).arrAt_eq_of_covers 6 _ (by decide +kernel) fun t hf y => ?_
  blk_simp
  rw [after0_6]
  unfold_out out0_6
  frame_out
  unfold_payloads
  pointwise
  simp only [delta, newM, newV, grad, Fin.sum_univ_eight]
  have h : ∀ d : Fin 8, iblk m c 1 t (ix3 d (y 1) (y 0)) =
      m (c.tc.loc main_arg1) (ix3 d (((View.whole main_v0_2).slice (win0_6.rect t)).emb y 1) (((View.whole main_v0_2).slice (win0_6.rect t)).emb y 0)) := fun d => by
    blk_point [iblk, V, idx t]
  simp only [h]
  blk_point [iblk, V, idx t]

/-- The second moment after the run. -/
theorem arr7 (c : Dev nD) : (dats m 0 c).arrAt 7 cfg0.N = newV (m (c.tc.loc main_arg1)) (m (c.tc.loc main_arg3)) := by
  refine (dats m 0 c).arrAt_eq_of_covers 7 _ (by decide +kernel) fun t hf y => ?_
  blk_simp
  rw [after0_7]
  unfold_out out0_7
  frame_out
  unfold_payloads
  pointwise
  simp only [delta, newM, newV, grad, Fin.sum_univ_eight]
  have h : ∀ d : Fin 8, iblk m c 1 t (ix3 d (y 1) (y 0)) =
      m (c.tc.loc main_arg1) (ix3 d (((View.whole main_v0_3).slice (win0_7.rect t)).emb y 1) (((View.whole main_v0_3).slice (win0_7.rect t)).emb y 0)) := fun d => by
    blk_point [iblk, V, idx t]
  simp only [h]
  blk_point [iblk, V, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v0_0) = grad (m (c.tc.loc main_arg1)) ∧
      r.2.mem (c.tc.loc main_v0_1) = delta (m (c.tc.loc main_arg0)) (m (c.tc.loc main_arg1)) (m (c.tc.loc main_arg2)) (m (c.tc.loc main_arg3)) ∧
      r.2.mem (c.tc.loc main_v0_2) = newM (m (c.tc.loc main_arg1)) (m (c.tc.loc main_arg2)) ∧
      r.2.mem (c.tc.loc main_v0_3) = newV (m (c.tc.loc main_arg1)) (m (c.tc.loc main_arg3)) ∧
      r.2.mem (c.tc.loc main_arg0) = m (c.tc.loc main_arg0) ∧
      r.2.mem (c.tc.loc main_arg1) = m (c.tc.loc main_arg1) ∧
      r.2.mem (c.tc.loc main_arg2) = m (c.tc.loc main_arg2) ∧
      r.2.mem (c.tc.loc main_arg3) = m (c.tc.loc main_arg3) :=
  (θ_run defs _ _).mono (fun _ h c => ⟨(h c).1.trans (arr4 m c), (h c).2.1.trans (arr5 m c), (h c).2.2.1.trans (arr6 m c), (h c).2.2.2.1.trans (arr7 m c), (h c).2.2.2.2⟩)
    (Cert.Kernel40Ideal.Value.run_blocks m ρ)

/-- The reference's run, with each result named. -/
theorem runR (m : (ℓ : Loc Cert.Reference40Ideal.nD Cert.Reference40Ideal.τ Cert.Reference40Ideal.sig) → Buf (Elt Ideal) ℓ) (ρ : Dev Cert.Reference40Ideal.nD → PrngReg) :
    θ_run Cert.Reference40Ideal.defs (onTc (τ := Cert.Reference40Ideal.τ) (Cert.Reference40Ideal.main (F := Ideal))) ⟨m, fun _ => 0, ρ⟩ fun r => ∀ c : Dev Cert.Reference40Ideal.nD,
      r.2.mem (c.tc.loc Cert.Reference40Ideal.main_v2) = grad (m (c.tc.loc Cert.Reference40Ideal.main_arg1)) ∧
      r.2.mem (c.tc.loc Cert.Reference40Ideal.main_v26) = delta (m (c.tc.loc Cert.Reference40Ideal.main_arg0)) (m (c.tc.loc Cert.Reference40Ideal.main_arg1)) (m (c.tc.loc Cert.Reference40Ideal.main_arg2)) (m (c.tc.loc Cert.Reference40Ideal.main_arg3)) ∧
      r.2.mem (c.tc.loc Cert.Reference40Ideal.main_v7) = newM (m (c.tc.loc Cert.Reference40Ideal.main_arg1)) (m (c.tc.loc Cert.Reference40Ideal.main_arg2)) ∧
      r.2.mem (c.tc.loc Cert.Reference40Ideal.main_v13) = newV (m (c.tc.loc Cert.Reference40Ideal.main_arg1)) (m (c.tc.loc Cert.Reference40Ideal.main_arg3)) ∧
      r.2.mem (c.tc.loc Cert.Reference40Ideal.main_arg0) = m (c.tc.loc Cert.Reference40Ideal.main_arg0) ∧
      r.2.mem (c.tc.loc Cert.Reference40Ideal.main_arg1) = m (c.tc.loc Cert.Reference40Ideal.main_arg1) ∧
      r.2.mem (c.tc.loc Cert.Reference40Ideal.main_arg2) = m (c.tc.loc Cert.Reference40Ideal.main_arg2) ∧
      r.2.mem (c.tc.loc Cert.Reference40Ideal.main_arg3) = m (c.tc.loc Cert.Reference40Ideal.main_arg3) :=
  (θ_run _ _ _).mono (fun _ h c => ⟨(h c).1.trans (by
      clear h
      funext i
      pointwise
      rfl), (h c).2.1.trans (by
      clear h
      funext i
      pointwise
      rfl), (h c).2.2.1.trans (by
      clear h
      funext i
      pointwise
      rfl), (h c).2.2.2.1.trans (by
      clear h
      funext i
      pointwise
      rfl), (h c).2.2.2.2⟩) (Cert.Reference40Ideal.Value.run m ρ)

end Cert.AdamwWPwOut

end
-- ==== Proof.AdamwWOut.lean ====
/- The value of the optimiser's step for `w_out` (the call `adamw_w_out`). -/
module

public import proofs.«01_k».proof.Proof.Gen.Kernel41Ideal.Value
public import proofs.«01_k».proof.Proof.Gen.Reference41Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamwWOut

open Cert.Kernel41Ideal Cert.Kernel41Ideal.Gen Idealize.ShloMosaic Idealize.ShloMosaic.TcCoe Idealize.SL.Sem
open Idealize.ShloMosaic.Pipeline (Dat)

variable (m : (ℓ : Loc nD τ sig) → Buf (Elt Ideal) ℓ)

/-- The gradient: the devices' parts summed. -/
def grad (p : S8x128x1024.Idx → EReal) (i : S128x1024.Idx) : EReal := ∑ d : Fin 8, p (ix3 d (i 0) (i 1))

/-- The first moment after the step. -/
def newM (p : S8x128x1024.Idx → EReal) (u : S128x1024.Idx → EReal) (i : S128x1024.Idx) : EReal :=
  Ideal.ofBits FTy.f32 0x3f666666#32 * u i + Ideal.ofBits FTy.f32 0x3dcccccd#32 * grad p i

/-- The second moment after the step. -/
def newV (p : S8x128x1024.Idx → EReal) (v : S128x1024.Idx → EReal) (i : S128x1024.Idx) : EReal :=
  Ideal.ofBits FTy.f32 0x3f7fbe77#32 * v i + Ideal.ofBits FTy.f32 0x3a83126f#32 * (grad p i * grad p i)

/-- The weight's change. -/
def delta (w : S128x1024.Idx → EReal) (p : S8x128x1024.Idx → EReal) (u v : S128x1024.Idx → EReal) (i : S128x1024.Idx) : EReal :=
  Ideal.ofBits FTy.f32 0xba83126f#32 *
    (Ideal.div (Ideal.div (newM p u i) (Ideal.ofBits FTy.f32 0x3f26bd02#32))
      (Ideal.sqrt (Ideal.div (newV p v i) (Ideal.ofBits FTy.f32 0x3c231acc#32)) + Ideal.ofBits FTy.f32 0x322bcc77#32)
      + Ideal.ofBits FTy.f32 0x3c23d70a#32 * w i)

/-- Which block each window shows at a grid point. -/
theorem idx : ∀ t : Fin grid0.N, win0_0.index t = ![t.val, 0] ∧ win0_1.index t = ![0, t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by
  decide +kernel

/-- The gradient after the run. -/
theorem arr4 (c : Dev nD) : (dats m 0 c).arrAt 4 cfg0.N = grad (m (c.tc.loc main_arg1)) := by
  refine (dats m 0 c).arrAt_eq_of_covers 4 _ (by decide +kernel) fun t hf y => ?_
  blk_simp
  rw [after0_4]
  unfold_out out0_4
  frame_out
  unfold_payloads
  pointwise
  simp only [delta, newM, newV, grad, Fin.sum_univ_eight]
  have h : ∀ d : Fin 8, iblk m c 1 t (ix3 d (y 0) (y 1)) =
      m (c.tc.loc main_arg1) (ix3 d (((View.whole main_v0_0).slice (win0_4.rect t)).emb y 0) (((View.whole main_v0_0).slice (win0_4.rect t)).emb y 1)) := fun d => by
    blk_point [iblk, V, idx t]
  simp only [h]

/-- The weight's change after the run. -/
theorem arr5 (c : Dev nD) : (dats m 0 c).arrAt 5 cfg0.N = delta (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  unfold_out out0_5
  frame_out
  unfold_payloads
  pointwise
  simp only [delta, newM, newV, grad, Fin.sum_univ_eight]
  have h : ∀ d : Fin 8, iblk m c 1 t (ix3 d (y 0) (y 1)) =
      m (c.tc.loc main_arg1) (ix3 d (((View.whole main_v0_1).slice (win0_5.rect t)).emb y 0) (((View.whole main_v0_1).slice (win0_5.rect t)).emb y 1)) := fun d => by
    blk_point [iblk, V, idx t]
  simp only [h]
  blk_point [iblk, V, idx t]

/-- The first moment after the run. -/
theorem arr6 (c : Dev nD) : (dats m 0 c).arrAt 6 cfg0.N = newM (m (c.tc.loc main_arg1)) (m (c.tc.loc main_arg2)) := by
  refine (dats m 0 c).arrAt_eq_of_covers 6 _ (by decide +kernel) fun t hf y => ?_
  blk_simp
  rw [after0_6]
  unfold_out out0_6
  frame_out
  unfold_payloads
  pointwise
  simp only [delta, newM, newV, grad, Fin.sum_univ_eight]
  have h : ∀ d : Fin 8, iblk m c 1 t (ix3 d (y 0) (y 1)) =
      m (c.tc.loc main_arg1) (ix3 d (((View.whole main_v0_2).slice (win0_6.rect t)).emb y 0) (((View.whole main_v0_2).slice (win0_6.rect t)).emb y 1)) := fun d => by
    blk_point [iblk, V, idx t]
  simp only [h]
  blk_point [iblk, V, idx t]

/-- The second moment after the run. -/
theorem arr7 (c : Dev nD) : (dats m 0 c).arrAt 7 cfg0.N = newV (m (c.tc.loc main_arg1)) (m (c.tc.loc main_arg3)) := by
  refine (dats m 0 c).arrAt_eq_of_covers 7 _ (by decide +kernel) fun t hf y => ?_
  blk_simp
  rw [after0_7]
  unfold_out out0_7
  frame_out
  unfold_payloads
  pointwise
  simp only [delta, newM, newV, grad, Fin.sum_univ_eight]
  have h : ∀ d : Fin 8, iblk m c 1 t (ix3 d (y 0) (y 1)) =
      m (c.tc.loc main_arg1) (ix3 d (((View.whole main_v0_3).slice (win0_7.rect t)).emb y 0) (((View.whole main_v0_3).slice (win0_7.rect t)).emb y 1)) := fun d => by
    blk_point [iblk, V, idx t]
  simp only [h]
  blk_point [iblk, V, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v0_0) = grad (m (c.tc.loc main_arg1)) ∧
      r.2.mem (c.tc.loc main_v0_1) = delta (m (c.tc.loc main_arg0)) (m (c.tc.loc main_arg1)) (m (c.tc.loc main_arg2)) (m (c.tc.loc main_arg3)) ∧
      r.2.mem (c.tc.loc main_v0_2) = newM (m (c.tc.loc main_arg1)) (m (c.tc.loc main_arg2)) ∧
      r.2.mem (c.tc.loc main_v0_3) = newV (m (c.tc.loc main_arg1)) (m (c.tc.loc main_arg3)) ∧
      r.2.mem (c.tc.loc main_arg0) = m (c.tc.loc main_arg0) ∧
      r.2.mem (c.tc.loc main_arg1) = m (c.tc.loc main_arg1) ∧
      r.2.mem (c.tc.loc main_arg2) = m (c.tc.loc main_arg2) ∧
      r.2.mem (c.tc.loc main_arg3) = m (c.tc.loc main_arg3) :=
  (θ_run defs _ _).mono (fun _ h c => ⟨(h c).1.trans (arr4 m c), (h c).2.1.trans (arr5 m c), (h c).2.2.1.trans (arr6 m c), (h c).2.2.2.1.trans (arr7 m c), (h c).2.2.2.2⟩)
    (Cert.Kernel41Ideal.Value.run_blocks m ρ)

/-- The reference's run, with each result named. -/
theorem runR (m : (ℓ : Loc Cert.Reference41Ideal.nD Cert.Reference41Ideal.τ Cert.Reference41Ideal.sig) → Buf (Elt Ideal) ℓ) (ρ : Dev Cert.Reference41Ideal.nD → PrngReg) :
    θ_run Cert.Reference41Ideal.defs (onTc (τ := Cert.Reference41Ideal.τ) (Cert.Reference41Ideal.main (F := Ideal))) ⟨m, fun _ => 0, ρ⟩ fun r => ∀ c : Dev Cert.Reference41Ideal.nD,
      r.2.mem (c.tc.loc Cert.Reference41Ideal.main_v1) = grad (m (c.tc.loc Cert.Reference41Ideal.main_arg1)) ∧
      r.2.mem (c.tc.loc Cert.Reference41Ideal.main_v25) = delta (m (c.tc.loc Cert.Reference41Ideal.main_arg0)) (m (c.tc.loc Cert.Reference41Ideal.main_arg1)) (m (c.tc.loc Cert.Reference41Ideal.main_arg2)) (m (c.tc.loc Cert.Reference41Ideal.main_arg3)) ∧
      r.2.mem (c.tc.loc Cert.Reference41Ideal.main_v6) = newM (m (c.tc.loc Cert.Reference41Ideal.main_arg1)) (m (c.tc.loc Cert.Reference41Ideal.main_arg2)) ∧
      r.2.mem (c.tc.loc Cert.Reference41Ideal.main_v12) = newV (m (c.tc.loc Cert.Reference41Ideal.main_arg1)) (m (c.tc.loc Cert.Reference41Ideal.main_arg3)) ∧
      r.2.mem (c.tc.loc Cert.Reference41Ideal.main_arg0) = m (c.tc.loc Cert.Reference41Ideal.main_arg0) ∧
      r.2.mem (c.tc.loc Cert.Reference41Ideal.main_arg1) = m (c.tc.loc Cert.Reference41Ideal.main_arg1) ∧
      r.2.mem (c.tc.loc Cert.Reference41Ideal.main_arg2) = m (c.tc.loc Cert.Reference41Ideal.main_arg2) ∧
      r.2.mem (c.tc.loc Cert.Reference41Ideal.main_arg3) = m (c.tc.loc Cert.Reference41Ideal.main_arg3) :=
  (θ_run _ _ _).mono (fun _ h c => ⟨(h c).1.trans (by
      clear h
      funext i
      pointwise
      rfl), (h c).2.1.trans (by
      clear h
      funext i
      pointwise
      rfl), (h c).2.2.1.trans (by
      clear h
      funext i
      pointwise
      rfl), (h c).2.2.2.1.trans (by
      clear h
      funext i
      pointwise
      rfl), (h c).2.2.2.2⟩) (Cert.Reference41Ideal.Value.run m ρ)

end Cert.AdamwWOut

end
-- ==== Proof.AdamwNorm2G.lean ====
/- The value of the optimiser's step for `norm2_g` (the call `adamw_norm2_g`). -/
module

public import proofs.«01_k».proof.Proof.Gen.Kernel42Ideal.Value
public import proofs.«01_k».proof.Proof.Gen.Reference42Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamwNorm2G

open Cert.Kernel42Ideal Cert.Kernel42Ideal.Gen Idealize.ShloMosaic Idealize.ShloMosaic.TcCoe Idealize.SL.Sem
open Idealize.ShloMosaic.Pipeline (Dat)

variable (m : (ℓ : Loc nD τ sig) → Buf (Elt Ideal) ℓ)

/-- The gradient: the devices' parts summed. -/
def grad (p : S8x1x1024.Idx → EReal) (i : S1x1024.Idx) : EReal := ∑ d : Fin 8, p (ix3 d 0 (i 1))

/-- The first moment after the step. -/
def newM (p : S8x1x1024.Idx → EReal) (u : S1x1024.Idx → EReal) (i : S1x1024.Idx) : EReal :=
  Ideal.ofBits FTy.f32 0x3f666666#32 * u i + Ideal.ofBits FTy.f32 0x3dcccccd#32 * grad p i

/-- The second moment after the step. -/
def newV (p : S8x1x1024.Idx → EReal) (v : S1x1024.Idx → EReal) (i : S1x1024.Idx) : EReal :=
  Ideal.ofBits FTy.f32 0x3f7fbe77#32 * v i + Ideal.ofBits FTy.f32 0x3a83126f#32 * (grad p i * grad p i)

/-- The weight's change. -/
def delta (w : S1x1024.Idx → EReal) (p : S8x1x1024.Idx → EReal) (u v : S1x1024.Idx → EReal) (i : S1x1024.Idx) : EReal :=
  Ideal.ofBits FTy.f32 0xba83126f#32 *
    (Ideal.div (Ideal.div (newM p u i) (Ideal.ofBits FTy.f32 0x3f26bd02#32))
      (Ideal.sqrt (Ideal.div (newV p v i) (Ideal.ofBits FTy.f32 0x3c231acc#32)) + Ideal.ofBits FTy.f32 0x322bcc77#32)
      + Ideal.ofBits FTy.f32 0x3c23d70a#32 * w i)

/-- Which block each window shows at a grid point. -/
theorem idx : ∀ t : Fin grid0.N, win0_0.index t = ![t.val, 0] ∧ win0_1.index t = ![0, t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by
  decide +kernel

/-- The gradient after the run. -/
theorem arr4 (c : Dev nD) : (dats m 0 c).arrAt 4 cfg0.N = grad (m (c.tc.loc main_arg1)) := by
  refine (dats m 0 c).arrAt_eq_of_covers 4 _ (by decide +kernel) fun t hf y => ?_
  blk_simp
  rw [after0_4]
  unfold_out out0_4
  frame_out
  unfold_payloads
  pointwise
  simp only [delta, newM, newV, grad, Fin.sum_univ_eight]
  have h : ∀ d : Fin 8, iblk m c 1 t (ix3 d 0 (y 1)) =
      m (c.tc.loc main_arg1) (ix3 d 0 (((View.whole main_v0_0).slice (win0_4.rect t)).emb y 1)) := fun d => by
    blk_point [iblk, V, idx t]
  simp only [h]

/-- The weight's change after the run. -/
theorem arr5 (c : Dev nD) : (dats m 0 c).arrAt 5 cfg0.N = delta (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  unfold_out out0_5
  frame_out
  unfold_payloads
  pointwise
  simp only [delta, newM, newV, grad, Fin.sum_univ_eight]
  have h : ∀ d : Fin 8, iblk m c 1 t (ix3 d 0 (y 1)) =
      m (c.tc.loc main_arg1) (ix3 d 0 (((View.whole main_v0_1).slice (win0_5.rect t)).emb y 1)) := fun d => by
    blk_point [iblk, V, idx t]
  simp only [h]
  blk_point [iblk, V, idx t]

/-- The first moment after the run. -/
theorem arr6 (c : Dev nD) : (dats m 0 c).arrAt 6 cfg0.N = newM (m (c.tc.loc main_arg1)) (m (c.tc.loc main_arg2)) := by
  refine (dats m 0 c).arrAt_eq_of_covers 6 _ (by decide +kernel) fun t hf y => ?_
  blk_simp
  rw [after0_6]
  unfold_out out0_6
  frame_out
  unfold_payloads
  pointwise
  simp only [delta, newM, newV, grad, Fin.sum_univ_eight]
  have h : ∀ d : Fin 8, iblk m c 1 t (ix3 d 0 (y 1)) =
      m (c.tc.loc main_arg1) (ix3 d 0 (((View.whole main_v0_2).slice (win0_6.rect t)).emb y 1)) := fun d => by
    blk_point [iblk, V, idx t]
  simp only [h]
  blk_point [iblk, V, idx t]

/-- The second moment after the run. -/
theorem arr7 (c : Dev nD) : (dats m 0 c).arrAt 7 cfg0.N = newV (m (c.tc.loc main_arg1)) (m (c.tc.loc main_arg3)) := by
  refine (dats m 0 c).arrAt_eq_of_covers 7 _ (by decide +kernel) fun t hf y => ?_
  blk_simp
  rw [after0_7]
  unfold_out out0_7
  frame_out
  unfold_payloads
  pointwise
  simp only [delta, newM, newV, grad, Fin.sum_univ_eight]
  have h : ∀ d : Fin 8, iblk m c 1 t (ix3 d 0 (y 1)) =
      m (c.tc.loc main_arg1) (ix3 d 0 (((View.whole main_v0_3).slice (win0_7.rect t)).emb y 1)) := fun d => by
    blk_point [iblk, V, idx t]
  simp only [h]
  blk_point [iblk, V, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v0_0) = grad (m (c.tc.loc main_arg1)) ∧
      r.2.mem (c.tc.loc main_v0_1) = delta (m (c.tc.loc main_arg0)) (m (c.tc.loc main_arg1)) (m (c.tc.loc main_arg2)) (m (c.tc.loc main_arg3)) ∧
      r.2.mem (c.tc.loc main_v0_2) = newM (m (c.tc.loc main_arg1)) (m (c.tc.loc main_arg2)) ∧
      r.2.mem (c.tc.loc main_v0_3) = newV (m (c.tc.loc main_arg1)) (m (c.tc.loc main_arg3)) ∧
      r.2.mem (c.tc.loc main_arg0) = m (c.tc.loc main_arg0) ∧
      r.2.mem (c.tc.loc main_arg1) = m (c.tc.loc main_arg1) ∧
      r.2.mem (c.tc.loc main_arg2) = m (c.tc.loc main_arg2) ∧
      r.2.mem (c.tc.loc main_arg3) = m (c.tc.loc main_arg3) :=
  (θ_run defs _ _).mono (fun _ h c => ⟨(h c).1.trans (arr4 m c), (h c).2.1.trans (arr5 m c), (h c).2.2.1.trans (arr6 m c), (h c).2.2.2.1.trans (arr7 m c), (h c).2.2.2.2⟩)
    (Cert.Kernel42Ideal.Value.run_blocks m ρ)

/-- The reference's run, with each result named. -/
theorem runR (m : (ℓ : Loc Cert.Reference42Ideal.nD Cert.Reference42Ideal.τ Cert.Reference42Ideal.sig) → Buf (Elt Ideal) ℓ) (ρ : Dev Cert.Reference42Ideal.nD → PrngReg) :
    θ_run Cert.Reference42Ideal.defs (onTc (τ := Cert.Reference42Ideal.τ) (Cert.Reference42Ideal.main (F := Ideal))) ⟨m, fun _ => 0, ρ⟩ fun r => ∀ c : Dev Cert.Reference42Ideal.nD,
      r.2.mem (c.tc.loc Cert.Reference42Ideal.main_v0) = grad (m (c.tc.loc Cert.Reference42Ideal.main_arg1)) ∧
      r.2.mem (c.tc.loc Cert.Reference42Ideal.main_v24) = delta (m (c.tc.loc Cert.Reference42Ideal.main_arg0)) (m (c.tc.loc Cert.Reference42Ideal.main_arg1)) (m (c.tc.loc Cert.Reference42Ideal.main_arg2)) (m (c.tc.loc Cert.Reference42Ideal.main_arg3)) ∧
      r.2.mem (c.tc.loc Cert.Reference42Ideal.main_v5) = newM (m (c.tc.loc Cert.Reference42Ideal.main_arg1)) (m (c.tc.loc Cert.Reference42Ideal.main_arg2)) ∧
      r.2.mem (c.tc.loc Cert.Reference42Ideal.main_v11) = newV (m (c.tc.loc Cert.Reference42Ideal.main_arg1)) (m (c.tc.loc Cert.Reference42Ideal.main_arg3)) ∧
      r.2.mem (c.tc.loc Cert.Reference42Ideal.main_arg0) = m (c.tc.loc Cert.Reference42Ideal.main_arg0) ∧
      r.2.mem (c.tc.loc Cert.Reference42Ideal.main_arg1) = m (c.tc.loc Cert.Reference42Ideal.main_arg1) ∧
      r.2.mem (c.tc.loc Cert.Reference42Ideal.main_arg2) = m (c.tc.loc Cert.Reference42Ideal.main_arg2) ∧
      r.2.mem (c.tc.loc Cert.Reference42Ideal.main_arg3) = m (c.tc.loc Cert.Reference42Ideal.main_arg3) :=
  (θ_run _ _ _).mono (fun _ h c => ⟨(h c).1.trans (by
      clear h
      funext i
      pointwise
      rfl), (h c).2.1.trans (by
      clear h
      funext i
      pointwise
      rfl), (h c).2.2.1.trans (by
      clear h
      funext i
      pointwise
      rfl), (h c).2.2.2.1.trans (by
      clear h
      funext i
      pointwise
      rfl), (h c).2.2.2.2⟩) (Cert.Reference42Ideal.Value.run m ρ)

end Cert.AdamwNorm2G

end
-- ==== Proof.AdamwWFf1.lean ====
/- The value of the optimiser's step for `w_ff1` (the call `adamw_w_ff1`). -/
module

public import proofs.«01_k».proof.Proof.Gen.Kernel43Ideal.Value
public import proofs.«01_k».proof.Proof.Gen.Reference43Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamwWFf1

open Cert.Kernel43Ideal Cert.Kernel43Ideal.Gen Idealize.ShloMosaic Idealize.ShloMosaic.TcCoe Idealize.SL.Sem
open Idealize.ShloMosaic.Pipeline (Dat)

variable (m : (ℓ : Loc nD τ sig) → Buf (Elt Ideal) ℓ)

/-- The gradient: the devices' parts summed. -/
def grad (p : S8x512x1024.Idx → EReal) (i : S1024x512.Idx) : EReal := ∑ d : Fin 8, p (ix3 d (i 1) (i 0))

/-- The first moment after the step. -/
def newM (p : S8x512x1024.Idx → EReal) (u : S1024x512.Idx → EReal) (i : S1024x512.Idx) : EReal :=
  Ideal.ofBits FTy.f32 0x3f666666#32 * u i + Ideal.ofBits FTy.f32 0x3dcccccd#32 * grad p i

/-- The second moment after the step. -/
def newV (p : S8x512x1024.Idx → EReal) (v : S1024x512.Idx → EReal) (i : S1024x512.Idx) : EReal :=
  Ideal.ofBits FTy.f32 0x3f7fbe77#32 * v i + Ideal.ofBits FTy.f32 0x3a83126f#32 * (grad p i * grad p i)

/-- The weight's change. -/
def delta (w : S1024x512.Idx → EReal) (p : S8x512x1024.Idx → EReal) (u v : S1024x512.Idx → EReal) (i : S1024x512.Idx) : EReal :=
  Ideal.ofBits FTy.f32 0xba83126f#32 *
    (Ideal.div (Ideal.div (newM p u i) (Ideal.ofBits FTy.f32 0x3f26bd02#32))
      (Ideal.sqrt (Ideal.div (newV p v i) (Ideal.ofBits FTy.f32 0x3c231acc#32)) + Ideal.ofBits FTy.f32 0x322bcc77#32)
      + Ideal.ofBits FTy.f32 0x3c23d70a#32 * w i)

/-- Which block each window shows at a grid point. -/
theorem idx : ∀ t : Fin grid0.N, win0_0.index t = ![t.val, 0] ∧ win0_1.index t = ![0, 0, t.val] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by
  decide +kernel

/-- The gradient after the run. -/
theorem arr4 (c : Dev nD) : (dats m 0 c).arrAt 4 cfg0.N = grad (m (c.tc.loc main_arg1)) := by
  refine (dats m 0 c).arrAt_eq_of_covers 4 _ (by decide +kernel) fun t hf y => ?_
  blk_simp
  rw [after0_4]
  unfold_out out0_4
  frame_out
  unfold_payloads
  pointwise
  simp only [delta, newM, newV, grad, Fin.sum_univ_eight]
  have h : ∀ d : Fin 8, iblk m c 1 t (ix3 d (y 1) (y 0)) =
      m (c.tc.loc main_arg1) (ix3 d (((View.whole main_v0_0).slice (win0_4.rect t)).emb y 1) (((View.whole main_v0_0).slice (win0_4.rect t)).emb y 0)) := fun d => by
    blk_point [iblk, V, idx t]
  simp only [h]

/-- The weight's change after the run. -/
theorem arr5 (c : Dev nD) : (dats m 0 c).arrAt 5 cfg0.N = delta (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  unfold_out out0_5
  frame_out
  unfold_payloads
  pointwise
  simp only [delta, newM, newV, grad, Fin.sum_univ_eight]
  have h : ∀ d : Fin 8, iblk m c 1 t (ix3 d (y 1) (y 0)) =
      m (c.tc.loc main_arg1) (ix3 d (((View.whole main_v0_1).slice (win0_5.rect t)).emb y 1) (((View.whole main_v0_1).slice (win0_5.rect t)).emb y 0)) := fun d => by
    blk_point [iblk, V, idx t]
  simp only [h]
  blk_point [iblk, V, idx t]

/-- The first moment after the run. -/
theorem arr6 (c : Dev nD) : (dats m 0 c).arrAt 6 cfg0.N = newM (m (c.tc.loc main_arg1)) (m (c.tc.loc main_arg2)) := by
  refine (dats m 0 c).arrAt_eq_of_covers 6 _ (by decide +kernel) fun t hf y => ?_
  blk_simp
  rw [after0_6]
  unfold_out out0_6
  frame_out
  unfold_payloads
  pointwise
  simp only [delta, newM, newV, grad, Fin.sum_univ_eight]
  have h : ∀ d : Fin 8, iblk m c 1 t (ix3 d (y 1) (y 0)) =
      m (c.tc.loc main_arg1) (ix3 d (((View.whole main_v0_2).slice (win0_6.rect t)).emb y 1) (((View.whole main_v0_2).slice (win0_6.rect t)).emb y 0)) := fun d => by
    blk_point [iblk, V, idx t]
  simp only [h]
  blk_point [iblk, V, idx t]

/-- The second moment after the run. -/
theorem arr7 (c : Dev nD) : (dats m 0 c).arrAt 7 cfg0.N = newV (m (c.tc.loc main_arg1)) (m (c.tc.loc main_arg3)) := by
  refine (dats m 0 c).arrAt_eq_of_covers 7 _ (by decide +kernel) fun t hf y => ?_
  blk_simp
  rw [after0_7]
  unfold_out out0_7
  frame_out
  unfold_payloads
  pointwise
  simp only [delta, newM, newV, grad, Fin.sum_univ_eight]
  have h : ∀ d : Fin 8, iblk m c 1 t (ix3 d (y 1) (y 0)) =
      m (c.tc.loc main_arg1) (ix3 d (((View.whole main_v0_3).slice (win0_7.rect t)).emb y 1) (((View.whole main_v0_3).slice (win0_7.rect t)).emb y 0)) := fun d => by
    blk_point [iblk, V, idx t]
  simp only [h]
  blk_point [iblk, V, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v0_0) = grad (m (c.tc.loc main_arg1)) ∧
      r.2.mem (c.tc.loc main_v0_1) = delta (m (c.tc.loc main_arg0)) (m (c.tc.loc main_arg1)) (m (c.tc.loc main_arg2)) (m (c.tc.loc main_arg3)) ∧
      r.2.mem (c.tc.loc main_v0_2) = newM (m (c.tc.loc main_arg1)) (m (c.tc.loc main_arg2)) ∧
      r.2.mem (c.tc.loc main_v0_3) = newV (m (c.tc.loc main_arg1)) (m (c.tc.loc main_arg3)) ∧
      r.2.mem (c.tc.loc main_arg0) = m (c.tc.loc main_arg0) ∧
      r.2.mem (c.tc.loc main_arg1) = m (c.tc.loc main_arg1) ∧
      r.2.mem (c.tc.loc main_arg2) = m (c.tc.loc main_arg2) ∧
      r.2.mem (c.tc.loc main_arg3) = m (c.tc.loc main_arg3) :=
  (θ_run defs _ _).mono (fun _ h c => ⟨(h c).1.trans (arr4 m c), (h c).2.1.trans (arr5 m c), (h c).2.2.1.trans (arr6 m c), (h c).2.2.2.1.trans (arr7 m c), (h c).2.2.2.2⟩)
    (Cert.Kernel43Ideal.Value.run_blocks m ρ)

/-- The reference's run, with each result named. -/
theorem runR (m : (ℓ : Loc Cert.Reference43Ideal.nD Cert.Reference43Ideal.τ Cert.Reference43Ideal.sig) → Buf (Elt Ideal) ℓ) (ρ : Dev Cert.Reference43Ideal.nD → PrngReg) :
    θ_run Cert.Reference43Ideal.defs (onTc (τ := Cert.Reference43Ideal.τ) (Cert.Reference43Ideal.main (F := Ideal))) ⟨m, fun _ => 0, ρ⟩ fun r => ∀ c : Dev Cert.Reference43Ideal.nD,
      r.2.mem (c.tc.loc Cert.Reference43Ideal.main_v2) = grad (m (c.tc.loc Cert.Reference43Ideal.main_arg1)) ∧
      r.2.mem (c.tc.loc Cert.Reference43Ideal.main_v26) = delta (m (c.tc.loc Cert.Reference43Ideal.main_arg0)) (m (c.tc.loc Cert.Reference43Ideal.main_arg1)) (m (c.tc.loc Cert.Reference43Ideal.main_arg2)) (m (c.tc.loc Cert.Reference43Ideal.main_arg3)) ∧
      r.2.mem (c.tc.loc Cert.Reference43Ideal.main_v7) = newM (m (c.tc.loc Cert.Reference43Ideal.main_arg1)) (m (c.tc.loc Cert.Reference43Ideal.main_arg2)) ∧
      r.2.mem (c.tc.loc Cert.Reference43Ideal.main_v13) = newV (m (c.tc.loc Cert.Reference43Ideal.main_arg1)) (m (c.tc.loc Cert.Reference43Ideal.main_arg3)) ∧
      r.2.mem (c.tc.loc Cert.Reference43Ideal.main_arg0) = m (c.tc.loc Cert.Reference43Ideal.main_arg0) ∧
      r.2.mem (c.tc.loc Cert.Reference43Ideal.main_arg1) = m (c.tc.loc Cert.Reference43Ideal.main_arg1) ∧
      r.2.mem (c.tc.loc Cert.Reference43Ideal.main_arg2) = m (c.tc.loc Cert.Reference43Ideal.main_arg2) ∧
      r.2.mem (c.tc.loc Cert.Reference43Ideal.main_arg3) = m (c.tc.loc Cert.Reference43Ideal.main_arg3) :=
  (θ_run _ _ _).mono (fun _ h c => ⟨(h c).1.trans (by
      clear h
      funext i
      pointwise
      rfl), (h c).2.1.trans (by
      clear h
      funext i
      pointwise
      rfl), (h c).2.2.1.trans (by
      clear h
      funext i
      pointwise
      rfl), (h c).2.2.2.1.trans (by
      clear h
      funext i
      pointwise
      rfl), (h c).2.2.2.2⟩) (Cert.Reference43Ideal.Value.run m ρ)

end Cert.AdamwWFf1

end
-- ==== Proof.AdamwWFf2.lean ====
/- The value of the optimiser's step for `w_ff2` (the call `adamw_w_ff2`). -/
module

public import proofs.«01_k».proof.Proof.Gen.Kernel44Ideal.Value
public import proofs.«01_k».proof.Proof.Gen.Reference44Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamwWFf2

open Cert.Kernel44Ideal Cert.Kernel44Ideal.Gen Idealize.ShloMosaic Idealize.ShloMosaic.TcCoe Idealize.SL.Sem
open Idealize.ShloMosaic.Pipeline (Dat)

variable (m : (ℓ : Loc nD τ sig) → Buf (Elt Ideal) ℓ)

/-- The gradient: the devices' parts summed. -/
def grad (p : S8x512x1024.Idx → EReal) (i : S512x1024.Idx) : EReal := ∑ d : Fin 8, p (ix3 d (i 0) (i 1))

/-- The first moment after the step. -/
def newM (p : S8x512x1024.Idx → EReal) (u : S512x1024.Idx → EReal) (i : S512x1024.Idx) : EReal :=
  Ideal.ofBits FTy.f32 0x3f666666#32 * u i + Ideal.ofBits FTy.f32 0x3dcccccd#32 * grad p i

/-- The second moment after the step. -/
def newV (p : S8x512x1024.Idx → EReal) (v : S512x1024.Idx → EReal) (i : S512x1024.Idx) : EReal :=
  Ideal.ofBits FTy.f32 0x3f7fbe77#32 * v i + Ideal.ofBits FTy.f32 0x3a83126f#32 * (grad p i * grad p i)

/-- The weight's change. -/
def delta (w : S512x1024.Idx → EReal) (p : S8x512x1024.Idx → EReal) (u v : S512x1024.Idx → EReal) (i : S512x1024.Idx) : EReal :=
  Ideal.ofBits FTy.f32 0xba83126f#32 *
    (Ideal.div (Ideal.div (newM p u i) (Ideal.ofBits FTy.f32 0x3f26bd02#32))
      (Ideal.sqrt (Ideal.div (newV p v i) (Ideal.ofBits FTy.f32 0x3c231acc#32)) + Ideal.ofBits FTy.f32 0x322bcc77#32)
      + Ideal.ofBits FTy.f32 0x3c23d70a#32 * w i)

/-- Which block each window shows at a grid point. -/
theorem idx : ∀ t : Fin grid0.N, win0_0.index t = ![t.val, 0] ∧ win0_1.index t = ![0, t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by
  decide +kernel

/-- The gradient after the run. -/
theorem arr4 (c : Dev nD) : (dats m 0 c).arrAt 4 cfg0.N = grad (m (c.tc.loc main_arg1)) := by
  refine (dats m 0 c).arrAt_eq_of_covers 4 _ (by decide +kernel) fun t hf y => ?_
  blk_simp
  rw [after0_4]
  unfold_out out0_4
  frame_out
  unfold_payloads
  pointwise
  simp only [delta, newM, newV, grad, Fin.sum_univ_eight]
  have h : ∀ d : Fin 8, iblk m c 1 t (ix3 d (y 0) (y 1)) =
      m (c.tc.loc main_arg1) (ix3 d (((View.whole main_v0_0).slice (win0_4.rect t)).emb y 0) (((View.whole main_v0_0).slice (win0_4.rect t)).emb y 1)) := fun d => by
    blk_point [iblk, V, idx t]
  simp only [h]

/-- The weight's change after the run. -/
theorem arr5 (c : Dev nD) : (dats m 0 c).arrAt 5 cfg0.N = delta (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  unfold_out out0_5
  frame_out
  unfold_payloads
  pointwise
  simp only [delta, newM, newV, grad, Fin.sum_univ_eight]
  have h : ∀ d : Fin 8, iblk m c 1 t (ix3 d (y 0) (y 1)) =
      m (c.tc.loc main_arg1) (ix3 d (((View.whole main_v0_1).slice (win0_5.rect t)).emb y 0) (((View.whole main_v0_1).slice (win0_5.rect t)).emb y 1)) := fun d => by
    blk_point [iblk, V, idx t]
  simp only [h]
  blk_point [iblk, V, idx t]

/-- The first moment after the run. -/
theorem arr6 (c : Dev nD) : (dats m 0 c).arrAt 6 cfg0.N = newM (m (c.tc.loc main_arg1)) (m (c.tc.loc main_arg2)) := by
  refine (dats m 0 c).arrAt_eq_of_covers 6 _ (by decide +kernel) fun t hf y => ?_
  blk_simp
  rw [after0_6]
  unfold_out out0_6
  frame_out
  unfold_payloads
  pointwise
  simp only [delta, newM, newV, grad, Fin.sum_univ_eight]
  have h : ∀ d : Fin 8, iblk m c 1 t (ix3 d (y 0) (y 1)) =
      m (c.tc.loc main_arg1) (ix3 d (((View.whole main_v0_2).slice (win0_6.rect t)).emb y 0) (((View.whole main_v0_2).slice (win0_6.rect t)).emb y 1)) := fun d => by
    blk_point [iblk, V, idx t]
  simp only [h]
  blk_point [iblk, V, idx t]

/-- The second moment after the run. -/
theorem arr7 (c : Dev nD) : (dats m 0 c).arrAt 7 cfg0.N = newV (m (c.tc.loc main_arg1)) (m (c.tc.loc main_arg3)) := by
  refine (dats m 0 c).arrAt_eq_of_covers 7 _ (by decide +kernel) fun t hf y => ?_
  blk_simp
  rw [after0_7]
  unfold_out out0_7
  frame_out
  unfold_payloads
  pointwise
  simp only [delta, newM, newV, grad, Fin.sum_univ_eight]
  have h : ∀ d : Fin 8, iblk m c 1 t (ix3 d (y 0) (y 1)) =
      m (c.tc.loc main_arg1) (ix3 d (((View.whole main_v0_3).slice (win0_7.rect t)).emb y 0) (((View.whole main_v0_3).slice (win0_7.rect t)).emb y 1)) := fun d => by
    blk_point [iblk, V, idx t]
  simp only [h]
  blk_point [iblk, V, idx t]

/-- The kernel's run, with each result named. -/
theorem runK (ρ : Dev nD → PrngReg) : θ_run defs (onTc (τ := τ) (main (F := Ideal))) ⟨m, fun _ => 0, ρ⟩ fun r => ∀ c : Dev nD,
      r.2.mem (c.tc.loc main_v0_0) = grad (m (c.tc.loc main_arg1)) ∧
      r.2.mem (c.tc.loc main_v0_1) = delta (m (c.tc.loc main_arg0)) (m (c.tc.loc main_arg1)) (m (c.tc.loc main_arg2)) (m (c.tc.loc main_arg3)) ∧
      r.2.mem (c.tc.loc main_v0_2) = newM (m (c.tc.loc main_arg1)) (m (c.tc.loc main_arg2)) ∧
      r.2.mem (c.tc.loc main_v0_3) = newV (m (c.tc.loc main_arg1)) (m (c.tc.loc main_arg3)) ∧
      r.2.mem (c.tc.loc main_arg0) = m (c.tc.loc main_arg0) ∧
      r.2.mem (c.tc.loc main_arg1) = m (c.tc.loc main_arg1) ∧
      r.2.mem (c.tc.loc main_arg2) = m (c.tc.loc main_arg2) ∧
      r.2.mem (c.tc.loc main_arg3) = m (c.tc.loc main_arg3) :=
  (θ_run defs _ _).mono (fun _ h c => ⟨(h c).1.trans (arr4 m c), (h c).2.1.trans (arr5 m c), (h c).2.2.1.trans (arr6 m c), (h c).2.2.2.1.trans (arr7 m c), (h c).2.2.2.2⟩)
    (Cert.Kernel44Ideal.Value.run_blocks m ρ)

/-- The reference's run, with each result named. -/
theorem runR (m : (ℓ : Loc Cert.Reference44Ideal.nD Cert.Reference44Ideal.τ Cert.Reference44Ideal.sig) → Buf (Elt Ideal) ℓ) (ρ : Dev Cert.Reference44Ideal.nD → PrngReg) :
    θ_run Cert.Reference44Ideal.defs (onTc (τ := Cert.Reference44Ideal.τ) (Cert.Reference44Ideal.main (F := Ideal))) ⟨m, fun _ => 0, ρ⟩ fun r => ∀ c : Dev Cert.Reference44Ideal.nD,
      r.2.mem (c.tc.loc Cert.Reference44Ideal.main_v1) = grad (m (c.tc.loc Cert.Reference44Ideal.main_arg1)) ∧
      r.2.mem (c.tc.loc Cert.Reference44Ideal.main_v25) = delta (m (c.tc.loc Cert.Reference44Ideal.main_arg0)) (m (c.tc.loc Cert.Reference44Ideal.main_arg1)) (m (c.tc.loc Cert.Reference44Ideal.main_arg2)) (m (c.tc.loc Cert.Reference44Ideal.main_arg3)) ∧
      r.2.mem (c.tc.loc Cert.Reference44Ideal.main_v6) = newM (m (c.tc.loc Cert.Reference44Ideal.main_arg1)) (m (c.tc.loc Cert.Reference44Ideal.main_arg2)) ∧
      r.2.mem (c.tc.loc Cert.Reference44Ideal.main_v12) = newV (m (c.tc.loc Cert.Reference44Ideal.main_arg1)) (m (c.tc.loc Cert.Reference44Ideal.main_arg3)) ∧
      r.2.mem (c.tc.loc Cert.Reference44Ideal.main_arg0) = m (c.tc.loc Cert.Reference44Ideal.main_arg0) ∧
      r.2.mem (c.tc.loc Cert.Reference44Ideal.main_arg1) = m (c.tc.loc Cert.Reference44Ideal.main_arg1) ∧
      r.2.mem (c.tc.loc Cert.Reference44Ideal.main_arg2) = m (c.tc.loc Cert.Reference44Ideal.main_arg2) ∧
      r.2.mem (c.tc.loc Cert.Reference44Ideal.main_arg3) = m (c.tc.loc Cert.Reference44Ideal.main_arg3) :=
  (θ_run _ _ _).mono (fun _ h c => ⟨(h c).1.trans (by
      clear h
      funext i
      pointwise
      rfl), (h c).2.1.trans (by
      clear h
      funext i
      pointwise
      rfl), (h c).2.2.1.trans (by
      clear h
      funext i
      pointwise
      rfl), (h c).2.2.2.1.trans (by
      clear h
      funext i
      pointwise
      rfl), (h c).2.2.2.2⟩) (Cert.Reference44Ideal.Value.run m ρ)

end Cert.AdamwWFf2

end
-- ==== Proof.lean ====
/- The certificate's claims, assembled: the frames are the generated ones, the values are the modules' runs. -/
module

public import proofs.«01_k».proof.Defs
public import proofs.«01_k».proof.Proof.Gen.Kernel.Frame
public import proofs.«01_k».proof.Proof.Gen.KernelIdeal.Value
public import proofs.«01_k».proof.Proof.Gen.Kernel2.Frame
public import proofs.«01_k».proof.Proof.Gen.Kernel2Ideal.Value
public import proofs.«01_k».proof.Proof.Gen.Reference2Ideal.Run
public import proofs.«01_k».proof.Proof.GateGrad
public import proofs.«01_k».proof.Proof.Gen.Kernel3.Frame
public import proofs.«01_k».proof.Proof.Gen.Kernel3Ideal.Value
public import proofs.«01_k».proof.Proof.Gen.Reference3Ideal.Run
public import proofs.«01_k».proof.Proof.Ff2Bwd
public import proofs.«01_k».proof.Proof.Gen.Kernel4.Frame
public import proofs.«01_k».proof.Proof.Gen.Kernel4Ideal.Value
public import proofs.«01_k».proof.Proof.Gen.Reference4Ideal.Run
public import proofs.«01_k».proof.Proof.Ff2Dw
public import proofs.«01_k».proof.Proof.Gen.Kernel5.Frame
public import proofs.«01_k».proof.Proof.Gen.Kernel5Ideal.Value
public import proofs.«01_k».proof.Proof.Gen.Reference5Ideal.Run
public import proofs.«01_k».proof.Proof.MidBwd
public import proofs.«01_k».proof.Proof.Gen.Kernel6.Frame
public import proofs.«01_k».proof.Proof.Gen.Kernel6Ideal.Value
public import proofs.«01_k».proof.Proof.Gen.Reference6Ideal.Run
public import proofs.«01_k».proof.Proof.Ff1
public import proofs.«01_k».proof.Proof.Gen.Kernel7.Frame
public import proofs.«01_k».proof.Proof.Gen.Kernel7Ideal.Value
public import proofs.«01_k».proof.Proof.Gen.Reference7Ideal.Run
public import proofs.«01_k».proof.Proof.Ff2Loss
public import proofs.«01_k».proof.Proof.Gen.Kernel8.Frame
public import proofs.«01_k».proof.Proof.Gen.Kernel8Ideal.Value
public import proofs.«01_k».proof.Proof.Gen.Reference8Ideal.Run
public import proofs.«01_k».proof.Proof.OutProj
public import proofs.«01_k».proof.Proof.Gen.Kernel9.Frame
public import proofs.«01_k».proof.Proof.Gen.Kernel9Ideal.Value
public import proofs.«01_k».proof.Proof.Gen.Reference9Ideal.Run
public import proofs.«01_k».proof.Proof.InProj
public import proofs.«01_k».proof.Proof.Gen.Kernel10.Frame
public import proofs.«01_k».proof.Proof.Gen.Kernel10Ideal.Value
public import proofs.«01_k».proof.Proof.Gen.Reference10Ideal.Run
public import proofs.«01_k».proof.Proof.MlaOut
public import proofs.«01_k».proof.Proof.Gen.Kernel11.Frame
public import proofs.«01_k».proof.Proof.Gen.Kernel11Ideal.Value
public import proofs.«01_k».proof.Proof.Gen.Reference11Ideal.Run
public import proofs.«01_k».proof.Proof.MlaOutBwd
public import proofs.«01_k».proof.Proof.Gen.Kernel12.Frame
public import proofs.«01_k».proof.Proof.Gen.Kernel12Ideal.Value
public import proofs.«01_k».proof.Proof.Gen.Reference12Ideal.Run
public import proofs.«01_k».proof.Proof.MlaOutDw
public import proofs.«01_k».proof.Proof.Gen.Kernel13.Frame
public import proofs.«01_k».proof.Proof.Gen.Kernel13Ideal.Value
public import proofs.«01_k».proof.Proof.Gen.Reference13Ideal.Run
public import proofs.«01_k».proof.Proof.ConvOut
public import proofs.«01_k».proof.Proof.Gen.Kernel14.Frame
public import proofs.«01_k».proof.Proof.Gen.Kernel14Ideal.Value
public import proofs.«01_k».proof.Proof.Gen.Reference14Ideal.Run
public import proofs.«01_k».proof.Proof.ConvOutBwd
public import proofs.«01_k».proof.Proof.Gen.Kernel15.Frame
public import proofs.«01_k».proof.Proof.Gen.Kernel15Ideal.Value
public import proofs.«01_k».proof.Proof.Gen.Reference15Ideal.Run
public import proofs.«01_k».proof.Proof.ConvOutDw
public import proofs.«01_k».proof.Proof.Gen.Kernel16.Frame
public import proofs.«01_k».proof.Proof.Gen.Kernel16Ideal.Value
public import proofs.«01_k».proof.Proof.Gen.Reference16Ideal.Run
public import proofs.«01_k».proof.Proof.Ff1Dw
public import proofs.«01_k».proof.Proof.Gen.Kernel17.Frame
public import proofs.«01_k».proof.Proof.Gen.Kernel17Ideal.Value
public import proofs.«01_k».proof.Proof.Gen.Reference17Ideal.Run
public import proofs.«01_k».proof.Proof.OutProjDw
public import proofs.«01_k».proof.Proof.Gen.Kernel18.Frame
public import proofs.«01_k».proof.Proof.Gen.Kernel18Ideal.Value
public import proofs.«01_k».proof.Proof.Gen.Reference18Ideal.Run
public import proofs.«01_k».proof.Proof.GateDwA
public import proofs.«01_k».proof.Proof.Gen.Kernel19.Frame
public import proofs.«01_k».proof.Proof.Gen.Kernel19Ideal.Value
public import proofs.«01_k».proof.Proof.Gen.Reference19Ideal.Run
public import proofs.«01_k».proof.Proof.GateDwB
public import proofs.«01_k».proof.Proof.Gen.Kernel20.Frame
public import proofs.«01_k».proof.Proof.Gen.Kernel20Ideal.Value
public import proofs.«01_k».proof.Proof.Gen.Reference20Ideal.Run
public import proofs.«01_k».proof.Proof.GluDw
public import proofs.«01_k».proof.Proof.Gen.Kernel21.Frame
public import proofs.«01_k».proof.Proof.Gen.Kernel21Ideal.Value
public import proofs.«01_k».proof.Proof.Gen.Reference21Ideal.Run
public import proofs.«01_k».proof.Proof.SmallDw
public import proofs.«01_k».proof.Proof.Gen.Kernel22.Frame
public import proofs.«01_k».proof.Proof.Gen.Kernel22Ideal.Value
public import proofs.«01_k».proof.Proof.Gen.Reference22Ideal.Run
public import proofs.«01_k».proof.Proof.AdaFwd
public import proofs.«01_k».proof.Proof.Gen.Kernel23.Frame
public import proofs.«01_k».proof.Proof.Gen.Kernel23Ideal.Value
public import proofs.«01_k».proof.Proof.Gen.Reference23Ideal.Run
public import proofs.«01_k».proof.Proof.AdaDw
public import proofs.«01_k».proof.Proof.Gen.Kernel24.Frame
public import proofs.«01_k».proof.Proof.Gen.Kernel24Ideal.Value
public import proofs.«01_k».proof.Proof.Gen.Reference24Ideal.Run
public import proofs.«01_k».proof.Proof.AdaDb
public import proofs.«01_k».proof.Proof.Gen.Kernel25.Frame
public import proofs.«01_k».proof.Proof.Gen.Kernel25Ideal.Value
public import proofs.«01_k».proof.Proof.Gen.Reference25Ideal.Run
public import proofs.«01_k».proof.Proof.AdamwWAda
public import proofs.«01_k».proof.Proof.Gen.Kernel26.Frame
public import proofs.«01_k».proof.Proof.Gen.Kernel26Ideal.Value
public import proofs.«01_k».proof.Proof.Gen.Reference26Ideal.Run
public import proofs.«01_k».proof.Proof.AdamwBAda
public import proofs.«01_k».proof.Proof.Gen.Kernel27.Frame
public import proofs.«01_k».proof.Proof.Gen.Kernel27Ideal.Value
public import proofs.«01_k».proof.Proof.Gen.Reference27Ideal.Run
public import proofs.«01_k».proof.Proof.AdamwNorm1G
public import proofs.«01_k».proof.Proof.Gen.Kernel28.Frame
public import proofs.«01_k».proof.Proof.Gen.Kernel28Ideal.Value
public import proofs.«01_k».proof.Proof.Gen.Reference28Ideal.Run
public import proofs.«01_k».proof.Proof.AdamwWIn
public import proofs.«01_k».proof.Proof.Gen.Kernel29.Frame
public import proofs.«01_k».proof.Proof.Gen.Kernel29Ideal.Value
public import proofs.«01_k».proof.Proof.Gen.Reference29Ideal.Run
public import proofs.«01_k».proof.Proof.AdamwQLatentG
public import proofs.«01_k».proof.Proof.Gen.Kernel30.Frame
public import proofs.«01_k».proof.Proof.Gen.Kernel30Ideal.Value
public import proofs.«01_k».proof.Proof.Gen.Reference30Ideal.Run
public import proofs.«01_k».proof.Proof.AdamwWUq
public import proofs.«01_k».proof.Proof.Gen.Kernel31.Frame
public import proofs.«01_k».proof.Proof.Gen.Kernel31Ideal.Value
public import proofs.«01_k».proof.Proof.Gen.Reference31Ideal.Run
public import proofs.«01_k».proof.Proof.AdamwKvLatentG
public import proofs.«01_k».proof.Proof.Gen.Kernel32.Frame
public import proofs.«01_k».proof.Proof.Gen.Kernel32Ideal.Value
public import proofs.«01_k».proof.Proof.Gen.Reference32Ideal.Run
public import proofs.«01_k».proof.Proof.AdamwWUkv
public import proofs.«01_k».proof.Proof.Gen.Kernel33.Frame
public import proofs.«01_k».proof.Proof.Gen.Kernel33Ideal.Value
public import proofs.«01_k».proof.Proof.Gen.Reference33Ideal.Run
public import proofs.«01_k».proof.Proof.AdamwQkNormQG
public import proofs.«01_k».proof.Proof.Gen.Kernel34.Frame
public import proofs.«01_k».proof.Proof.Gen.Kernel34Ideal.Value
public import proofs.«01_k».proof.Proof.Gen.Reference34Ideal.Run
public import proofs.«01_k».proof.Proof.AdamwQkNormKG
public import proofs.«01_k».proof.Proof.Gen.Kernel35.Frame
public import proofs.«01_k».proof.Proof.Gen.Kernel35Ideal.Value
public import proofs.«01_k».proof.Proof.Gen.Reference35Ideal.Run
public import proofs.«01_k».proof.Proof.AdamwWOMla
public import proofs.«01_k».proof.Proof.Gen.Kernel36.Frame
public import proofs.«01_k».proof.Proof.Gen.Kernel36Ideal.Value
public import proofs.«01_k».proof.Proof.Gen.Reference36Ideal.Run
public import proofs.«01_k».proof.Proof.AdamwConvW
public import proofs.«01_k».proof.Proof.Gen.Kernel37.Frame
public import proofs.«01_k».proof.Proof.Gen.Kernel37Ideal.Value
public import proofs.«01_k».proof.Proof.Gen.Reference37Ideal.Run
public import proofs.«01_k».proof.Proof.AdamwConvB
public import proofs.«01_k».proof.Proof.Gen.Kernel38.Frame
public import proofs.«01_k».proof.Proof.Gen.Kernel38Ideal.Value
public import proofs.«01_k».proof.Proof.Gen.Reference38Ideal.Run
public import proofs.«01_k».proof.Proof.AdamwConvLnG
public import proofs.«01_k».proof.Proof.Gen.Kernel39.Frame
public import proofs.«01_k».proof.Proof.Gen.Kernel39Ideal.Value
public import proofs.«01_k».proof.Proof.Gen.Reference39Ideal.Run
public import proofs.«01_k».proof.Proof.AdamwConvLnB
public import proofs.«01_k».proof.Proof.Gen.Kernel40.Frame
public import proofs.«01_k».proof.Proof.Gen.Kernel40Ideal.Value
public import proofs.«01_k».proof.Proof.Gen.Reference40Ideal.Run
public import proofs.«01_k».proof.Proof.AdamwWPwOut
public import proofs.«01_k».proof.Proof.Gen.Kernel41.Frame
public import proofs.«01_k».proof.Proof.Gen.Kernel41Ideal.Value
public import proofs.«01_k».proof.Proof.Gen.Reference41Ideal.Run
public import proofs.«01_k».proof.Proof.AdamwWOut
public import proofs.«01_k».proof.Proof.Gen.Kernel42.Frame
public import proofs.«01_k».proof.Proof.Gen.Kernel42Ideal.Value
public import proofs.«01_k».proof.Proof.Gen.Reference42Ideal.Run
public import proofs.«01_k».proof.Proof.AdamwNorm2G
public import proofs.«01_k».proof.Proof.Gen.Kernel43.Frame
public import proofs.«01_k».proof.Proof.Gen.Kernel43Ideal.Value
public import proofs.«01_k».proof.Proof.Gen.Reference43Ideal.Run
public import proofs.«01_k».proof.Proof.AdamwWFf1
public import proofs.«01_k».proof.Proof.Gen.Kernel44.Frame
public import proofs.«01_k».proof.Proof.Gen.Kernel44Ideal.Value
public import proofs.«01_k».proof.Proof.Gen.Reference44Ideal.Run
public import proofs.«01_k».proof.Proof.AdamwWFf2
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem

theorem algebraic2 : Cert.algebraic_Kernel2Ideal_Reference2Ideal (hKernel2Ideal := Cert.Kernel2Ideal.Gen.facts)
    (hReference2Ideal := Cert.Reference2Ideal.Gen.facts) := by
  intro m ρ m' ρ' _ hag
  refine ⟨_, _, _, _, Cert.GateGrad.runK m ρ, (θ_run _ _ _).mono (fun _ h c => ?_) (Cert.GateGrad.runR m' ρ')⟩
  exact ⟨(h c).1.trans (by simp only [hag c]), (h c).2.1.trans (by simp only [hag c]), (h c).2.2.1.trans (by simp only [hag c]), (h c).2.2.2.1.trans (by simp only [hag c]), (h c).2.2.2.2⟩

theorem algebraic3 : Cert.algebraic_Kernel3Ideal_Reference3Ideal (hKernel3Ideal := Cert.Kernel3Ideal.Gen.facts)
    (hReference3Ideal := Cert.Reference3Ideal.Gen.facts) := by
  intro m ρ m' ρ' _ hag
  refine ⟨_, Cert.Ff2Bwd.runK m ρ, (θ_run _ _ _).mono (fun _ h c => ?_) (Cert.Ff2Bwd.runR m' ρ')⟩
  exact ⟨(h c).1.trans (by simp only [hag c]), (h c).2⟩

theorem algebraic4 : Cert.algebraic_Kernel4Ideal_Reference4Ideal (hKernel4Ideal := Cert.Kernel4Ideal.Gen.facts)
    (hReference4Ideal := Cert.Reference4Ideal.Gen.facts) := by
  intro m ρ m' ρ' _ hag
  refine ⟨_, Cert.Ff2Dw.runK m ρ, (θ_run _ _ _).mono (fun _ h c => ?_) (Cert.Ff2Dw.runR m' ρ')⟩
  exact ⟨(h c).1.trans (by simp only [hag c]), (h c).2⟩

theorem algebraic5 : Cert.algebraic_Kernel5Ideal_Reference5Ideal (hKernel5Ideal := Cert.Kernel5Ideal.Gen.facts)
    (hReference5Ideal := Cert.Reference5Ideal.Gen.facts) := by
  intro m ρ m' ρ' _ hag
  refine ⟨_, _, _, _, _, _, Cert.MidBwd.runK m ρ, (θ_run _ _ _).mono (fun _ h c => ?_) (Cert.MidBwd.runR m' ρ')⟩
  exact ⟨(h c).1.trans (by simp only [hag c]), (h c).2.1.trans (by simp only [hag c]), (h c).2.2.1.trans (by simp only [hag c]), (h c).2.2.2.1.trans (by simp only [hag c]), (h c).2.2.2.2.1.trans (by simp only [hag c]), (h c).2.2.2.2.2.1.trans (by simp only [hag c]), (h c).2.2.2.2.2.2⟩

theorem algebraic6 : Cert.algebraic_Kernel6Ideal_Reference6Ideal (hKernel6Ideal := Cert.Kernel6Ideal.Gen.facts)
    (hReference6Ideal := Cert.Reference6Ideal.Gen.facts) := by
  intro m ρ m' ρ' _ hag
  refine ⟨_, Cert.Ff1.runK m ρ, (θ_run _ _ _).mono (fun _ h c => ?_) (Cert.Ff1.runR m' ρ')⟩
  exact ⟨(h c).1.trans (by simp only [hag c]), (h c).2⟩

theorem algebraic7 : Cert.algebraic_Kernel7Ideal_Reference7Ideal (hKernel7Ideal := Cert.Kernel7Ideal.Gen.facts)
    (hReference7Ideal := Cert.Reference7Ideal.Gen.facts) := by
  intro m ρ m' ρ' _ hag
  refine ⟨_, _, _, _, Cert.Ff2Loss.runK m ρ, (θ_run _ _ _).mono (fun _ h c => ?_) (Cert.Ff2Loss.runR m' ρ')⟩
  exact ⟨(h c).1.trans (by simp only [hag c]), (h c).2.1.trans (by simp only [hag c]), (h c).2.2.1.trans (by simp only [hag c]), (h c).2.2.2.1.trans (by simp only [hag c]), (h c).2.2.2.2⟩

theorem algebraic8 : Cert.algebraic_Kernel8Ideal_Reference8Ideal (hKernel8Ideal := Cert.Kernel8Ideal.Gen.facts)
    (hReference8Ideal := Cert.Reference8Ideal.Gen.facts) := by
  intro m ρ m' ρ' _ hag
  refine ⟨_, _, _, _, Cert.OutProj.runK m ρ, (θ_run _ _ _).mono (fun _ h c => ?_) (Cert.OutProj.runR m' ρ')⟩
  exact ⟨(h c).1.trans (by simp only [hag c]), (h c).2.1.trans (by simp only [hag c]), (h c).2.2.1.trans (by simp only [hag c]), (h c).2.2.2.1.trans (by simp only [hag c]), (h c).2.2.2.2⟩

theorem algebraic9 : Cert.algebraic_Kernel9Ideal_Reference9Ideal (hKernel9Ideal := Cert.Kernel9Ideal.Gen.facts)
    (hReference9Ideal := Cert.Reference9Ideal.Gen.facts) := by
  intro m ρ m' ρ' _ hag
  refine ⟨_, _, _, _, Cert.InProj.runK m ρ, (θ_run _ _ _).mono (fun _ h c => ?_) (Cert.InProj.runR m' ρ')⟩
  exact ⟨(h c).1.trans (by simp only [hag c]), (h c).2.1.trans (by simp only [hag c]), (h c).2.2.1.trans (by simp only [hag c]), (h c).2.2.2.1.trans (by simp only [hag c]), (h c).2.2.2.2⟩

theorem algebraic10 : Cert.algebraic_Kernel10Ideal_Reference10Ideal (hKernel10Ideal := Cert.Kernel10Ideal.Gen.facts)
    (hReference10Ideal := Cert.Reference10Ideal.Gen.facts) := by
  intro m ρ m' ρ' _ hag
  refine ⟨_, Cert.MlaOut.runK m ρ, (θ_run _ _ _).mono (fun _ h c => ?_) (Cert.MlaOut.runR m' ρ')⟩
  exact ⟨(h c).1.trans (by simp only [hag c]), (h c).2⟩

theorem algebraic11 : Cert.algebraic_Kernel11Ideal_Reference11Ideal (hKernel11Ideal := Cert.Kernel11Ideal.Gen.facts)
    (hReference11Ideal := Cert.Reference11Ideal.Gen.facts) := by
  intro m ρ m' ρ' _ hag
  refine ⟨_, Cert.MlaOutBwd.runK m ρ, (θ_run _ _ _).mono (fun _ h c => ?_) (Cert.MlaOutBwd.runR m' ρ')⟩
  exact ⟨(h c).1.trans (by simp only [hag c]), (h c).2⟩

theorem algebraic12 : Cert.algebraic_Kernel12Ideal_Reference12Ideal (hKernel12Ideal := Cert.Kernel12Ideal.Gen.facts)
    (hReference12Ideal := Cert.Reference12Ideal.Gen.facts) := by
  intro m ρ m' ρ' _ hag
  refine ⟨_, Cert.MlaOutDw.runK m ρ, (θ_run _ _ _).mono (fun _ h c => ?_) (Cert.MlaOutDw.runR m' ρ')⟩
  exact ⟨(h c).1.trans (by simp only [hag c]), (h c).2⟩

theorem algebraic13 : Cert.algebraic_Kernel13Ideal_Reference13Ideal (hKernel13Ideal := Cert.Kernel13Ideal.Gen.facts)
    (hReference13Ideal := Cert.Reference13Ideal.Gen.facts) := by
  intro m ρ m' ρ' _ hag
  refine ⟨_, Cert.ConvOut.runK m ρ, (θ_run _ _ _).mono (fun _ h c => ?_) (Cert.ConvOut.runR m' ρ')⟩
  exact ⟨(h c).1.trans (by simp only [hag c]), (h c).2⟩

theorem algebraic14 : Cert.algebraic_Kernel14Ideal_Reference14Ideal (hKernel14Ideal := Cert.Kernel14Ideal.Gen.facts)
    (hReference14Ideal := Cert.Reference14Ideal.Gen.facts) := by
  intro m ρ m' ρ' _ hag
  refine ⟨_, Cert.ConvOutBwd.runK m ρ, (θ_run _ _ _).mono (fun _ h c => ?_) (Cert.ConvOutBwd.runR m' ρ')⟩
  exact ⟨(h c).1.trans (by simp only [hag c]), (h c).2⟩

theorem algebraic15 : Cert.algebraic_Kernel15Ideal_Reference15Ideal (hKernel15Ideal := Cert.Kernel15Ideal.Gen.facts)
    (hReference15Ideal := Cert.Reference15Ideal.Gen.facts) := by
  intro m ρ m' ρ' _ hag
  refine ⟨_, Cert.ConvOutDw.runK m ρ, (θ_run _ _ _).mono (fun _ h c => ?_) (Cert.ConvOutDw.runR m' ρ')⟩
  exact ⟨(h c).1.trans (by simp only [hag c]), (h c).2⟩

theorem algebraic16 : Cert.algebraic_Kernel16Ideal_Reference16Ideal (hKernel16Ideal := Cert.Kernel16Ideal.Gen.facts)
    (hReference16Ideal := Cert.Reference16Ideal.Gen.facts) := by
  intro m ρ m' ρ' _ hag
  refine ⟨_, Cert.Ff1Dw.runK m ρ, (θ_run _ _ _).mono (fun _ h c => ?_) (Cert.Ff1Dw.runR m' ρ')⟩
  exact ⟨(h c).1.trans (by simp only [hag c]), (h c).2⟩

theorem algebraic17 : Cert.algebraic_Kernel17Ideal_Reference17Ideal (hKernel17Ideal := Cert.Kernel17Ideal.Gen.facts)
    (hReference17Ideal := Cert.Reference17Ideal.Gen.facts) := by
  intro m ρ m' ρ' _ hag
  refine ⟨_, Cert.OutProjDw.runK m ρ, (θ_run _ _ _).mono (fun _ h c => ?_) (Cert.OutProjDw.runR m' ρ')⟩
  exact ⟨(h c).1.trans (by simp only [hag c]), (h c).2⟩

theorem algebraic18 : Cert.algebraic_Kernel18Ideal_Reference18Ideal (hKernel18Ideal := Cert.Kernel18Ideal.Gen.facts)
    (hReference18Ideal := Cert.Reference18Ideal.Gen.facts) := by
  intro m ρ m' ρ' _ hag
  refine ⟨_, Cert.GateDwA.runK m ρ, (θ_run _ _ _).mono (fun _ h c => ?_) (Cert.GateDwA.runR m' ρ')⟩
  exact ⟨(h c).1.trans (by simp only [hag c]), (h c).2⟩

theorem algebraic19 : Cert.algebraic_Kernel19Ideal_Reference19Ideal (hKernel19Ideal := Cert.Kernel19Ideal.Gen.facts)
    (hReference19Ideal := Cert.Reference19Ideal.Gen.facts) := by
  intro m ρ m' ρ' _ hag
  refine ⟨_, Cert.GateDwB.runK m ρ, (θ_run _ _ _).mono (fun _ h c => ?_) (Cert.GateDwB.runR m' ρ')⟩
  exact ⟨(h c).1.trans (by simp only [hag c]), (h c).2⟩

theorem algebraic20 : Cert.algebraic_Kernel20Ideal_Reference20Ideal (hKernel20Ideal := Cert.Kernel20Ideal.Gen.facts)
    (hReference20Ideal := Cert.Reference20Ideal.Gen.facts) := by
  intro m ρ m' ρ' _ hag
  refine ⟨_, Cert.GluDw.runK m ρ, (θ_run _ _ _).mono (fun _ h c => ?_) (Cert.GluDw.runR m' ρ')⟩
  exact ⟨(h c).1.trans (by simp only [hag c]), (h c).2⟩

theorem algebraic21 : Cert.algebraic_Kernel21Ideal_Reference21Ideal (hKernel21Ideal := Cert.Kernel21Ideal.Gen.facts)
    (hReference21Ideal := Cert.Reference21Ideal.Gen.facts) := by
  intro m ρ m' ρ' _ hag
  refine ⟨_, Cert.SmallDw.runK m ρ, (θ_run _ _ _).mono (fun _ h c => ?_) (Cert.SmallDw.runR m' ρ')⟩
  exact ⟨(h c).1.trans (by simp only [hag c]), (h c).2⟩

theorem algebraic22 : Cert.algebraic_Kernel22Ideal_Reference22Ideal (hKernel22Ideal := Cert.Kernel22Ideal.Gen.facts)
    (hReference22Ideal := Cert.Reference22Ideal.Gen.facts) := by
  intro m ρ m' ρ' _ hag
  refine ⟨_, Cert.AdaFwd.runK m ρ, (θ_run _ _ _).mono (fun _ h c => ?_) (Cert.AdaFwd.runR m' ρ')⟩
  exact ⟨(h c).1.trans (by simp only [hag c]), (h c).2⟩

theorem algebraic23 : Cert.algebraic_Kernel23Ideal_Reference23Ideal (hKernel23Ideal := Cert.Kernel23Ideal.Gen.facts)
    (hReference23Ideal := Cert.Reference23Ideal.Gen.facts) := by
  intro m ρ m' ρ' _ hag
  refine ⟨_, Cert.AdaDw.runK m ρ, (θ_run _ _ _).mono (fun _ h c => ?_) (Cert.AdaDw.runR m' ρ')⟩
  exact ⟨(h c).1.trans (by simp only [hag c]), (h c).2⟩

theorem algebraic24 : Cert.algebraic_Kernel24Ideal_Reference24Ideal (hKernel24Ideal := Cert.Kernel24Ideal.Gen.facts)
    (hReference24Ideal := Cert.Reference24Ideal.Gen.facts) := by
  intro m ρ m' ρ' _ hag
  refine ⟨_, Cert.AdaDb.runK m ρ, (θ_run _ _ _).mono (fun _ h c => ?_) (Cert.AdaDb.runR m' ρ')⟩
  exact ⟨(h c).1.trans (by simp only [hag c]), (h c).2⟩

theorem algebraic25 : Cert.algebraic_Kernel25Ideal_Reference25Ideal (hKernel25Ideal := Cert.Kernel25Ideal.Gen.facts)
    (hReference25Ideal := Cert.Reference25Ideal.Gen.facts) := by
  intro m ρ m' ρ' _ hag
  refine ⟨_, _, _, _, Cert.AdamwWAda.runK m ρ, (θ_run _ _ _).mono (fun _ h c => ?_) (Cert.AdamwWAda.runR m' ρ')⟩
  exact ⟨(h c).1.trans (by simp only [hag c]), (h c).2.1.trans (by simp only [hag c]), (h c).2.2.1.trans (by simp only [hag c]), (h c).2.2.2.1.trans (by simp only [hag c]), (h c).2.2.2.2⟩

theorem algebraic26 : Cert.algebraic_Kernel26Ideal_Reference26Ideal (hKernel26Ideal := Cert.Kernel26Ideal.Gen.facts)
    (hReference26Ideal := Cert.Reference26Ideal.Gen.facts) := by
  intro m ρ m' ρ' _ hag
  refine ⟨_, _, _, _, Cert.AdamwBAda.runK m ρ, (θ_run _ _ _).mono (fun _ h c => ?_) (Cert.AdamwBAda.runR m' ρ')⟩
  exact ⟨(h c).1.trans (by simp only [hag c]), (h c).2.1.trans (by simp only [hag c]), (h c).2.2.1.trans (by simp only [hag c]), (h c).2.2.2.1.trans (by simp only [hag c]), (h c).2.2.2.2⟩

theorem algebraic27 : Cert.algebraic_Kernel27Ideal_Reference27Ideal (hKernel27Ideal := Cert.Kernel27Ideal.Gen.facts)
    (hReference27Ideal := Cert.Reference27Ideal.Gen.facts) := by
  intro m ρ m' ρ' _ hag
  refine ⟨_, _, _, _, Cert.AdamwNorm1G.runK m ρ, (θ_run _ _ _).mono (fun _ h c => ?_) (Cert.AdamwNorm1G.runR m' ρ')⟩
  exact ⟨(h c).1.trans (by simp only [hag c]), (h c).2.1.trans (by simp only [hag c]), (h c).2.2.1.trans (by simp only [hag c]), (h c).2.2.2.1.trans (by simp only [hag c]), (h c).2.2.2.2⟩

theorem algebraic28 : Cert.algebraic_Kernel28Ideal_Reference28Ideal (hKernel28Ideal := Cert.Kernel28Ideal.Gen.facts)
    (hReference28Ideal := Cert.Reference28Ideal.Gen.facts) := by
  intro m ρ m' ρ' _ hag
  refine ⟨_, _, _, _, Cert.AdamwWIn.runK m ρ, (θ_run _ _ _).mono (fun _ h c => ?_) (Cert.AdamwWIn.runR m' ρ')⟩
  exact ⟨(h c).1.trans (by simp only [hag c]), (h c).2.1.trans (by simp only [hag c]), (h c).2.2.1.trans (by simp only [hag c]), (h c).2.2.2.1.trans (by simp only [hag c]), (h c).2.2.2.2⟩

theorem algebraic29 : Cert.algebraic_Kernel29Ideal_Reference29Ideal (hKernel29Ideal := Cert.Kernel29Ideal.Gen.facts)
    (hReference29Ideal := Cert.Reference29Ideal.Gen.facts) := by
  intro m ρ m' ρ' _ hag
  refine ⟨_, _, _, _, Cert.AdamwQLatentG.runK m ρ, (θ_run _ _ _).mono (fun _ h c => ?_) (Cert.AdamwQLatentG.runR m' ρ')⟩
  exact ⟨(h c).1.trans (by simp only [hag c]), (h c).2.1.trans (by simp only [hag c]), (h c).2.2.1.trans (by simp only [hag c]), (h c).2.2.2.1.trans (by simp only [hag c]), (h c).2.2.2.2⟩

theorem algebraic30 : Cert.algebraic_Kernel30Ideal_Reference30Ideal (hKernel30Ideal := Cert.Kernel30Ideal.Gen.facts)
    (hReference30Ideal := Cert.Reference30Ideal.Gen.facts) := by
  intro m ρ m' ρ' _ hag
  refine ⟨_, _, _, _, Cert.AdamwWUq.runK m ρ, (θ_run _ _ _).mono (fun _ h c => ?_) (Cert.AdamwWUq.runR m' ρ')⟩
  exact ⟨(h c).1.trans (by simp only [hag c]), (h c).2.1.trans (by simp only [hag c]), (h c).2.2.1.trans (by simp only [hag c]), (h c).2.2.2.1.trans (by simp only [hag c]), (h c).2.2.2.2⟩

theorem algebraic31 : Cert.algebraic_Kernel31Ideal_Reference31Ideal (hKernel31Ideal := Cert.Kernel31Ideal.Gen.facts)
    (hReference31Ideal := Cert.Reference31Ideal.Gen.facts) := by
  intro m ρ m' ρ' _ hag
  refine ⟨_, _, _, _, Cert.AdamwKvLatentG.runK m ρ, (θ_run _ _ _).mono (fun _ h c => ?_) (Cert.AdamwKvLatentG.runR m' ρ')⟩
  exact ⟨(h c).1.trans (by simp only [hag c]), (h c).2.1.trans (by simp only [hag c]), (h c).2.2.1.trans (by simp only [hag c]), (h c).2.2.2.1.trans (by simp only [hag c]), (h c).2.2.2.2⟩

theorem algebraic32 : Cert.algebraic_Kernel32Ideal_Reference32Ideal (hKernel32Ideal := Cert.Kernel32Ideal.Gen.facts)
    (hReference32Ideal := Cert.Reference32Ideal.Gen.facts) := by
  intro m ρ m' ρ' _ hag
  refine ⟨_, _, _, _, Cert.AdamwWUkv.runK m ρ, (θ_run _ _ _).mono (fun _ h c => ?_) (Cert.AdamwWUkv.runR m' ρ')⟩
  exact ⟨(h c).1.trans (by simp only [hag c]), (h c).2.1.trans (by simp only [hag c]), (h c).2.2.1.trans (by simp only [hag c]), (h c).2.2.2.1.trans (by simp only [hag c]), (h c).2.2.2.2⟩

theorem algebraic33 : Cert.algebraic_Kernel33Ideal_Reference33Ideal (hKernel33Ideal := Cert.Kernel33Ideal.Gen.facts)
    (hReference33Ideal := Cert.Reference33Ideal.Gen.facts) := by
  intro m ρ m' ρ' _ hag
  refine ⟨_, _, _, _, Cert.AdamwQkNormQG.runK m ρ, (θ_run _ _ _).mono (fun _ h c => ?_) (Cert.AdamwQkNormQG.runR m' ρ')⟩
  exact ⟨(h c).1.trans (by simp only [hag c]), (h c).2.1.trans (by simp only [hag c]), (h c).2.2.1.trans (by simp only [hag c]), (h c).2.2.2.1.trans (by simp only [hag c]), (h c).2.2.2.2⟩

theorem algebraic34 : Cert.algebraic_Kernel34Ideal_Reference34Ideal (hKernel34Ideal := Cert.Kernel34Ideal.Gen.facts)
    (hReference34Ideal := Cert.Reference34Ideal.Gen.facts) := by
  intro m ρ m' ρ' _ hag
  refine ⟨_, _, _, _, Cert.AdamwQkNormKG.runK m ρ, (θ_run _ _ _).mono (fun _ h c => ?_) (Cert.AdamwQkNormKG.runR m' ρ')⟩
  exact ⟨(h c).1.trans (by simp only [hag c]), (h c).2.1.trans (by simp only [hag c]), (h c).2.2.1.trans (by simp only [hag c]), (h c).2.2.2.1.trans (by simp only [hag c]), (h c).2.2.2.2⟩

theorem algebraic35 : Cert.algebraic_Kernel35Ideal_Reference35Ideal (hKernel35Ideal := Cert.Kernel35Ideal.Gen.facts)
    (hReference35Ideal := Cert.Reference35Ideal.Gen.facts) := by
  intro m ρ m' ρ' _ hag
  refine ⟨_, _, _, _, Cert.AdamwWOMla.runK m ρ, (θ_run _ _ _).mono (fun _ h c => ?_) (Cert.AdamwWOMla.runR m' ρ')⟩
  exact ⟨(h c).1.trans (by simp only [hag c]), (h c).2.1.trans (by simp only [hag c]), (h c).2.2.1.trans (by simp only [hag c]), (h c).2.2.2.1.trans (by simp only [hag c]), (h c).2.2.2.2⟩

theorem algebraic36 : Cert.algebraic_Kernel36Ideal_Reference36Ideal (hKernel36Ideal := Cert.Kernel36Ideal.Gen.facts)
    (hReference36Ideal := Cert.Reference36Ideal.Gen.facts) := by
  intro m ρ m' ρ' _ hag
  refine ⟨_, _, _, _, Cert.AdamwConvW.runK m ρ, (θ_run _ _ _).mono (fun _ h c => ?_) (Cert.AdamwConvW.runR m' ρ')⟩
  exact ⟨(h c).1.trans (by simp only [hag c]), (h c).2.1.trans (by simp only [hag c]), (h c).2.2.1.trans (by simp only [hag c]), (h c).2.2.2.1.trans (by simp only [hag c]), (h c).2.2.2.2⟩

theorem algebraic37 : Cert.algebraic_Kernel37Ideal_Reference37Ideal (hKernel37Ideal := Cert.Kernel37Ideal.Gen.facts)
    (hReference37Ideal := Cert.Reference37Ideal.Gen.facts) := by
  intro m ρ m' ρ' _ hag
  refine ⟨_, _, _, _, Cert.AdamwConvB.runK m ρ, (θ_run _ _ _).mono (fun _ h c => ?_) (Cert.AdamwConvB.runR m' ρ')⟩
  exact ⟨(h c).1.trans (by simp only [hag c]), (h c).2.1.trans (by simp only [hag c]), (h c).2.2.1.trans (by simp only [hag c]), (h c).2.2.2.1.trans (by simp only [hag c]), (h c).2.2.2.2⟩

theorem algebraic38 : Cert.algebraic_Kernel38Ideal_Reference38Ideal (hKernel38Ideal := Cert.Kernel38Ideal.Gen.facts)
    (hReference38Ideal := Cert.Reference38Ideal.Gen.facts) := by
  intro m ρ m' ρ' _ hag
  refine ⟨_, _, _, _, Cert.AdamwConvLnG.runK m ρ, (θ_run _ _ _).mono (fun _ h c => ?_) (Cert.AdamwConvLnG.runR m' ρ')⟩
  exact ⟨(h c).1.trans (by simp only [hag c]), (h c).2.1.trans (by simp only [hag c]), (h c).2.2.1.trans (by simp only [hag c]), (h c).2.2.2.1.trans (by simp only [hag c]), (h c).2.2.2.2⟩

theorem algebraic39 : Cert.algebraic_Kernel39Ideal_Reference39Ideal (hKernel39Ideal := Cert.Kernel39Ideal.Gen.facts)
    (hReference39Ideal := Cert.Reference39Ideal.Gen.facts) := by
  intro m ρ m' ρ' _ hag
  refine ⟨_, _, _, _, Cert.AdamwConvLnB.runK m ρ, (θ_run _ _ _).mono (fun _ h c => ?_) (Cert.AdamwConvLnB.runR m' ρ')⟩
  exact ⟨(h c).1.trans (by simp only [hag c]), (h c).2.1.trans (by simp only [hag c]), (h c).2.2.1.trans (by simp only [hag c]), (h c).2.2.2.1.trans (by simp only [hag c]), (h c).2.2.2.2⟩

theorem algebraic40 : Cert.algebraic_Kernel40Ideal_Reference40Ideal (hKernel40Ideal := Cert.Kernel40Ideal.Gen.facts)
    (hReference40Ideal := Cert.Reference40Ideal.Gen.facts) := by
  intro m ρ m' ρ' _ hag
  refine ⟨_, _, _, _, Cert.AdamwWPwOut.runK m ρ, (θ_run _ _ _).mono (fun _ h c => ?_) (Cert.AdamwWPwOut.runR m' ρ')⟩
  exact ⟨(h c).1.trans (by simp only [hag c]), (h c).2.1.trans (by simp only [hag c]), (h c).2.2.1.trans (by simp only [hag c]), (h c).2.2.2.1.trans (by simp only [hag c]), (h c).2.2.2.2⟩

theorem algebraic41 : Cert.algebraic_Kernel41Ideal_Reference41Ideal (hKernel41Ideal := Cert.Kernel41Ideal.Gen.facts)
    (hReference41Ideal := Cert.Reference41Ideal.Gen.facts) := by
  intro m ρ m' ρ' _ hag
  refine ⟨_, _, _, _, Cert.AdamwWOut.runK m ρ, (θ_run _ _ _).mono (fun _ h c => ?_) (Cert.AdamwWOut.runR m' ρ')⟩
  exact ⟨(h c).1.trans (by simp only [hag c]), (h c).2.1.trans (by simp only [hag c]), (h c).2.2.1.trans (by simp only [hag c]), (h c).2.2.2.1.trans (by simp only [hag c]), (h c).2.2.2.2⟩

theorem algebraic42 : Cert.algebraic_Kernel42Ideal_Reference42Ideal (hKernel42Ideal := Cert.Kernel42Ideal.Gen.facts)
    (hReference42Ideal := Cert.Reference42Ideal.Gen.facts) := by
  intro m ρ m' ρ' _ hag
  refine ⟨_, _, _, _, Cert.AdamwNorm2G.runK m ρ, (θ_run _ _ _).mono (fun _ h c => ?_) (Cert.AdamwNorm2G.runR m' ρ')⟩
  exact ⟨(h c).1.trans (by simp only [hag c]), (h c).2.1.trans (by simp only [hag c]), (h c).2.2.1.trans (by simp only [hag c]), (h c).2.2.2.1.trans (by simp only [hag c]), (h c).2.2.2.2⟩

theorem algebraic43 : Cert.algebraic_Kernel43Ideal_Reference43Ideal (hKernel43Ideal := Cert.Kernel43Ideal.Gen.facts)
    (hReference43Ideal := Cert.Reference43Ideal.Gen.facts) := by
  intro m ρ m' ρ' _ hag
  refine ⟨_, _, _, _, Cert.AdamwWFf1.runK m ρ, (θ_run _ _ _).mono (fun _ h c => ?_) (Cert.AdamwWFf1.runR m' ρ')⟩
  exact ⟨(h c).1.trans (by simp only [hag c]), (h c).2.1.trans (by simp only [hag c]), (h c).2.2.1.trans (by simp only [hag c]), (h c).2.2.2.1.trans (by simp only [hag c]), (h c).2.2.2.2⟩

theorem algebraic44 : Cert.algebraic_Kernel44Ideal_Reference44Ideal (hKernel44Ideal := Cert.Kernel44Ideal.Gen.facts)
    (hReference44Ideal := Cert.Reference44Ideal.Gen.facts) := by
  intro m ρ m' ρ' _ hag
  refine ⟨_, _, _, _, Cert.AdamwWFf2.runK m ρ, (θ_run _ _ _).mono (fun _ h c => ?_) (Cert.AdamwWFf2.runR m' ρ')⟩
  exact ⟨(h c).1.trans (by simp only [hag c]), (h c).2.1.trans (by simp only [hag c]), (h c).2.2.1.trans (by simp only [hag c]), (h c).2.2.2.1.trans (by simp only [hag c]), (h c).2.2.2.2⟩

/-- Every claim of the certificate. -/
theorem claim : Cert.Claim :=
  ⟨Cert.Kernel.Gen.facts,
    Cert.KernelIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Kernel19.Gen.facts,
    Cert.Kernel19Ideal.Gen.facts,
    Cert.Reference19Ideal.Gen.facts,
    Cert.Kernel20.Gen.facts,
    Cert.Kernel20Ideal.Gen.facts,
    Cert.Reference20Ideal.Gen.facts,
    Cert.Kernel21.Gen.facts,
    Cert.Kernel21Ideal.Gen.facts,
    Cert.Reference21Ideal.Gen.facts,
    Cert.Kernel22.Gen.facts,
    Cert.Kernel22Ideal.Gen.facts,
    Cert.Reference22Ideal.Gen.facts,
    Cert.Kernel23.Gen.facts,
    Cert.Kernel23Ideal.Gen.facts,
    Cert.Reference23Ideal.Gen.facts,
    Cert.Kernel24.Gen.facts,
    Cert.Kernel24Ideal.Gen.facts,
    Cert.Reference24Ideal.Gen.facts,
    Cert.Kernel25.Gen.facts,
    Cert.Kernel25Ideal.Gen.facts,
    Cert.Reference25Ideal.Gen.facts,
    Cert.Kernel26.Gen.facts,
    Cert.Kernel26Ideal.Gen.facts,
    Cert.Reference26Ideal.Gen.facts,
    Cert.Kernel27.Gen.facts,
    Cert.Kernel27Ideal.Gen.facts,
    Cert.Reference27Ideal.Gen.facts,
    Cert.Kernel28.Gen.facts,
    Cert.Kernel28Ideal.Gen.facts,
    Cert.Reference28Ideal.Gen.facts,
    Cert.Kernel29.Gen.facts,
    Cert.Kernel29Ideal.Gen.facts,
    Cert.Reference29Ideal.Gen.facts,
    Cert.Kernel30.Gen.facts,
    Cert.Kernel30Ideal.Gen.facts,
    Cert.Reference30Ideal.Gen.facts,
    Cert.Kernel31.Gen.facts,
    Cert.Kernel31Ideal.Gen.facts,
    Cert.Reference31Ideal.Gen.facts,
    Cert.Kernel32.Gen.facts,
    Cert.Kernel32Ideal.Gen.facts,
    Cert.Reference32Ideal.Gen.facts,
    Cert.Kernel33.Gen.facts,
    Cert.Kernel33Ideal.Gen.facts,
    Cert.Reference33Ideal.Gen.facts,
    Cert.Kernel34.Gen.facts,
    Cert.Kernel34Ideal.Gen.facts,
    Cert.Reference34Ideal.Gen.facts,
    Cert.Kernel35.Gen.facts,
    Cert.Kernel35Ideal.Gen.facts,
    Cert.Reference35Ideal.Gen.facts,
    Cert.Kernel36.Gen.facts,
    Cert.Kernel36Ideal.Gen.facts,
    Cert.Reference36Ideal.Gen.facts,
    Cert.Kernel37.Gen.facts,
    Cert.Kernel37Ideal.Gen.facts,
    Cert.Reference37Ideal.Gen.facts,
    Cert.Kernel38.Gen.facts,
    Cert.Kernel38Ideal.Gen.facts,
    Cert.Reference38Ideal.Gen.facts,
    Cert.Kernel39.Gen.facts,
    Cert.Kernel39Ideal.Gen.facts,
    Cert.Reference39Ideal.Gen.facts,
    Cert.Kernel40.Gen.facts,
    Cert.Kernel40Ideal.Gen.facts,
    Cert.Reference40Ideal.Gen.facts,
    Cert.Kernel41.Gen.facts,
    Cert.Kernel41Ideal.Gen.facts,
    Cert.Reference41Ideal.Gen.facts,
    Cert.Kernel42.Gen.facts,
    Cert.Kernel42Ideal.Gen.facts,
    Cert.Reference42Ideal.Gen.facts,
    Cert.Kernel43.Gen.facts,
    Cert.Kernel43Ideal.Gen.facts,
    Cert.Reference43Ideal.Gen.facts,
    Cert.Kernel44.Gen.facts,
    Cert.Kernel44Ideal.Gen.facts,
    Cert.Reference44Ideal.Gen.facts,
    fun m ρ _ => Cert.Kernel.Gen.frame m ρ,
    fun m ρ _ => Cert.KernelIdeal.Gen.frame m ρ,
    fun m ρ _ => Cert.Kernel2.Gen.frame m ρ,
    fun m ρ _ => Cert.Kernel2Ideal.Gen.frame m ρ,
    fun m ρ _ => (θ_run _ _ _).mono (fun _ h => ⟨fun c => (h c).2.2.2.2, sem_eq_zero_of_no_sems (by decide) _⟩) (Cert.Reference2Ideal.Value.run m ρ),
    fun m ρ _ => Cert.Kernel3.Gen.frame m ρ,
    fun m ρ _ => Cert.Kernel3Ideal.Gen.frame m ρ,
    fun m ρ _ => (θ_run _ _ _).mono (fun _ h => ⟨fun c => (h c).2, sem_eq_zero_of_no_sems (by decide) _⟩) (Cert.Reference3Ideal.Value.run m ρ),
    fun m ρ _ => Cert.Kernel4.Gen.frame m ρ,
    fun m ρ _ => Cert.Kernel4Ideal.Gen.frame m ρ,
    fun m ρ _ => (θ_run _ _ _).mono (fun _ h => ⟨fun c => (h c).2, sem_eq_zero_of_no_sems (by decide) _⟩) (Cert.Reference4Ideal.Value.run m ρ),
    fun m ρ _ => Cert.Kernel5.Gen.frame m ρ,
    fun m ρ _ => Cert.Kernel5Ideal.Gen.frame m ρ,
    fun m ρ _ => (θ_run _ _ _).mono (fun _ h => ⟨fun c => (h c).2.2.2.2.2.2, sem_eq_zero_of_no_sems (by decide) _⟩) (Cert.Reference5Ideal.Value.run m ρ),
    fun m ρ _ => Cert.Kernel6.Gen.frame m ρ,
    fun m ρ _ => Cert.Kernel6Ideal.Gen.frame m ρ,
    fun m ρ _ => (θ_run _ _ _).mono (fun _ h => ⟨fun c => (h c).2, sem_eq_zero_of_no_sems (by decide) _⟩) (Cert.Reference6Ideal.Value.run m ρ),
    fun m ρ _ => Cert.Kernel7.Gen.frame m ρ,
    fun m ρ _ => Cert.Kernel7Ideal.Gen.frame m ρ,
    fun m ρ _ => (θ_run _ _ _).mono (fun _ h => ⟨fun c => (h c).2.2.2.2, sem_eq_zero_of_no_sems (by decide) _⟩) (Cert.Reference7Ideal.Value.run m ρ),
    fun m ρ _ => Cert.Kernel8.Gen.frame m ρ,
    fun m ρ _ => Cert.Kernel8Ideal.Gen.frame m ρ,
    fun m ρ _ => (θ_run _ _ _).mono (fun _ h => ⟨fun c => (h c).2.2.2.2, sem_eq_zero_of_no_sems (by decide) _⟩) (Cert.Reference8Ideal.Value.run m ρ),
    fun m ρ _ => Cert.Kernel9.Gen.frame m ρ,
    fun m ρ _ => Cert.Kernel9Ideal.Gen.frame m ρ,
    fun m ρ _ => (θ_run _ _ _).mono (fun _ h => ⟨fun c => (h c).2.2.2.2, sem_eq_zero_of_no_sems (by decide) _⟩) (Cert.Reference9Ideal.Value.run m ρ),
    fun m ρ _ => Cert.Kernel10.Gen.frame m ρ,
    fun m ρ _ => Cert.Kernel10Ideal.Gen.frame m ρ,
    fun m ρ _ => (θ_run _ _ _).mono (fun _ h => ⟨fun c => (h c).2, sem_eq_zero_of_no_sems (by decide) _⟩) (Cert.Reference10Ideal.Value.run m ρ),
    fun m ρ _ => Cert.Kernel11.Gen.frame m ρ,
    fun m ρ _ => Cert.Kernel11Ideal.Gen.frame m ρ,
    fun m ρ _ => (θ_run _ _ _).mono (fun _ h => ⟨fun c => (h c).2, sem_eq_zero_of_no_sems (by decide) _⟩) (Cert.Reference11Ideal.Value.run m ρ),
    fun m ρ _ => Cert.Kernel12.Gen.frame m ρ,
    fun m ρ _ => Cert.Kernel12Ideal.Gen.frame m ρ,
    fun m ρ _ => (θ_run _ _ _).mono (fun _ h => ⟨fun c => (h c).2, sem_eq_zero_of_no_sems (by decide) _⟩) (Cert.Reference12Ideal.Value.run m ρ),
    fun m ρ _ => Cert.Kernel13.Gen.frame m ρ,
    fun m ρ _ => Cert.Kernel13Ideal.Gen.frame m ρ,
    fun m ρ _ => (θ_run _ _ _).mono (fun _ h => ⟨fun c => (h c).2, sem_eq_zero_of_no_sems (by decide) _⟩) (Cert.Reference13Ideal.Value.run m ρ),
    fun m ρ _ => Cert.Kernel14.Gen.frame m ρ,
    fun m ρ _ => Cert.Kernel14Ideal.Gen.frame m ρ,
    fun m ρ _ => (θ_run _ _ _).mono (fun _ h => ⟨fun c => (h c).2, sem_eq_zero_of_no_sems (by decide) _⟩) (Cert.Reference14Ideal.Value.run m ρ),
    fun m ρ _ => Cert.Kernel15.Gen.frame m ρ,
    fun m ρ _ => Cert.Kernel15Ideal.Gen.frame m ρ,
    fun m ρ _ => (θ_run _ _ _).mono (fun _ h => ⟨fun c => (h c).2, sem_eq_zero_of_no_sems (by decide) _⟩) (Cert.Reference15Ideal.Value.run m ρ),
    fun m ρ _ => Cert.Kernel16.Gen.frame m ρ,
    fun m ρ _ => Cert.Kernel16Ideal.Gen.frame m ρ,
    fun m ρ _ => (θ_run _ _ _).mono (fun _ h => ⟨fun c => (h c).2, sem_eq_zero_of_no_sems (by decide) _⟩) (Cert.Reference16Ideal.Value.run m ρ),
    fun m ρ _ => Cert.Kernel17.Gen.frame m ρ,
    fun m ρ _ => Cert.Kernel17Ideal.Gen.frame m ρ,
    fun m ρ _ => (θ_run _ _ _).mono (fun _ h => ⟨fun c => (h c).2, sem_eq_zero_of_no_sems (by decide) _⟩) (Cert.Reference17Ideal.Value.run m ρ),
    fun m ρ _ => Cert.Kernel18.Gen.frame m ρ,
    fun m ρ _ => Cert.Kernel18Ideal.Gen.frame m ρ,
    fun m ρ _ => (θ_run _ _ _).mono (fun _ h => ⟨fun c => (h c).2, sem_eq_zero_of_no_sems (by decide) _⟩) (Cert.Reference18Ideal.Value.run m ρ),
    fun m ρ _ => Cert.Kernel19.Gen.frame m ρ,
    fun m ρ _ => Cert.Kernel19Ideal.Gen.frame m ρ,
    fun m ρ _ => (θ_run _ _ _).mono (fun _ h => ⟨fun c => (h c).2, sem_eq_zero_of_no_sems (by decide) _⟩) (Cert.Reference19Ideal.Value.run m ρ),
    fun m ρ _ => Cert.Kernel20.Gen.frame m ρ,
    fun m ρ _ => Cert.Kernel20Ideal.Gen.frame m ρ,
    fun m ρ _ => (θ_run _ _ _).mono (fun _ h => ⟨fun c => (h c).2, sem_eq_zero_of_no_sems (by decide) _⟩) (Cert.Reference20Ideal.Value.run m ρ),
    fun m ρ _ => Cert.Kernel21.Gen.frame m ρ,
    fun m ρ _ => Cert.Kernel21Ideal.Gen.frame m ρ,
    fun m ρ _ => (θ_run _ _ _).mono (fun _ h => ⟨fun c => (h c).2, sem_eq_zero_of_no_sems (by decide) _⟩) (Cert.Reference21Ideal.Value.run m ρ),
    fun m ρ _ => Cert.Kernel22.Gen.frame m ρ,
    fun m ρ _ => Cert.Kernel22Ideal.Gen.frame m ρ,
    fun m ρ _ => (θ_run _ _ _).mono (fun _ h => ⟨fun c => (h c).2, sem_eq_zero_of_no_sems (by decide) _⟩) (Cert.Reference22Ideal.Value.run m ρ),
    fun m ρ _ => Cert.Kernel23.Gen.frame m ρ,
    fun m ρ _ => Cert.Kernel23Ideal.Gen.frame m ρ,
    fun m ρ _ => (θ_run _ _ _).mono (fun _ h => ⟨fun c => (h c).2, sem_eq_zero_of_no_sems (by decide) _⟩) (Cert.Reference23Ideal.Value.run m ρ),
    fun m ρ _ => Cert.Kernel24.Gen.frame m ρ,
    fun m ρ _ => Cert.Kernel24Ideal.Gen.frame m ρ,
    fun m ρ _ => (θ_run _ _ _).mono (fun _ h => ⟨fun c => (h c).2, sem_eq_zero_of_no_sems (by decide) _⟩) (Cert.Reference24Ideal.Value.run m ρ),
    fun m ρ _ => Cert.Kernel25.Gen.frame m ρ,
    fun m ρ _ => Cert.Kernel25Ideal.Gen.frame m ρ,
    fun m ρ _ => (θ_run _ _ _).mono (fun _ h => ⟨fun c => (h c).2.2.2.2, sem_eq_zero_of_no_sems (by decide) _⟩) (Cert.Reference25Ideal.Value.run m ρ),
    fun m ρ _ => Cert.Kernel26.Gen.frame m ρ,
    fun m ρ _ => Cert.Kernel26Ideal.Gen.frame m ρ,
    fun m ρ _ => (θ_run _ _ _).mono (fun _ h => ⟨fun c => (h c).2.2.2.2, sem_eq_zero_of_no_sems (by decide) _⟩) (Cert.Reference26Ideal.Value.run m ρ),
    fun m ρ _ => Cert.Kernel27.Gen.frame m ρ,
    fun m ρ _ => Cert.Kernel27Ideal.Gen.frame m ρ,
    fun m ρ _ => (θ_run _ _ _).mono (fun _ h => ⟨fun c => (h c).2.2.2.2, sem_eq_zero_of_no_sems (by decide) _⟩) (Cert.Reference27Ideal.Value.run m ρ),
    fun m ρ _ => Cert.Kernel28.Gen.frame m ρ,
    fun m ρ _ => Cert.Kernel28Ideal.Gen.frame m ρ,
    fun m ρ _ => (θ_run _ _ _).mono (fun _ h => ⟨fun c => (h c).2.2.2.2, sem_eq_zero_of_no_sems (by decide) _⟩) (Cert.Reference28Ideal.Value.run m ρ),
    fun m ρ _ => Cert.Kernel29.Gen.frame m ρ,
    fun m ρ _ => Cert.Kernel29Ideal.Gen.frame m ρ,
    fun m ρ _ => (θ_run _ _ _).mono (fun _ h => ⟨fun c => (h c).2.2.2.2, sem_eq_zero_of_no_sems (by decide) _⟩) (Cert.Reference29Ideal.Value.run m ρ),
    fun m ρ _ => Cert.Kernel30.Gen.frame m ρ,
    fun m ρ _ => Cert.Kernel30Ideal.Gen.frame m ρ,
    fun m ρ _ => (θ_run _ _ _).mono (fun _ h => ⟨fun c => (h c).2.2.2.2, sem_eq_zero_of_no_sems (by decide) _⟩) (Cert.Reference30Ideal.Value.run m ρ),
    fun m ρ _ => Cert.Kernel31.Gen.frame m ρ,
    fun m ρ _ => Cert.Kernel31Ideal.Gen.frame m ρ,
    fun m ρ _ => (θ_run _ _ _).mono (fun _ h => ⟨fun c => (h c).2.2.2.2, sem_eq_zero_of_no_sems (by decide) _⟩) (Cert.Reference31Ideal.Value.run m ρ),
    fun m ρ _ => Cert.Kernel32.Gen.frame m ρ,
    fun m ρ _ => Cert.Kernel32Ideal.Gen.frame m ρ,
    fun m ρ _ => (θ_run _ _ _).mono (fun _ h => ⟨fun c => (h c).2.2.2.2, sem_eq_zero_of_no_sems (by decide) _⟩) (Cert.Reference32Ideal.Value.run m ρ),
    fun m ρ _ => Cert.Kernel33.Gen.frame m ρ,
    fun m ρ _ => Cert.Kernel33Ideal.Gen.frame m ρ,
    fun m ρ _ => (θ_run _ _ _).mono (fun _ h => ⟨fun c => (h c).2.2.2.2, sem_eq_zero_of_no_sems (by decide) _⟩) (Cert.Reference33Ideal.Value.run m ρ),
    fun m ρ _ => Cert.Kernel34.Gen.frame m ρ,
    fun m ρ _ => Cert.Kernel34Ideal.Gen.frame m ρ,
    fun m ρ _ => (θ_run _ _ _).mono (fun _ h => ⟨fun c => (h c).2.2.2.2, sem_eq_zero_of_no_sems (by decide) _⟩) (Cert.Reference34Ideal.Value.run m ρ),
    fun m ρ _ => Cert.Kernel35.Gen.frame m ρ,
    fun m ρ _ => Cert.Kernel35Ideal.Gen.frame m ρ,
    fun m ρ _ => (θ_run _ _ _).mono (fun _ h => ⟨fun c => (h c).2.2.2.2, sem_eq_zero_of_no_sems (by decide) _⟩) (Cert.Reference35Ideal.Value.run m ρ),
    fun m ρ _ => Cert.Kernel36.Gen.frame m ρ,
    fun m ρ _ => Cert.Kernel36Ideal.Gen.frame m ρ,
    fun m ρ _ => (θ_run _ _ _).mono (fun _ h => ⟨fun c => (h c).2.2.2.2, sem_eq_zero_of_no_sems (by decide) _⟩) (Cert.Reference36Ideal.Value.run m ρ),
    fun m ρ _ => Cert.Kernel37.Gen.frame m ρ,
    fun m ρ _ => Cert.Kernel37Ideal.Gen.frame m ρ,
    fun m ρ _ => (θ_run _ _ _).mono (fun _ h => ⟨fun c => (h c).2.2.2.2, sem_eq_zero_of_no_sems (by decide) _⟩) (Cert.Reference37Ideal.Value.run m ρ),
    fun m ρ _ => Cert.Kernel38.Gen.frame m ρ,
    fun m ρ _ => Cert.Kernel38Ideal.Gen.frame m ρ,
    fun m ρ _ => (θ_run _ _ _).mono (fun _ h => ⟨fun c => (h c).2.2.2.2, sem_eq_zero_of_no_sems (by decide) _⟩) (Cert.Reference38Ideal.Value.run m ρ),
    fun m ρ _ => Cert.Kernel39.Gen.frame m ρ,
    fun m ρ _ => Cert.Kernel39Ideal.Gen.frame m ρ,
    fun m ρ _ => (θ_run _ _ _).mono (fun _ h => ⟨fun c => (h c).2.2.2.2, sem_eq_zero_of_no_sems (by decide) _⟩) (Cert.Reference39Ideal.Value.run m ρ),
    fun m ρ _ => Cert.Kernel40.Gen.frame m ρ,
    fun m ρ _ => Cert.Kernel40Ideal.Gen.frame m ρ,
    fun m ρ _ => (θ_run _ _ _).mono (fun _ h => ⟨fun c => (h c).2.2.2.2, sem_eq_zero_of_no_sems (by decide) _⟩) (Cert.Reference40Ideal.Value.run m ρ),
    fun m ρ _ => Cert.Kernel41.Gen.frame m ρ,
    fun m ρ _ => Cert.Kernel41Ideal.Gen.frame m ρ,
    fun m ρ _ => (θ_run _ _ _).mono (fun _ h => ⟨fun c => (h c).2.2.2.2, sem_eq_zero_of_no_sems (by decide) _⟩) (Cert.Reference41Ideal.Value.run m ρ),
    fun m ρ _ => Cert.Kernel42.Gen.frame m ρ,
    fun m ρ _ => Cert.Kernel42Ideal.Gen.frame m ρ,
    fun m ρ _ => (θ_run _ _ _).mono (fun _ h => ⟨fun c => (h c).2.2.2.2, sem_eq_zero_of_no_sems (by decide) _⟩) (Cert.Reference42Ideal.Value.run m ρ),
    fun m ρ _ => Cert.Kernel43.Gen.frame m ρ,
    fun m ρ _ => Cert.Kernel43Ideal.Gen.frame m ρ,
    fun m ρ _ => (θ_run _ _ _).mono (fun _ h => ⟨fun c => (h c).2.2.2.2, sem_eq_zero_of_no_sems (by decide) _⟩) (Cert.Reference43Ideal.Value.run m ρ),
    fun m ρ _ => Cert.Kernel44.Gen.frame m ρ,
    fun m ρ _ => Cert.Kernel44Ideal.Gen.frame m ρ,
    fun m ρ _ => (θ_run _ _ _).mono (fun _ h => ⟨fun c => (h c).2.2.2.2, sem_eq_zero_of_no_sems (by decide) _⟩) (Cert.Reference44Ideal.Value.run m ρ),
    trivial,
    trivial,
    algebraic2,
    trivial,
    algebraic3,
    trivial,
    algebraic4,
    trivial,
    algebraic5,
    trivial,
    algebraic6,
    trivial,
    algebraic7,
    trivial,
    algebraic8,
    trivial,
    algebraic9,
    trivial,
    algebraic10,
    trivial,
    algebraic11,
    trivial,
    algebraic12,
    trivial,
    algebraic13,
    trivial,
    algebraic14,
    trivial,
    algebraic15,
    trivial,
    algebraic16,
    trivial,
    algebraic17,
    trivial,
    algebraic18,
    trivial,
    algebraic19,
    trivial,
    algebraic20,
    trivial,
    algebraic21,
    trivial,
    algebraic22,
    trivial,
    algebraic23,
    trivial,
    algebraic24,
    trivial,
    algebraic25,
    trivial,
    algebraic26,
    trivial,
    algebraic27,
    trivial,
    algebraic28,
    trivial,
    algebraic29,
    trivial,
    algebraic30,
    trivial,
    algebraic31,
    trivial,
    algebraic32,
    trivial,
    algebraic33,
    trivial,
    algebraic34,
    trivial,
    algebraic35,
    trivial,
    algebraic36,
    trivial,
    algebraic37,
    trivial,
    algebraic38,
    trivial,
    algebraic39,
    trivial,
    algebraic40,
    trivial,
    algebraic41,
    trivial,
    algebraic42,
    trivial,
    algebraic43,
    trivial,
    algebraic44⟩

end Cert.Proof

end
